-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal_squares [hPre_normal_squares : Cert.Pre_normal_squares.Facts] (m : (ℓ : Loc Cert.KernelIdeal.nD Cert.KernelIdeal.τ Cert.KernelIdeal.sig) → Buf (Elt Ideal) ℓ) : Prop :=
  ∀ c : Dev Cert.KernelIdeal.nD,
    (Cert.Pre_normal_squares.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal_squares [hPre_normal_squares : Cert.Pre_normal_squares.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal_squares.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_normal_squares [hKernelIdeal : Cert.KernelIdeal.Facts] [hPre_normal_squares : Cert.Pre_normal_squares.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal_squares m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_normal_squares [hReferenceIdeal : Cert.ReferenceIdeal.Facts] [hPre_normal_squares : Cert.Pre_normal_squares.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal_squares m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_normal_squares [hKernelIdeal : Cert.KernelIdeal.Facts] [hReferenceIdeal : Cert.ReferenceIdeal.Facts] [hPre_normal_squares : Cert.Pre_normal_squares.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal_squares m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116_0) = v0 c
          ∧ r.2.mem ((c.tc : Thread Cert.ReferenceIdeal.nD Cert.ReferenceIdeal.τ).loc Cert.ReferenceIdeal.main_v116_1) = v1 c
          ∧ r.2.mem ((c.tc : Thread Cert.ReferenceIdeal.nD Cert.ReferenceIdeal.τ).loc Cert.ReferenceIdeal.main_v107) = v2 c
          ∧ r.2.mem ((c.tc : Thread Cert.ReferenceIdeal.nD Cert.ReferenceIdeal.τ).loc Cert.ReferenceIdeal.main_v108) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_normal_squares : Cert.Pre_normal_squares.Facts),
    quiescent_Kernel (hKernel := hKernel)
    ∧ quiescent_KernelIdeal (hKernelIdeal := hKernelIdeal)
    ∧ quiescent_KernelIdeal_pre_normal_squares (hKernelIdeal := hKernelIdeal) (hPre_normal_squares := hPre_normal_squares)
    ∧ quiescent_ReferenceIdeal (hReferenceIdeal := hReferenceIdeal)
    ∧ quiescent_ReferenceIdeal_pre_normal_squares (hReferenceIdeal := hReferenceIdeal) (hPre_normal_squares := hPre_normal_squares)
    ∧ preserves_Kernel_KernelIdeal
    ∧ algebraic_KernelIdeal_ReferenceIdeal_pre_normal_squares (hKernelIdeal := hKernelIdeal) (hReferenceIdeal := hReferenceIdeal) (hPre_normal_squares := hPre_normal_squares)
-- ==== Pre_normal_squares.lean ====
abbrev S3x640x8960 : Shape := ⟨3, ![3, 640, 8960]⟩
abbrev S8960x1536 : Shape := ⟨2, ![8960, 1536]⟩
abbrev S1536 : Shape := ⟨1, ![1536]⟩
abbrev S_ : Shape := ⟨0, ![]⟩

class Facts : Prop where
  bitsLt_bf16_f32 : FTy.bits .bf16 < FTy.bits .f32
  bcast_S_S3x640x8960 : S_.BroadcastsInDim S3x640x8960 (![] : Fin 0 → Fin S3x640x8960.rank)

variable [Facts]

def fn {F : FTy → Type} [FloatOps F] (main_arg0 : FVec F S3x640x8960 .bf16) (main_arg1 : FVec F S8960x1536 .fp8e4m3) (main_arg2 : FVec F S1536 .f32) : IVec S3x640x8960 1 :=
  let main_v0 : FVec F S3x640x8960 .f32 := (extf .f32 · bitsLt_bf16_f32) main_arg0
  let main_cst : FVec F S_ .f32 := constant S_ .f32 0x00000000#32
  let main_v1 : FVec F S3x640x8960 .f32 := broadcastInDim S3x640x8960 ![] bcast_S_S3x640x8960 main_cst
  let main_v2 : IVec S3x640x8960 1 := cmpf .ole main_v0 main_v1
  let main_cst_0 : FVec F S_ .f32 := constant S_ .f32 0x20000000#32
  let main_v3 : FVec F S3x640x8960 .f32 := broadcastInDim S3x640x8960 ![] bcast_S_S3x640x8960 main_cst_0
  let main_v4 : IVec S3x640x8960 1 := cmpf .oge main_v0 main_v3
  let main_cst_1 : FVec F S_ .f32 := constant S_ .f32 0x5F800000#32
  let main_v5 : FVec F S3x640x8960 .f32 := broadcastInDim S3x640x8960 ![] bcast_S_S3x640x8960 main_cst_1
  let main_v6 : IVec S3x640x8960 1 := cmpf .olt main_v0 main_v5
  let main_v7 : IVec S3x640x8960 1 := andi main_v4 main_v6
  let main_v8 : IVec S3x640x8960 1 := ori main_v2 main_v7
  main_v8
-- ==== Kernel.lean ====
abbrev S3x640x8960 : Shape := ⟨3, ![3, 640, 8960]⟩
abbrev S8960x1536 : Shape := ⟨2, ![8960, 1536]⟩
abbrev S1536 : Shape := ⟨1, ![1536]⟩
abbrev S1920x8960 : Shape := ⟨2, ![1920, 8960]⟩
abbrev S1x1536 : Shape := ⟨2, ![1, 1536]⟩
abbrev S1920x1536 : Shape := ⟨2, ![1920, 1536]⟩
abbrev S1920x4480 : Shape := ⟨2, ![1920, 4480]⟩
abbrev S1920x2240 : Shape := ⟨2, ![1920, 2240]⟩
abbrev S6x1x320 : Shape := ⟨3, ![6, 1, 320]⟩
abbrev S320x8960 : Shape := ⟨2, ![320, 8960]⟩
abbrev S320x1536 : Shape := ⟨2, ![320, 1536]⟩
abbrev S320x4480 : Shape := ⟨2, ![320, 4480]⟩
abbrev S320x2240 : Shape := ⟨2, ![320, 2240]⟩
abbrev S1x1x320 : Shape := ⟨3, ![1, 1, 320]⟩
abbrev S35x5x32x128 : Shape := ⟨4, ![35, 5, 32, 128]⟩
abbrev S5x32x128 : Shape := ⟨3, ![5, 32, 128]⟩
abbrev S320x128 : Shape := ⟨2, ![320, 128]⟩
abbrev S32x128 : Shape := ⟨2, ![32, 128]⟩
abbrev S1x32x128 : Shape := ⟨3, ![1, 32, 128]⟩
abbrev S32x128x1 : Shape := ⟨3, ![32, 128, 1]⟩
abbrev S1x1x32x128 : Shape := ⟨4, ![1, 1, 32, 128]⟩
abbrev S32 : Shape := ⟨1, ![32]⟩
abbrev S32x1 : Shape := ⟨2, ![32, 1]⟩
abbrev S32x64 : Shape := ⟨2, ![32, 64]⟩
abbrev S128x128 : Shape := ⟨2, ![128, 128]⟩
abbrev S128 : Shape := ⟨1, ![128]⟩
abbrev S1x128 : Shape := ⟨2, ![1, 128]⟩
abbrev S1x1x128 : Shape := ⟨3, ![1, 1, 128]⟩
abbrev S64x128 : Shape := ⟨2, ![64, 128]⟩
abbrev S1x64 : Shape := ⟨2, ![1, 64]⟩
abbrev S1x1x64 : Shape := ⟨3, ![1, 1, 64]⟩
abbrev S8960x256 : Shape := ⟨2, ![8960, 256]⟩
abbrev S320x256 : Shape := ⟨2, ![320, 256]⟩
abbrev S1x256 : Shape := ⟨2, ![1, 256]⟩

abbrev nBuf : Space → Nat
  | .hbm => 9
  | .vmem => 19
  | .smem => 0
  | _ => 0

abbrev bufTy : (tb : Table) → Fin (tcTables nBuf tb) → BufTy
  | .hbm, ⟨0, _⟩ => ⟨S3x640x8960, .bf16⟩
  | .hbm, ⟨1, _⟩ => ⟨S8960x1536, .fp8e4m3⟩
  | .hbm, ⟨2, _⟩ => ⟨S1536, .f32⟩
  | .hbm, ⟨3, _⟩ => ⟨S1920x8960, .bf16⟩
  | .hbm, ⟨4, _⟩ => ⟨S1x1536, .f32⟩
  | .hbm, ⟨5, _⟩ => ⟨S1920x1536, .bf16⟩
  | .hbm, ⟨6, _⟩ => ⟨S1920x4480, .fp8e4m3⟩
  | .hbm, ⟨7, _⟩ => ⟨S1920x2240, .i8⟩
  | .hbm, ⟨8, _⟩ => ⟨S6x1x320, .f32⟩
  | .local _ .vmem, ⟨0, _⟩ => ⟨S320x8960, .bf16⟩
  | .local _ .vmem, ⟨1, _⟩ => ⟨S320x8960, .bf16⟩
  | .local _ .vmem, ⟨2, _⟩ => ⟨S8960x1536, .fp8e4m3⟩
  | .local _ .vmem, ⟨3, _⟩ => ⟨S1x1536, .f32⟩
  | .local _ .vmem, ⟨4, _⟩ => ⟨S320x1536, .bf16⟩
  | .local _ .vmem, ⟨5, _⟩ => ⟨S320x1536, .bf16⟩
  | .local _ .vmem, ⟨6, _⟩ => ⟨S320x4480, .fp8e4m3⟩
  | .local _ .vmem, ⟨7, _⟩ => ⟨S320x4480, .fp8e4m3⟩
  | .local _ .vmem, ⟨8, _⟩ => ⟨S320x2240, .i8⟩
  | .local _ .vmem, ⟨9, _⟩ => ⟨S320x2240, .i8⟩
  | .local _ .vmem, ⟨10, _⟩ => ⟨S1x1x320, .f32⟩
  | .local _ .vmem, ⟨11, _⟩ => ⟨S1x1x320, .f32⟩
  | .local _ .vmem, ⟨12, _⟩ => ⟨S320x8960, .fp8e4m3⟩
  | .local _ .vmem, ⟨13, _⟩ => ⟨S35x5x32x128, .bf16⟩
  | .local _ .vmem, ⟨14, _⟩ => ⟨S35x5x32x128, .bf16⟩
  | .local _ .vmem, ⟨15, _⟩ => ⟨S35x5x32x128, .fp8e4m3⟩
  | .local _ .vmem, ⟨16, _⟩ => ⟨S5x32x128, .bf16⟩
  | .local _ .vmem, ⟨17, _⟩ => ⟨S5x32x128, .f32⟩
  | .local _ .vmem, ⟨18, _⟩ => ⟨S320x128, .f32⟩
  | _, _ => ⟨S3x640x8960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![6], ![false]⟩

@[reducible] def k0_t1_loop : Scf.Loop 32 :=
  let c0_i32 : BitVec 32 := 0#32
  let c35_i32 : BitVec 32 := 35#32
  let v20 : BitVec 32 := Scalar.addi c0_i32 c35_i32
  let c1_i32 : BitVec 32 := 1#32
  ⟨c0_i32, v20, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32 : BitVec 32 := 256#32
  let v2456 : BitVec 32 := Scalar.muli arg15 c256_i32
  let c0_i32_963 : BitVec 32 := 0#32
  let v2457 : BitVec 32 := Scalar.addi v2456 c0_i32_963
  v2457
def k0_off1 (k0_t1 : Fin k0_t1_loop.trips) (c0_i32_963 : BitVec 32) : Fin 2 → Nat :=
  let c0_964 : Index := 0#32
  let c0_i32 : BitVec 32 := 0#32
  let c1_i32 : BitVec 32 := 1#32
  let arg15 : BitVec 32 := Scf.iv c0_i32 c1_i32 k0_t1
  let c256_i32 : BitVec 32 := 256#32
  let v2456 : BitVec 32 := Scalar.muli arg15 c256_i32
  let v2457 : BitVec 32 := Scalar.addi v2456 c0_i32_963
  let v2458 : BitVec 32 := v2457
  let v2459 : Index := Scalar.indexCast v2458
  ![0, v2459.toNat]
def k0_mult2 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32_965 : BitVec 32 := 256#32
  let v2463 : BitVec 32 := Scalar.muli arg15 c256_i32_965
  let c128_i32_966 : BitVec 32 := 128#32
  let v2464 : BitVec 32 := Scalar.addi v2463 c128_i32_966
  v2464
def k0_mult3 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32_968 : BitVec 32 := 256#32
  let v2470 : BitVec 32 := Scalar.muli arg15 c256_i32_968
  let c0_i32_969 : BitVec 32 := 0#32
  let v2471 : BitVec 32 := Scalar.addi v2470 c0_i32_969
  v2471
def k0_off2 (k0_t1 : Fin k0_t1_loop.trips) (c0_i32_969 : BitVec 32) : Fin 2 → Nat :=
  let c32_970 : Index := 32#32
  let c0_i32 : BitVec 32 := 0#32
  let c1_i32 : BitVec 32 := 1#32
  let arg15 : BitVec 32 := Scf.iv c0_i32 c1_i32 k0_t1
  let c256_i32_968 : BitVec 32 := 256#32
  let v2470 : BitVec 32 := Scalar.muli arg15 c256_i32_968
  let v2471 : BitVec 32 := Scalar.addi v2470 c0_i32_969
  let v2472 : BitVec 32 := v2471
  let v2473 : Index := Scalar.indexCast v2472
  ![32, v2473.toNat]
def k0_mult4 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32_971 : BitVec 32 := 256#32
  let v2477 : BitVec 32 := Scalar.muli arg15 c256_i32_971
  let c128_i32_972 : BitVec 32 := 128#32
  let v2478 : BitVec 32 := Scalar.addi v2477 c128_i32_972
  v2478
def k0_off3 (k0_t1 : Fin k0_t1_loop.trips) : Fin 4 → Nat :=
  let c0_i32 : BitVec 32 := 0#32
  let c1_i32 : BitVec 32 := 1#32
  let arg15 : BitVec 32 := Scf.iv c0_i32 c1_i32 k0_t1
  let v2592 : Index := Scalar.indexCast arg15
  let c0_1004 : Index := 0#32
  let c0_1005 : Index := 0#32
  let c0_1006 : Index := 0#32
  ![v2592.toNat, 0, 0, 0]
def k0_mult5 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32_1019 : BitVec 32 := 256#32
  let v2611 : BitVec 32 := Scalar.muli arg15 c256_i32_1019
  let c0_i32_1020 : BitVec 32 := 0#32
  let v2612 : BitVec 32 := Scalar.addi v2611 c0_i32_1020
  v2612
def k0_off4 (k0_t1 : Fin k0_t1_loop.trips) (c0_i32_1020 : BitVec 32) : Fin 2 → Nat :=
  let c64_1021 : Index := 64#32
  let c0_i32 : BitVec 32 := 0#32
  let c1_i32 : BitVec 32 := 1#32
  let arg15 : BitVec 32 := Scf.iv c0_i32 c1_i32 k0_t1
  let c256_i32_1019 : BitVec 32 := 256#32
  let v2611 : BitVec 32 := Scalar.muli arg15 c256_i32_1019
  let v2612 : BitVec 32 := Scalar.addi v2611 c0_i32_1020
  let v2613 : BitVec 32 := v2612
  let v2614 : Index := Scalar.indexCast v2613
  ![64, v2614.toNat]
def k0_mult6 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32_1022 : BitVec 32 := 256#32
  let v2618 : BitVec 32 := Scalar.muli arg15 c256_i32_1022
  let c128_i32_1023 : BitVec 32 := 128#32
  let v2619 : BitVec 32 := Scalar.addi v2618 c128_i32_1023
  v2619
def k0_mult7 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32_1025 : BitVec 32 := 256#32
  let v2625 : BitVec 32 := Scalar.muli arg15 c256_i32_1025
  let c0_i32_1026 : BitVec 32 := 0#32
  let v2626 : BitVec 32 := Scalar.addi v2625 c0_i32_1026
  v2626
def k0_off5 (k0_t1 : Fin k0_t1_loop.trips) (c0_i32_1026 : BitVec 32) : Fin 2 → Nat :=
  let c96_1027 : Index := 96#32
  let c0_i32 : BitVec 32 := 0#32
  let c1_i32 : BitVec 32 := 1#32
  let arg15 : BitVec 32 := Scf.iv c0_i32 c1_i32 k0_t1
  let c256_i32_1025 : BitVec 32 := 256#32
  let v2625 : BitVec 32 := Scalar.muli arg15 c256_i32_1025
  let v2626 : BitVec 32 := Scalar.addi v2625 c0_i32_1026
  let v2627 : BitVec 32 := v2626
  let v2628 : Index := Scalar.indexCast v2627
  ![96, v2628.toNat]
def k0_mult8 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32_1028 : BitVec 32 := 256#32
  let v2632 : BitVec 32 := Scalar.muli arg15 c256_i32_1028
  let c128_i32_1029 : BitVec 32 := 128#32
  let v2633 : BitVec 32 := Scalar.addi v2632 c128_i32_1029
  v2633
def k0_off6 (k0_t1 : Fin k0_t1_loop.trips) : Fin 4 → Nat :=
  let c0_i32 : BitVec 32 := 0#32
  let c1_i32 : BitVec 32 := 1#32
  let arg15 : BitVec 32 := Scf.iv c0_i32 c1_i32 k0_t1
  let v2747 : Index := Scalar.indexCast arg15
  let c1_1061 : Index := 1#32
  let c0_1062 : Index := 0#32
  let c0_1063 : Index := 0#32
  ![v2747.toNat, 1, 0, 0]
def k0_mult9 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32_1076 : BitVec 32 := 256#32
  let v2766 : BitVec 32 := Scalar.muli arg15 c256_i32_1076
  let c0_i32_1077 : BitVec 32 := 0#32
  let v2767 : BitVec 32 := Scalar.addi v2766 c0_i32_1077
  v2767
def k0_off7 (k0_t1 : Fin k0_t1_loop.trips) (c0_i32_1077 : BitVec 32) : Fin 2 → Nat :=
  let c128_1078 : Index := 128#32
  let c0_i32 : BitVec 32 := 0#32
  let c1_i32 : BitVec 32 := 1#32
  let arg15 : BitVec 32 := Scf.iv c0_i32 c1_i32 k0_t1
  let c256_i32_1076 : BitVec 32 := 256#32
  let v2766 : BitVec 32 := Scalar.muli arg15 c256_i32_1076
  let v2767 : BitVec 32 := Scalar.addi v2766 c0_i32_1077
  let v2768 : BitVec 32 := v2767
  let v2769 : Index := Scalar.indexCast v2768
  ![128, v2769.toNat]
def k0_mult10 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32_1079 : BitVec 32 := 256#32
  let v2773 : BitVec 32 := Scalar.muli arg15 c256_i32_1079
  let c128_i32_1080 : BitVec 32 := 128#32
  let v2774 : BitVec 32 := Scalar.addi v2773 c128_i32_1080
  v2774
def k0_mult11 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32_1082 : BitVec 32 := 256#32
  let v2780 : BitVec 32 := Scalar.muli arg15 c256_i32_1082
  let c0_i32_1083 : BitVec 32 := 0#32
  let v2781 : BitVec 32 := Scalar.addi v2780 c0_i32_1083
  v2781
def k0_off8 (k0_t1 : Fin k0_t1_loop.trips) (c0_i32_1083 : BitVec 32) : Fin 2 → Nat :=
  let c160_1084 : Index := 160#32
  let c0_i32 : BitVec 32 := 0#32
  let c1_i32 : BitVec 32 := 1#32
  let arg15 : BitVec 32 := Scf.iv c0_i32 c1_i32 k0_t1
  let c256_i32_1082 : BitVec 32 := 256#32
  let v2780 : BitVec 32 := Scalar.muli arg15 c256_i32_1082
  let v2781 : BitVec 32 := Scalar.addi v2780 c0_i32_1083
  let v2782 : BitVec 32 := v2781
  let v2783 : Index := Scalar.indexCast v2782
  ![160, v2783.toNat]
def k0_mult12 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32_1085 : BitVec 32 := 256#32
  let v2787 : BitVec 32 := Scalar.muli arg15 c256_i32_1085
  let c128_i32_1086 : BitVec 32 := 128#32
  let v2788 : BitVec 32 := Scalar.addi v2787 c128_i32_1086
  v2788
def k0_off9 (k0_t1 : Fin k0_t1_loop.trips) : Fin 4 → Nat :=
  let c0_i32 : BitVec 32 := 0#32
  let c1_i32 : BitVec 32 := 1#32
  let arg15 : BitVec 32 := Scf.iv c0_i32 c1_i32 k0_t1
  let v2902 : Index := Scalar.indexCast arg15
  let c2_1118 : Index := 2#32
  let c0_1119 : Index := 0#32
  let c0_1120 : Index := 0#32
  ![v2902.toNat, 2, 0, 0]
def k0_mult13 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32_1133 : BitVec 32 := 256#32
  let v2921 : BitVec 32 := Scalar.muli arg15 c256_i32_1133
  let c0_i32_1134 : BitVec 32 := 0#32
  let v2922 : BitVec 32 := Scalar.addi v2921 c0_i32_1134
  v2922
def k0_off10 (k0_t1 : Fin k0_t1_loop.trips) (c0_i32_1134 : BitVec 32) : Fin 2 → Nat :=
  let c192_1135 : Index := 192#32
  let c0_i32 : BitVec 32 := 0#32
  let c1_i32 : BitVec 32 := 1#32
  let arg15 : BitVec 32 := Scf.iv c0_i32 c1_i32 k0_t1
  let c256_i32_1133 : BitVec 32 := 256#32
  let v2921 : BitVec 32 := Scalar.muli arg15 c256_i32_1133
  let v2922 : BitVec 32 := Scalar.addi v2921 c0_i32_1134
  let v2923 : BitVec 32 := v2922
  let v2924 : Index := Scalar.indexCast v2923
  ![192, v2924.toNat]
def k0_mult14 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32_1136 : BitVec 32 := 256#32
  let v2928 : BitVec 32 := Scalar.muli arg15 c256_i32_1136
  let c128_i32_1137 : BitVec 32 := 128#32
  let v2929 : BitVec 32 := Scalar.addi v2928 c128_i32_1137
  v2929
def k0_mult15 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32_1139 : BitVec 32 := 256#32
  let v2935 : BitVec 32 := Scalar.muli arg15 c256_i32_1139
  let c0_i32_1140 : BitVec 32 := 0#32
  let v2936 : BitVec 32 := Scalar.addi v2935 c0_i32_1140
  v2936
def k0_off11 (k0_t1 : Fin k0_t1_loop.trips) (c0_i32_1140 : BitVec 32) : Fin 2 → Nat :=
  let c224_1141 : Index := 224#32
  let c0_i32 : BitVec 32 := 0#32
  let c1_i32 : BitVec 32 := 1#32
  let arg15 : BitVec 32 := Scf.iv c0_i32 c1_i32 k0_t1
  let c256_i32_1139 : BitVec 32 := 256#32
  let v2935 : BitVec 32 := Scalar.muli arg15 c256_i32_1139
  let v2936 : BitVec 32 := Scalar.addi v2935 c0_i32_1140
  let v2937 : BitVec 32 := v2936
  let v2938 : Index := Scalar.indexCast v2937
  ![224, v2938.toNat]
def k0_mult16 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32_1142 : BitVec 32 := 256#32
  let v2942 : BitVec 32 := Scalar.muli arg15 c256_i32_1142
  let c128_i32_1143 : BitVec 32 := 128#32
  let v2943 : BitVec 32 := Scalar.addi v2942 c128_i32_1143
  v2943
def k0_off12 (k0_t1 : Fin k0_t1_loop.trips) : Fin 4 → Nat :=
  let c0_i32 : BitVec 32 := 0#32
  let c1_i32 : BitVec 32 := 1#32
  let arg15 : BitVec 32 := Scf.iv c0_i32 c1_i32 k0_t1
  let v3057 : Index := Scalar.indexCast arg15
  let c3_1175 : Index := 3#32
  let c0_1176 : Index := 0#32
  let c0_1177 : Index := 0#32
  ![v3057.toNat, 3, 0, 0]
def k0_mult17 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32_1190 : BitVec 32 := 256#32
  let v3076 : BitVec 32 := Scalar.muli arg15 c256_i32_1190
  let c0_i32_1191 : BitVec 32 := 0#32
  let v3077 : BitVec 32 := Scalar.addi v3076 c0_i32_1191
  v3077
def k0_off13 (k0_t1 : Fin k0_t1_loop.trips) (c0_i32_1191 : BitVec 32) : Fin 2 → Nat :=
  let c256_1192 : Index := 256#32
  let c0_i32 : BitVec 32 := 0#32
  let c1_i32 : BitVec 32 := 1#32
  let arg15 : BitVec 32 := Scf.iv c0_i32 c1_i32 k0_t1
  let c256_i32_1190 : BitVec 32 := 256#32
  let v3076 : BitVec 32 := Scalar.muli arg15 c256_i32_1190
  let v3077 : BitVec 32 := Scalar.addi v3076 c0_i32_1191
  let v3078 : BitVec 32 := v3077
  let v3079 : Index := Scalar.indexCast v3078
  ![256, v3079.toNat]
def k0_mult18 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32_1193 : BitVec 32 := 256#32
  let v3083 : BitVec 32 := Scalar.muli arg15 c256_i32_1193
  let c128_i32_1194 : BitVec 32 := 128#32
  let v3084 : BitVec 32 := Scalar.addi v3083 c128_i32_1194
  v3084
def k0_mult19 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32_1196 : BitVec 32 := 256#32
  let v3090 : BitVec 32 := Scalar.muli arg15 c256_i32_1196
  let c0_i32_1197 : BitVec 32 := 0#32
  let v3091 : BitVec 32 := Scalar.addi v3090 c0_i32_1197
  v3091
def k0_off14 (k0_t1 : Fin k0_t1_loop.trips) (c0_i32_1197 : BitVec 32) : Fin 2 → Nat :=
  let c288_1198 : Index := 288#32
  let c0_i32 : BitVec 32 := 0#32
  let c1_i32 : BitVec 32 := 1#32
  let arg15 : BitVec 32 := Scf.iv c0_i32 c1_i32 k0_t1
  let c256_i32_1196 : BitVec 32 := 256#32
  let v3090 : BitVec 32 := Scalar.muli arg15 c256_i32_1196
  let v3091 : BitVec 32 := Scalar.addi v3090 c0_i32_1197
  let v3092 : BitVec 32 := v3091
  let v3093 : Index := Scalar.indexCast v3092
  ![288, v3093.toNat]
def k0_mult20 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32_1199 : BitVec 32 := 256#32
  let v3097 : BitVec 32 := Scalar.muli arg15 c256_i32_1199
  let c128_i32_1200 : BitVec 32 := 128#32
  let v3098 : BitVec 32 := Scalar.addi v3097 c128_i32_1200
  v3098
def k0_off15 (k0_t1 : Fin k0_t1_loop.trips) : Fin 4 → Nat :=
  let c0_i32 : BitVec 32 := 0#32
  let c1_i32 : BitVec 32 := 1#32
  let arg15 : BitVec 32 := Scf.iv c0_i32 c1_i32 k0_t1
  let v3212 : Index := Scalar.indexCast arg15
  let c4_1232 : Index := 4#32
  let c0_1233 : Index := 0#32
  let c0_1234 : Index := 0#32
  ![v3212.toNat, 4, 0, 0]
@[reducible] def k0_t2_loop : Scf.Loop 32 :=
  let c0_i32_416 : BitVec 32 := 0#32
  let c17_i32 : BitVec 32 := 17#32
  let v1124 : BitVec 32 := Scalar.addi c0_i32_416 c17_i32
  let c1_i32_417 : BitVec 32 := 1#32
  ⟨c0_i32_416, v1124, c1_i32_417⟩
def k0_off16 (k0_t2 : Fin k0_t2_loop.trips) : Fin 4 → Nat :=
  let c2_i32_963 : BitVec 32 := 2#32
  let c0_i32_416 : BitVec 32 := 0#32
  let c1_i32_417 : BitVec 32 := 1#32
  let arg15 : BitVec 32 := Scf.iv c0_i32_416 c1_i32_417 k0_t2
  let v2456 : BitVec 32 := Scalar.muli c2_i32_963 arg15
  let v2457 : Index := Scalar.indexCast v2456
  let c0_964 : Index := 0#32
  let c0_965 : Index := 0#32
  let c0_966 : Index := 0#32
  ![v2457.toNat, 0, 0, 0]
def k0_mult21 (k0_t2 : Fin k0_t2_loop.trips) : BitVec 32 :=
  let c2_i32_963 : BitVec 32 := 2#32
  let c0_i32_416 : BitVec 32 := 0#32
  let c1_i32_417 : BitVec 32 := 1#32
  let arg15 : BitVec 32 := Scf.iv c0_i32_416 c1_i32_417 k0_t2
  let v2456 : BitVec 32 := Scalar.muli c2_i32_963 arg15
  let c256_i32 : BitVec 32 := 256#32
  let v2668 : BitVec 32 := Scalar.muli v2456 c256_i32
  let c0_i32_1038 : BitVec 32 := 0#32
  let v2669 : BitVec 32 := Scalar.addi v2668 c0_i32_1038
  v2669
def k0_off17 (k0_t2 : Fin k0_t2_loop.trips) (c0_i32_1038 : BitVec 32) : Fin 2 → Nat :=
  let c0_1039 : Index := 0#32
  let c2_i32_963 : BitVec 32 := 2#32
  let c0_i32_416 : BitVec 32 := 0#32
  let c1_i32_417 : BitVec 32 := 1#32
  let arg15 : BitVec 32 := Scf.iv c0_i32_416 c1_i32_417 k0_t2
  let v2456 : BitVec 32 := Scalar.muli c2_i32_963 arg15
  let c256_i32 : BitVec 32 := 256#32
  let v2668 : BitVec 32 := Scalar.muli v2456 c256_i32
  let v2669 : BitVec 32 := Scalar.addi v2668 c0_i32_1038
  let v2670 : BitVec 32 := v2669
  let v2671 : Index := Scalar.indexCast v2670
  ![0, v2671.toNat]
def k0_mult22 (k0_t2 : Fin k0_t2_loop.trips) : BitVec 32 :=
  let c2_i32_963 : BitVec 32 := 2#32
  let c0_i32_416 : BitVec 32 := 0#32
  let c1_i32_417 : BitVec 32 := 1#32
  let arg15 : BitVec 32 := Scf.iv c0_i32_416 c1_i32_417 k0_t2
  let v2456 : BitVec 32 := Scalar.muli c2_i32_963 arg15
  let c256_i32_1040 : BitVec 32 := 256#32
  let v2676 : BitVec 32 := Scalar.muli v2456 c256_i32_1040
  let c128_i32_1041 : BitVec 32 := 128#32
  let v2677 : BitVec 32 := Scalar.addi v2676 c128_i32_1041
  v2677
def k0_mult23 (k0_t2 : Fin k0_t2_loop.trips) : BitVec 32 :=
  let c2_i32_963 : BitVec 32 := 2#32
  let c0_i32_416 : BitVec 32 := 0#32
  let c1_i32_417 : BitVec 32 := 1#32
  let arg15 : BitVec 32 := Scf.iv c0_i32_416 c1_i32_417 k0_t2
  let v2456 : BitVec 32 := Scalar.muli c2_i32_963 arg15
  let c128_i32_1043 : BitVec 32 := 128#32
  let v2684 : BitVec 32 := Scalar.muli v2456 c128_i32_1043
  v2684
def k0_off18 (k0_t2 : Fin k0_t2_loop.trips) : Fin 2 → Nat :=
  let c0_1044 : Index := 0#32
  let c2_i32_963 : BitVec 32 := 2#32
  let c0_i32_416 : BitVec 32 := 0#32
  let c1_i32_417 : BitVec 32 := 1#32
  let arg15 : BitVec 32 := Scf.iv c0_i32_416 c1_i32_417 k0_t2
  let v2456 : BitVec 32 := Scalar.muli c2_i32_963 arg15
  let c128_i32_1043 : BitVec 32 := 128#32
  let v2684 : BitVec 32 := Scalar.muli v2456 c128_i32_1043
  let v2685 : BitVec 32 := v2684
  let v2686 : Index := Scalar.indexCast v2685
  ![0, v2686.toNat]
def k0_mult24 (k0_t2 : Fin k0_t2_loop.trips) : BitVec 32 :=
  let c2_i32_963 : BitVec 32 := 2#32
  let c0_i32_416 : BitVec 32 := 0#32
  let c1_i32_417 : BitVec 32 := 1#32
  let arg15 : BitVec 32 := Scf.iv c0_i32_416 c1_i32_417 k0_t2
  let v2456 : BitVec 32 := Scalar.muli c2_i32_963 arg15
  let c256_i32_1045 : BitVec 32 := 256#32
  let v2689 : BitVec 32 := Scalar.muli v2456 c256_i32_1045
  let c0_i32_1046 : BitVec 32 := 0#32
  let v2690 : BitVec 32 := Scalar.addi v2689 c0_i32_1046
  v2690
def k0_off19 (k0_t2 : Fin k0_t2_loop.trips) (c0_i32_1046 : BitVec 32) : Fin 2 → Nat :=
  let c32_1047 : Index := 32#32
  let c2_i32_963 : BitVec 32 := 2#32
  let c0_i32_416 : BitVec 32 := 0#32
  let c1_i32_417 : BitVec 32 := 1#32
  let arg15 : BitVec 32 := Scf.iv c0_i32_416 c1_i32_417 k0_t2
  let v2456 : BitVec 32 := Scalar.muli c2_i32_963 arg15
  let c256_i32_1045 : BitVec 32 := 256#32
  let v2689 : BitVec 32 := Scalar.muli v2456 c256_i32_1045
  let v2690 : BitVec 32 := Scalar.addi v2689 c0_i32_1046
  let v2691 : BitVec 32 := v2690
  let v2692 : Index := Scalar.indexCast v2691
  ![32, v2692.toNat]
def k0_mult25 (k0_t2 : Fin k0_t2_loop.trips) : BitVec 32 :=
  let c2_i32_963 : BitVec 32 := 2#32
  let c0_i32_416 : BitVec 32 := 0#32
  let c1_i32_417 : BitVec 32 := 1#32
  let arg15 : BitVec 32 := Scf.iv c0_i32_416 c1_i32_417 k0_t2
  let v2456 : BitVec 32 := Scalar.muli c2_i32_963 arg15
  let c256_i32_1048 : BitVec 32 := 256#32
  let v2697 : BitVec 32 := Scalar.muli v2456 c256_i32_1048
  let c128_i32_1049 : BitVec 32 := 128#32
  let v2698 : BitVec 32 := Scalar.addi v2697 c128_i32_1049
  v2698
def k0_mult26 (k0_t2 : Fin k0_t2_loop.trips) : BitVec 32 :=
  let c2_i32_963 : BitVec 32 := 2#32
  let c0_i32_416 : BitVec 32 := 0#32
  let c1_i32_417 : BitVec 32 := 1#32
  let arg15 : BitVec 32 := Scf.iv c0_i32_416 c1_i32_417 k0_t2
  let v2456 : BitVec 32 := Scalar.muli c2_i32_963 arg15
  let c128_i32_1051 : BitVec 32 := 128#32
  let v2705 : BitVec 32 := Scalar.muli v2456 c128_i32_1051
  v2705
def k0_off20 (k0_t2 : Fin k0_t2_loop.trips) : Fin 2 → Nat :=
  let c32_1052 : Index := 32#32
  let c2_i32_963 : BitVec 32 := 2#32
  let c0_i32_416 : BitVec 32 := 0#32
  let c1_i32_417 : BitVec 32 := 1#32
  let arg15 : BitVec 32 := Scf.iv c0_i32_416 c1_i32_417 k0_t2
  let v2456 : BitVec 32 := Scalar.muli c2_i32_963 arg15
  let c128_i32_1051 : BitVec 32 := 128#32
  let v2705 : BitVec 32 := Scalar.muli v2456 c128_i32_1051
  let v2706 : BitVec 32 := v2705
  let v2707 : Index := Scalar.indexCast v2706
  ![32, v2707.toNat]
def k0_off21 (k0_t2 : Fin k0_t2_loop.trips) : Fin 4 → Nat :=
  let c2_i32_1053 : BitVec 32 := 2#32
  let c0_i32_416 : BitVec 32 := 0#32
  let c1_i32_417 : BitVec 32 := 1#32
  let arg15 : BitVec 32 := Scf.iv c0_i32_416 c1_i32_417 k0_t2
  let v2709 : BitVec 32 := Scalar.muli c2_i32_1053 arg15
  let c1_i32_1054 : BitVec 32 := 1#32
  let v2710 : BitVec 32 := Scalar.addi v2709 c1_i32_1054
  let v2711 : Index := Scalar.indexCast v2710
  let c0_1055 : Index := 0#32
  let c0_1056 : Index := 0#32
  let c0_1057 : Index := 0#32
  ![v2711.toNat, 0, 0, 0]
def k0_mult27 (k0_t2 : Fin k0_t2_loop.trips) : BitVec 32 :=
  let c2_i32_1053 : BitVec 32 := 2#32
  let c0_i32_416 : BitVec 32 := 0#32
  let c1_i32_417 : BitVec 32 := 1#32
  let arg15 : BitVec 32 := Scf.iv c0_i32_416 c1_i32_417 k0_t2
  let v2709 : BitVec 32 := Scalar.muli c2_i32_1053 arg15
  let c1_i32_1054 : BitVec 32 := 1#32
  let v2710 : BitVec 32 := Scalar.addi v2709 c1_i32_1054
  let c256_i32_1129 : BitVec 32 := 256#32
  let v2922 : BitVec 32 := Scalar.muli v2710 c256_i32_1129
  let c0_i32_1130 : BitVec 32 := 0#32
  let v2923 : BitVec 32 := Scalar.addi v2922 c0_i32_1130
  v2923
def k0_off22 (k0_t2 : Fin k0_t2_loop.trips) (c0_i32_1130 : BitVec 32) : Fin 2 → Nat :=
  let c0_1131 : Index := 0#32
  let c2_i32_1053 : BitVec 32 := 2#32
  let c0_i32_416 : BitVec 32 := 0#32
  let c1_i32_417 : BitVec 32 := 1#32
  let arg15 : BitVec 32 := Scf.iv c0_i32_416 c1_i32_417 k0_t2
  let v2709 : BitVec 32 := Scalar.muli c2_i32_1053 arg15
  let c1_i32_1054 : BitVec 32 := 1#32
  let v2710 : BitVec 32 := Scalar.addi v2709 c1_i32_1054
  let c256_i32_1129 : BitVec 32 := 256#32
  let v2922 : BitVec 32 := Scalar.muli v2710 c256_i32_1129
  let v2923 : BitVec 32 := Scalar.addi v2922 c0_i32_1130
  let v2924 : BitVec 32 := v2923
  let v2925 : Index := Scalar.indexCast v2924
  ![0, v2925.toNat]
def k0_mult28 (k0_t2 : Fin k0_t2_loop.trips) : BitVec 32 :=
  let c2_i32_1053 : BitVec 32 := 2#32
  let c0_i32_416 : BitVec 32 := 0#32
  let c1_i32_417 : BitVec 32 := 1#32
  let arg15 : BitVec 32 := Scf.iv c0_i32_416 c1_i32_417 k0_t2
  let v2709 : BitVec 32 := Scalar.muli c2_i32_1053 arg15
  let c1_i32_1054 : BitVec 32 := 1#32
  let v2710 : BitVec 32 := Scalar.addi v2709 c1_i32_1054
  let c256_i32_1132 : BitVec 32 := 256#32
  let v2930 : BitVec 32 := Scalar.muli v2710 c256_i32_1132
  let c128_i32_1133 : BitVec 32 := 128#32
  let v2931 : BitVec 32 := Scalar.addi v2930 c128_i32_1133
  v2931
def k0_mult29 (k0_t2 : Fin k0_t2_loop.trips) : BitVec 32 :=
  let c2_i32_1053 : BitVec 32 := 2#32
  let c0_i32_416 : BitVec 32 := 0#32
  let c1_i32_417 : BitVec 32 := 1#32
  let arg15 : BitVec 32 := Scf.iv c0_i32_416 c1_i32_417 k0_t2
  let v2709 : BitVec 32 := Scalar.muli c2_i32_1053 arg15
  let c1_i32_1054 : BitVec 32 := 1#32
  let v2710 : BitVec 32 := Scalar.addi v2709 c1_i32_1054
  let c128_i32_1135 : BitVec 32 := 128#32
  let v2938 : BitVec 32 := Scalar.muli v2710 c128_i32_1135
  v2938
def k0_off23 (k0_t2 : Fin k0_t2_loop.trips) : Fin 2 → Nat :=
  let c0_1136 : Index := 0#32
  let c2_i32_1053 : BitVec 32 := 2#32
  let c0_i32_416 : BitVec 32 := 0#32
  let c1_i32_417 : BitVec 32 := 1#32
  let arg15 : BitVec 32 := Scf.iv c0_i32_416 c1_i32_417 k0_t2
  let v2709 : BitVec 32 := Scalar.muli c2_i32_1053 arg15
  let c1_i32_1054 : BitVec 32 := 1#32
  let v2710 : BitVec 32 := Scalar.addi v2709 c1_i32_1054
  let c128_i32_1135 : BitVec 32 := 128#32
  let v2938 : BitVec 32 := Scalar.muli v2710 c128_i32_1135
  let v2939 : BitVec 32 := v2938
  let v2940 : Index := Scalar.indexCast v2939
  ![0, v2940.toNat]
def k0_mult30 (k0_t2 : Fin k0_t2_loop.trips) : BitVec 32 :=
  let c2_i32_1053 : BitVec 32 := 2#32
  let c0_i32_416 : BitVec 32 := 0#32
  let c1_i32_417 : BitVec 32 := 1#32
  let arg15 : BitVec 32 := Scf.iv c0_i32_416 c1_i32_417 k0_t2
  let v2709 : BitVec 32 := Scalar.muli c2_i32_1053 arg15
  let c1_i32_1054 : BitVec 32 := 1#32
  let v2710 : BitVec 32 := Scalar.addi v2709 c1_i32_1054
  let c256_i32_1137 : BitVec 32 := 256#32
  let v2943 : BitVec 32 := Scalar.muli v2710 c256_i32_1137
  let c0_i32_1138 : BitVec 32 := 0#32
  let v2944 : BitVec 32 := Scalar.addi v2943 c0_i32_1138
  v2944
def k0_off24 (k0_t2 : Fin k0_t2_loop.trips) (c0_i32_1138 : BitVec 32) : Fin 2 → Nat :=
  let c32_1139 : Index := 32#32
  let c2_i32_1053 : BitVec 32 := 2#32
  let c0_i32_416 : BitVec 32 := 0#32
  let c1_i32_417 : BitVec 32 := 1#32
  let arg15 : BitVec 32 := Scf.iv c0_i32_416 c1_i32_417 k0_t2
  let v2709 : BitVec 32 := Scalar.muli c2_i32_1053 arg15
  let c1_i32_1054 : BitVec 32 := 1#32
  let v2710 : BitVec 32 := Scalar.addi v2709 c1_i32_1054
  let c256_i32_1137 : BitVec 32 := 256#32
  let v2943 : BitVec 32 := Scalar.muli v2710 c256_i32_1137
  let v2944 : BitVec 32 := Scalar.addi v2943 c0_i32_1138
  let v2945 : BitVec 32 := v2944
  let v2946 : Index := Scalar.indexCast v2945
  ![32, v2946.toNat]
def k0_mult31 (k0_t2 : Fin k0_t2_loop.trips) : BitVec 32 :=
  let c2_i32_1053 : BitVec 32 := 2#32
  let c0_i32_416 : BitVec 32 := 0#32
  let c1_i32_417 : BitVec 32 := 1#32
  let arg15 : BitVec 32 := Scf.iv c0_i32_416 c1_i32_417 k0_t2
  let v2709 : BitVec 32 := Scalar.muli c2_i32_1053 arg15
  let c1_i32_1054 : BitVec 32 := 1#32
  let v2710 : BitVec 32 := Scalar.addi v2709 c1_i32_1054
  let c256_i32_1140 : BitVec 32 := 256#32
  let v2951 : BitVec 32 := Scalar.muli v2710 c256_i32_1140
  let c128_i32_1141 : BitVec 32 := 128#32
  let v2952 : BitVec 32 := Scalar.addi v2951 c128_i32_1141
  v2952
def k0_mult32 (k0_t2 : Fin k0_t2_loop.trips) : BitVec 32 :=
  let c2_i32_1053 : BitVec 32 := 2#32
  let c0_i32_416 : BitVec 32 := 0#32
  let c1_i32_417 : BitVec 32 := 1#32
  let arg15 : BitVec 32 := Scf.iv c0_i32_416 c1_i32_417 k0_t2
  let v2709 : BitVec 32 := Scalar.muli c2_i32_1053 arg15
  let c1_i32_1054 : BitVec 32 := 1#32
  let v2710 : BitVec 32 := Scalar.addi v2709 c1_i32_1054
  let c128_i32_1143 : BitVec 32 := 128#32
  let v2959 : BitVec 32 := Scalar.muli v2710 c128_i32_1143
  v2959
def k0_off25 (k0_t2 : Fin k0_t2_loop.trips) : Fin 2 → Nat :=
  let c32_1144 : Index := 32#32
  let c2_i32_1053 : BitVec 32 := 2#32
  let c0_i32_416 : BitVec 32 := 0#32
  let c1_i32_417 : BitVec 32 := 1#32
  let arg15 : BitVec 32 := Scf.iv c0_i32_416 c1_i32_417 k0_t2
  let v2709 : BitVec 32 := Scalar.muli c2_i32_1053 arg15
  let c1_i32_1054 : BitVec 32 := 1#32
  let v2710 : BitVec 32 := Scalar.addi v2709 c1_i32_1054
  let c128_i32_1143 : BitVec 32 := 128#32
  let v2959 : BitVec 32 := Scalar.muli v2710 c128_i32_1143
  let v2960 : BitVec 32 := v2959
  let v2961 : Index := Scalar.indexCast v2960
  ![32, v2961.toNat]
def k0_mult33 (k0_t2 : Fin k0_t2_loop.trips) : BitVec 32 :=
  let c0_i32_416 : BitVec 32 := 0#32
  let c1_i32_417 : BitVec 32 := 1#32
  let arg15 : BitVec 32 := Scf.iv c0_i32_416 c1_i32_417 k0_t2
  let c128_i32_1147 : BitVec 32 := 128#32
  let v2968 : BitVec 32 := Scalar.muli arg15 c128_i32_1147
  v2968
def k0_off26 (k0_t2 : Fin k0_t2_loop.trips) : Fin 2 → Nat :=
  let c0_1148 : Index := 0#32
  let c0_i32_416 : BitVec 32 := 0#32
  let c1_i32_417 : BitVec 32 := 1#32
  let arg15 : BitVec 32 := Scf.iv c0_i32_416 c1_i32_417 k0_t2
  let c128_i32_1147 : BitVec 32 := 128#32
  let v2968 : BitVec 32 := Scalar.muli arg15 c128_i32_1147
  let v2969 : BitVec 32 := v2968
  let v2970 : Index := Scalar.indexCast v2969
  ![0, v2970.toNat]
def k0_mult34 (k0_t2 : Fin k0_t2_loop.trips) : BitVec 32 :=
  let c0_i32_416 : BitVec 32 := 0#32
  let c1_i32_417 : BitVec 32 := 1#32
  let arg15 : BitVec 32 := Scf.iv c0_i32_416 c1_i32_417 k0_t2
  let c128_i32_1149 : BitVec 32 := 128#32
  let v2973 : BitVec 32 := Scalar.muli arg15 c128_i32_1149
  v2973
def k0_off27 (k0_t2 : Fin k0_t2_loop.trips) : Fin 2 → Nat :=
  let c32_1150 : Index := 32#32
  let c0_i32_416 : BitVec 32 := 0#32
  let c1_i32_417 : BitVec 32 := 1#32
  let arg15 : BitVec 32 := Scf.iv c0_i32_416 c1_i32_417 k0_t2
  let c128_i32_1149 : BitVec 32 := 128#32
  let v2973 : BitVec 32 := Scalar.muli arg15 c128_i32_1149
  let v2974 : BitVec 32 := v2973
  let v2975 : Index := Scalar.indexCast v2974
  ![32, v2975.toNat]
def k0_off28 (k0_t2 : Fin k0_t2_loop.trips) : Fin 4 → Nat :=
  let c2_i32_1151 : BitVec 32 := 2#32
  let c0_i32_416 : BitVec 32 := 0#32
  let c1_i32_417 : BitVec 32 := 1#32
  let arg15 : BitVec 32 := Scf.iv c0_i32_416 c1_i32_417 k0_t2
  let v2977 : BitVec 32 := Scalar.muli c2_i32_1151 arg15
  let v2978 : Index := Scalar.indexCast v2977
  let c1_1152 : Index := 1#32
  let c0_1153 : Index := 0#32
  let c0_1154 : Index := 0#32
  ![v2978.toNat, 1, 0, 0]
def k0_mult35 (k0_t2 : Fin k0_t2_loop.trips) : BitVec 32 :=
  let c2_i32_1151 : BitVec 32 := 2#32
  let c0_i32_416 : BitVec 32 := 0#32
  let c1_i32_417 : BitVec 32 := 1#32
  let arg15 : BitVec 32 := Scf.iv c0_i32_416 c1_i32_417 k0_t2
  let v2977 : BitVec 32 := Scalar.muli c2_i32_1151 arg15
  let c256_i32_1226 : BitVec 32 := 256#32
  let v3189 : BitVec 32 := Scalar.muli v2977 c256_i32_1226
  let c0_i32_1227 : BitVec 32 := 0#32
  let v3190 : BitVec 32 := Scalar.addi v3189 c0_i32_1227
  v3190
def k0_off29 (k0_t2 : Fin k0_t2_loop.trips) (c0_i32_1227 : BitVec 32) : Fin 2 → Nat :=
  let c64_1228 : Index := 64#32
  let c2_i32_1151 : BitVec 32 := 2#32
  let c0_i32_416 : BitVec 32 := 0#32
  let c1_i32_417 : BitVec 32 := 1#32
  let arg15 : BitVec 32 := Scf.iv c0_i32_416 c1_i32_417 k0_t2
  let v2977 : BitVec 32 := Scalar.muli c2_i32_1151 arg15
  let c256_i32_1226 : BitVec 32 := 256#32
  let v3189 : BitVec 32 := Scalar.muli v2977 c256_i32_1226
  let v3190 : BitVec 32 := Scalar.addi v3189 c0_i32_1227
  let v3191 : BitVec 32 := v3190
  let v3192 : Index := Scalar.indexCast v3191
  ![64, v3192.toNat]
def k0_mult36 (k0_t2 : Fin k0_t2_loop.trips) : BitVec 32 :=
  let c2_i32_1151 : BitVec 32 := 2#32
  let c0_i32_416 : BitVec 32 := 0#32
  let c1_i32_417 : BitVec 32 := 1#32
  let arg15 : BitVec 32 := Scf.iv c0_i32_416 c1_i32_417 k0_t2
  let v2977 : BitVec 32 := Scalar.muli c2_i32_1151 arg15
  let c256_i32_1229 : BitVec 32 := 256#32
  let v3197 : BitVec 32 := Scalar.muli v2977 c256_i32_1229
  let c128_i32_1230 : BitVec 32 := 128#32
  let v3198 : BitVec 32 := Scalar.addi v3197 c128_i32_1230
  v3198
def k0_mult37 (k0_t2 : Fin k0_t2_loop.trips) : BitVec 32 :=
  let c2_i32_1151 : BitVec 32 := 2#32
  let c0_i32_416 : BitVec 32 := 0#32
  let c1_i32_417 : BitVec 32 := 1#32
  let arg15 : BitVec 32 := Scf.iv c0_i32_416 c1_i32_417 k0_t2
  let v2977 : BitVec 32 := Scalar.muli c2_i32_1151 arg15
  let c128_i32_1232 : BitVec 32 := 128#32
  let v3205 : BitVec 32 := Scalar.muli v2977 c128_i32_1232
  v3205
def k0_off30 (k0_t2 : Fin k0_t2_loop.trips) : Fin 2 → Nat :=
  let c64_1233 : Index := 64#32
  let c2_i32_1151 : BitVec 32 := 2#32
  let c0_i32_416 : BitVec 32 := 0#32
  let c1_i32_417 : BitVec 32 := 1#32
  let arg15 : BitVec 32 := Scf.iv c0_i32_416 c1_i32_417 k0_t2
  let v2977 : BitVec 32 := Scalar.muli c2_i32_1151 arg15
  let c128_i32_1232 : BitVec 32 := 128#32
  let v3205 : BitVec 32 := Scalar.muli v2977 c128_i32_1232
  let v3206 : BitVec 32 := v3205
  let v3207 : Index := Scalar.indexCast v3206
  ![64, v3207.toNat]
def k0_mult38 (k0_t2 : Fin k0_t2_loop.trips) : BitVec 32 :=
  let c2_i32_1151 : BitVec 32 := 2#32
  let c0_i32_416 : BitVec 32 := 0#32
  let c1_i32_417 : BitVec 32 := 1#32
  let arg15 : BitVec 32 := Scf.iv c0_i32_416 c1_i32_417 k0_t2
  let v2977 : BitVec 32 := Scalar.muli c2_i32_1151 arg15
  let c256_i32_1234 : BitVec 32 := 256#32
  let v3210 : BitVec 32 := Scalar.muli v2977 c256_i32_1234
  let c0_i32_1235 : BitVec 32 := 0#32
  let v3211 : BitVec 32 := Scalar.addi v3210 c0_i32_1235
  v3211
def k0_off31 (k0_t2 : Fin k0_t2_loop.trips) (c0_i32_1235 : BitVec 32) : Fin 2 → Nat :=
  let c96_1236 : Index := 96#32
  let c2_i32_1151 : BitVec 32 := 2#32
  let c0_i32_416 : BitVec 32 := 0#32
  let c1_i32_417 : BitVec 32 := 1#32
  let arg15 : BitVec 32 := Scf.iv c0_i32_416 c1_i32_417 k0_t2
  let v2977 : BitVec 32 := Scalar.muli c2_i32_1151 arg15
  let c256_i32_1234 : BitVec 32 := 256#32
  let v3210 : BitVec 32 := Scalar.muli v2977 c256_i32_1234
  let v3211 : BitVec 32 := Scalar.addi v3210 c0_i32_1235
  let v3212 : BitVec 32 := v3211
  let v3213 : Index := Scalar.indexCast v3212
  ![96, v3213.toNat]
def k0_mult39 (k0_t2 : Fin k0_t2_loop.trips) : BitVec 32 :=
  let c2_i32_1151 : BitVec 32 := 2#32
  let c0_i32_416 : BitVec 32 := 0#32
  let c1_i32_417 : BitVec 32 := 1#32
  let arg15 : BitVec 32 := Scf.iv c0_i32_416 c1_i32_417 k0_t2
  let v2977 : BitVec 32 := Scalar.muli c2_i32_1151 arg15
  let c256_i32_1237 : BitVec 32 := 256#32
  let v3218 : BitVec 32 := Scalar.muli v2977 c256_i32_1237
  let c128_i32_1238 : BitVec 32 := 128#32
  let v3219 : BitVec 32 := Scalar.addi v3218 c128_i32_1238
  v3219
def k0_mult40 (k0_t2 : Fin k0_t2_loop.trips) : BitVec 32 :=
  let c2_i32_1151 : BitVec 32 := 2#32
  let c0_i32_416 : BitVec 32 := 0#32
  let c1_i32_417 : BitVec 32 := 1#32
  let arg15 : BitVec 32 := Scf.iv c0_i32_416 c1_i32_417 k0_t2
  let v2977 : BitVec 32 := Scalar.muli c2_i32_1151 arg15
  let c128_i32_1240 : BitVec 32 := 128#32
  let v3226 : BitVec 32 := Scalar.muli v2977 c128_i32_1240
  v3226
def k0_off32 (k0_t2 : Fin k0_t2_loop.trips) : Fin 2 → Nat :=
  let c96_1241 : Index := 96#32
  let c2_i32_1151 : BitVec 32 := 2#32
  let c0_i32_416 : BitVec 32 := 0#32
  let c1_i32_417 : BitVec 32 := 1#32
  let arg15 : BitVec 32 := Scf.iv c0_i32_416 c1_i32_417 k0_t2
  let v2977 : BitVec 32 := Scalar.muli c2_i32_1151 arg15
  let c128_i32_1240 : BitVec 32 := 128#32
  let v3226 : BitVec 32 := Scalar.muli v2977 c128_i32_1240
  let v3227 : BitVec 32 := v3226
  let v3228 : Index := Scalar.indexCast v3227
  ![96, v3228.toNat]
def k0_off33 (k0_t2 : Fin k0_t2_loop.trips) : Fin 4 → Nat :=
  let c2_i32_1242 : BitVec 32 := 2#32
  let c0_i32_416 : BitVec 32 := 0#32
  let c1_i32_417 : BitVec 32 := 1#32
  let arg15 : BitVec 32 := Scf.iv c0_i32_416 c1_i32_417 k0_t2
  let v3230 : BitVec 32 := Scalar.muli c2_i32_1242 arg15
  let c1_i32_1243 : BitVec 32 := 1#32
  let v3231 : BitVec 32 := Scalar.addi v3230 c1_i32_1243
  let v3232 : Index := Scalar.indexCast v3231
  let c1_1244 : Index := 1#32
  let c0_1245 : Index := 0#32
  let c0_1246 : Index := 0#32
  ![v3232.toNat, 1, 0, 0]
def k0_mult41 (k0_t2 : Fin k0_t2_loop.trips) : BitVec 32 :=
  let c2_i32_1242 : BitVec 32 := 2#32
  let c0_i32_416 : BitVec 32 := 0#32
  let c1_i32_417 : BitVec 32 := 1#32
  let arg15 : BitVec 32 := Scf.iv c0_i32_416 c1_i32_417 k0_t2
  let v3230 : BitVec 32 := Scalar.muli c2_i32_1242 arg15
  let c1_i32_1243 : BitVec 32 := 1#32
  let v3231 : BitVec 32 := Scalar.addi v3230 c1_i32_1243
  let c256_i32_1318 : BitVec 32 := 256#32
  let v3443 : BitVec 32 := Scalar.muli v3231 c256_i32_1318
  let c0_i32_1319 : BitVec 32 := 0#32
  let v3444 : BitVec 32 := Scalar.addi v3443 c0_i32_1319
  v3444
def k0_off34 (k0_t2 : Fin k0_t2_loop.trips) (c0_i32_1319 : BitVec 32) : Fin 2 → Nat :=
  let c64_1320 : Index := 64#32
  let c2_i32_1242 : BitVec 32 := 2#32
  let c0_i32_416 : BitVec 32 := 0#32
  let c1_i32_417 : BitVec 32 := 1#32
  let arg15 : BitVec 32 := Scf.iv c0_i32_416 c1_i32_417 k0_t2
  let v3230 : BitVec 32 := Scalar.muli c2_i32_1242 arg15
  let c1_i32_1243 : BitVec 32 := 1#32
  let v3231 : BitVec 32 := Scalar.addi v3230 c1_i32_1243
  let c256_i32_1318 : BitVec 32 := 256#32
  let v3443 : BitVec 32 := Scalar.muli v3231 c256_i32_1318
  let v3444 : BitVec 32 := Scalar.addi v3443 c0_i32_1319
  let v3445 : BitVec 32 := v3444
  let v3446 : Index := Scalar.indexCast v3445
  ![64, v3446.toNat]
def k0_mult42 (k0_t2 : Fin k0_t2_loop.trips) : BitVec 32 :=
  let c2_i32_1242 : BitVec 32 := 2#32
  let c0_i32_416 : BitVec 32 := 0#32
  let c1_i32_417 : BitVec 32 := 1#32
  let arg15 : BitVec 32 := Scf.iv c0_i32_416 c1_i32_417 k0_t2
  let v3230 : BitVec 32 := Scalar.muli c2_i32_1242 arg15
  let c1_i32_1243 : BitVec 32 := 1#32
  let v3231 : BitVec 32 := Scalar.addi v3230 c1_i32_1243
  let c256_i32_1321 : BitVec 32 := 256#32
  let v3451 : BitVec 32 := Scalar.muli v3231 c256_i32_1321
  let c128_i32_1322 : BitVec 32 := 128#32
  let v3452 : BitVec 32 := Scalar.addi v3451 c128_i32_1322
  v3452
def k0_mult43 (k0_t2 : Fin k0_t2_loop.trips) : BitVec 32 :=
  let c2_i32_1242 : BitVec 32 := 2#32
  let c0_i32_416 : BitVec 32 := 0#32
  let c1_i32_417 : BitVec 32 := 1#32
  let arg15 : BitVec 32 := Scf.iv c0_i32_416 c1_i32_417 k0_t2
  let v3230 : BitVec 32 := Scalar.muli c2_i32_1242 arg15
  let c1_i32_1243 : BitVec 32 := 1#32
  let v3231 : BitVec 32 := Scalar.addi v3230 c1_i32_1243
  let c128_i32_1324 : BitVec 32 := 128#32
  let v3459 : BitVec 32 := Scalar.muli v3231 c128_i32_1324
  v3459
def k0_off35 (k0_t2 : Fin k0_t2_loop.trips) : Fin 2 → Nat :=
  let c64_1325 : Index := 64#32
  let c2_i32_1242 : BitVec 32 := 2#32
  let c0_i32_416 : BitVec 32 := 0#32
  let c1_i32_417 : BitVec 32 := 1#32
  let arg15 : BitVec 32 := Scf.iv c0_i32_416 c1_i32_417 k0_t2
  let v3230 : BitVec 32 := Scalar.muli c2_i32_1242 arg15
  let c1_i32_1243 : BitVec 32 := 1#32
  let v3231 : BitVec 32 := Scalar.addi v3230 c1_i32_1243
  let c128_i32_1324 : BitVec 32 := 128#32
  let v3459 : BitVec 32 := Scalar.muli v3231 c128_i32_1324
  let v3460 : BitVec 32 := v3459
  let v3461 : Index := Scalar.indexCast v3460
  ![64, v3461.toNat]
def k0_mult44 (k0_t2 : Fin k0_t2_loop.trips) : BitVec 32 :=
  let c2_i32_1242 : BitVec 32 := 2#32
  let c0_i32_416 : BitVec 32 := 0#32
  let c1_i32_417 : BitVec 32 := 1#32
  let arg15 : BitVec 32 := Scf.iv c0_i32_416 c1_i32_417 k0_t2
  let v3230 : BitVec 32 := Scalar.muli c2_i32_1242 arg15
  let c1_i32_1243 : BitVec 32 := 1#32
  let v3231 : BitVec 32 := Scalar.addi v3230 c1_i32_1243
  let c256_i32_1326 : BitVec 32 := 256#32
  let v3464 : BitVec 32 := Scalar.muli v3231 c256_i32_1326
  let c0_i32_1327 : BitVec 32 := 0#32
  let v3465 : BitVec 32 := Scalar.addi v3464 c0_i32_1327
  v3465
def k0_off36 (k0_t2 : Fin k0_t2_loop.trips) (c0_i32_1327 : BitVec 32) : Fin 2 → Nat :=
  let c96_1328 : Index := 96#32
  let c2_i32_1242 : BitVec 32 := 2#32
  let c0_i32_416 : BitVec 32 := 0#32
  let c1_i32_417 : BitVec 32 := 1#32
  let arg15 : BitVec 32 := Scf.iv c0_i32_416 c1_i32_417 k0_t2
  let v3230 : BitVec 32 := Scalar.muli c2_i32_1242 arg15
  let c1_i32_1243 : BitVec 32 := 1#32
  let v3231 : BitVec 32 := Scalar.addi v3230 c1_i32_1243
  let c256_i32_1326 : BitVec 32 := 256#32
  let v3464 : BitVec 32 := Scalar.muli v3231 c256_i32_1326
  let v3465 : BitVec 32 := Scalar.addi v3464 c0_i32_1327
  let v3466 : BitVec 32 := v3465
  let v3467 : Index := Scalar.indexCast v3466
  ![96, v3467.toNat]
def k0_mult45 (k0_t2 : Fin k0_t2_loop.trips) : BitVec 32 :=
  let c2_i32_1242 : BitVec 32 := 2#32
  let c0_i32_416 : BitVec 32 := 0#32
  let c1_i32_417 : BitVec 32 := 1#32
  let arg15 : BitVec 32 := Scf.iv c0_i32_416 c1_i32_417 k0_t2
  let v3230 : BitVec 32 := Scalar.muli c2_i32_1242 arg15
  let c1_i32_1243 : BitVec 32 := 1#32
  let v3231 : BitVec 32 := Scalar.addi v3230 c1_i32_1243
  let c256_i32_1329 : BitVec 32 := 256#32
  let v3472 : BitVec 32 := Scalar.muli v3231 c256_i32_1329
  let c128_i32_1330 : BitVec 32 := 128#32
  let v3473 : BitVec 32 := Scalar.addi v3472 c128_i32_1330
  v3473
def k0_mult46 (k0_t2 : Fin k0_t2_loop.trips) : BitVec 32 :=
  let c2_i32_1242 : BitVec 32 := 2#32
  let c0_i32_416 : BitVec 32 := 0#32
  let c1_i32_417 : BitVec 32 := 1#32
  let arg15 : BitVec 32 := Scf.iv c0_i32_416 c1_i32_417 k0_t2
  let v3230 : BitVec 32 := Scalar.muli c2_i32_1242 arg15
  let c1_i32_1243 : BitVec 32 := 1#32
  let v3231 : BitVec 32 := Scalar.addi v3230 c1_i32_1243
  let c128_i32_1332 : BitVec 32 := 128#32
  let v3480 : BitVec 32 := Scalar.muli v3231 c128_i32_1332
  v3480
def k0_off37 (k0_t2 : Fin k0_t2_loop.trips) : Fin 2 → Nat :=
  let c96_1333 : Index := 96#32
  let c2_i32_1242 : BitVec 32 := 2#32
  let c0_i32_416 : BitVec 32 := 0#32
  let c1_i32_417 : BitVec 32 := 1#32
  let arg15 : BitVec 32 := Scf.iv c0_i32_416 c1_i32_417 k0_t2
  let v3230 : BitVec 32 := Scalar.muli c2_i32_1242 arg15
  let c1_i32_1243 : BitVec 32 := 1#32
  let v3231 : BitVec 32 := Scalar.addi v3230 c1_i32_1243
  let c128_i32_1332 : BitVec 32 := 128#32
  let v3480 : BitVec 32 := Scalar.muli v3231 c128_i32_1332
  let v3481 : BitVec 32 := v3480
  let v3482 : Index := Scalar.indexCast v3481
  ![96, v3482.toNat]
def k0_mult47 (k0_t2 : Fin k0_t2_loop.trips) : BitVec 32 :=
  let c0_i32_416 : BitVec 32 := 0#32
  let c1_i32_417 : BitVec 32 := 1#32
  let arg15 : BitVec 32 := Scf.iv c0_i32_416 c1_i32_417 k0_t2
  let c128_i32_1336 : BitVec 32 := 128#32
  let v3489 : BitVec 32 := Scalar.muli arg15 c128_i32_1336
  v3489
def k0_off38 (k0_t2 : Fin k0_t2_loop.trips) : Fin 2 → Nat :=
  let c64_1337 : Index := 64#32
  let c0_i32_416 : BitVec 32 := 0#32
  let c1_i32_417 : BitVec 32 := 1#32
  let arg15 : BitVec 32 := Scf.iv c0_i32_416 c1_i32_417 k0_t2
  let c128_i32_1336 : BitVec 32 := 128#32
  let v3489 : BitVec 32 := Scalar.muli arg15 c128_i32_1336
  let v3490 : BitVec 32 := v3489
  let v3491 : Index := Scalar.indexCast v3490
  ![64, v3491.toNat]
def k0_mult48 (k0_t2 : Fin k0_t2_loop.trips) : BitVec 32 :=
  let c0_i32_416 : BitVec 32 := 0#32
  let c1_i32_417 : BitVec 32 := 1#32
  let arg15 : BitVec 32 := Scf.iv c0_i32_416 c1_i32_417 k0_t2
  let c128_i32_1338 : BitVec 32 := 128#32
  let v3494 : BitVec 32 := Scalar.muli arg15 c128_i32_1338
  v3494
def k0_off39 (k0_t2 : Fin k0_t2_loop.trips) : Fin 2 → Nat :=
  let c96_1339 : Index := 96#32
  let c0_i32_416 : BitVec 32 := 0#32
  let c1_i32_417 : BitVec 32 := 1#32
  let arg15 : BitVec 32 := Scf.iv c0_i32_416 c1_i32_417 k0_t2
  let c128_i32_1338 : BitVec 32 := 128#32
  let v3494 : BitVec 32 := Scalar.muli arg15 c128_i32_1338
  let v3495 : BitVec 32 := v3494
  let v3496 : Index := Scalar.indexCast v3495
  ![96, v3496.toNat]
def k0_off40 (k0_t2 : Fin k0_t2_loop.trips) : Fin 4 → Nat :=
  let c2_i32_1340 : BitVec 32 := 2#32
  let c0_i32_416 : BitVec 32 := 0#32
  let c1_i32_417 : BitVec 32 := 1#32
  let arg15 : BitVec 32 := Scf.iv c0_i32_416 c1_i32_417 k0_t2
  let v3498 : BitVec 32 := Scalar.muli c2_i32_1340 arg15
  let v3499 : Index := Scalar.indexCast v3498
  let c2_1341 : Index := 2#32
  let c0_1342 : Index := 0#32
  let c0_1343 : Index := 0#32
  ![v3499.toNat, 2, 0, 0]
def k0_mult49 (k0_t2 : Fin k0_t2_loop.trips) : BitVec 32 :=
  let c2_i32_1340 : BitVec 32 := 2#32
  let c0_i32_416 : BitVec 32 := 0#32
  let c1_i32_417 : BitVec 32 := 1#32
  let arg15 : BitVec 32 := Scf.iv c0_i32_416 c1_i32_417 k0_t2
  let v3498 : BitVec 32 := Scalar.muli c2_i32_1340 arg15
  let c256_i32_1415 : BitVec 32 := 256#32
  let v3710 : BitVec 32 := Scalar.muli v3498 c256_i32_1415
  let c0_i32_1416 : BitVec 32 := 0#32
  let v3711 : BitVec 32 := Scalar.addi v3710 c0_i32_1416
  v3711
def k0_off41 (k0_t2 : Fin k0_t2_loop.trips) (c0_i32_1416 : BitVec 32) : Fin 2 → Nat :=
  let c128_1417 : Index := 128#32
  let c2_i32_1340 : BitVec 32 := 2#32
  let c0_i32_416 : BitVec 32 := 0#32
  let c1_i32_417 : BitVec 32 := 1#32
  let arg15 : BitVec 32 := Scf.iv c0_i32_416 c1_i32_417 k0_t2
  let v3498 : BitVec 32 := Scalar.muli c2_i32_1340 arg15
  let c256_i32_1415 : BitVec 32 := 256#32
  let v3710 : BitVec 32 := Scalar.muli v3498 c256_i32_1415
  let v3711 : BitVec 32 := Scalar.addi v3710 c0_i32_1416
  let v3712 : BitVec 32 := v3711
  let v3713 : Index := Scalar.indexCast v3712
  ![128, v3713.toNat]
def k0_mult50 (k0_t2 : Fin k0_t2_loop.trips) : BitVec 32 :=
  let c2_i32_1340 : BitVec 32 := 2#32
  let c0_i32_416 : BitVec 32 := 0#32
  let c1_i32_417 : BitVec 32 := 1#32
  let arg15 : BitVec 32 := Scf.iv c0_i32_416 c1_i32_417 k0_t2
  let v3498 : BitVec 32 := Scalar.muli c2_i32_1340 arg15
  let c256_i32_1418 : BitVec 32 := 256#32
  let v3718 : BitVec 32 := Scalar.muli v3498 c256_i32_1418
  let c128_i32_1419 : BitVec 32 := 128#32
  let v3719 : BitVec 32 := Scalar.addi v3718 c128_i32_1419
  v3719
def k0_mult51 (k0_t2 : Fin k0_t2_loop.trips) : BitVec 32 :=
  let c2_i32_1340 : BitVec 32 := 2#32
  let c0_i32_416 : BitVec 32 := 0#32
  let c1_i32_417 : BitVec 32 := 1#32
  let arg15 : BitVec 32 := Scf.iv c0_i32_416 c1_i32_417 k0_t2
  let v3498 : BitVec 32 := Scalar.muli c2_i32_1340 arg15
  let c128_i32_1421 : BitVec 32 := 128#32
  let v3726 : BitVec 32 := Scalar.muli v3498 c128_i32_1421
  v3726
def k0_off42 (k0_t2 : Fin k0_t2_loop.trips) : Fin 2 → Nat :=
  let c128_1422 : Index := 128#32
  let c2_i32_1340 : BitVec 32 := 2#32
  let c0_i32_416 : BitVec 32 := 0#32
  let c1_i32_417 : BitVec 32 := 1#32
  let arg15 : BitVec 32 := Scf.iv c0_i32_416 c1_i32_417 k0_t2
  let v3498 : BitVec 32 := Scalar.muli c2_i32_1340 arg15
  let c128_i32_1421 : BitVec 32 := 128#32
  let v3726 : BitVec 32 := Scalar.muli v3498 c128_i32_1421
  let v3727 : BitVec 32 := v3726
  let v3728 : Index := Scalar.indexCast v3727
  ![128, v3728.toNat]
def k0_mult52 (k0_t2 : Fin k0_t2_loop.trips) : BitVec 32 :=
  let c2_i32_1340 : BitVec 32 := 2#32
  let c0_i32_416 : BitVec 32 := 0#32
  let c1_i32_417 : BitVec 32 := 1#32
  let arg15 : BitVec 32 := Scf.iv c0_i32_416 c1_i32_417 k0_t2
  let v3498 : BitVec 32 := Scalar.muli c2_i32_1340 arg15
  let c256_i32_1423 : BitVec 32 := 256#32
  let v3731 : BitVec 32 := Scalar.muli v3498 c256_i32_1423
  let c0_i32_1424 : BitVec 32 := 0#32
  let v3732 : BitVec 32 := Scalar.addi v3731 c0_i32_1424
  v3732
def k0_off43 (k0_t2 : Fin k0_t2_loop.trips) (c0_i32_1424 : BitVec 32) : Fin 2 → Nat :=
  let c160_1425 : Index := 160#32
  let c2_i32_1340 : BitVec 32 := 2#32
  let c0_i32_416 : BitVec 32 := 0#32
  let c1_i32_417 : BitVec 32 := 1#32
  let arg15 : BitVec 32 := Scf.iv c0_i32_416 c1_i32_417 k0_t2
  let v3498 : BitVec 32 := Scalar.muli c2_i32_1340 arg15
  let c256_i32_1423 : BitVec 32 := 256#32
  let v3731 : BitVec 32 := Scalar.muli v3498 c256_i32_1423
  let v3732 : BitVec 32 := Scalar.addi v3731 c0_i32_1424
  let v3733 : BitVec 32 := v3732
  let v3734 : Index := Scalar.indexCast v3733
  ![160, v3734.toNat]
def k0_mult53 (k0_t2 : Fin k0_t2_loop.trips) : BitVec 32 :=
  let c2_i32_1340 : BitVec 32 := 2#32
  let c0_i32_416 : BitVec 32 := 0#32
  let c1_i32_417 : BitVec 32 := 1#32
  let arg15 : BitVec 32 := Scf.iv c0_i32_416 c1_i32_417 k0_t2
  let v3498 : BitVec 32 := Scalar.muli c2_i32_1340 arg15
  let c256_i32_1426 : BitVec 32 := 256#32
  let v3739 : BitVec 32 := Scalar.muli v3498 c256_i32_1426
  let c128_i32_1427 : BitVec 32 := 128#32
  let v3740 : BitVec 32 := Scalar.addi v3739 c128_i32_1427
  v3740
def k0_mult54 (k0_t2 : Fin k0_t2_loop.trips) : BitVec 32 :=
  let c2_i32_1340 : BitVec 32 := 2#32
  let c0_i32_416 : BitVec 32 := 0#32
  let c1_i32_417 : BitVec 32 := 1#32
  let arg15 : BitVec 32 := Scf.iv c0_i32_416 c1_i32_417 k0_t2
  let v3498 : BitVec 32 := Scalar.muli c2_i32_1340 arg15
  let c128_i32_1429 : BitVec 32 := 128#32
  let v3747 : BitVec 32 := Scalar.muli v3498 c128_i32_1429
  v3747
def k0_off44 (k0_t2 : Fin k0_t2_loop.trips) : Fin 2 → Nat :=
  let c160_1430 : Index := 160#32
  let c2_i32_1340 : BitVec 32 := 2#32
  let c0_i32_416 : BitVec 32 := 0#32
  let c1_i32_417 : BitVec 32 := 1#32
  let arg15 : BitVec 32 := Scf.iv c0_i32_416 c1_i32_417 k0_t2
  let v3498 : BitVec 32 := Scalar.muli c2_i32_1340 arg15
  let c128_i32_1429 : BitVec 32 := 128#32
  let v3747 : BitVec 32 := Scalar.muli v3498 c128_i32_1429
  let v3748 : BitVec 32 := v3747
  let v3749 : Index := Scalar.indexCast v3748
  ![160, v3749.toNat]
def k0_off45 (k0_t2 : Fin k0_t2_loop.trips) : Fin 4 → Nat :=
  let c2_i32_1431 : BitVec 32 := 2#32
  let c0_i32_416 : BitVec 32 := 0#32
  let c1_i32_417 : BitVec 32 := 1#32
  let arg15 : BitVec 32 := Scf.iv c0_i32_416 c1_i32_417 k0_t2
  let v3751 : BitVec 32 := Scalar.muli c2_i32_1431 arg15
  let c1_i32_1432 : BitVec 32 := 1#32
  let v3752 : BitVec 32 := Scalar.addi v3751 c1_i32_1432
  let v3753 : Index := Scalar.indexCast v3752
  let c2_1433 : Index := 2#32
  let c0_1434 : Index := 0#32
  let c0_1435 : Index := 0#32
  ![v3753.toNat, 2, 0, 0]
def k0_mult55 (k0_t2 : Fin k0_t2_loop.trips) : BitVec 32 :=
  let c2_i32_1431 : BitVec 32 := 2#32
  let c0_i32_416 : BitVec 32 := 0#32
  let c1_i32_417 : BitVec 32 := 1#32
  let arg15 : BitVec 32 := Scf.iv c0_i32_416 c1_i32_417 k0_t2
  let v3751 : BitVec 32 := Scalar.muli c2_i32_1431 arg15
  let c1_i32_1432 : BitVec 32 := 1#32
  let v3752 : BitVec 32 := Scalar.addi v3751 c1_i32_1432
  let c256_i32_1507 : BitVec 32 := 256#32
  let v3964 : BitVec 32 := Scalar.muli v3752 c256_i32_1507
  let c0_i32_1508 : BitVec 32 := 0#32
  let v3965 : BitVec 32 := Scalar.addi v3964 c0_i32_1508
  v3965
def k0_off46 (k0_t2 : Fin k0_t2_loop.trips) (c0_i32_1508 : BitVec 32) : Fin 2 → Nat :=
  let c128_1509 : Index := 128#32
  let c2_i32_1431 : BitVec 32 := 2#32
  let c0_i32_416 : BitVec 32 := 0#32
  let c1_i32_417 : BitVec 32 := 1#32
  let arg15 : BitVec 32 := Scf.iv c0_i32_416 c1_i32_417 k0_t2
  let v3751 : BitVec 32 := Scalar.muli c2_i32_1431 arg15
  let c1_i32_1432 : BitVec 32 := 1#32
  let v3752 : BitVec 32 := Scalar.addi v3751 c1_i32_1432
  let c256_i32_1507 : BitVec 32 := 256#32
  let v3964 : BitVec 32 := Scalar.muli v3752 c256_i32_1507
  let v3965 : BitVec 32 := Scalar.addi v3964 c0_i32_1508
  let v3966 : BitVec 32 := v3965
  let v3967 : Index := Scalar.indexCast v3966
  ![128, v3967.toNat]
def k0_mult56 (k0_t2 : Fin k0_t2_loop.trips) : BitVec 32 :=
  let c2_i32_1431 : BitVec 32 := 2#32
  let c0_i32_416 : BitVec 32 := 0#32
  let c1_i32_417 : BitVec 32 := 1#32
  let arg15 : BitVec 32 := Scf.iv c0_i32_416 c1_i32_417 k0_t2
  let v3751 : BitVec 32 := Scalar.muli c2_i32_1431 arg15
  let c1_i32_1432 : BitVec 32 := 1#32
  let v3752 : BitVec 32 := Scalar.addi v3751 c1_i32_1432
  let c256_i32_1510 : BitVec 32 := 256#32
  let v3972 : BitVec 32 := Scalar.muli v3752 c256_i32_1510
  let c128_i32_1511 : BitVec 32 := 128#32
  let v3973 : BitVec 32 := Scalar.addi v3972 c128_i32_1511
  v3973
def k0_mult57 (k0_t2 : Fin k0_t2_loop.trips) : BitVec 32 :=
  let c2_i32_1431 : BitVec 32 := 2#32
  let c0_i32_416 : BitVec 32 := 0#32
  let c1_i32_417 : BitVec 32 := 1#32
  let arg15 : BitVec 32 := Scf.iv c0_i32_416 c1_i32_417 k0_t2
  let v3751 : BitVec 32 := Scalar.muli c2_i32_1431 arg15
  let c1_i32_1432 : BitVec 32 := 1#32
  let v3752 : BitVec 32 := Scalar.addi v3751 c1_i32_1432
  let c128_i32_1513 : BitVec 32 := 128#32
  let v3980 : BitVec 32 := Scalar.muli v3752 c128_i32_1513
  v3980
def k0_off47 (k0_t2 : Fin k0_t2_loop.trips) : Fin 2 → Nat :=
  let c128_1514 : Index := 128#32
  let c2_i32_1431 : BitVec 32 := 2#32
  let c0_i32_416 : BitVec 32 := 0#32
  let c1_i32_417 : BitVec 32 := 1#32
  let arg15 : BitVec 32 := Scf.iv c0_i32_416 c1_i32_417 k0_t2
  let v3751 : BitVec 32 := Scalar.muli c2_i32_1431 arg15
  let c1_i32_1432 : BitVec 32 := 1#32
  let v3752 : BitVec 32 := Scalar.addi v3751 c1_i32_1432
  let c128_i32_1513 : BitVec 32 := 128#32
  let v3980 : BitVec 32 := Scalar.muli v3752 c128_i32_1513
  let v3981 : BitVec 32 := v3980
  let v3982 : Index := Scalar.indexCast v3981
  ![128, v3982.toNat]
def k0_mult58 (k0_t2 : Fin k0_t2_loop.trips) : BitVec 32 :=
  let c2_i32_1431 : BitVec 32 := 2#32
  let c0_i32_416 : BitVec 32 := 0#32
  let c1_i32_417 : BitVec 32 := 1#32
  let arg15 : BitVec 32 := Scf.iv c0_i32_416 c1_i32_417 k0_t2
  let v3751 : BitVec 32 := Scalar.muli c2_i32_1431 arg15
  let c1_i32_1432 : BitVec 32 := 1#32
  let v3752 : BitVec 32 := Scalar.addi v3751 c1_i32_1432
  let c256_i32_1515 : BitVec 32 := 256#32
  let v3985 : BitVec 32 := Scalar.muli v3752 c256_i32_1515
  let c0_i32_1516 : BitVec 32 := 0#32
  let v3986 : BitVec 32 := Scalar.addi v3985 c0_i32_1516
  v3986
def k0_off48 (k0_t2 : Fin k0_t2_loop.trips) (c0_i32_1516 : BitVec 32) : Fin 2 → Nat :=
  let c160_1517 : Index := 160#32
  let c2_i32_1431 : BitVec 32 := 2#32
  let c0_i32_416 : BitVec 32 := 0#32
  let c1_i32_417 : BitVec 32 := 1#32
  let arg15 : BitVec 32 := Scf.iv c0_i32_416 c1_i32_417 k0_t2
  let v3751 : BitVec 32 := Scalar.muli c2_i32_1431 arg15
  let c1_i32_1432 : BitVec 32 := 1#32
  let v3752 : BitVec 32 := Scalar.addi v3751 c1_i32_1432
  let c256_i32_1515 : BitVec 32 := 256#32
  let v3985 : BitVec 32 := Scalar.muli v3752 c256_i32_1515
  let v3986 : BitVec 32 := Scalar.addi v3985 c0_i32_1516
  let v3987 : BitVec 32 := v3986
  let v3988 : Index := Scalar.indexCast v3987
  ![160, v3988.toNat]
def k0_mult59 (k0_t2 : Fin k0_t2_loop.trips) : BitVec 32 :=
  let c2_i32_1431 : BitVec 32 := 2#32
  let c0_i32_416 : BitVec 32 := 0#32
  let c1_i32_417 : BitVec 32 := 1#32
  let arg15 : BitVec 32 := Scf.iv c0_i32_416 c1_i32_417 k0_t2
  let v3751 : BitVec 32 := Scalar.muli c2_i32_1431 arg15
  let c1_i32_1432 : BitVec 32 := 1#32
  let v3752 : BitVec 32 := Scalar.addi v3751 c1_i32_1432
  let c256_i32_1518 : BitVec 32 := 256#32
  let v3993 : BitVec 32 := Scalar.muli v3752 c256_i32_1518
  let c128_i32_1519 : BitVec 32 := 128#32
  let v3994 : BitVec 32 := Scalar.addi v3993 c128_i32_1519
  v3994
def k0_mult60 (k0_t2 : Fin k0_t2_loop.trips) : BitVec 32 :=
  let c2_i32_1431 : BitVec 32 := 2#32
  let c0_i32_416 : BitVec 32 := 0#32
  let c1_i32_417 : BitVec 32 := 1#32
  let arg15 : BitVec 32 := Scf.iv c0_i32_416 c1_i32_417 k0_t2
  let v3751 : BitVec 32 := Scalar.muli c2_i32_1431 arg15
  let c1_i32_1432 : BitVec 32 := 1#32
  let v3752 : BitVec 32 := Scalar.addi v3751 c1_i32_1432
  let c128_i32_1521 : BitVec 32 := 128#32
  let v4001 : BitVec 32 := Scalar.muli v3752 c128_i32_1521
  v4001
def k0_off49 (k0_t2 : Fin k0_t2_loop.trips) : Fin 2 → Nat :=
  let c160_1522 : Index := 160#32
  let c2_i32_1431 : BitVec 32 := 2#32
  let c0_i32_416 : BitVec 32 := 0#32
  let c1_i32_417 : BitVec 32 := 1#32
  let arg15 : BitVec 32 := Scf.iv c0_i32_416 c1_i32_417 k0_t2
  let v3751 : BitVec 32 := Scalar.muli c2_i32_1431 arg15
  let c1_i32_1432 : BitVec 32 := 1#32
  let v3752 : BitVec 32 := Scalar.addi v3751 c1_i32_1432
  let c128_i32_1521 : BitVec 32 := 128#32
  let v4001 : BitVec 32 := Scalar.muli v3752 c128_i32_1521
  let v4002 : BitVec 32 := v4001
  let v4003 : Index := Scalar.indexCast v4002
  ![160, v4003.toNat]
def k0_mult61 (k0_t2 : Fin k0_t2_loop.trips) : BitVec 32 :=
  let c0_i32_416 : BitVec 32 := 0#32
  let c1_i32_417 : BitVec 32 := 1#32
  let arg15 : BitVec 32 := Scf.iv c0_i32_416 c1_i32_417 k0_t2
  let c128_i32_1525 : BitVec 32 := 128#32
  let v4010 : BitVec 32 := Scalar.muli arg15 c128_i32_1525
  v4010
def k0_off50 (k0_t2 : Fin k0_t2_loop.trips) : Fin 2 → Nat :=
  let c128_1526 : Index := 128#32
  let c0_i32_416 : BitVec 32 := 0#32
  let c1_i32_417 : BitVec 32 := 1#32
  let arg15 : BitVec 32 := Scf.iv c0_i32_416 c1_i32_417 k0_t2
  let c128_i32_1525 : BitVec 32 := 128#32
  let v4010 : BitVec 32 := Scalar.muli arg15 c128_i32_1525
  let v4011 : BitVec 32 := v4010
  let v4012 : Index := Scalar.indexCast v4011
  ![128, v4012.toNat]
def k0_mult62 (k0_t2 : Fin k0_t2_loop.trips) : BitVec 32 :=
  let c0_i32_416 : BitVec 32 := 0#32
  let c1_i32_417 : BitVec 32 := 1#32
  let arg15 : BitVec 32 := Scf.iv c0_i32_416 c1_i32_417 k0_t2
  let c128_i32_1527 : BitVec 32 := 128#32
  let v4015 : BitVec 32 := Scalar.muli arg15 c128_i32_1527
  v4015
def k0_off51 (k0_t2 : Fin k0_t2_loop.trips) : Fin 2 → Nat :=
  let c160_1528 : Index := 160#32
  let c0_i32_416 : BitVec 32 := 0#32
  let c1_i32_417 : BitVec 32 := 1#32
  let arg15 : BitVec 32 := Scf.iv c0_i32_416 c1_i32_417 k0_t2
  let c128_i32_1527 : BitVec 32 := 128#32
  let v4015 : BitVec 32 := Scalar.muli arg15 c128_i32_1527
  let v4016 : BitVec 32 := v4015
  let v4017 : Index := Scalar.indexCast v4016
  ![160, v4017.toNat]
def k0_off52 (k0_t2 : Fin k0_t2_loop.trips) : Fin 4 → Nat :=
  let c2_i32_1529 : BitVec 32 := 2#32
  let c0_i32_416 : BitVec 32 := 0#32
  let c1_i32_417 : BitVec 32 := 1#32
  let arg15 : BitVec 32 := Scf.iv c0_i32_416 c1_i32_417 k0_t2
  let v4019 : BitVec 32 := Scalar.muli c2_i32_1529 arg15
  let v4020 : Index := Scalar.indexCast v4019
  let c3_1530 : Index := 3#32
  let c0_1531 : Index := 0#32
  let c0_1532 : Index := 0#32
  ![v4020.toNat, 3, 0, 0]
def k0_mult63 (k0_t2 : Fin k0_t2_loop.trips) : BitVec 32 :=
  let c2_i32_1529 : BitVec 32 := 2#32
  let c0_i32_416 : BitVec 32 := 0#32
  let c1_i32_417 : BitVec 32 := 1#32
  let arg15 : BitVec 32 := Scf.iv c0_i32_416 c1_i32_417 k0_t2
  let v4019 : BitVec 32 := Scalar.muli c2_i32_1529 arg15
  let c256_i32_1604 : BitVec 32 := 256#32
  let v4231 : BitVec 32 := Scalar.muli v4019 c256_i32_1604
  let c0_i32_1605 : BitVec 32 := 0#32
  let v4232 : BitVec 32 := Scalar.addi v4231 c0_i32_1605
  v4232
def k0_off53 (k0_t2 : Fin k0_t2_loop.trips) (c0_i32_1605 : BitVec 32) : Fin 2 → Nat :=
  let c192_1606 : Index := 192#32
  let c2_i32_1529 : BitVec 32 := 2#32
  let c0_i32_416 : BitVec 32 := 0#32
  let c1_i32_417 : BitVec 32 := 1#32
  let arg15 : BitVec 32 := Scf.iv c0_i32_416 c1_i32_417 k0_t2
  let v4019 : BitVec 32 := Scalar.muli c2_i32_1529 arg15
  let c256_i32_1604 : BitVec 32 := 256#32
  let v4231 : BitVec 32 := Scalar.muli v4019 c256_i32_1604
  let v4232 : BitVec 32 := Scalar.addi v4231 c0_i32_1605
  let v4233 : BitVec 32 := v4232
  let v4234 : Index := Scalar.indexCast v4233
  ![192, v4234.toNat]
def k0_mult64 (k0_t2 : Fin k0_t2_loop.trips) : BitVec 32 :=
  let c2_i32_1529 : BitVec 32 := 2#32
  let c0_i32_416 : BitVec 32 := 0#32
  let c1_i32_417 : BitVec 32 := 1#32
  let arg15 : BitVec 32 := Scf.iv c0_i32_416 c1_i32_417 k0_t2
  let v4019 : BitVec 32 := Scalar.muli c2_i32_1529 arg15
  let c256_i32_1607 : BitVec 32 := 256#32
  let v4239 : BitVec 32 := Scalar.muli v4019 c256_i32_1607
  let c128_i32_1608 : BitVec 32 := 128#32
  let v4240 : BitVec 32 := Scalar.addi v4239 c128_i32_1608
  v4240
def k0_mult65 (k0_t2 : Fin k0_t2_loop.trips) : BitVec 32 :=
  let c2_i32_1529 : BitVec 32 := 2#32
  let c0_i32_416 : BitVec 32 := 0#32
  let c1_i32_417 : BitVec 32 := 1#32
  let arg15 : BitVec 32 := Scf.iv c0_i32_416 c1_i32_417 k0_t2
  let v4019 : BitVec 32 := Scalar.muli c2_i32_1529 arg15
  let c128_i32_1610 : BitVec 32 := 128#32
  let v4247 : BitVec 32 := Scalar.muli v4019 c128_i32_1610
  v4247
def k0_off54 (k0_t2 : Fin k0_t2_loop.trips) : Fin 2 → Nat :=
  let c192_1611 : Index := 192#32
  let c2_i32_1529 : BitVec 32 := 2#32
  let c0_i32_416 : BitVec 32 := 0#32
  let c1_i32_417 : BitVec 32 := 1#32
  let arg15 : BitVec 32 := Scf.iv c0_i32_416 c1_i32_417 k0_t2
  let v4019 : BitVec 32 := Scalar.muli c2_i32_1529 arg15
  let c128_i32_1610 : BitVec 32 := 128#32
  let v4247 : BitVec 32 := Scalar.muli v4019 c128_i32_1610
  let v4248 : BitVec 32 := v4247
  let v4249 : Index := Scalar.indexCast v4248
  ![192, v4249.toNat]
def k0_mult66 (k0_t2 : Fin k0_t2_loop.trips) : BitVec 32 :=
  let c2_i32_1529 : BitVec 32 := 2#32
  let c0_i32_416 : BitVec 32 := 0#32
  let c1_i32_417 : BitVec 32 := 1#32
  let arg15 : BitVec 32 := Scf.iv c0_i32_416 c1_i32_417 k0_t2
  let v4019 : BitVec 32 := Scalar.muli c2_i32_1529 arg15
  let c256_i32_1612 : BitVec 32 := 256#32
  let v4252 : BitVec 32 := Scalar.muli v4019 c256_i32_1612
  let c0_i32_1613 : BitVec 32 := 0#32
  let v4253 : BitVec 32 := Scalar.addi v4252 c0_i32_1613
  v4253
def k0_off55 (k0_t2 : Fin k0_t2_loop.trips) (c0_i32_1613 : BitVec 32) : Fin 2 → Nat :=
  let c224_1614 : Index := 224#32
  let c2_i32_1529 : BitVec 32 := 2#32
  let c0_i32_416 : BitVec 32 := 0#32
  let c1_i32_417 : BitVec 32 := 1#32
  let arg15 : BitVec 32 := Scf.iv c0_i32_416 c1_i32_417 k0_t2
  let v4019 : BitVec 32 := Scalar.muli c2_i32_1529 arg15
  let c256_i32_1612 : BitVec 32 := 256#32
  let v4252 : BitVec 32 := Scalar.muli v4019 c256_i32_1612
  let v4253 : BitVec 32 := Scalar.addi v4252 c0_i32_1613
  let v4254 : BitVec 32 := v4253
  let v4255 : Index := Scalar.indexCast v4254
  ![224, v4255.toNat]
def k0_mult67 (k0_t2 : Fin k0_t2_loop.trips) : BitVec 32 :=
  let c2_i32_1529 : BitVec 32 := 2#32
  let c0_i32_416 : BitVec 32 := 0#32
  let c1_i32_417 : BitVec 32 := 1#32
  let arg15 : BitVec 32 := Scf.iv c0_i32_416 c1_i32_417 k0_t2
  let v4019 : BitVec 32 := Scalar.muli c2_i32_1529 arg15
  let c256_i32_1615 : BitVec 32 := 256#32
  let v4260 : BitVec 32 := Scalar.muli v4019 c256_i32_1615
  let c128_i32_1616 : BitVec 32 := 128#32
  let v4261 : BitVec 32 := Scalar.addi v4260 c128_i32_1616
  v4261
def k0_mult68 (k0_t2 : Fin k0_t2_loop.trips) : BitVec 32 :=
  let c2_i32_1529 : BitVec 32 := 2#32
  let c0_i32_416 : BitVec 32 := 0#32
  let c1_i32_417 : BitVec 32 := 1#32
  let arg15 : BitVec 32 := Scf.iv c0_i32_416 c1_i32_417 k0_t2
  let v4019 : BitVec 32 := Scalar.muli c2_i32_1529 arg15
  let c128_i32_1618 : BitVec 32 := 128#32
  let v4268 : BitVec 32 := Scalar.muli v4019 c128_i32_1618
  v4268
def k0_off56 (k0_t2 : Fin k0_t2_loop.trips) : Fin 2 → Nat :=
  let c224_1619 : Index := 224#32
  let c2_i32_1529 : BitVec 32 := 2#32
  let c0_i32_416 : BitVec 32 := 0#32
  let c1_i32_417 : BitVec 32 := 1#32
  let arg15 : BitVec 32 := Scf.iv c0_i32_416 c1_i32_417 k0_t2
  let v4019 : BitVec 32 := Scalar.muli c2_i32_1529 arg15
  let c128_i32_1618 : BitVec 32 := 128#32
  let v4268 : BitVec 32 := Scalar.muli v4019 c128_i32_1618
  let v4269 : BitVec 32 := v4268
  let v4270 : Index := Scalar.indexCast v4269
  ![224, v4270.toNat]
def k0_off57 (k0_t2 : Fin k0_t2_loop.trips) : Fin 4 → Nat :=
  let c2_i32_1620 : BitVec 32 := 2#32
  let c0_i32_416 : BitVec 32 := 0#32
  let c1_i32_417 : BitVec 32 := 1#32
  let arg15 : BitVec 32 := Scf.iv c0_i32_416 c1_i32_417 k0_t2
  let v4272 : BitVec 32 := Scalar.muli c2_i32_1620 arg15
  let c1_i32_1621 : BitVec 32 := 1#32
  let v4273 : BitVec 32 := Scalar.addi v4272 c1_i32_1621
  let v4274 : Index := Scalar.indexCast v4273
  let c3_1622 : Index := 3#32
  let c0_1623 : Index := 0#32
  let c0_1624 : Index := 0#32
  ![v4274.toNat, 3, 0, 0]
def k0_mult69 (k0_t2 : Fin k0_t2_loop.trips) : BitVec 32 :=
  let c2_i32_1620 : BitVec 32 := 2#32
  let c0_i32_416 : BitVec 32 := 0#32
  let c1_i32_417 : BitVec 32 := 1#32
  let arg15 : BitVec 32 := Scf.iv c0_i32_416 c1_i32_417 k0_t2
  let v4272 : BitVec 32 := Scalar.muli c2_i32_1620 arg15
  let c1_i32_1621 : BitVec 32 := 1#32
  let v4273 : BitVec 32 := Scalar.addi v4272 c1_i32_1621
  let c256_i32_1696 : BitVec 32 := 256#32
  let v4485 : BitVec 32 := Scalar.muli v4273 c256_i32_1696
  let c0_i32_1697 : BitVec 32 := 0#32
  let v4486 : BitVec 32 := Scalar.addi v4485 c0_i32_1697
  v4486
def k0_off58 (k0_t2 : Fin k0_t2_loop.trips) (c0_i32_1697 : BitVec 32) : Fin 2 → Nat :=
  let c192_1698 : Index := 192#32
  let c2_i32_1620 : BitVec 32 := 2#32
  let c0_i32_416 : BitVec 32 := 0#32
  let c1_i32_417 : BitVec 32 := 1#32
  let arg15 : BitVec 32 := Scf.iv c0_i32_416 c1_i32_417 k0_t2
  let v4272 : BitVec 32 := Scalar.muli c2_i32_1620 arg15
  let c1_i32_1621 : BitVec 32 := 1#32
  let v4273 : BitVec 32 := Scalar.addi v4272 c1_i32_1621
  let c256_i32_1696 : BitVec 32 := 256#32
  let v4485 : BitVec 32 := Scalar.muli v4273 c256_i32_1696
  let v4486 : BitVec 32 := Scalar.addi v4485 c0_i32_1697
  let v4487 : BitVec 32 := v4486
  let v4488 : Index := Scalar.indexCast v4487
  ![192, v4488.toNat]
def k0_mult70 (k0_t2 : Fin k0_t2_loop.trips) : BitVec 32 :=
  let c2_i32_1620 : BitVec 32 := 2#32
  let c0_i32_416 : BitVec 32 := 0#32
  let c1_i32_417 : BitVec 32 := 1#32
  let arg15 : BitVec 32 := Scf.iv c0_i32_416 c1_i32_417 k0_t2
  let v4272 : BitVec 32 := Scalar.muli c2_i32_1620 arg15
  let c1_i32_1621 : BitVec 32 := 1#32
  let v4273 : BitVec 32 := Scalar.addi v4272 c1_i32_1621
  let c256_i32_1699 : BitVec 32 := 256#32
  let v4493 : BitVec 32 := Scalar.muli v4273 c256_i32_1699
  let c128_i32_1700 : BitVec 32 := 128#32
  let v4494 : BitVec 32 := Scalar.addi v4493 c128_i32_1700
  v4494
def k0_mult71 (k0_t2 : Fin k0_t2_loop.trips) : BitVec 32 :=
  let c2_i32_1620 : BitVec 32 := 2#32
  let c0_i32_416 : BitVec 32 := 0#32
  let c1_i32_417 : BitVec 32 := 1#32
  let arg15 : BitVec 32 := Scf.iv c0_i32_416 c1_i32_417 k0_t2
  let v4272 : BitVec 32 := Scalar.muli c2_i32_1620 arg15
  let c1_i32_1621 : BitVec 32 := 1#32
  let v4273 : BitVec 32 := Scalar.addi v4272 c1_i32_1621
  let c128_i32_1702 : BitVec 32 := 128#32
  let v4501 : BitVec 32 := Scalar.muli v4273 c128_i32_1702
  v4501
def k0_off59 (k0_t2 : Fin k0_t2_loop.trips) : Fin 2 → Nat :=
  let c192_1703 : Index := 192#32
  let c2_i32_1620 : BitVec 32 := 2#32
  let c0_i32_416 : BitVec 32 := 0#32
  let c1_i32_417 : BitVec 32 := 1#32
  let arg15 : BitVec 32 := Scf.iv c0_i32_416 c1_i32_417 k0_t2
  let v4272 : BitVec 32 := Scalar.muli c2_i32_1620 arg15
  let c1_i32_1621 : BitVec 32 := 1#32
  let v4273 : BitVec 32 := Scalar.addi v4272 c1_i32_1621
  let c128_i32_1702 : BitVec 32 := 128#32
  let v4501 : BitVec 32 := Scalar.muli v4273 c128_i32_1702
  let v4502 : BitVec 32 := v4501
  let v4503 : Index := Scalar.indexCast v4502
  ![192, v4503.toNat]
def k0_mult72 (k0_t2 : Fin k0_t2_loop.trips) : BitVec 32 :=
  let c2_i32_1620 : BitVec 32 := 2#32
  let c0_i32_416 : BitVec 32 := 0#32
  let c1_i32_417 : BitVec 32 := 1#32
  let arg15 : BitVec 32 := Scf.iv c0_i32_416 c1_i32_417 k0_t2
  let v4272 : BitVec 32 := Scalar.muli c2_i32_1620 arg15
  let c1_i32_1621 : BitVec 32 := 1#32
  let v4273 : BitVec 32 := Scalar.addi v4272 c1_i32_1621
  let c256_i32_1704 : BitVec 32 := 256#32
  let v4506 : BitVec 32 := Scalar.muli v4273 c256_i32_1704
  let c0_i32_1705 : BitVec 32 := 0#32
  let v4507 : BitVec 32 := Scalar.addi v4506 c0_i32_1705
  v4507
def k0_off60 (k0_t2 : Fin k0_t2_loop.trips) (c0_i32_1705 : BitVec 32) : Fin 2 → Nat :=
  let c224_1706 : Index := 224#32
  let c2_i32_1620 : BitVec 32 := 2#32
  let c0_i32_416 : BitVec 32 := 0#32
  let c1_i32_417 : BitVec 32 := 1#32
  let arg15 : BitVec 32 := Scf.iv c0_i32_416 c1_i32_417 k0_t2
  let v4272 : BitVec 32 := Scalar.muli c2_i32_1620 arg15
  let c1_i32_1621 : BitVec 32 := 1#32
  let v4273 : BitVec 32 := Scalar.addi v4272 c1_i32_1621
  let c256_i32_1704 : BitVec 32 := 256#32
  let v4506 : BitVec 32 := Scalar.muli v4273 c256_i32_1704
  let v4507 : BitVec 32 := Scalar.addi v4506 c0_i32_1705
  let v4508 : BitVec 32 := v4507
  let v4509 : Index := Scalar.indexCast v4508
  ![224, v4509.toNat]
def k0_mult73 (k0_t2 : Fin k0_t2_loop.trips) : BitVec 32 :=
  let c2_i32_1620 : BitVec 32 := 2#32
  let c0_i32_416 : BitVec 32 := 0#32
  let c1_i32_417 : BitVec 32 := 1#32
  let arg15 : BitVec 32 := Scf.iv c0_i32_416 c1_i32_417 k0_t2
  let v4272 : BitVec 32 := Scalar.muli c2_i32_1620 arg15
  let c1_i32_1621 : BitVec 32 := 1#32
  let v4273 : BitVec 32 := Scalar.addi v4272 c1_i32_1621
  let c256_i32_1707 : BitVec 32 := 256#32
  let v4514 : BitVec 32 := Scalar.muli v4273 c256_i32_1707
  let c128_i32_1708 : BitVec 32 := 128#32
  let v4515 : BitVec 32 := Scalar.addi v4514 c128_i32_1708
  v4515
def k0_mult74 (k0_t2 : Fin k0_t2_loop.trips) : BitVec 32 :=
  let c2_i32_1620 : BitVec 32 := 2#32
  let c0_i32_416 : BitVec 32 := 0#32
  let c1_i32_417 : BitVec 32 := 1#32
  let arg15 : BitVec 32 := Scf.iv c0_i32_416 c1_i32_417 k0_t2
  let v4272 : BitVec 32 := Scalar.muli c2_i32_1620 arg15
  let c1_i32_1621 : BitVec 32 := 1#32
  let v4273 : BitVec 32 := Scalar.addi v4272 c1_i32_1621
  let c128_i32_1710 : BitVec 32 := 128#32
  let v4522 : BitVec 32 := Scalar.muli v4273 c128_i32_1710
  v4522
def k0_off61 (k0_t2 : Fin k0_t2_loop.trips) : Fin 2 → Nat :=
  let c224_1711 : Index := 224#32
  let c2_i32_1620 : BitVec 32 := 2#32
  let c0_i32_416 : BitVec 32 := 0#32
  let c1_i32_417 : BitVec 32 := 1#32
  let arg15 : BitVec 32 := Scf.iv c0_i32_416 c1_i32_417 k0_t2
  let v4272 : BitVec 32 := Scalar.muli c2_i32_1620 arg15
  let c1_i32_1621 : BitVec 32 := 1#32
  let v4273 : BitVec 32 := Scalar.addi v4272 c1_i32_1621
  let c128_i32_1710 : BitVec 32 := 128#32
  let v4522 : BitVec 32 := Scalar.muli v4273 c128_i32_1710
  let v4523 : BitVec 32 := v4522
  let v4524 : Index := Scalar.indexCast v4523
  ![224, v4524.toNat]
def k0_mult75 (k0_t2 : Fin k0_t2_loop.trips) : BitVec 32 :=
  let c0_i32_416 : BitVec 32 := 0#32
  let c1_i32_417 : BitVec 32 := 1#32
  let arg15 : BitVec 32 := Scf.iv c0_i32_416 c1_i32_417 k0_t2
  let c128_i32_1714 : BitVec 32 := 128#32
  let v4531 : BitVec 32 := Scalar.muli arg15 c128_i32_1714
  v4531
def k0_off62 (k0_t2 : Fin k0_t2_loop.trips) : Fin 2 → Nat :=
  let c192_1715 : Index := 192#32
  let c0_i32_416 : BitVec 32 := 0#32
  let c1_i32_417 : BitVec 32 := 1#32
  let arg15 : BitVec 32 := Scf.iv c0_i32_416 c1_i32_417 k0_t2
  let c128_i32_1714 : BitVec 32 := 128#32
  let v4531 : BitVec 32 := Scalar.muli arg15 c128_i32_1714
  let v4532 : BitVec 32 := v4531
  let v4533 : Index := Scalar.indexCast v4532
  ![192, v4533.toNat]
def k0_mult76 (k0_t2 : Fin k0_t2_loop.trips) : BitVec 32 :=
  let c0_i32_416 : BitVec 32 := 0#32
  let c1_i32_417 : BitVec 32 := 1#32
  let arg15 : BitVec 32 := Scf.iv c0_i32_416 c1_i32_417 k0_t2
  let c128_i32_1716 : BitVec 32 := 128#32
  let v4536 : BitVec 32 := Scalar.muli arg15 c128_i32_1716
  v4536
def k0_off63 (k0_t2 : Fin k0_t2_loop.trips) : Fin 2 → Nat :=
  let c224_1717 : Index := 224#32
  let c0_i32_416 : BitVec 32 := 0#32
  let c1_i32_417 : BitVec 32 := 1#32
  let arg15 : BitVec 32 := Scf.iv c0_i32_416 c1_i32_417 k0_t2
  let c128_i32_1716 : BitVec 32 := 128#32
  let v4536 : BitVec 32 := Scalar.muli arg15 c128_i32_1716
  let v4537 : BitVec 32 := v4536
  let v4538 : Index := Scalar.indexCast v4537
  ![224, v4538.toNat]
def k0_off64 (k0_t2 : Fin k0_t2_loop.trips) : Fin 4 → Nat :=
  let c2_i32_1718 : BitVec 32 := 2#32
  let c0_i32_416 : BitVec 32 := 0#32
  let c1_i32_417 : BitVec 32 := 1#32
  let arg15 : BitVec 32 := Scf.iv c0_i32_416 c1_i32_417 k0_t2
  let v4540 : BitVec 32 := Scalar.muli c2_i32_1718 arg15
  let v4541 : Index := Scalar.indexCast v4540
  let c4_1719 : Index := 4#32
  let c0_1720 : Index := 0#32
  let c0_1721 : Index := 0#32
  ![v4541.toNat, 4, 0, 0]
def k0_mult77 (k0_t2 : Fin k0_t2_loop.trips) : BitVec 32 :=
  let c2_i32_1718 : BitVec 32 := 2#32
  let c0_i32_416 : BitVec 32 := 0#32
  let c1_i32_417 : BitVec 32 := 1#32
  let arg15 : BitVec 32 := Scf.iv c0_i32_416 c1_i32_417 k0_t2
  let v4540 : BitVec 32 := Scalar.muli c2_i32_1718 arg15
  let c256_i32_1793 : BitVec 32 := 256#32
  let v4752 : BitVec 32 := Scalar.muli v4540 c256_i32_1793
  let c0_i32_1794 : BitVec 32 := 0#32
  let v4753 : BitVec 32 := Scalar.addi v4752 c0_i32_1794
  v4753
def k0_off65 (k0_t2 : Fin k0_t2_loop.trips) (c0_i32_1794 : BitVec 32) : Fin 2 → Nat :=
  let c256_1795 : Index := 256#32
  let c2_i32_1718 : BitVec 32 := 2#32
  let c0_i32_416 : BitVec 32 := 0#32
  let c1_i32_417 : BitVec 32 := 1#32
  let arg15 : BitVec 32 := Scf.iv c0_i32_416 c1_i32_417 k0_t2
  let v4540 : BitVec 32 := Scalar.muli c2_i32_1718 arg15
  let c256_i32_1793 : BitVec 32 := 256#32
  let v4752 : BitVec 32 := Scalar.muli v4540 c256_i32_1793
  let v4753 : BitVec 32 := Scalar.addi v4752 c0_i32_1794
  let v4754 : BitVec 32 := v4753
  let v4755 : Index := Scalar.indexCast v4754
  ![256, v4755.toNat]
def k0_mult78 (k0_t2 : Fin k0_t2_loop.trips) : BitVec 32 :=
  let c2_i32_1718 : BitVec 32 := 2#32
  let c0_i32_416 : BitVec 32 := 0#32
  let c1_i32_417 : BitVec 32 := 1#32
  let arg15 : BitVec 32 := Scf.iv c0_i32_416 c1_i32_417 k0_t2
  let v4540 : BitVec 32 := Scalar.muli c2_i32_1718 arg15
  let c256_i32_1796 : BitVec 32 := 256#32
  let v4760 : BitVec 32 := Scalar.muli v4540 c256_i32_1796
  let c128_i32_1797 : BitVec 32 := 128#32
  let v4761 : BitVec 32 := Scalar.addi v4760 c128_i32_1797
  v4761
def k0_mult79 (k0_t2 : Fin k0_t2_loop.trips) : BitVec 32 :=
  let c2_i32_1718 : BitVec 32 := 2#32
  let c0_i32_416 : BitVec 32 := 0#32
  let c1_i32_417 : BitVec 32 := 1#32
  let arg15 : BitVec 32 := Scf.iv c0_i32_416 c1_i32_417 k0_t2
  let v4540 : BitVec 32 := Scalar.muli c2_i32_1718 arg15
  let c128_i32_1799 : BitVec 32 := 128#32
  let v4768 : BitVec 32 := Scalar.muli v4540 c128_i32_1799
  v4768
def k0_off66 (k0_t2 : Fin k0_t2_loop.trips) : Fin 2 → Nat :=
  let c256_1800 : Index := 256#32
  let c2_i32_1718 : BitVec 32 := 2#32
  let c0_i32_416 : BitVec 32 := 0#32
  let c1_i32_417 : BitVec 32 := 1#32
  let arg15 : BitVec 32 := Scf.iv c0_i32_416 c1_i32_417 k0_t2
  let v4540 : BitVec 32 := Scalar.muli c2_i32_1718 arg15
  let c128_i32_1799 : BitVec 32 := 128#32
  let v4768 : BitVec 32 := Scalar.muli v4540 c128_i32_1799
  let v4769 : BitVec 32 := v4768
  let v4770 : Index := Scalar.indexCast v4769
  ![256, v4770.toNat]
def k0_mult80 (k0_t2 : Fin k0_t2_loop.trips) : BitVec 32 :=
  let c2_i32_1718 : BitVec 32 := 2#32
  let c0_i32_416 : BitVec 32 := 0#32
  let c1_i32_417 : BitVec 32 := 1#32
  let arg15 : BitVec 32 := Scf.iv c0_i32_416 c1_i32_417 k0_t2
  let v4540 : BitVec 32 := Scalar.muli c2_i32_1718 arg15
  let c256_i32_1801 : BitVec 32 := 256#32
  let v4773 : BitVec 32 := Scalar.muli v4540 c256_i32_1801
  let c0_i32_1802 : BitVec 32 := 0#32
  let v4774 : BitVec 32 := Scalar.addi v4773 c0_i32_1802
  v4774
def k0_off67 (k0_t2 : Fin k0_t2_loop.trips) (c0_i32_1802 : BitVec 32) : Fin 2 → Nat :=
  let c288_1803 : Index := 288#32
  let c2_i32_1718 : BitVec 32 := 2#32
  let c0_i32_416 : BitVec 32 := 0#32
  let c1_i32_417 : BitVec 32 := 1#32
  let arg15 : BitVec 32 := Scf.iv c0_i32_416 c1_i32_417 k0_t2
  let v4540 : BitVec 32 := Scalar.muli c2_i32_1718 arg15
  let c256_i32_1801 : BitVec 32 := 256#32
  let v4773 : BitVec 32 := Scalar.muli v4540 c256_i32_1801
  let v4774 : BitVec 32 := Scalar.addi v4773 c0_i32_1802
  let v4775 : BitVec 32 := v4774
  let v4776 : Index := Scalar.indexCast v4775
  ![288, v4776.toNat]
def k0_mult81 (k0_t2 : Fin k0_t2_loop.trips) : BitVec 32 :=
  let c2_i32_1718 : BitVec 32 := 2#32
  let c0_i32_416 : BitVec 32 := 0#32
  let c1_i32_417 : BitVec 32 := 1#32
  let arg15 : BitVec 32 := Scf.iv c0_i32_416 c1_i32_417 k0_t2
  let v4540 : BitVec 32 := Scalar.muli c2_i32_1718 arg15
  let c256_i32_1804 : BitVec 32 := 256#32
  let v4781 : BitVec 32 := Scalar.muli v4540 c256_i32_1804
  let c128_i32_1805 : BitVec 32 := 128#32
  let v4782 : BitVec 32 := Scalar.addi v4781 c128_i32_1805
  v4782
def k0_mult82 (k0_t2 : Fin k0_t2_loop.trips) : BitVec 32 :=
  let c2_i32_1718 : BitVec 32 := 2#32
  let c0_i32_416 : BitVec 32 := 0#32
  let c1_i32_417 : BitVec 32 := 1#32
  let arg15 : BitVec 32 := Scf.iv c0_i32_416 c1_i32_417 k0_t2
  let v4540 : BitVec 32 := Scalar.muli c2_i32_1718 arg15
  let c128_i32_1807 : BitVec 32 := 128#32
  let v4789 : BitVec 32 := Scalar.muli v4540 c128_i32_1807
  v4789
def k0_off68 (k0_t2 : Fin k0_t2_loop.trips) : Fin 2 → Nat :=
  let c288_1808 : Index := 288#32
  let c2_i32_1718 : BitVec 32 := 2#32
  let c0_i32_416 : BitVec 32 := 0#32
  let c1_i32_417 : BitVec 32 := 1#32
  let arg15 : BitVec 32 := Scf.iv c0_i32_416 c1_i32_417 k0_t2
  let v4540 : BitVec 32 := Scalar.muli c2_i32_1718 arg15
  let c128_i32_1807 : BitVec 32 := 128#32
  let v4789 : BitVec 32 := Scalar.muli v4540 c128_i32_1807
  let v4790 : BitVec 32 := v4789
  let v4791 : Index := Scalar.indexCast v4790
  ![288, v4791.toNat]
def k0_off69 (k0_t2 : Fin k0_t2_loop.trips) : Fin 4 → Nat :=
  let c2_i32_1809 : BitVec 32 := 2#32
  let c0_i32_416 : BitVec 32 := 0#32
  let c1_i32_417 : BitVec 32 := 1#32
  let arg15 : BitVec 32 := Scf.iv c0_i32_416 c1_i32_417 k0_t2
  let v4793 : BitVec 32 := Scalar.muli c2_i32_1809 arg15
  let c1_i32_1810 : BitVec 32 := 1#32
  let v4794 : BitVec 32 := Scalar.addi v4793 c1_i32_1810
  let v4795 : Index := Scalar.indexCast v4794
  let c4_1811 : Index := 4#32
  let c0_1812 : Index := 0#32
  let c0_1813 : Index := 0#32
  ![v4795.toNat, 4, 0, 0]
def k0_mult83 (k0_t2 : Fin k0_t2_loop.trips) : BitVec 32 :=
  let c2_i32_1809 : BitVec 32 := 2#32
  let c0_i32_416 : BitVec 32 := 0#32
  let c1_i32_417 : BitVec 32 := 1#32
  let arg15 : BitVec 32 := Scf.iv c0_i32_416 c1_i32_417 k0_t2
  let v4793 : BitVec 32 := Scalar.muli c2_i32_1809 arg15
  let c1_i32_1810 : BitVec 32 := 1#32
  let v4794 : BitVec 32 := Scalar.addi v4793 c1_i32_1810
  let c256_i32_1885 : BitVec 32 := 256#32
  let v5006 : BitVec 32 := Scalar.muli v4794 c256_i32_1885
  let c0_i32_1886 : BitVec 32 := 0#32
  let v5007 : BitVec 32 := Scalar.addi v5006 c0_i32_1886
  v5007
def k0_off70 (k0_t2 : Fin k0_t2_loop.trips) (c0_i32_1886 : BitVec 32) : Fin 2 → Nat :=
  let c256_1887 : Index := 256#32
  let c2_i32_1809 : BitVec 32 := 2#32
  let c0_i32_416 : BitVec 32 := 0#32
  let c1_i32_417 : BitVec 32 := 1#32
  let arg15 : BitVec 32 := Scf.iv c0_i32_416 c1_i32_417 k0_t2
  let v4793 : BitVec 32 := Scalar.muli c2_i32_1809 arg15
  let c1_i32_1810 : BitVec 32 := 1#32
  let v4794 : BitVec 32 := Scalar.addi v4793 c1_i32_1810
  let c256_i32_1885 : BitVec 32 := 256#32
  let v5006 : BitVec 32 := Scalar.muli v4794 c256_i32_1885
  let v5007 : BitVec 32 := Scalar.addi v5006 c0_i32_1886
  let v5008 : BitVec 32 := v5007
  let v5009 : Index := Scalar.indexCast v5008
  ![256, v5009.toNat]
def k0_mult84 (k0_t2 : Fin k0_t2_loop.trips) : BitVec 32 :=
  let c2_i32_1809 : BitVec 32 := 2#32
  let c0_i32_416 : BitVec 32 := 0#32
  let c1_i32_417 : BitVec 32 := 1#32
  let arg15 : BitVec 32 := Scf.iv c0_i32_416 c1_i32_417 k0_t2
  let v4793 : BitVec 32 := Scalar.muli c2_i32_1809 arg15
  let c1_i32_1810 : BitVec 32 := 1#32
  let v4794 : BitVec 32 := Scalar.addi v4793 c1_i32_1810
  let c256_i32_1888 : BitVec 32 := 256#32
  let v5014 : BitVec 32 := Scalar.muli v4794 c256_i32_1888
  let c128_i32_1889 : BitVec 32 := 128#32
  let v5015 : BitVec 32 := Scalar.addi v5014 c128_i32_1889
  v5015
def k0_mult85 (k0_t2 : Fin k0_t2_loop.trips) : BitVec 32 :=
  let c2_i32_1809 : BitVec 32 := 2#32
  let c0_i32_416 : BitVec 32 := 0#32
  let c1_i32_417 : BitVec 32 := 1#32
  let arg15 : BitVec 32 := Scf.iv c0_i32_416 c1_i32_417 k0_t2
  let v4793 : BitVec 32 := Scalar.muli c2_i32_1809 arg15
  let c1_i32_1810 : BitVec 32 := 1#32
  let v4794 : BitVec 32 := Scalar.addi v4793 c1_i32_1810
  let c128_i32_1891 : BitVec 32 := 128#32
  let v5022 : BitVec 32 := Scalar.muli v4794 c128_i32_1891
  v5022
def k0_off71 (k0_t2 : Fin k0_t2_loop.trips) : Fin 2 → Nat :=
  let c256_1892 : Index := 256#32
  let c2_i32_1809 : BitVec 32 := 2#32
  let c0_i32_416 : BitVec 32 := 0#32
  let c1_i32_417 : BitVec 32 := 1#32
  let arg15 : BitVec 32 := Scf.iv c0_i32_416 c1_i32_417 k0_t2
  let v4793 : BitVec 32 := Scalar.muli c2_i32_1809 arg15
  let c1_i32_1810 : BitVec 32 := 1#32
  let v4794 : BitVec 32 := Scalar.addi v4793 c1_i32_1810
  let c128_i32_1891 : BitVec 32 := 128#32
  let v5022 : BitVec 32 := Scalar.muli v4794 c128_i32_1891
  let v5023 : BitVec 32 := v5022
  let v5024 : Index := Scalar.indexCast v5023
  ![256, v5024.toNat]
def k0_mult86 (k0_t2 : Fin k0_t2_loop.trips) : BitVec 32 :=
  let c2_i32_1809 : BitVec 32 := 2#32
  let c0_i32_416 : BitVec 32 := 0#32
  let c1_i32_417 : BitVec 32 := 1#32
  let arg15 : BitVec 32 := Scf.iv c0_i32_416 c1_i32_417 k0_t2
  let v4793 : BitVec 32 := Scalar.muli c2_i32_1809 arg15
  let c1_i32_1810 : BitVec 32 := 1#32
  let v4794 : BitVec 32 := Scalar.addi v4793 c1_i32_1810
  let c256_i32_1893 : BitVec 32 := 256#32
  let v5027 : BitVec 32 := Scalar.muli v4794 c256_i32_1893
  let c0_i32_1894 : BitVec 32 := 0#32
  let v5028 : BitVec 32 := Scalar.addi v5027 c0_i32_1894
  v5028
def k0_off72 (k0_t2 : Fin k0_t2_loop.trips) (c0_i32_1894 : BitVec 32) : Fin 2 → Nat :=
  let c288_1895 : Index := 288#32
  let c2_i32_1809 : BitVec 32 := 2#32
  let c0_i32_416 : BitVec 32 := 0#32
  let c1_i32_417 : BitVec 32 := 1#32
  let arg15 : BitVec 32 := Scf.iv c0_i32_416 c1_i32_417 k0_t2
  let v4793 : BitVec 32 := Scalar.muli c2_i32_1809 arg15
  let c1_i32_1810 : BitVec 32 := 1#32
  let v4794 : BitVec 32 := Scalar.addi v4793 c1_i32_1810
  let c256_i32_1893 : BitVec 32 := 256#32
  let v5027 : BitVec 32 := Scalar.muli v4794 c256_i32_1893
  let v5028 : BitVec 32 := Scalar.addi v5027 c0_i32_1894
  let v5029 : BitVec 32 := v5028
  let v5030 : Index := Scalar.indexCast v5029
  ![288, v5030.toNat]
def k0_mult87 (k0_t2 : Fin k0_t2_loop.trips) : BitVec 32 :=
  let c2_i32_1809 : BitVec 32 := 2#32
  let c0_i32_416 : BitVec 32 := 0#32
  let c1_i32_417 : BitVec 32 := 1#32
  let arg15 : BitVec 32 := Scf.iv c0_i32_416 c1_i32_417 k0_t2
  let v4793 : BitVec 32 := Scalar.muli c2_i32_1809 arg15
  let c1_i32_1810 : BitVec 32 := 1#32
  let v4794 : BitVec 32 := Scalar.addi v4793 c1_i32_1810
  let c256_i32_1896 : BitVec 32 := 256#32
  let v5035 : BitVec 32 := Scalar.muli v4794 c256_i32_1896
  let c128_i32_1897 : BitVec 32 := 128#32
  let v5036 : BitVec 32 := Scalar.addi v5035 c128_i32_1897
  v5036
def k0_mult88 (k0_t2 : Fin k0_t2_loop.trips) : BitVec 32 :=
  let c2_i32_1809 : BitVec 32 := 2#32
  let c0_i32_416 : BitVec 32 := 0#32
  let c1_i32_417 : BitVec 32 := 1#32
  let arg15 : BitVec 32 := Scf.iv c0_i32_416 c1_i32_417 k0_t2
  let v4793 : BitVec 32 := Scalar.muli c2_i32_1809 arg15
  let c1_i32_1810 : BitVec 32 := 1#32
  let v4794 : BitVec 32 := Scalar.addi v4793 c1_i32_1810
  let c128_i32_1899 : BitVec 32 := 128#32
  let v5043 : BitVec 32 := Scalar.muli v4794 c128_i32_1899
  v5043
def k0_off73 (k0_t2 : Fin k0_t2_loop.trips) : Fin 2 → Nat :=
  let c288_1900 : Index := 288#32
  let c2_i32_1809 : BitVec 32 := 2#32
  let c0_i32_416 : BitVec 32 := 0#32
  let c1_i32_417 : BitVec 32 := 1#32
  let arg15 : BitVec 32 := Scf.iv c0_i32_416 c1_i32_417 k0_t2
  let v4793 : BitVec 32 := Scalar.muli c2_i32_1809 arg15
  let c1_i32_1810 : BitVec 32 := 1#32
  let v4794 : BitVec 32 := Scalar.addi v4793 c1_i32_1810
  let c128_i32_1899 : BitVec 32 := 128#32
  let v5043 : BitVec 32 := Scalar.muli v4794 c128_i32_1899
  let v5044 : BitVec 32 := v5043
  let v5045 : Index := Scalar.indexCast v5044
  ![288, v5045.toNat]
def k0_mult89 (k0_t2 : Fin k0_t2_loop.trips) : BitVec 32 :=
  let c0_i32_416 : BitVec 32 := 0#32
  let c1_i32_417 : BitVec 32 := 1#32
  let arg15 : BitVec 32 := Scf.iv c0_i32_416 c1_i32_417 k0_t2
  let c128_i32_1903 : BitVec 32 := 128#32
  let v5052 : BitVec 32 := Scalar.muli arg15 c128_i32_1903
  v5052
def k0_off74 (k0_t2 : Fin k0_t2_loop.trips) : Fin 2 → Nat :=
  let c256_1904 : Index := 256#32
  let c0_i32_416 : BitVec 32 := 0#32
  let c1_i32_417 : BitVec 32 := 1#32
  let arg15 : BitVec 32 := Scf.iv c0_i32_416 c1_i32_417 k0_t2
  let c128_i32_1903 : BitVec 32 := 128#32
  let v5052 : BitVec 32 := Scalar.muli arg15 c128_i32_1903
  let v5053 : BitVec 32 := v5052
  let v5054 : Index := Scalar.indexCast v5053
  ![256, v5054.toNat]
def k0_mult90 (k0_t2 : Fin k0_t2_loop.trips) : BitVec 32 :=
  let c0_i32_416 : BitVec 32 := 0#32
  let c1_i32_417 : BitVec 32 := 1#32
  let arg15 : BitVec 32 := Scf.iv c0_i32_416 c1_i32_417 k0_t2
  let c128_i32_1905 : BitVec 32 := 128#32
  let v5057 : BitVec 32 := Scalar.muli arg15 c128_i32_1905
  v5057
def k0_off75 (k0_t2 : Fin k0_t2_loop.trips) : Fin 2 → Nat :=
  let c288_1906 : Index := 288#32
  let c0_i32_416 : BitVec 32 := 0#32
  let c1_i32_417 : BitVec 32 := 1#32
  let arg15 : BitVec 32 := Scf.iv c0_i32_416 c1_i32_417 k0_t2
  let c128_i32_1905 : BitVec 32 := 128#32
  let v5057 : BitVec 32 := Scalar.muli arg15 c128_i32_1905
  let v5058 : BitVec 32 := v5057
  let v5059 : Index := Scalar.indexCast v5058
  ![288, v5059.toNat]
def k0_mult91 : BitVec 32 :=
  let c8704_i32 : BitVec 32 := 8704#32
  c8704_i32
def k0_mult92 : BitVec 32 :=
  let c8832_i32 : BitVec 32 := 8832#32
  c8832_i32
def k0_mult93 : BitVec 32 :=
  let c4352_i32 : BitVec 32 := 4352#32
  c4352_i32
def k0_mult94 : BitVec 32 :=
  let c8704_i32_494 : BitVec 32 := 8704#32
  c8704_i32_494
def k0_mult95 : BitVec 32 :=
  let c8832_i32_496 : BitVec 32 := 8832#32
  c8832_i32_496
def k0_mult96 : BitVec 32 :=
  let c4352_i32_498 : BitVec 32 := 4352#32
  c4352_i32_498
def k0_mult97 : BitVec 32 :=
  let c8704_i32_581 : BitVec 32 := 8704#32
  c8704_i32_581
def k0_mult98 : BitVec 32 :=
  let c8832_i32_583 : BitVec 32 := 8832#32
  c8832_i32_583
def k0_mult99 : BitVec 32 :=
  let c4352_i32_585 : BitVec 32 := 4352#32
  c4352_i32_585
def k0_mult100 : BitVec 32 :=
  let c8704_i32_587 : BitVec 32 := 8704#32
  c8704_i32_587
def k0_mult101 : BitVec 32 :=
  let c8832_i32_589 : BitVec 32 := 8832#32
  c8832_i32_589
def k0_mult102 : BitVec 32 :=
  let c4352_i32_591 : BitVec 32 := 4352#32
  c4352_i32_591
def k0_mult103 : BitVec 32 :=
  let c8704_i32_675 : BitVec 32 := 8704#32
  c8704_i32_675
def k0_mult104 : BitVec 32 :=
  let c8832_i32_677 : BitVec 32 := 8832#32
  c8832_i32_677
def k0_mult105 : BitVec 32 :=
  let c4352_i32_679 : BitVec 32 := 4352#32
  c4352_i32_679
def k0_mult106 : BitVec 32 :=
  let c8704_i32_681 : BitVec 32 := 8704#32
  c8704_i32_681
def k0_mult107 : BitVec 32 :=
  let c8832_i32_683 : BitVec 32 := 8832#32
  c8832_i32_683
def k0_mult108 : BitVec 32 :=
  let c4352_i32_685 : BitVec 32 := 4352#32
  c4352_i32_685
def k0_mult109 : BitVec 32 :=
  let c8704_i32_769 : BitVec 32 := 8704#32
  c8704_i32_769
def k0_mult110 : BitVec 32 :=
  let c8832_i32_771 : BitVec 32 := 8832#32
  c8832_i32_771
def k0_mult111 : BitVec 32 :=
  let c4352_i32_773 : BitVec 32 := 4352#32
  c4352_i32_773
def k0_mult112 : BitVec 32 :=
  let c8704_i32_775 : BitVec 32 := 8704#32
  c8704_i32_775
def k0_mult113 : BitVec 32 :=
  let c8832_i32_777 : BitVec 32 := 8832#32
  c8832_i32_777
def k0_mult114 : BitVec 32 :=
  let c4352_i32_779 : BitVec 32 := 4352#32
  c4352_i32_779
def k0_mult115 : BitVec 32 :=
  let c8704_i32_863 : BitVec 32 := 8704#32
  c8704_i32_863
def k0_mult116 : BitVec 32 :=
  let c8832_i32_865 : BitVec 32 := 8832#32
  c8832_i32_865
def k0_mult117 : BitVec 32 :=
  let c4352_i32_867 : BitVec 32 := 4352#32
  c4352_i32_867
def k0_mult118 : BitVec 32 :=
  let c8704_i32_869 : BitVec 32 := 8704#32
  c8704_i32_869
def k0_mult119 : BitVec 32 :=
  let c8832_i32_871 : BitVec 32 := 8832#32
  c8832_i32_871
def k0_mult120 : BitVec 32 :=
  let c4352_i32_873 : BitVec 32 := 4352#32
  c4352_i32_873
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S320x8960 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8960x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S320x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x4480 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x2240 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S3x640x8960 : Shape := ⟨3, ![3, 640, 8960]⟩
abbrev S8960x1536 : Shape := ⟨2, ![8960, 1536]⟩
abbrev S1536 : Shape := ⟨1, ![1536]⟩
abbrev S1x253 : Shape := ⟨2, ![1, 253]⟩
abbrev S_ : Shape := ⟨0, ![]⟩
abbrev S1920x8960 : Shape := ⟨2, ![1920, 8960]⟩
abbrev S1920x2240x4 : Shape := ⟨3, ![1920, 2240, 4]⟩
abbrev S1920x2240x1 : Shape := ⟨3, ![1920, 2240, 1]⟩
abbrev S1920x2240 : Shape := ⟨2, ![1920, 2240]⟩
abbrev S1920 : Shape := ⟨1, ![1920]⟩
abbrev S1920x1 : Shape := ⟨2, ![1920, 1]⟩
abbrev S1920x253 : Shape := ⟨2, ![1920, 253]⟩
abbrev S1920x1x1 : Shape := ⟨3, ![1920, 1, 1]⟩
abbrev S6x1x320 : Shape := ⟨3, ![6, 1, 320]⟩
abbrev S1920x2240x2 : Shape := ⟨3, ![1920, 2240, 2]⟩
abbrev S1920x4480 : Shape := ⟨2, ![1920, 4480]⟩
abbrev S1x1536 : Shape := ⟨2, ![1, 1536]⟩
abbrev S1920x1536 : Shape := ⟨2, ![1920, 1536]⟩

abbrev nBuf : Space → Nat
  | .hbm => 166
  | .vmem => 7
  | .smem => 0
  | _ => 0

abbrev hbmTy0_0 (i : Nat) : BufTy := match i % 128 with
  | 0 => ⟨S3x640x8960, .bf16⟩
  | 1 => ⟨S8960x1536, .fp8e4m3⟩
  | 2 => ⟨S1536, .f32⟩
  | 3 => ⟨S1x253, .f32⟩
  | 4 => ⟨S3x640x8960, .f32⟩
  | 5 => ⟨S_, .f32⟩
  | 6 => ⟨S3x640x8960, .f32⟩
  | 7 => ⟨S3x640x8960, .f32⟩
  | 8 => ⟨S3x640x8960, .f32⟩
  | 9 => ⟨S1920x8960, .f32⟩
  | 10 => ⟨S1920x2240x4, .f32⟩
  | 11 => ⟨S1920x2240x1, .f32⟩
  | 12 => ⟨S1920x2240, .f32⟩
  | 13 => ⟨S1920x2240x1, .f32⟩
  | 14 => ⟨S1920x2240, .f32⟩
  | 15 => ⟨S1920x2240x1, .f32⟩
  | 16 => ⟨S1920x2240, .f32⟩
  | 17 => ⟨S1920x2240x1, .f32⟩
  | 18 => ⟨S1920x2240, .f32⟩
  | 19 => ⟨S1920x2240, .i1⟩
  | 20 => ⟨S1920x2240, .i32⟩
  | 21 => ⟨S_, .i32⟩
  | 22 => ⟨S1920x2240, .i32⟩
  | 23 => ⟨S1920x2240, .i32⟩
  | 24 => ⟨S1920x2240, .i1⟩
  | 25 => ⟨S1920x2240, .i32⟩
  | 26 => ⟨S1920x2240, .i32⟩
  | 27 => ⟨S1920x2240, .i1⟩
  | 28 => ⟨S1920x2240, .i32⟩
  | 29 => ⟨S1920x2240, .i32⟩
  | 30 => ⟨S_, .i32⟩
  | 31 => ⟨S1920x2240, .i32⟩
  | 32 => ⟨S1920x2240, .i1⟩
  | 33 => ⟨S1920x2240, .i1⟩
  | 34 => ⟨S1920x2240, .i32⟩
  | 35 => ⟨S_, .i32⟩
  | 36 => ⟨S1920x2240, .i32⟩
  | 37 => ⟨S1920x2240, .i32⟩
  | 38 => ⟨S1920x2240, .i1⟩
  | 39 => ⟨S1920x2240, .i32⟩
  | 40 => ⟨S1920x2240, .i32⟩
  | 41 => ⟨S1920x2240, .i1⟩
  | 42 => ⟨S1920x2240, .i32⟩
  | 43 => ⟨S1920x2240, .i32⟩
  | 44 => ⟨S_, .i32⟩
  | 45 => ⟨S1920x2240, .i32⟩
  | 46 => ⟨S1920x2240, .i1⟩
  | 47 => ⟨S1920x2240, .i1⟩
  | 48 => ⟨S1920x2240, .i32⟩
  | 49 => ⟨S_, .i32⟩
  | 50 => ⟨S1920x2240, .i32⟩
  | 51 => ⟨S1920x2240, .i32⟩
  | 52 => ⟨S1920x2240, .i1⟩
  | 53 => ⟨S1920x2240, .i32⟩
  | 54 => ⟨S1920x2240, .i32⟩
  | 55 => ⟨S1920x2240, .i1⟩
  | 56 => ⟨S1920x2240, .i32⟩
  | 57 => ⟨S1920x2240, .i32⟩
  | 58 => ⟨S_, .i32⟩
  | 59 => ⟨S1920x2240, .i32⟩
  | 60 => ⟨S1920x2240, .i1⟩
  | 61 => ⟨S1920x2240, .i1⟩
  | 62 => ⟨S1920x2240, .i32⟩
  | 63 => ⟨S_, .i32⟩
  | 64 => ⟨S1920x2240, .i32⟩
  | 65 => ⟨S1920x2240, .i32⟩
  | 66 => ⟨S1920x2240, .i1⟩
  | 67 => ⟨S1920x2240, .i32⟩
  | 68 => ⟨S1920x2240, .i32⟩
  | 69 => ⟨S1920x2240, .i1⟩
  | 70 => ⟨S1920x2240, .i32⟩
  | 71 => ⟨S1920x2240, .i32⟩
  | 72 => ⟨S_, .i32⟩
  | 73 => ⟨S1920x2240, .i32⟩
  | 74 => ⟨S1920x2240, .i1⟩
  | 75 => ⟨S1920x2240x1, .i1⟩
  | 76 => ⟨S1920x2240x1, .i1⟩
  | 77 => ⟨S1920x2240x1, .i1⟩
  | 78 => ⟨S1920x2240x1, .i1⟩
  | 79 => ⟨S1920x2240x4, .i1⟩
  | 80 => ⟨S_, .f32⟩
  | 81 => ⟨S1920, .f32⟩
  | 82 => ⟨S1920x1, .f32⟩
  | 83 => ⟨S_, .f32⟩
  | 84 => ⟨S1920x1, .f32⟩
  | 85 => ⟨S1920x1, .f32⟩
  | 86 => ⟨S1920x253, .f32⟩
  | 87 => ⟨S1920x253, .f32⟩
  | 88 => ⟨S1920x253, .i1⟩
  | 89 => ⟨S_, .f32⟩
  | 90 => ⟨S1x253, .f32⟩
  | 91 => ⟨S1x253, .f32⟩
  | 92 => ⟨S_, .f32⟩
  | 93 => ⟨S_, .f32⟩
  | 94 => ⟨S1920x253, .f32⟩
  | 95 => ⟨S1920x253, .f32⟩
  | 96 => ⟨S1920x253, .f32⟩
  | 97 => ⟨S_, .f32⟩
  | 98 => ⟨S1920, .f32⟩
  | 99 => ⟨S_, .f32⟩
  | 100 => ⟨S1920, .f32⟩
  | 101 => ⟨S1920, .i1⟩
  | 102 => ⟨S_, .f32⟩
  | 103 => ⟨S_, .f32⟩
  | 104 => ⟨S1920, .f32⟩
  | 105 => ⟨S1920, .f32⟩
  | 106 => ⟨S_, .f32⟩
  | 107 => ⟨S_, .f32⟩
  | 108 => ⟨S1920x2240x4, .f32⟩
  | 109 => ⟨S1920x2240x4, .f32⟩
  | 110 => ⟨S1920x1x1, .f32⟩
  | 111 => ⟨S1920x2240x4, .f32⟩
  | 112 => ⟨S1920x2240x4, .f32⟩
  | 113 => ⟨S_, .f32⟩
  | 114 => ⟨S_, .f32⟩
  | 115 => ⟨S_, .f32⟩
  | 116 => ⟨S1920x2240x4, .f32⟩
  | 117 => ⟨S1920x2240x4, .f32⟩
  | 118 => ⟨S_, .f32⟩
  | 119 => ⟨S1920x2240x4, .f32⟩
  | 120 => ⟨S1920x2240x4, .f32⟩
  | 121 => ⟨S1920x2240x1, .f32⟩
  | 122 => ⟨S1920x2240, .f32⟩
  | 123 => ⟨S1920x2240x1, .f32⟩
  | 124 => ⟨S1920x2240, .f32⟩
  | 125 => ⟨S1920x2240x1, .f32⟩
  | 126 => ⟨S1920x2240, .f32⟩
  | 127 => ⟨S1920x2240x1, .f32⟩
  | _ => ⟨S3x640x8960, .bf16⟩

abbrev hbmTy0_1 (i : Nat) : BufTy := match i % 128 with
  | 0 => ⟨S1920x2240, .f32⟩
  | 1 => ⟨S1920x2240, .f32⟩
  | 2 => ⟨S1920x2240, .f32⟩
  | 3 => ⟨S1920x2240, .f32⟩
  | 4 => ⟨S1920x2240, .f32⟩
  | 5 => ⟨S_, .i32⟩
  | 6 => ⟨S_, .i32⟩
  | 7 => ⟨S1920x2240, .i32⟩
  | 8 => ⟨S1920x2240, .i32⟩
  | 9 => ⟨S1920x2240, .i32⟩
  | 10 => ⟨S_, .i32⟩
  | 11 => ⟨S1920x2240, .i32⟩
  | 12 => ⟨S1920x2240, .i32⟩
  | 13 => ⟨S1920x2240, .i32⟩
  | 14 => ⟨S_, .i32⟩
  | 15 => ⟨S_, .i32⟩
  | 16 => ⟨S1920x2240, .i32⟩
  | 17 => ⟨S1920x2240, .i32⟩
  | 18 => ⟨S1920x2240, .i32⟩
  | 19 => ⟨S_, .i32⟩
  | 20 => ⟨S1920x2240, .i32⟩
  | 21 => ⟨S1920x2240, .i32⟩
  | 22 => ⟨S1920x2240, .i32⟩
  | 23 => ⟨S_, .i32⟩
  | 24 => ⟨S1920x2240, .i32⟩
  | 25 => ⟨S1920x2240, .i32⟩
  | 26 => ⟨S1920x2240, .i32⟩
  | 27 => ⟨S1920x2240, .i8⟩
  | 28 => ⟨S6x1x320, .f32⟩
  | 29 => ⟨S1920x8960, .f32⟩
  | 30 => ⟨S1920x2240x1, .f32⟩
  | 31 => ⟨S1920x2240x1, .f32⟩
  | 32 => ⟨S1920x2240x2, .f32⟩
  | 33 => ⟨S1920x4480, .f32⟩
  | 34 => ⟨S1920x1, .f32⟩
  | 35 => ⟨S1x1536, .f32⟩
  | 36 => ⟨S1920x1536, .bf16⟩
  | 37 => ⟨S1920x4480, .fp8e4m3⟩
  | _ => ⟨S3x640x8960, .bf16⟩

abbrev hbmTy (i : Nat) : BufTy := match i / 128 with
  | 0 => hbmTy0_0 i
  | 1 => hbmTy0_1 i
  | _ => ⟨S3x640x8960, .bf16⟩

abbrev bufTy : (tb : Table) → Fin (tcTables nBuf tb) → BufTy
  | .hbm, ⟨i, _⟩ => hbmTy i
  | .local _ .vmem, ⟨0, _⟩ => ⟨S1920x8960, .f32⟩
  | .local _ .vmem, ⟨1, _⟩ => ⟨S1920x4480, .f32⟩
  | .local _ .vmem, ⟨2, _⟩ => ⟨S1920x1, .f32⟩
  | .local _ .vmem, ⟨3, _⟩ => ⟨S8960x1536, .fp8e4m3⟩
  | .local _ .vmem, ⟨4, _⟩ => ⟨S1x1536, .f32⟩
  | .local _ .vmem, ⟨5, _⟩ => ⟨S1920x1536, .bf16⟩
  | .local _ .vmem, ⟨6, _⟩ => ⟨S1920x4480, .fp8e4m3⟩
  | _, _ => ⟨S3x640x8960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c_4 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_c_5 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_c_6 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_c_7 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_cst_8 : Ref sig .tc := ⟨.hbm, 80, rfl⟩
abbrev main_v67 : Ref sig .tc := ⟨.hbm, 81, rfl⟩
abbrev main_v68 : Ref sig .tc := ⟨.hbm, 82, rfl⟩
abbrev main_cst_9 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_10 : Ref sig .tc := ⟨.hbm, 89, rfl⟩
abbrev main_v74 : Ref sig .tc := ⟨.hbm, 90, rfl⟩
abbrev main_v75 : Ref sig .tc := ⟨.hbm, 91, rfl⟩
abbrev main_cst_11 : Ref sig .tc := ⟨.hbm, 92, rfl⟩
abbrev main_call0_v0 : Ref sig .tc := ⟨.hbm, 93, rfl⟩
abbrev main_call0_v1 : Ref sig .tc := ⟨.hbm, 94, rfl⟩
abbrev main_call0_v2 : Ref sig .tc := ⟨.hbm, 95, rfl⟩
abbrev main_v76 : Ref sig .tc := ⟨.hbm, 96, rfl⟩
abbrev main_cst_12 : Ref sig .tc := ⟨.hbm, 97, rfl⟩
abbrev main_v77 : Ref sig .tc := ⟨.hbm, 98, rfl⟩
abbrev main_cst_13 : Ref sig .tc := ⟨.hbm, 99, rfl⟩
abbrev main_v78 : Ref sig .tc := ⟨.hbm, 100, rfl⟩
abbrev main_v79 : Ref sig .tc := ⟨.hbm, 101, rfl⟩
abbrev main_cst_14 : Ref sig .tc := ⟨.hbm, 102, rfl⟩
abbrev main_call1_v0 : Ref sig .tc := ⟨.hbm, 103, rfl⟩
abbrev main_call1_v1 : Ref sig .tc := ⟨.hbm, 104, rfl⟩
abbrev main_v80 : Ref sig .tc := ⟨.hbm, 105, rfl⟩
abbrev main_cst_15 : Ref sig .tc := ⟨.hbm, 106, rfl⟩
abbrev main_call2_v0 : Ref sig .tc := ⟨.hbm, 107, rfl⟩
abbrev main_call2_v1 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_16 : Ref sig .tc := ⟨.hbm, 113, rfl⟩
abbrev main_cst_17 : Ref sig .tc := ⟨.hbm, 114, rfl⟩
abbrev main_call3_v0 : Ref sig .tc := ⟨.hbm, 115, rfl⟩
abbrev main_call3_v1 : Ref sig .tc := ⟨.hbm, 116, rfl⟩
abbrev main_call3_v2 : Ref sig .tc := ⟨.hbm, 117, rfl⟩
abbrev main_call3_v3 : Ref sig .tc := ⟨.hbm, 118, rfl⟩
abbrev main_call3_v4 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_c_18 : Ref sig .tc := ⟨.hbm, 133, rfl⟩
abbrev main_c_19 : Ref sig .tc := ⟨.hbm, 134, rfl⟩
abbrev main_call8_v0 : Ref sig .tc := ⟨.hbm, 135, rfl⟩
abbrev main_call8_v1 : Ref sig .tc := ⟨.hbm, 136, rfl⟩
abbrev main_v98 : Ref sig .tc := ⟨.hbm, 137, rfl⟩
abbrev main_c_20 : Ref sig .tc := ⟨.hbm, 138, rfl⟩
abbrev main_call9_v0 : Ref sig .tc := ⟨.hbm, 139, rfl⟩
abbrev main_v99 : Ref sig .tc := ⟨.hbm, 140, rfl⟩
abbrev main_v100 : Ref sig .tc := ⟨.hbm, 141, rfl⟩
abbrev main_c_21 : Ref sig .tc := ⟨.hbm, 142, rfl⟩
abbrev main_c_22 : Ref sig .tc := ⟨.hbm, 143, rfl⟩
abbrev main_call10_v0 : Ref sig .tc := ⟨.hbm, 144, rfl⟩
abbrev main_call10_v1 : Ref sig .tc := ⟨.hbm, 145, rfl⟩
abbrev main_v101 : Ref sig .tc := ⟨.hbm, 146, rfl⟩
abbrev main_c_23 : Ref sig .tc := ⟨.hbm, 147, rfl⟩
abbrev main_call11_v0 : Ref sig .tc := ⟨.hbm, 148, rfl⟩
abbrev main_v102 : Ref sig .tc := ⟨.hbm, 149, rfl⟩
abbrev main_v103 : Ref sig .tc := ⟨.hbm, 150, rfl⟩
abbrev main_c_24 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116_0 : Ref sig .tc := ⟨.hbm, 164, rfl⟩
abbrev main_v116_1 : Ref sig .tc := ⟨.hbm, 165, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1920x8960 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x4480 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1920x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8960x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1920x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1920x4480 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelRuns.lean ====
/- What the frame of the kernel in machine words starts from: the host lines before the call, the arrays there, and each window's block at a point. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      ((h c).2 main_arg2 (Pipeline.mem_restRefs_of main_arg2 (by decide) (by decide))).trans (V_main_arg2 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S320x8960 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8960x1536 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S320x1536 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S320x4480 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S320x2240 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x320 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S320x8960 .fp8e4m3 := Memref.whole cc0_scratch0
abbrev scM0_1 : Memref sig .tc .vmem S35x5x32x128 .bf16 := Memref.whole cc0_scratch1
abbrev scM0_2 : Memref sig .tc .vmem S35x5x32x128 .bf16 := Memref.whole cc0_scratch2
abbrev scM0_3 : Memref sig .tc .vmem S35x5x32x128 .fp8e4m3 := Memref.whole cc0_scratch3
abbrev scM0_4 : Memref sig .tc .vmem S5x32x128 .bf16 := Memref.whole cc0_scratch4
abbrev scM0_5 : Memref sig .tc .vmem S5x32x128 .f32 := Memref.whole cc0_scratch5
abbrev scM0_6 : Memref sig .tc .vmem S320x128 .f32 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.Kernel.Gen

end
-- ==== Proof.KernelRun.lean ====
/- The body of the kernel in machine words runs on whole buffers, and hands every buffer back; nothing is said of what it leaves in its results. -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1936000 in
/-- The body's triple: on whole staging memrefs — the inputs' at their contents,
    the FORGOTTEN outputs' (3, 4, 5, 6) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S320x8960 .bf16) (harg1 : arg1.IsWhole) (arg2 : Memref sig .tc .vmem S8960x1536 .fp8e4m3) (harg2 : arg2.IsWhole) (arg3 : Memref sig .tc .vmem S1x1536 .f32) (harg3 : arg3.IsWhole) (arg4 : Memref sig .tc .vmem S320x1536 .bf16) (harg4 : arg4.IsWhole) (arg5 : Memref sig .tc .vmem S320x4480 .fp8e4m3) (harg5 : arg5.IsWhole) (arg6 : Memref sig .tc .vmem S320x2240 .i8) (harg6 : arg6.IsWhole) (arg7 : Memref sig .tc .vmem S1x1x320 .f32) (harg7 : arg7.IsWhole) (arg8 : Memref sig .tc .vmem S320x8960 .fp8e4m3) (harg8 : arg8.IsWhole) (arg9 : Memref sig .tc .vmem S35x5x32x128 .bf16) (harg9 : arg9.IsWhole) (arg10 : Memref sig .tc .vmem S35x5x32x128 .bf16) (harg10 : arg10.IsWhole) (arg11 : Memref sig .tc .vmem S35x5x32x128 .fp8e4m3) (harg11 : arg11.IsWhole) (arg12 : Memref sig .tc .vmem S5x32x128 .bf16) (harg12 : arg12.IsWhole) (arg13 : Memref sig .tc .vmem S5x32x128 .f32) (harg13 : arg13.IsWhole) (arg14 : Memref sig .tc .vmem S320x128 .f32) (harg14 : arg14.IsWhole)
    (x0 : Vec F S320x8960 .bf16) (x1 : Vec F S8960x1536 .fp8e4m3) (x2 : Vec F S1x1536 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_sparse24_down i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_sparse24_down_eq_skeleton]; unfold cc0_sparse24_down_skel
    simp only [k0_part138_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.Kernel.Gen

end
-- ==== Proof.KernelFrame.lean ====
/- The frame of the kernel in machine words: it runs without fault, leaves its arguments unchanged, and ends with every counter at zero. -/
module

public import proofs.«01_k».proof.Proof.KernelRun
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3, 4, 5, 6): nothing reads what the kernel leaves in them, so nothing
    of it is named (Lib/Pipeline/Dat.lean `Dat.toRForget`). -/
def forgets0 : Fin 7 → Bool := fun w => w.val == 3 || w.val == 4 || w.val == 5 || w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, HS0, HS1, HS2, HS3, HS4, HS5, HS6⟩
  isplitl [HS0 HS1 HS2 HS3 HS4 HS5 HS6 Hg]
  · isplitl [HS0 HS1 HS2 HS3 HS4 HS5 HS6]
    · isplitl [HS0]
      · iexact HS0
      isplitl [HS1]
      · iexact HS1
      isplitl [HS2]
      · iexact HS2
      isplitl [HS3]
      · iexact HS3
      isplitl [HS4]
      · iexact HS4
      isplitl [HS5]
      · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5, 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.Lanes.lean ====
/- The lane shuffles of a 32 × 128 tile: the swap of lanes that differ in one bit, the 4 × 4 transposition of lanes that
   two rounds of swaps make, and the gathers that put a row of codes in order. -/
module

public import proofs.«01_k».proof.Proof.Gen.KernelIdeal.Skeleton
public import Idealize.ShloMosaic.Lib.Pointwise

@[expose] public section

noncomputable section

namespace Cert.KernelIdeal.Hand

open Idealize.ShloMosaic Cert.KernelIdeal Cert.KernelIdeal.Gen

/-- A tile of 32 rows and 128 lanes. -/
abbrev Tile (α : Type) : Type := S32x128.Idx → α

/-- The lane number of every element. -/
def lanes : IVec S32x128 32 := iota .tc S32x128 32 [1] iota_S32x128_d1_w32

/-- The lanes in which a bit of `d` is set. -/
def hiM (d : BitVec 32) : IVec S32x128 1 := cmpi .ne (andi lanes (broadcast S32x128 d)) (broadcast S32x128 0#32)

/-- A table of source lanes as the gather takes it. -/
def wrapIdx (x : IVec S32x128 32) : IVec S32x128 32 :=
  shapeCast S32x128 (shapeCast S32x128x1 (select (cmpi .slt x (broadcast S32x128 0#32)) (addi x (broadcast S32x128 128#32)) x)
    shapeCasts_S32x128_S32x128x1) shapeCasts_S32x128x1_S32x128

/-- The elements that two tiles exchange. -/
def mixv {α : Type} (d : BitVec 32) (a b : Tile α) : Tile α :=
  dynamicGather 1 (select (hiM d) a b) (wrapIdx (xori lanes (broadcast S32x128 d)))

/-- The first tile after an exchange. -/
def swL {α : Type} (d : BitVec 32) (a b : Tile α) : Tile α := select (hiM d) (mixv d a b) a
/-- The second tile after an exchange. -/
def swR {α : Type} (d : BitVec 32) (a b : Tile α) : Tile α := select (hiM d) b (mixv d a b)

/-- The four planes of a 4 × 4 transposition of lanes. -/
def tr0 {α : Type} (a0 a1 a2 a3 : Tile α) : Tile α := swL 1#32 (swL 2#32 a0 a2) (swL 2#32 a1 a3)
@[inherit_doc tr0] def tr1 {α : Type} (a0 a1 a2 a3 : Tile α) : Tile α := swR 1#32 (swL 2#32 a0 a2) (swL 2#32 a1 a3)
@[inherit_doc tr0] def tr2 {α : Type} (a0 a1 a2 a3 : Tile α) : Tile α := swL 1#32 (swR 2#32 a0 a2) (swR 2#32 a1 a3)
@[inherit_doc tr0] def tr3 {α : Type} (a0 a1 a2 a3 : Tile α) : Tile α := swR 1#32 (swR 2#32 a0 a2) (swR 2#32 a1 a3)

theorem lanes_apply (r : Fin 32) (l : Fin 128) : lanes (ix2 r l) = BitVec.ofNat 32 l.val := by
  pointwise [lanes]

theorem hiM_apply (d : BitVec 32) (r : Fin 32) (l : Fin 128) :
    hiM d (ix2 r l) = if BitVec.ofNat 32 l.val &&& d ≠ 0#32 then 1#1 else 0#1 := by
  pointwise [hiM, lanes]
  simp only [IntOp.cmpi, IntOp.andi]
  by_cases h : BitVec.ofNat 32 l.val &&& d = 0#32
  · simp [h]
  · have : (BitVec.ofNat 32 l.val &&& d != 0#32) = true := by simpa using h
    rw [this]; simp [h]

theorem wrapIdx_apply (x : IVec S32x128 32) (r : Fin 32) (l : Fin 128) :
    wrapIdx x (ix2 r l) = if (x (ix2 r l)).slt 0#32 then x (ix2 r l) + 128#32 else x (ix2 r l) := by
  pointwise [wrapIdx]
  simp only [Scalar.select, IntOp.cmpi, IntOp.addi]
  by_cases h : (x (ix2 r l)).slt 0#32 = true
  · simp [h]
  · have h' : (x (ix2 r l)).slt 0#32 = false := by simpa using h
    simp [h']

theorem gather_apply {α : Type} (x : Tile α) (w : IVec S32x128 32) (r : Fin 32) (l : Fin 128) :
    dynamicGather 1 x w (ix2 r l) = x (ix2 r ⟨(w (ix2 r l)).toNat % 128, Nat.mod_lt _ (by decide)⟩) := by
  unfold dynamicGather
  congr 1
  rw [eq_ix2 (n0 := 32) (n1 := 128) (fun b => _)]
  rfl

theorem select_apply {α : Type} (c : IVec S32x128 1) (a b : Tile α) (i : S32x128.Idx) :
    select c a b i = if c i = 1#1 then a i else b i := by
  unfold select Scalar.select
  by_cases h : c i = 1#1
  · simp [h]
  · have : c i = 0#1 := by
      generalize c i = x at h
      revert h; revert x; decide
    simp [this]

/-- A gather at a table of lanes, each named by its number. -/
theorem gatherW_apply {α : Type} (x : Tile α) (w : IVec S32x128 32) (f : Fin 128 → Fin 128) (r : Fin 32) (l : Fin 128)
    (h : w (ix2 r l) = BitVec.ofNat 32 (f l).val) : dynamicGather 1 x (wrapIdx w) (ix2 r l) = x (ix2 r (f l)) := by
  rw [gather_apply, wrapIdx_apply, h]
  congr 2
  apply Fin.ext
  have : ∀ n : Fin 128, (if (BitVec.ofNat 32 n.val).slt 0#32 = true then BitVec.ofNat 32 n.val + 128#32 else BitVec.ofNat 32 n.val).toNat % 128 = n.val := by
    decide +kernel
  exact this (f l)

theorem hi2 (r : Fin 32) (l : Fin 128) : hiM 2#32 (ix2 r l) = 1#1 ↔ l.val / 2 % 2 = 1 := by
  rw [hiM_apply]; revert l; decide +kernel

theorem hi1 (r : Fin 32) (l : Fin 128) : hiM 1#32 (ix2 r l) = 1#1 ↔ l.val % 2 = 1 := by
  rw [hiM_apply]; revert l; decide +kernel

/-- The lane that differs in bit 1. -/
def flip2 (l : Fin 128) : Fin 128 := if l.val / 2 % 2 = 1 then ⟨l.val - 2, by omega⟩ else ⟨(l.val + 2) % 128, by omega⟩
/-- The lane that differs in bit 0. -/
def flip1 (l : Fin 128) : Fin 128 := if l.val % 2 = 1 then ⟨l.val - 1, by omega⟩ else ⟨(l.val + 1) % 128, by omega⟩

theorem mix2 {α : Type} (a b : Tile α) (r : Fin 32) (l : Fin 128) :
    mixv 2#32 a b (ix2 r l) = if l.val / 2 % 2 = 1 then b (ix2 r (flip2 l)) else a (ix2 r (flip2 l)) := by
  rw [mixv, gatherW_apply _ _ flip2]
  · rw [select_apply]
    have : ∀ l : Fin 128, ((flip2 l).val / 2 % 2 = 1) = ¬ (l.val / 2 % 2 = 1) := by decide +kernel
    simp only [hi2, this]
    by_cases h : l.val / 2 % 2 = 1 <;> simp [h]
  · have : ∀ l : Fin 128, BitVec.ofNat 32 l.val ^^^ 2#32 = BitVec.ofNat 32 (flip2 l).val := by decide +kernel
    rw [← this]
    pointwise [lanes]
    rfl

theorem mix1 {α : Type} (a b : Tile α) (r : Fin 32) (l : Fin 128) :
    mixv 1#32 a b (ix2 r l) = if l.val % 2 = 1 then b (ix2 r (flip1 l)) else a (ix2 r (flip1 l)) := by
  rw [mixv, gatherW_apply _ _ flip1]
  · rw [select_apply]
    have : ∀ l : Fin 128, ((flip1 l).val % 2 = 1) = ¬ (l.val % 2 = 1) := by decide +kernel
    simp only [hi1, this]
    by_cases h : l.val % 2 = 1 <;> simp [h]
  · have : ∀ l : Fin 128, BitVec.ofNat 32 l.val ^^^ 1#32 = BitVec.ofNat 32 (flip1 l).val := by decide +kernel
    rw [← this]
    pointwise [lanes]
    rfl

theorem swL2 {α : Type} (a b : Tile α) (r : Fin 32) (l : Fin 128) :
    swL 2#32 a b (ix2 r l) = if l.val / 2 % 2 = 1 then b (ix2 r (flip2 l)) else a (ix2 r l) := by
  rw [swL, select_apply]; simp only [hi2, mix2]; split <;> rfl
theorem swR2 {α : Type} (a b : Tile α) (r : Fin 32) (l : Fin 128) :
    swR 2#32 a b (ix2 r l) = if l.val / 2 % 2 = 1 then b (ix2 r l) else a (ix2 r (flip2 l)) := by
  rw [swR, select_apply]; simp only [hi2, mix2]; split <;> rfl
theorem swL1 {α : Type} (a b : Tile α) (r : Fin 32) (l : Fin 128) :
    swL 1#32 a b (ix2 r l) = if l.val % 2 = 1 then b (ix2 r (flip1 l)) else a (ix2 r l) := by
  rw [swL, select_apply]; simp only [hi1, mix1]; split <;> rfl
theorem swR1 {α : Type} (a b : Tile α) (r : Fin 32) (l : Fin 128) :
    swR 1#32 a b (ix2 r l) = if l.val % 2 = 1 then b (ix2 r l) else a (ix2 r (flip1 l)) := by
  rw [swR, select_apply]; simp only [hi1, mix1]; split <;> rfl

/-- Lane `k` of the group of four lanes that lane `l` is in. -/
def quad (k : Fin 4) (l : Fin 128) : Fin 128 := ⟨4 * (l.val / 4) + k.val, by omega⟩

/-- One of four, by number. -/
def pick {α : Type} (k : Fin 4) (a0 a1 a2 a3 : α) : α := match k with | 0 => a0 | 1 => a1 | 2 => a2 | 3 => a3

/-- The place of a lane in its group of four. -/
def slot (l : Fin 128) : Fin 4 := ⟨l.val % 4, by omega⟩

set_option synthInstance.maxHeartbeats 400000 in
set_option synthInstance.maxSize 4096 in
theorem lane_facts (l : Fin 128) :
    (l.val / 2 % 2 = 1 → l.val % 2 = 1 → slot l = 3 ∧ flip2 (flip1 l) = quad 0 l ∧ flip1 l = quad 2 l ∧ flip2 l = quad 1 l ∧ l = quad 3 l
      ∧ (flip1 l).val / 2 % 2 = 1) ∧
    (l.val / 2 % 2 = 1 → ¬ l.val % 2 = 1 → slot l = 2 ∧ flip2 l = quad 0 l ∧ flip2 (flip1 l) = quad 1 l ∧ flip1 l = quad 3 l ∧ l = quad 2 l
      ∧ (flip1 l).val / 2 % 2 = 1) ∧
    (¬ l.val / 2 % 2 = 1 → l.val % 2 = 1 → slot l = 1 ∧ flip1 l = quad 0 l ∧ l = quad 1 l ∧ flip2 (flip1 l) = quad 2 l ∧ flip2 l = quad 3 l
      ∧ ¬ (flip1 l).val / 2 % 2 = 1) ∧
    (¬ l.val / 2 % 2 = 1 → ¬ l.val % 2 = 1 → slot l = 0 ∧ l = quad 0 l ∧ flip1 l = quad 1 l ∧ flip2 l = quad 2 l ∧ flip2 (flip1 l) = quad 3 l
      ∧ ¬ (flip1 l).val / 2 % 2 = 1) := by
  revert l; decide +kernel

theorem tr0_apply {α : Type} (a0 a1 a2 a3 : Tile α) (r : Fin 32) (l : Fin 128) :
    tr0 a0 a1 a2 a3 (ix2 r l) = pick (slot l) a0 a1 a2 a3 (ix2 r (quad 0 l)) := by
  obtain ⟨h3, h2, h1, h0⟩ := lane_facts l
  rw [tr0, swL1]
  simp only [swL2]
  by_cases hb : l.val / 2 % 2 = 1 <;> by_cases ha : l.val % 2 = 1
  · obtain ⟨e, e0, e1, e2, e3, e4⟩ := h3 hb ha
    simp [ha, hb, e, e4, pick, ← e0, ← e1, ← e2, ← e3]
  · obtain ⟨e, e0, e1, e2, e3, e4⟩ := h2 hb ha
    simp [ha, hb, e, e4, pick, ← e0, ← e1, ← e2, ← e3]
  · obtain ⟨e, e0, e1, e2, e3, e4⟩ := h1 hb ha
    simp [ha, hb, e, e4, pick, ← e0, ← e1, ← e2, ← e3]
  · obtain ⟨e, e0, e1, e2, e3, e4⟩ := h0 hb ha
    simp [ha, hb, e, e4, pick, ← e0, ← e1, ← e2, ← e3]

theorem tr1_apply {α : Type} (a0 a1 a2 a3 : Tile α) (r : Fin 32) (l : Fin 128) :
    tr1 a0 a1 a2 a3 (ix2 r l) = pick (slot l) a0 a1 a2 a3 (ix2 r (quad 1 l)) := by
  obtain ⟨h3, h2, h1, h0⟩ := lane_facts l
  rw [tr1, swR1]
  simp only [swL2]
  by_cases hb : l.val / 2 % 2 = 1 <;> by_cases ha : l.val % 2 = 1
  · obtain ⟨e, e0, e1, e2, e3, e4⟩ := h3 hb ha
    simp [ha, hb, e, e4, pick, ← e0, ← e1, ← e2, ← e3]
  · obtain ⟨e, e0, e1, e2, e3, e4⟩ := h2 hb ha
    simp [ha, hb, e, e4, pick, ← e0, ← e1, ← e2, ← e3]
  · obtain ⟨e, e0, e1, e2, e3, e4⟩ := h1 hb ha
    simp [ha, hb, e, e4, pick, ← e0, ← e1, ← e2, ← e3]
  · obtain ⟨e, e0, e1, e2, e3, e4⟩ := h0 hb ha
    simp [ha, hb, e, e4, pick, ← e0, ← e1, ← e2, ← e3]

theorem tr2_apply {α : Type} (a0 a1 a2 a3 : Tile α) (r : Fin 32) (l : Fin 128) :
    tr2 a0 a1 a2 a3 (ix2 r l) = pick (slot l) a0 a1 a2 a3 (ix2 r (quad 2 l)) := by
  obtain ⟨h3, h2, h1, h0⟩ := lane_facts l
  rw [tr2, swL1]
  simp only [swR2]
  by_cases hb : l.val / 2 % 2 = 1 <;> by_cases ha : l.val % 2 = 1
  · obtain ⟨e, e0, e1, e2, e3, e4⟩ := h3 hb ha
    simp [ha, hb, e, e4, pick, ← e0, ← e1, ← e2, ← e3]
  · obtain ⟨e, e0, e1, e2, e3, e4⟩ := h2 hb ha
    simp [ha, hb, e, e4, pick, ← e0, ← e1, ← e2, ← e3]
  · obtain ⟨e, e0, e1, e2, e3, e4⟩ := h1 hb ha
    simp [ha, hb, e, e4, pick, ← e0, ← e1, ← e2, ← e3]
  · obtain ⟨e, e0, e1, e2, e3, e4⟩ := h0 hb ha
    simp [ha, hb, e, e4, pick, ← e0, ← e1, ← e2, ← e3]

theorem tr3_apply {α : Type} (a0 a1 a2 a3 : Tile α) (r : Fin 32) (l : Fin 128) :
    tr3 a0 a1 a2 a3 (ix2 r l) = pick (slot l) a0 a1 a2 a3 (ix2 r (quad 3 l)) := by
  obtain ⟨h3, h2, h1, h0⟩ := lane_facts l
  rw [tr3, swR1]
  simp only [swR2]
  by_cases hb : l.val / 2 % 2 = 1 <;> by_cases ha : l.val % 2 = 1
  · obtain ⟨e, e0, e1, e2, e3, e4⟩ := h3 hb ha
    simp [ha, hb, e, e4, pick, ← e0, ← e1, ← e2, ← e3]
  · obtain ⟨e, e0, e1, e2, e3, e4⟩ := h2 hb ha
    simp [ha, hb, e, e4, pick, ← e0, ← e1, ← e2, ← e3]
  · obtain ⟨e, e0, e1, e2, e3, e4⟩ := h1 hb ha
    simp [ha, hb, e, e4, pick, ← e0, ← e1, ← e2, ← e3]
  · obtain ⟨e, e0, e1, e2, e3, e4⟩ := h0 hb ha
    simp [ha, hb, e, e4, pick, ← e0, ← e1, ← e2, ← e3]

end Cert.KernelIdeal.Hand
-- ==== Proof.Select.lean ====
/- One trip of the loop that selects: what it stores, as plain functions of the four tiles that it loads. -/
module

public import proofs.«01_k».proof.Proof.Lanes
public import proofs.«01_k».proof.Proof.Gen.KernelIdeal.Loops
public import Idealize.ShloMosaic.Lib.Tactic

@[expose] public section

set_option maxRecDepth 8192
set_option maxHeartbeats 400000

noncomputable section

namespace Cert.KernelIdeal.Hand

open Idealize.ShloMosaic Cert.KernelIdeal Cert.KernelIdeal.Gen

variable {F : FTy → Type} [FloatOps F]

/-- A tile of the input block. -/
abbrev ldU (arg1 : Memref sig .tc .vmem S320x8960 .bf16) (X : BufTy.Contents (Elt F) arg1.view.ty) (off : Fin 2 → Nat)
    (h : ∀ a, off a + S32x128.size a ≤ S320x8960.size a) : FVec F S32x128 .bf16 :=
  View.readAt (Elt F) arg1.view (Rect.unit (s := S320x8960) off S32x128.size h).toLoadRect X

/-- A loaded tile at 32 bits. -/
def wide (x : FVec F S32x128 .bf16) : FVec F S32x128 .f32 :=
  extf .f32 (shapeCast S32x128 x shapeCasts_S32x128_S32x128) bitsLt_bf16_f32

/-- A tile clamped from below at the least value that the selection tells apart. -/
def clampT (x : FVec F S32x128 .f32) : FVec F S32x128 .bf16 :=
  maximumf (truncf .bf16 x bitsLt_bf16_f32) (broadcast S32x128 (Scalar.ofBits .bf16 0x1FFF#16))

/-- The clamped planes: lane `l` of plane `k` holds member `k` of its group of four. -/
def pl0 (a0 a1 a2 a3 : FVec F S32x128 .bf16) : FVec F S32x128 .bf16 := clampT (tr0 (wide a0) (wide a1) (wide a2) (wide a3))
@[inherit_doc pl0] def pl1 (a0 a1 a2 a3 : FVec F S32x128 .bf16) : FVec F S32x128 .bf16 := clampT (tr1 (wide a0) (wide a1) (wide a2) (wide a3))
@[inherit_doc pl0] def pl2 (a0 a1 a2 a3 : FVec F S32x128 .bf16) : FVec F S32x128 .bf16 := clampT (tr2 (wide a0) (wide a1) (wide a2) (wide a3))
@[inherit_doc pl0] def pl3 (a0 a1 a2 a3 : FVec F S32x128 .bf16) : FVec F S32x128 .bf16 := clampT (tr3 (wide a0) (wide a1) (wide a2) (wide a3))

/-- Both of the first two are kept. -/
def both01 (x0 x1 x2 x3 : FVec F S32x128 .bf16) : IVec S32x128 1 := cmpf .oge (minimumf x0 x1) (maximumf x2 x3)
/-- Both of the last two are kept. -/
def both23 (x0 x1 x2 x3 : FVec F S32x128 .bf16) : IVec S32x128 1 := cmpf .ogt (minimumf x2 x3) (maximumf x0 x1)
/-- The first value kept. -/
def top0 (x0 x1 x2 x3 : FVec F S32x128 .bf16) : FVec F S32x128 .bf16 :=
  select (both23 x0 x1 x2 x3) x2 (select (both01 x0 x1 x2 x3) x0 (maximumf x0 x1))
/-- The second value kept. -/
def top1 (x0 x1 x2 x3 : FVec F S32x128 .bf16) : FVec F S32x128 .bf16 :=
  select (both01 x0 x1 x2 x3) x1 (select (both23 x0 x1 x2 x3) x3 (maximumf x2 x3))
/-- A constant tile. -/
abbrev cb (b : BitVec 16) : FVec F S32x128 .bf16 := broadcast S32x128 (Scalar.ofBits .bf16 b)
/-- The number that says which two are kept. -/
def patT (x0 x1 x2 x3 : FVec F S32x128 .bf16) : FVec F S32x128 .fp8e4m3 :=
  truncf .fp8e4m3 (select (both01 x0 x1 x2 x3) (cb 0xBC00#16) (select (both23 x0 x1 x2 x3) (cb 0x3CE0#16)
    (select (cmpf .oge x0 x1) (select (cmpf .oge x2 x3) (cb 0x3D80#16) (cb 0x3CC0#16))
      (select (cmpf .oge x2 x3) (cb 0x3D90#16) (cb 0x3CD0#16))))) bitsLt_fp8e4m3_bf16

/-- What a trip stores for one pair of row halves, from the four tiles it loads. -/
def sv0 (a0 a1 a2 a3 : FVec F S32x128 .bf16) : FVec F S32x128 .bf16 := top0 (pl0 a0 a1 a2 a3) (pl1 a0 a1 a2 a3) (pl2 a0 a1 a2 a3) (pl3 a0 a1 a2 a3)
@[inherit_doc sv0] def sv1 (a0 a1 a2 a3 : FVec F S32x128 .bf16) : FVec F S32x128 .bf16 := top1 (pl0 a0 a1 a2 a3) (pl1 a0 a1 a2 a3) (pl2 a0 a1 a2 a3) (pl3 a0 a1 a2 a3)
@[inherit_doc sv0] def spat (a0 a1 a2 a3 : FVec F S32x128 .bf16) : FVec F S32x128 .fp8e4m3 := patT (pl0 a0 a1 a2 a3) (pl1 a0 a1 a2 a3) (pl2 a0 a1 a2 a3) (pl3 a0 a1 a2 a3)

/-- The running maximum after a trip. -/
def upMax (v0 v1 : FVec F S32x128 .bf16) (m : FVec F S1x32x128 .bf16) : FVec F S1x32x128 .bf16 :=
  shapeCast S1x32x128 (maximumf (shapeCast S32x128 m shapeCasts_S1x32x128_S32x128) (maximumf v0 v1)) shapeCasts_S32x128_S1x32x128

variable (𝒱 : Variants) (c : Dev nD) (bd : Option 𝒱.V) (i : grid0.Coords)
  (arg1 : Memref sig .tc .vmem S320x8960 .bf16) (harg1 : arg1.IsWhole)
  (arg2 : Memref sig .tc .vmem S8960x1536 .fp8e4m3) (harg2 : arg2.IsWhole)
  (arg3 : Memref sig .tc .vmem S1x1536 .f32) (harg3 : arg3.IsWhole)
  (arg4 : Memref sig .tc .vmem S320x1536 .bf16) (harg4 : arg4.IsWhole)
  (arg5 : Memref sig .tc .vmem S320x4480 .fp8e4m3) (harg5 : arg5.IsWhole)
  (arg6 : Memref sig .tc .vmem S320x2240 .i8) (harg6 : arg6.IsWhole)
  (arg7 : Memref sig .tc .vmem S1x1x320 .f32) (harg7 : arg7.IsWhole)
  (arg8 : Memref sig .tc .vmem S320x8960 .fp8e4m3) (harg8 : arg8.IsWhole)
  (arg9 : Memref sig .tc .vmem S35x5x32x128 .bf16) (harg9 : arg9.IsWhole)
  (arg10 : Memref sig .tc .vmem S35x5x32x128 .bf16) (harg10 : arg10.IsWhole)
  (arg11 : Memref sig .tc .vmem S35x5x32x128 .fp8e4m3) (harg11 : arg11.IsWhole)
  (arg12 : Memref sig .tc .vmem S5x32x128 .bf16) (harg12 : arg12.IsWhole)
  (arg13 : Memref sig .tc .vmem S5x32x128 .f32) (harg13 : arg13.IsWhole)
  (arg14 : Memref sig .tc .vmem S320x128 .f32) (harg14 : arg14.IsWhole)
  (X : BufTy.Contents (Elt F) arg1.view.ty) (k : Fin k0_t1_loop.trips)
  (f9 : BufTy.Contents (Elt F) arg9.view.ty) (f10 : BufTy.Contents (Elt F) arg10.view.ty)
  (f11 : BufTy.Contents (Elt F) arg11.view.ty) (f12 : BufTy.Contents (Elt F) arg12.view.ty)

theorem trip1_v0 : (trip_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 X k).1 f9 f10 f11 f12 = [
        ⟨Rect.unit (s := S35x5x32x128) (k0_off15 k) S1x1x32x128.size (k0_off15_inb k), shapeCast S1x1x32x128 (sv0 (ldU arg1 X (k0_off13 k 0#32) (k0_off13_inb k 0)) (ldU arg1 X (k0_off13 k 128#32) (k0_off13_inb k 1)) (ldU arg1 X (k0_off14 k 0#32) (k0_off14_inb k 0)) (ldU arg1 X (k0_off14 k 128#32) (k0_off14_inb k 1))) shapeCasts_S32x128_S1x1x32x128⟩,
        ⟨Rect.unit (s := S35x5x32x128) (k0_off12 k) S1x1x32x128.size (k0_off12_inb k), shapeCast S1x1x32x128 (sv0 (ldU arg1 X (k0_off10 k 0#32) (k0_off10_inb k 0)) (ldU arg1 X (k0_off10 k 128#32) (k0_off10_inb k 1)) (ldU arg1 X (k0_off11 k 0#32) (k0_off11_inb k 0)) (ldU arg1 X (k0_off11 k 128#32) (k0_off11_inb k 1))) shapeCasts_S32x128_S1x1x32x128⟩,
        ⟨Rect.unit (s := S35x5x32x128) (k0_off9 k) S1x1x32x128.size (k0_off9_inb k), shapeCast S1x1x32x128 (sv0 (ldU arg1 X (k0_off7 k 0#32) (k0_off7_inb k 0)) (ldU arg1 X (k0_off7 k 128#32) (k0_off7_inb k 1)) (ldU arg1 X (k0_off8 k 0#32) (k0_off8_inb k 0)) (ldU arg1 X (k0_off8 k 128#32) (k0_off8_inb k 1))) shapeCasts_S32x128_S1x1x32x128⟩,
        ⟨Rect.unit (s := S35x5x32x128) (k0_off6 k) S1x1x32x128.size (k0_off6_inb k), shapeCast S1x1x32x128 (sv0 (ldU arg1 X (k0_off4 k 0#32) (k0_off4_inb k 0)) (ldU arg1 X (k0_off4 k 128#32) (k0_off4_inb k 1)) (ldU arg1 X (k0_off5 k 0#32) (k0_off5_inb k 0)) (ldU arg1 X (k0_off5 k 128#32) (k0_off5_inb k 1))) shapeCasts_S32x128_S1x1x32x128⟩,
        ⟨Rect.unit (s := S35x5x32x128) (k0_off3 k) S1x1x32x128.size (k0_off3_inb k), shapeCast S1x1x32x128 (sv0 (ldU arg1 X (k0_off1 k 0#32) (k0_off1_inb k 0)) (ldU arg1 X (k0_off1 k 128#32) (k0_off1_inb k 1)) (ldU arg1 X (k0_off2 k 0#32) (k0_off2_inb k 0)) (ldU arg1 X (k0_off2 k 128#32) (k0_off2_inb k 1))) shapeCasts_S32x128_S1x1x32x128⟩] := by
  unfold trip_k0_t1
  sl_kernel_rfl

theorem trip1_v1 : (trip_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 X k).2.1 f9 f10 f11 f12 = [
        ⟨Rect.unit (s := S35x5x32x128) (k0_off15 k) S1x1x32x128.size (k0_off15_inb k), shapeCast S1x1x32x128 (sv1 (ldU arg1 X (k0_off13 k 0#32) (k0_off13_inb k 0)) (ldU arg1 X (k0_off13 k 128#32) (k0_off13_inb k 1)) (ldU arg1 X (k0_off14 k 0#32) (k0_off14_inb k 0)) (ldU arg1 X (k0_off14 k 128#32) (k0_off14_inb k 1))) shapeCasts_S32x128_S1x1x32x128⟩,
        ⟨Rect.unit (s := S35x5x32x128) (k0_off12 k) S1x1x32x128.size (k0_off12_inb k), shapeCast S1x1x32x128 (sv1 (ldU arg1 X (k0_off10 k 0#32) (k0_off10_inb k 0)) (ldU arg1 X (k0_off10 k 128#32) (k0_off10_inb k 1)) (ldU arg1 X (k0_off11 k 0#32) (k0_off11_inb k 0)) (ldU arg1 X (k0_off11 k 128#32) (k0_off11_inb k 1))) shapeCasts_S32x128_S1x1x32x128⟩,
        ⟨Rect.unit (s := S35x5x32x128) (k0_off9 k) S1x1x32x128.size (k0_off9_inb k), shapeCast S1x1x32x128 (sv1 (ldU arg1 X (k0_off7 k 0#32) (k0_off7_inb k 0)) (ldU arg1 X (k0_off7 k 128#32) (k0_off7_inb k 1)) (ldU arg1 X (k0_off8 k 0#32) (k0_off8_inb k 0)) (ldU arg1 X (k0_off8 k 128#32) (k0_off8_inb k 1))) shapeCasts_S32x128_S1x1x32x128⟩,
        ⟨Rect.unit (s := S35x5x32x128) (k0_off6 k) S1x1x32x128.size (k0_off6_inb k), shapeCast S1x1x32x128 (sv1 (ldU arg1 X (k0_off4 k 0#32) (k0_off4_inb k 0)) (ldU arg1 X (k0_off4 k 128#32) (k0_off4_inb k 1)) (ldU arg1 X (k0_off5 k 0#32) (k0_off5_inb k 0)) (ldU arg1 X (k0_off5 k 128#32) (k0_off5_inb k 1))) shapeCasts_S32x128_S1x1x32x128⟩,
        ⟨Rect.unit (s := S35x5x32x128) (k0_off3 k) S1x1x32x128.size (k0_off3_inb k), shapeCast S1x1x32x128 (sv1 (ldU arg1 X (k0_off1 k 0#32) (k0_off1_inb k 0)) (ldU arg1 X (k0_off1 k 128#32) (k0_off1_inb k 1)) (ldU arg1 X (k0_off2 k 0#32) (k0_off2_inb k 0)) (ldU arg1 X (k0_off2 k 128#32) (k0_off2_inb k 1))) shapeCasts_S32x128_S1x1x32x128⟩] := by
  unfold trip_k0_t1
  sl_kernel_rfl

theorem trip1_pat : (trip_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 X k).2.2.1 f9 f10 f11 f12 = [
        ⟨Rect.unit (s := S35x5x32x128) (k0_off15 k) S1x1x32x128.size (k0_off15_inb k), shapeCast S1x1x32x128 (spat (ldU arg1 X (k0_off13 k 0#32) (k0_off13_inb k 0)) (ldU arg1 X (k0_off13 k 128#32) (k0_off13_inb k 1)) (ldU arg1 X (k0_off14 k 0#32) (k0_off14_inb k 0)) (ldU arg1 X (k0_off14 k 128#32) (k0_off14_inb k 1))) shapeCasts_S32x128_S1x1x32x128⟩,
        ⟨Rect.unit (s := S35x5x32x128) (k0_off12 k) S1x1x32x128.size (k0_off12_inb k), shapeCast S1x1x32x128 (spat (ldU arg1 X (k0_off10 k 0#32) (k0_off10_inb k 0)) (ldU arg1 X (k0_off10 k 128#32) (k0_off10_inb k 1)) (ldU arg1 X (k0_off11 k 0#32) (k0_off11_inb k 0)) (ldU arg1 X (k0_off11 k 128#32) (k0_off11_inb k 1))) shapeCasts_S32x128_S1x1x32x128⟩,
        ⟨Rect.unit (s := S35x5x32x128) (k0_off9 k) S1x1x32x128.size (k0_off9_inb k), shapeCast S1x1x32x128 (spat (ldU arg1 X (k0_off7 k 0#32) (k0_off7_inb k 0)) (ldU arg1 X (k0_off7 k 128#32) (k0_off7_inb k 1)) (ldU arg1 X (k0_off8 k 0#32) (k0_off8_inb k 0)) (ldU arg1 X (k0_off8 k 128#32) (k0_off8_inb k 1))) shapeCasts_S32x128_S1x1x32x128⟩,
        ⟨Rect.unit (s := S35x5x32x128) (k0_off6 k) S1x1x32x128.size (k0_off6_inb k), shapeCast S1x1x32x128 (spat (ldU arg1 X (k0_off4 k 0#32) (k0_off4_inb k 0)) (ldU arg1 X (k0_off4 k 128#32) (k0_off4_inb k 1)) (ldU arg1 X (k0_off5 k 0#32) (k0_off5_inb k 0)) (ldU arg1 X (k0_off5 k 128#32) (k0_off5_inb k 1))) shapeCasts_S32x128_S1x1x32x128⟩,
        ⟨Rect.unit (s := S35x5x32x128) (k0_off3 k) S1x1x32x128.size (k0_off3_inb k), shapeCast S1x1x32x128 (spat (ldU arg1 X (k0_off1 k 0#32) (k0_off1_inb k 0)) (ldU arg1 X (k0_off1 k 128#32) (k0_off1_inb k 1)) (ldU arg1 X (k0_off2 k 0#32) (k0_off2_inb k 0)) (ldU arg1 X (k0_off2 k 128#32) (k0_off2_inb k 1))) shapeCasts_S32x128_S1x1x32x128⟩] := by
  unfold trip_k0_t1
  sl_kernel_rfl

theorem trip1_max : (trip_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 X k).2.2.2.val f9 f10 f11 f12 = [
        ⟨Rect.unit (s := S5x32x128) ![4, 0, 0] S1x32x128.size inb_S5x32x128_S1x32x128_4_0_0, upMax (sv0 (ldU arg1 X (k0_off13 k 0#32) (k0_off13_inb k 0)) (ldU arg1 X (k0_off13 k 128#32) (k0_off13_inb k 1)) (ldU arg1 X (k0_off14 k 0#32) (k0_off14_inb k 0)) (ldU arg1 X (k0_off14 k 128#32) (k0_off14_inb k 1))) (sv1 (ldU arg1 X (k0_off13 k 0#32) (k0_off13_inb k 0)) (ldU arg1 X (k0_off13 k 128#32) (k0_off13_inb k 1)) (ldU arg1 X (k0_off14 k 0#32) (k0_off14_inb k 0)) (ldU arg1 X (k0_off14 k 128#32) (k0_off14_inb k 1))) (View.readAt (Elt F) arg12.view (Rect.unit (s := S5x32x128) ![4, 0, 0] S1x32x128.size inb_S5x32x128_S1x32x128_4_0_0).toLoadRect f12)⟩,
        ⟨Rect.unit (s := S5x32x128) ![3, 0, 0] S1x32x128.size inb_S5x32x128_S1x32x128_3_0_0, upMax (sv0 (ldU arg1 X (k0_off10 k 0#32) (k0_off10_inb k 0)) (ldU arg1 X (k0_off10 k 128#32) (k0_off10_inb k 1)) (ldU arg1 X (k0_off11 k 0#32) (k0_off11_inb k 0)) (ldU arg1 X (k0_off11 k 128#32) (k0_off11_inb k 1))) (sv1 (ldU arg1 X (k0_off10 k 0#32) (k0_off10_inb k 0)) (ldU arg1 X (k0_off10 k 128#32) (k0_off10_inb k 1)) (ldU arg1 X (k0_off11 k 0#32) (k0_off11_inb k 0)) (ldU arg1 X (k0_off11 k 128#32) (k0_off11_inb k 1))) (View.readAt (Elt F) arg12.view (Rect.unit (s := S5x32x128) ![3, 0, 0] S1x32x128.size inb_S5x32x128_S1x32x128_3_0_0).toLoadRect f12)⟩,
        ⟨Rect.unit (s := S5x32x128) ![2, 0, 0] S1x32x128.size inb_S5x32x128_S1x32x128_2_0_0, upMax (sv0 (ldU arg1 X (k0_off7 k 0#32) (k0_off7_inb k 0)) (ldU arg1 X (k0_off7 k 128#32) (k0_off7_inb k 1)) (ldU arg1 X (k0_off8 k 0#32) (k0_off8_inb k 0)) (ldU arg1 X (k0_off8 k 128#32) (k0_off8_inb k 1))) (sv1 (ldU arg1 X (k0_off7 k 0#32) (k0_off7_inb k 0)) (ldU arg1 X (k0_off7 k 128#32) (k0_off7_inb k 1)) (ldU arg1 X (k0_off8 k 0#32) (k0_off8_inb k 0)) (ldU arg1 X (k0_off8 k 128#32) (k0_off8_inb k 1))) (View.readAt (Elt F) arg12.view (Rect.unit (s := S5x32x128) ![2, 0, 0] S1x32x128.size inb_S5x32x128_S1x32x128_2_0_0).toLoadRect f12)⟩,
        ⟨Rect.unit (s := S5x32x128) ![1, 0, 0] S1x32x128.size inb_S5x32x128_S1x32x128_1_0_0, upMax (sv0 (ldU arg1 X (k0_off4 k 0#32) (k0_off4_inb k 0)) (ldU arg1 X (k0_off4 k 128#32) (k0_off4_inb k 1)) (ldU arg1 X (k0_off5 k 0#32) (k0_off5_inb k 0)) (ldU arg1 X (k0_off5 k 128#32) (k0_off5_inb k 1))) (sv1 (ldU arg1 X (k0_off4 k 0#32) (k0_off4_inb k 0)) (ldU arg1 X (k0_off4 k 128#32) (k0_off4_inb k 1)) (ldU arg1 X (k0_off5 k 0#32) (k0_off5_inb k 0)) (ldU arg1 X (k0_off5 k 128#32) (k0_off5_inb k 1))) (View.readAt (Elt F) arg12.view (Rect.unit (s := S5x32x128) ![1, 0, 0] S1x32x128.size inb_S5x32x128_S1x32x128_1_0_0).toLoadRect f12)⟩,
        ⟨Rect.unit (s := S5x32x128) ![0, 0, 0] S1x32x128.size inb_S5x32x128_S1x32x128_0_0_0, upMax (sv0 (ldU arg1 X (k0_off1 k 0#32) (k0_off1_inb k 0)) (ldU arg1 X (k0_off1 k 128#32) (k0_off1_inb k 1)) (ldU arg1 X (k0_off2 k 0#32) (k0_off2_inb k 0)) (ldU arg1 X (k0_off2 k 128#32) (k0_off2_inb k 1))) (sv1 (ldU arg1 X (k0_off1 k 0#32) (k0_off1_inb k 0)) (ldU arg1 X (k0_off1 k 128#32) (k0_off1_inb k 1)) (ldU arg1 X (k0_off2 k 0#32) (k0_off2_inb k 0)) (ldU arg1 X (k0_off2 k 128#32) (k0_off2_inb k 1))) (View.readAt (Elt F) arg12.view (Rect.unit (s := S5x32x128) ![0, 0, 0] S1x32x128.size inb_S5x32x128_S1x32x128_0_0_0).toLoadRect f12)⟩] := by
  unfold trip_k0_t1
  sl_kernel_rfl

end Cert.KernelIdeal.Hand
-- ==== Proof.Pack.lean ====
/- One trip of the loop that packs: what it stores, as plain functions of the tiles that it loads. -/
module

public import proofs.«01_k».proof.Proof.Select

@[expose] public section

set_option maxRecDepth 8192
set_option maxHeartbeats 400000

noncomputable section

namespace Cert.KernelIdeal.Hand

open Idealize.ShloMosaic Cert.KernelIdeal Cert.KernelIdeal.Gen

variable {F : FTy → Type} [FloatOps F]

/-- A tile of kept values. -/
abbrev ldV (arg9 : Memref sig .tc .vmem S35x5x32x128 .bf16) (X : BufTy.Contents (Elt F) arg9.view.ty) (off : Fin 4 → Nat)
    (h : ∀ a, off a + S1x1x32x128.size a ≤ S35x5x32x128.size a) : FVec F S1x1x32x128 .bf16 :=
  View.readAt (Elt F) arg9.view (Rect.unit (s := S35x5x32x128) off S1x1x32x128.size h).toLoadRect X
/-- A tile of the numbers that say which are kept. -/
abbrev ldP (arg11 : Memref sig .tc .vmem S35x5x32x128 .fp8e4m3) (X : BufTy.Contents (Elt F) arg11.view.ty) (off : Fin 4 → Nat)
    (h : ∀ a, off a + S1x1x32x128.size a ≤ S35x5x32x128.size a) : FVec F S1x1x32x128 .fp8e4m3 :=
  View.readAt (Elt F) arg11.view (Rect.unit (s := S35x5x32x128) off S1x1x32x128.size h).toLoadRect X
/-- A tile of reciprocals of the scale. -/
abbrev ldI (arg13 : Memref sig .tc .vmem S5x32x128 .f32) (X : BufTy.Contents (Elt F) arg13.view.ty) (off : Fin 3 → Nat)
    (h : ∀ a, off a + S1x32x128.size a ≤ S5x32x128.size a) : FVec F S1x32x128 .f32 :=
  View.readAt (Elt F) arg13.view (Rect.unit (s := S5x32x128) off S1x32x128.size h).toLoadRect X

/-- A constant tile at 32 bits. -/
abbrev cf (b : BitVec 32) : FVec F S32x128 .f32 := broadcast S32x128 (Scalar.ofBits .f32 b)
/-- A constant tile of words. -/
abbrev ci (b : BitVec 32) : IVec S32x128 32 := broadcast S32x128 b

/-- The square, a subnormal one as zero. -/
def squareT (v : FVec F S1x1x32x128 .bf16) : FVec F S32x128 .f32 :=
  select (cmpf .olt (mulf (extf .f32 (shapeCast S32x128 v shapeCasts_S1x1x32x128_S32x128) bitsLt_bf16_f32) (extf .f32 (shapeCast S32x128 v shapeCasts_S1x1x32x128_S32x128) bitsLt_bf16_f32)) (cf 0x00800000#32)) (cf 0x00000000#32)
    (mulf (extf .f32 (shapeCast S32x128 v shapeCasts_S1x1x32x128_S32x128) bitsLt_bf16_f32) (extf .f32 (shapeCast S32x128 v shapeCasts_S1x1x32x128_S32x128) bitsLt_bf16_f32))

/-- A kept value quantised. -/
def quantT (v : FVec F S1x1x32x128 .bf16) (w : FVec F S1x32x128 .f32) : FVec F S32x128 .f32 :=
  extf .f32 (truncf .fp8e4m3 (minimumf (cf 0x43E00000#32) (maximumf (cf 0xC3E00000#32)
    (mulf (squareT v) (shapeCast S32x128 w shapeCasts_S1x32x128_S32x128)))) bitsLt_fp8e4m3_f32) bitsLt_fp8e4m3_f32

/-- The numbers that say which are kept, at 32 bits. -/
def patF (p : FVec F S1x1x32x128 .fp8e4m3) : FVec F S32x128 .f32 :=
  extf .f32 (shapeCast S32x128 p shapeCasts_S1x1x32x128_S32x128) bitsLt_fp8e4m3_f32
/-- Where the number is a given one. -/
def isB (p : FVec F S1x1x32x128 .fp8e4m3) (b : BitVec 32) : IVec S32x128 1 := cmpf .oeq (patF p) (cf b)
/-- Where the first kept value is member 1, -/
def m01 (p : FVec F S1x1x32x128 .fp8e4m3) : IVec S32x128 1 := ori (isB p 0x3D900000#32) (isB p 0x3CD00000#32)
/-- member 2; -/
def m02 (p : FVec F S1x1x32x128 .fp8e4m3) : IVec S32x128 1 := isB p 0x3CE00000#32
/-- where the second one is member 1, -/
def m11 (p : FVec F S1x1x32x128 .fp8e4m3) : IVec S32x128 1 := isB p 0xBC000000#32
/-- member 2. -/
def m12 (p : FVec F S1x1x32x128 .fp8e4m3) : IVec S32x128 1 := ori (isB p 0x3D800000#32) (isB p 0x3D900000#32)

/-- The quantised members, plane by plane. -/
def cp0 (c0 : FVec F S32x128 .f32) (p : FVec F S1x1x32x128 .fp8e4m3) : FVec F S32x128 .f32 := select (ori (m01 p) (m02 p)) (cf 0#32) c0
@[inherit_doc cp0] def cp1 (c0 c1 : FVec F S32x128 .f32) (p : FVec F S1x1x32x128 .fp8e4m3) : FVec F S32x128 .f32 := select (m01 p) c0 (select (m11 p) c1 (cf 0#32))
@[inherit_doc cp0] def cp2 (c0 c1 : FVec F S32x128 .f32) (p : FVec F S1x1x32x128 .fp8e4m3) : FVec F S32x128 .f32 := select (m02 p) c0 (select (m12 p) c1 (cf 0#32))
@[inherit_doc cp0] def cp3 (c1 : FVec F S32x128 .f32) (p : FVec F S1x1x32x128 .fp8e4m3) : FVec F S32x128 .f32 := select (ori (m11 p) (m12 p)) (cf 0#32) c1

/-- Tile 0 of the codes of a block of 64 rows and 256 columns. -/
def code0 (v0 v1 : FVec F S1x1x32x128 .bf16) (p : FVec F S1x1x32x128 .fp8e4m3) (w : FVec F S1x32x128 .f32) : FVec F S32x128 .fp8e4m3 :=
  shapeCast S32x128 (truncf .fp8e4m3 (tr0 (cp0 (quantT v0 w) p) (cp1 (quantT v0 w) (quantT v1 w) p) (cp2 (quantT v0 w) (quantT v1 w) p) (cp3 (quantT v1 w) p)) bitsLt_fp8e4m3_f32) shapeCasts_S32x128_S32x128

/-- Tile 1 of the codes of a block of 64 rows and 256 columns. -/
def code1 (v0 v1 : FVec F S1x1x32x128 .bf16) (p : FVec F S1x1x32x128 .fp8e4m3) (w : FVec F S1x32x128 .f32) : FVec F S32x128 .fp8e4m3 :=
  shapeCast S32x128 (truncf .fp8e4m3 (tr1 (cp0 (quantT v0 w) p) (cp1 (quantT v0 w) (quantT v1 w) p) (cp2 (quantT v0 w) (quantT v1 w) p) (cp3 (quantT v1 w) p)) bitsLt_fp8e4m3_f32) shapeCasts_S32x128_S32x128

/-- Tile 2 of the codes of a block of 64 rows and 256 columns. -/
def code2 (v0 v1 : FVec F S1x1x32x128 .bf16) (p : FVec F S1x1x32x128 .fp8e4m3) (w : FVec F S1x32x128 .f32) : FVec F S32x128 .fp8e4m3 :=
  shapeCast S32x128 (truncf .fp8e4m3 (tr2 (cp0 (quantT v0 w) p) (cp1 (quantT v0 w) (quantT v1 w) p) (cp2 (quantT v0 w) (quantT v1 w) p) (cp3 (quantT v1 w) p)) bitsLt_fp8e4m3_f32) shapeCasts_S32x128_S32x128

/-- Tile 3 of the codes of a block of 64 rows and 256 columns. -/
def code3 (v0 v1 : FVec F S1x1x32x128 .bf16) (p : FVec F S1x1x32x128 .fp8e4m3) (w : FVec F S1x32x128 .f32) : FVec F S32x128 .fp8e4m3 :=
  shapeCast S32x128 (truncf .fp8e4m3 (tr3 (cp0 (quantT v0 w) p) (cp1 (quantT v0 w) (quantT v1 w) p) (cp2 (quantT v0 w) (quantT v1 w) p) (cp3 (quantT v1 w) p)) bitsLt_fp8e4m3_f32) shapeCasts_S32x128_S32x128

/-- The order of lanes that puts the kept values in place. -/
def ordV : IVec S32x128 32 := addi (addi (muli (ci 4#32) (andi (shrsi lanes (ci 1#32)) (ci 31#32))) (muli (ci 2#32) (andi lanes (ci 1#32)))) (shrsi lanes (ci 6#32))
/-- The order of lanes that puts the positions in place. -/
def ordM : IVec S32x128 32 := addi (muli (ci 4#32) (andi lanes (ci 31#32))) (shrsi lanes (ci 5#32))

/-- Tile 0 of the kept values. -/
def vals0 (v0 v1 : FVec F S1x1x32x128 .bf16) (_ : FVec F S1x1x32x128 .fp8e4m3) (w : FVec F S1x32x128 .f32) : FVec F S32x128 .fp8e4m3 :=
  truncf .fp8e4m3 (dynamicGather 1 (swL 2#32 (quantT v0 w) (quantT v1 w)) (wrapIdx ordV) : FVec F S32x128 .f32) bitsLt_fp8e4m3_f32
/-- Tile 1 of the kept values. -/
def vals1 (v0 v1 : FVec F S1x1x32x128 .bf16) (_ : FVec F S1x1x32x128 .fp8e4m3) (w : FVec F S1x32x128 .f32) : FVec F S32x128 .fp8e4m3 :=
  truncf .fp8e4m3 (dynamicGather 1 (swR 2#32 (quantT v0 w) (quantT v1 w)) (wrapIdx ordV) : FVec F S32x128 .f32) bitsLt_fp8e4m3_f32

/-- The two positions of each group, the second one shifted by two bits. -/
def posT (p : FVec F S1x1x32x128 .fp8e4m3) : IVec S32x128 32 :=
  ori (select (m02 p) (ci 2#32) (select (m01 p) (ci 1#32) (ci 0#32)))
    (shli (select (m11 p) (ci 1#32) (select (m12 p) (ci 2#32) (ci 3#32))) (ci 2#32))
/-- The same in the order of the groups. -/
def metaT (p : FVec F S1x1x32x128 .fp8e4m3) : IVec S32x128 32 := dynamicGather 1 (posT p) (wrapIdx ordM)
/-- The low half of the lanes. -/
def lowM : IVec S32x128 1 := cmpi .slt lanes (ci 64#32)
/-- The halves of the lanes exchanged. -/
def rotM (x : IVec S32x128 32) : IVec S32x128 32 := dynamicRotate 1 64#32 none x rotates_S32x128_d1
/-- The positions of two neighbouring blocks in the first 32 rows, -/
def meta0 (p q : FVec F S1x1x32x128 .fp8e4m3) : IVec S32x128 8 := trunci 8 (select lowM (metaT p) (rotM (metaT q))) natLt_8_32
/-- and in the second 32 rows. -/
def meta1 (p q : FVec F S1x1x32x128 .fp8e4m3) : IVec S32x128 8 := trunci 8 (select lowM (rotM (metaT p)) (metaT q)) natLt_8_32

variable (𝒱 : Variants) (c : Dev nD) (bd : Option 𝒱.V) (i : grid0.Coords)
  (arg1 : Memref sig .tc .vmem S320x8960 .bf16) (harg1 : arg1.IsWhole)
  (arg2 : Memref sig .tc .vmem S8960x1536 .fp8e4m3) (harg2 : arg2.IsWhole)
  (arg3 : Memref sig .tc .vmem S1x1536 .f32) (harg3 : arg3.IsWhole)
  (arg4 : Memref sig .tc .vmem S320x1536 .bf16) (harg4 : arg4.IsWhole)
  (arg5 : Memref sig .tc .vmem S320x4480 .fp8e4m3) (harg5 : arg5.IsWhole)
  (arg6 : Memref sig .tc .vmem S320x2240 .i8) (harg6 : arg6.IsWhole)
  (arg7 : Memref sig .tc .vmem S1x1x320 .f32) (harg7 : arg7.IsWhole)
  (arg8 : Memref sig .tc .vmem S320x8960 .fp8e4m3) (harg8 : arg8.IsWhole)
  (arg9 : Memref sig .tc .vmem S35x5x32x128 .bf16) (harg9 : arg9.IsWhole)
  (arg10 : Memref sig .tc .vmem S35x5x32x128 .bf16) (harg10 : arg10.IsWhole)
  (arg11 : Memref sig .tc .vmem S35x5x32x128 .fp8e4m3) (harg11 : arg11.IsWhole)
  (arg12 : Memref sig .tc .vmem S5x32x128 .bf16) (harg12 : arg12.IsWhole)
  (arg13 : Memref sig .tc .vmem S5x32x128 .f32) (harg13 : arg13.IsWhole)
  (arg14 : Memref sig .tc .vmem S320x128 .f32) (harg14 : arg14.IsWhole)
  (v25 : IVec S32x128 1) (v1007 : FVec F S32x128 .f32) (v1096 : IVec S32x128 32) (v1101 : IVec S32x128 1) (v1102 : IVec S32x128 32)
  (X9 : BufTy.Contents (Elt F) arg9.view.ty) (X10 : BufTy.Contents (Elt F) arg10.view.ty)
  (X11 : BufTy.Contents (Elt F) arg11.view.ty) (X13 : BufTy.Contents (Elt F) arg13.view.ty) (k : Fin k0_t2_loop.trips)

theorem trip2_vals : (trip_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 k).1 = [
        ⟨Rect.unit (s := S320x4480) (k0_off73 k) S32x128.size (k0_off73_inb k), vals1 (ldV arg9 X9 (k0_off69 k) (k0_off69_inb k)) (ldV arg10 X10 (k0_off69 k) (k0_off69_inb k)) (ldP arg11 X11 (k0_off69 k) (k0_off69_inb k)) (ldI arg13 X13 ![4, 0, 0] inb_S5x32x128_S1x32x128_4_0_0)⟩,
        ⟨Rect.unit (s := S320x4480) (k0_off71 k) S32x128.size (k0_off71_inb k), vals0 (ldV arg9 X9 (k0_off69 k) (k0_off69_inb k)) (ldV arg10 X10 (k0_off69 k) (k0_off69_inb k)) (ldP arg11 X11 (k0_off69 k) (k0_off69_inb k)) (ldI arg13 X13 ![4, 0, 0] inb_S5x32x128_S1x32x128_4_0_0)⟩,
        ⟨Rect.unit (s := S320x4480) (k0_off68 k) S32x128.size (k0_off68_inb k), vals1 (ldV arg9 X9 (k0_off64 k) (k0_off64_inb k)) (ldV arg10 X10 (k0_off64 k) (k0_off64_inb k)) (ldP arg11 X11 (k0_off64 k) (k0_off64_inb k)) (ldI arg13 X13 ![4, 0, 0] inb_S5x32x128_S1x32x128_4_0_0)⟩,
        ⟨Rect.unit (s := S320x4480) (k0_off66 k) S32x128.size (k0_off66_inb k), vals0 (ldV arg9 X9 (k0_off64 k) (k0_off64_inb k)) (ldV arg10 X10 (k0_off64 k) (k0_off64_inb k)) (ldP arg11 X11 (k0_off64 k) (k0_off64_inb k)) (ldI arg13 X13 ![4, 0, 0] inb_S5x32x128_S1x32x128_4_0_0)⟩,
        ⟨Rect.unit (s := S320x4480) (k0_off61 k) S32x128.size (k0_off61_inb k), vals1 (ldV arg9 X9 (k0_off57 k) (k0_off57_inb k)) (ldV arg10 X10 (k0_off57 k) (k0_off57_inb k)) (ldP arg11 X11 (k0_off57 k) (k0_off57_inb k)) (ldI arg13 X13 ![3, 0, 0] inb_S5x32x128_S1x32x128_3_0_0)⟩,
        ⟨Rect.unit (s := S320x4480) (k0_off59 k) S32x128.size (k0_off59_inb k), vals0 (ldV arg9 X9 (k0_off57 k) (k0_off57_inb k)) (ldV arg10 X10 (k0_off57 k) (k0_off57_inb k)) (ldP arg11 X11 (k0_off57 k) (k0_off57_inb k)) (ldI arg13 X13 ![3, 0, 0] inb_S5x32x128_S1x32x128_3_0_0)⟩,
        ⟨Rect.unit (s := S320x4480) (k0_off56 k) S32x128.size (k0_off56_inb k), vals1 (ldV arg9 X9 (k0_off52 k) (k0_off52_inb k)) (ldV arg10 X10 (k0_off52 k) (k0_off52_inb k)) (ldP arg11 X11 (k0_off52 k) (k0_off52_inb k)) (ldI arg13 X13 ![3, 0, 0] inb_S5x32x128_S1x32x128_3_0_0)⟩,
        ⟨Rect.unit (s := S320x4480) (k0_off54 k) S32x128.size (k0_off54_inb k), vals0 (ldV arg9 X9 (k0_off52 k) (k0_off52_inb k)) (ldV arg10 X10 (k0_off52 k) (k0_off52_inb k)) (ldP arg11 X11 (k0_off52 k) (k0_off52_inb k)) (ldI arg13 X13 ![3, 0, 0] inb_S5x32x128_S1x32x128_3_0_0)⟩,
        ⟨Rect.unit (s := S320x4480) (k0_off49 k) S32x128.size (k0_off49_inb k), vals1 (ldV arg9 X9 (k0_off45 k) (k0_off45_inb k)) (ldV arg10 X10 (k0_off45 k) (k0_off45_inb k)) (ldP arg11 X11 (k0_off45 k) (k0_off45_inb k)) (ldI arg13 X13 ![2, 0, 0] inb_S5x32x128_S1x32x128_2_0_0)⟩,
        ⟨Rect.unit (s := S320x4480) (k0_off47 k) S32x128.size (k0_off47_inb k), vals0 (ldV arg9 X9 (k0_off45 k) (k0_off45_inb k)) (ldV arg10 X10 (k0_off45 k) (k0_off45_inb k)) (ldP arg11 X11 (k0_off45 k) (k0_off45_inb k)) (ldI arg13 X13 ![2, 0, 0] inb_S5x32x128_S1x32x128_2_0_0)⟩,
        ⟨Rect.unit (s := S320x4480) (k0_off44 k) S32x128.size (k0_off44_inb k), vals1 (ldV arg9 X9 (k0_off40 k) (k0_off40_inb k)) (ldV arg10 X10 (k0_off40 k) (k0_off40_inb k)) (ldP arg11 X11 (k0_off40 k) (k0_off40_inb k)) (ldI arg13 X13 ![2, 0, 0] inb_S5x32x128_S1x32x128_2_0_0)⟩,
        ⟨Rect.unit (s := S320x4480) (k0_off42 k) S32x128.size (k0_off42_inb k), vals0 (ldV arg9 X9 (k0_off40 k) (k0_off40_inb k)) (ldV arg10 X10 (k0_off40 k) (k0_off40_inb k)) (ldP arg11 X11 (k0_off40 k) (k0_off40_inb k)) (ldI arg13 X13 ![2, 0, 0] inb_S5x32x128_S1x32x128_2_0_0)⟩,
        ⟨Rect.unit (s := S320x4480) (k0_off37 k) S32x128.size (k0_off37_inb k), vals1 (ldV arg9 X9 (k0_off33 k) (k0_off33_inb k)) (ldV arg10 X10 (k0_off33 k) (k0_off33_inb k)) (ldP arg11 X11 (k0_off33 k) (k0_off33_inb k)) (ldI arg13 X13 ![1, 0, 0] inb_S5x32x128_S1x32x128_1_0_0)⟩,
        ⟨Rect.unit (s := S320x4480) (k0_off35 k) S32x128.size (k0_off35_inb k), vals0 (ldV arg9 X9 (k0_off33 k) (k0_off33_inb k)) (ldV arg10 X10 (k0_off33 k) (k0_off33_inb k)) (ldP arg11 X11 (k0_off33 k) (k0_off33_inb k)) (ldI arg13 X13 ![1, 0, 0] inb_S5x32x128_S1x32x128_1_0_0)⟩,
        ⟨Rect.unit (s := S320x4480) (k0_off32 k) S32x128.size (k0_off32_inb k), vals1 (ldV arg9 X9 (k0_off28 k) (k0_off28_inb k)) (ldV arg10 X10 (k0_off28 k) (k0_off28_inb k)) (ldP arg11 X11 (k0_off28 k) (k0_off28_inb k)) (ldI arg13 X13 ![1, 0, 0] inb_S5x32x128_S1x32x128_1_0_0)⟩,
        ⟨Rect.unit (s := S320x4480) (k0_off30 k) S32x128.size (k0_off30_inb k), vals0 (ldV arg9 X9 (k0_off28 k) (k0_off28_inb k)) (ldV arg10 X10 (k0_off28 k) (k0_off28_inb k)) (ldP arg11 X11 (k0_off28 k) (k0_off28_inb k)) (ldI arg13 X13 ![1, 0, 0] inb_S5x32x128_S1x32x128_1_0_0)⟩,
        ⟨Rect.unit (s := S320x4480) (k0_off25 k) S32x128.size (k0_off25_inb k), vals1 (ldV arg9 X9 (k0_off21 k) (k0_off21_inb k)) (ldV arg10 X10 (k0_off21 k) (k0_off21_inb k)) (ldP arg11 X11 (k0_off21 k) (k0_off21_inb k)) (ldI arg13 X13 ![0, 0, 0] inb_S5x32x128_S1x32x128_0_0_0)⟩,
        ⟨Rect.unit (s := S320x4480) (k0_off23 k) S32x128.size (k0_off23_inb k), vals0 (ldV arg9 X9 (k0_off21 k) (k0_off21_inb k)) (ldV arg10 X10 (k0_off21 k) (k0_off21_inb k)) (ldP arg11 X11 (k0_off21 k) (k0_off21_inb k)) (ldI arg13 X13 ![0, 0, 0] inb_S5x32x128_S1x32x128_0_0_0)⟩,
        ⟨Rect.unit (s := S320x4480) (k0_off20 k) S32x128.size (k0_off20_inb k), vals1 (ldV arg9 X9 (k0_off16 k) (k0_off16_inb k)) (ldV arg10 X10 (k0_off16 k) (k0_off16_inb k)) (ldP arg11 X11 (k0_off16 k) (k0_off16_inb k)) (ldI arg13 X13 ![0, 0, 0] inb_S5x32x128_S1x32x128_0_0_0)⟩,
        ⟨Rect.unit (s := S320x4480) (k0_off18 k) S32x128.size (k0_off18_inb k), vals0 (ldV arg9 X9 (k0_off16 k) (k0_off16_inb k)) (ldV arg10 X10 (k0_off16 k) (k0_off16_inb k)) (ldP arg11 X11 (k0_off16 k) (k0_off16_inb k)) (ldI arg13 X13 ![0, 0, 0] inb_S5x32x128_S1x32x128_0_0_0)⟩] := by
  unfold trip_k0_t2
  sl_kernel_rfl

theorem trip2_meta : (trip_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 k).2.1 = [
        ⟨Rect.unit (s := S320x2240) (k0_off75 k) S32x128.size (k0_off75_inb k), meta1 (ldP arg11 X11 (k0_off64 k) (k0_off64_inb k)) (ldP arg11 X11 (k0_off69 k) (k0_off69_inb k))⟩,
        ⟨Rect.unit (s := S320x2240) (k0_off74 k) S32x128.size (k0_off74_inb k), meta0 (ldP arg11 X11 (k0_off64 k) (k0_off64_inb k)) (ldP arg11 X11 (k0_off69 k) (k0_off69_inb k))⟩,
        ⟨Rect.unit (s := S320x2240) (k0_off63 k) S32x128.size (k0_off63_inb k), meta1 (ldP arg11 X11 (k0_off52 k) (k0_off52_inb k)) (ldP arg11 X11 (k0_off57 k) (k0_off57_inb k))⟩,
        ⟨Rect.unit (s := S320x2240) (k0_off62 k) S32x128.size (k0_off62_inb k), meta0 (ldP arg11 X11 (k0_off52 k) (k0_off52_inb k)) (ldP arg11 X11 (k0_off57 k) (k0_off57_inb k))⟩,
        ⟨Rect.unit (s := S320x2240) (k0_off51 k) S32x128.size (k0_off51_inb k), meta1 (ldP arg11 X11 (k0_off40 k) (k0_off40_inb k)) (ldP arg11 X11 (k0_off45 k) (k0_off45_inb k))⟩,
        ⟨Rect.unit (s := S320x2240) (k0_off50 k) S32x128.size (k0_off50_inb k), meta0 (ldP arg11 X11 (k0_off40 k) (k0_off40_inb k)) (ldP arg11 X11 (k0_off45 k) (k0_off45_inb k))⟩,
        ⟨Rect.unit (s := S320x2240) (k0_off39 k) S32x128.size (k0_off39_inb k), meta1 (ldP arg11 X11 (k0_off28 k) (k0_off28_inb k)) (ldP arg11 X11 (k0_off33 k) (k0_off33_inb k))⟩,
        ⟨Rect.unit (s := S320x2240) (k0_off38 k) S32x128.size (k0_off38_inb k), meta0 (ldP arg11 X11 (k0_off28 k) (k0_off28_inb k)) (ldP arg11 X11 (k0_off33 k) (k0_off33_inb k))⟩,
        ⟨Rect.unit (s := S320x2240) (k0_off27 k) S32x128.size (k0_off27_inb k), meta1 (ldP arg11 X11 (k0_off16 k) (k0_off16_inb k)) (ldP arg11 X11 (k0_off21 k) (k0_off21_inb k))⟩,
        ⟨Rect.unit (s := S320x2240) (k0_off26 k) S32x128.size (k0_off26_inb k), meta0 (ldP arg11 X11 (k0_off16 k) (k0_off16_inb k)) (ldP arg11 X11 (k0_off21 k) (k0_off21_inb k))⟩] := by
  unfold trip_k0_t2
  sl_kernel_rfl

theorem trip2_codes : (trip_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 k).2.2.1 = [
        ⟨Rect.unit (s := S320x8960) (k0_off72 k 128#32) S32x128.size (k0_off72_inb k 1), code3 (ldV arg9 X9 (k0_off69 k) (k0_off69_inb k)) (ldV arg10 X10 (k0_off69 k) (k0_off69_inb k)) (ldP arg11 X11 (k0_off69 k) (k0_off69_inb k)) (ldI arg13 X13 ![4, 0, 0] inb_S5x32x128_S1x32x128_4_0_0)⟩,
        ⟨Rect.unit (s := S320x8960) (k0_off72 k 0#32) S32x128.size (k0_off72_inb k 0), code2 (ldV arg9 X9 (k0_off69 k) (k0_off69_inb k)) (ldV arg10 X10 (k0_off69 k) (k0_off69_inb k)) (ldP arg11 X11 (k0_off69 k) (k0_off69_inb k)) (ldI arg13 X13 ![4, 0, 0] inb_S5x32x128_S1x32x128_4_0_0)⟩,
        ⟨Rect.unit (s := S320x8960) (k0_off70 k 128#32) S32x128.size (k0_off70_inb k 1), code1 (ldV arg9 X9 (k0_off69 k) (k0_off69_inb k)) (ldV arg10 X10 (k0_off69 k) (k0_off69_inb k)) (ldP arg11 X11 (k0_off69 k) (k0_off69_inb k)) (ldI arg13 X13 ![4, 0, 0] inb_S5x32x128_S1x32x128_4_0_0)⟩,
        ⟨Rect.unit (s := S320x8960) (k0_off70 k 0#32) S32x128.size (k0_off70_inb k 0), code0 (ldV arg9 X9 (k0_off69 k) (k0_off69_inb k)) (ldV arg10 X10 (k0_off69 k) (k0_off69_inb k)) (ldP arg11 X11 (k0_off69 k) (k0_off69_inb k)) (ldI arg13 X13 ![4, 0, 0] inb_S5x32x128_S1x32x128_4_0_0)⟩,
        ⟨Rect.unit (s := S320x8960) (k0_off67 k 128#32) S32x128.size (k0_off67_inb k 1), code3 (ldV arg9 X9 (k0_off64 k) (k0_off64_inb k)) (ldV arg10 X10 (k0_off64 k) (k0_off64_inb k)) (ldP arg11 X11 (k0_off64 k) (k0_off64_inb k)) (ldI arg13 X13 ![4, 0, 0] inb_S5x32x128_S1x32x128_4_0_0)⟩,
        ⟨Rect.unit (s := S320x8960) (k0_off67 k 0#32) S32x128.size (k0_off67_inb k 0), code2 (ldV arg9 X9 (k0_off64 k) (k0_off64_inb k)) (ldV arg10 X10 (k0_off64 k) (k0_off64_inb k)) (ldP arg11 X11 (k0_off64 k) (k0_off64_inb k)) (ldI arg13 X13 ![4, 0, 0] inb_S5x32x128_S1x32x128_4_0_0)⟩,
        ⟨Rect.unit (s := S320x8960) (k0_off65 k 128#32) S32x128.size (k0_off65_inb k 1), code1 (ldV arg9 X9 (k0_off64 k) (k0_off64_inb k)) (ldV arg10 X10 (k0_off64 k) (k0_off64_inb k)) (ldP arg11 X11 (k0_off64 k) (k0_off64_inb k)) (ldI arg13 X13 ![4, 0, 0] inb_S5x32x128_S1x32x128_4_0_0)⟩,
        ⟨Rect.unit (s := S320x8960) (k0_off65 k 0#32) S32x128.size (k0_off65_inb k 0), code0 (ldV arg9 X9 (k0_off64 k) (k0_off64_inb k)) (ldV arg10 X10 (k0_off64 k) (k0_off64_inb k)) (ldP arg11 X11 (k0_off64 k) (k0_off64_inb k)) (ldI arg13 X13 ![4, 0, 0] inb_S5x32x128_S1x32x128_4_0_0)⟩,
        ⟨Rect.unit (s := S320x8960) (k0_off60 k 128#32) S32x128.size (k0_off60_inb k 1), code3 (ldV arg9 X9 (k0_off57 k) (k0_off57_inb k)) (ldV arg10 X10 (k0_off57 k) (k0_off57_inb k)) (ldP arg11 X11 (k0_off57 k) (k0_off57_inb k)) (ldI arg13 X13 ![3, 0, 0] inb_S5x32x128_S1x32x128_3_0_0)⟩,
        ⟨Rect.unit (s := S320x8960) (k0_off60 k 0#32) S32x128.size (k0_off60_inb k 0), code2 (ldV arg9 X9 (k0_off57 k) (k0_off57_inb k)) (ldV arg10 X10 (k0_off57 k) (k0_off57_inb k)) (ldP arg11 X11 (k0_off57 k) (k0_off57_inb k)) (ldI arg13 X13 ![3, 0, 0] inb_S5x32x128_S1x32x128_3_0_0)⟩,
        ⟨Rect.unit (s := S320x8960) (k0_off58 k 128#32) S32x128.size (k0_off58_inb k 1), code1 (ldV arg9 X9 (k0_off57 k) (k0_off57_inb k)) (ldV arg10 X10 (k0_off57 k) (k0_off57_inb k)) (ldP arg11 X11 (k0_off57 k) (k0_off57_inb k)) (ldI arg13 X13 ![3, 0, 0] inb_S5x32x128_S1x32x128_3_0_0)⟩,
        ⟨Rect.unit (s := S320x8960) (k0_off58 k 0#32) S32x128.size (k0_off58_inb k 0), code0 (ldV arg9 X9 (k0_off57 k) (k0_off57_inb k)) (ldV arg10 X10 (k0_off57 k) (k0_off57_inb k)) (ldP arg11 X11 (k0_off57 k) (k0_off57_inb k)) (ldI arg13 X13 ![3, 0, 0] inb_S5x32x128_S1x32x128_3_0_0)⟩,
        ⟨Rect.unit (s := S320x8960) (k0_off55 k 128#32) S32x128.size (k0_off55_inb k 1), code3 (ldV arg9 X9 (k0_off52 k) (k0_off52_inb k)) (ldV arg10 X10 (k0_off52 k) (k0_off52_inb k)) (ldP arg11 X11 (k0_off52 k) (k0_off52_inb k)) (ldI arg13 X13 ![3, 0, 0] inb_S5x32x128_S1x32x128_3_0_0)⟩,
        ⟨Rect.unit (s := S320x8960) (k0_off55 k 0#32) S32x128.size (k0_off55_inb k 0), code2 (ldV arg9 X9 (k0_off52 k) (k0_off52_inb k)) (ldV arg10 X10 (k0_off52 k) (k0_off52_inb k)) (ldP arg11 X11 (k0_off52 k) (k0_off52_inb k)) (ldI arg13 X13 ![3, 0, 0] inb_S5x32x128_S1x32x128_3_0_0)⟩,
        ⟨Rect.unit (s := S320x8960) (k0_off53 k 128#32) S32x128.size (k0_off53_inb k 1), code1 (ldV arg9 X9 (k0_off52 k) (k0_off52_inb k)) (ldV arg10 X10 (k0_off52 k) (k0_off52_inb k)) (ldP arg11 X11 (k0_off52 k) (k0_off52_inb k)) (ldI arg13 X13 ![3, 0, 0] inb_S5x32x128_S1x32x128_3_0_0)⟩,
        ⟨Rect.unit (s := S320x8960) (k0_off53 k 0#32) S32x128.size (k0_off53_inb k 0), code0 (ldV arg9 X9 (k0_off52 k) (k0_off52_inb k)) (ldV arg10 X10 (k0_off52 k) (k0_off52_inb k)) (ldP arg11 X11 (k0_off52 k) (k0_off52_inb k)) (ldI arg13 X13 ![3, 0, 0] inb_S5x32x128_S1x32x128_3_0_0)⟩,
        ⟨Rect.unit (s := S320x8960) (k0_off48 k 128#32) S32x128.size (k0_off48_inb k 1), code3 (ldV arg9 X9 (k0_off45 k) (k0_off45_inb k)) (ldV arg10 X10 (k0_off45 k) (k0_off45_inb k)) (ldP arg11 X11 (k0_off45 k) (k0_off45_inb k)) (ldI arg13 X13 ![2, 0, 0] inb_S5x32x128_S1x32x128_2_0_0)⟩,
        ⟨Rect.unit (s := S320x8960) (k0_off48 k 0#32) S32x128.size (k0_off48_inb k 0), code2 (ldV arg9 X9 (k0_off45 k) (k0_off45_inb k)) (ldV arg10 X10 (k0_off45 k) (k0_off45_inb k)) (ldP arg11 X11 (k0_off45 k) (k0_off45_inb k)) (ldI arg13 X13 ![2, 0, 0] inb_S5x32x128_S1x32x128_2_0_0)⟩,
        ⟨Rect.unit (s := S320x8960) (k0_off46 k 128#32) S32x128.size (k0_off46_inb k 1), code1 (ldV arg9 X9 (k0_off45 k) (k0_off45_inb k)) (ldV arg10 X10 (k0_off45 k) (k0_off45_inb k)) (ldP arg11 X11 (k0_off45 k) (k0_off45_inb k)) (ldI arg13 X13 ![2, 0, 0] inb_S5x32x128_S1x32x128_2_0_0)⟩,
        ⟨Rect.unit (s := S320x8960) (k0_off46 k 0#32) S32x128.size (k0_off46_inb k 0), code0 (ldV arg9 X9 (k0_off45 k) (k0_off45_inb k)) (ldV arg10 X10 (k0_off45 k) (k0_off45_inb k)) (ldP arg11 X11 (k0_off45 k) (k0_off45_inb k)) (ldI arg13 X13 ![2, 0, 0] inb_S5x32x128_S1x32x128_2_0_0)⟩,
        ⟨Rect.unit (s := S320x8960) (k0_off43 k 128#32) S32x128.size (k0_off43_inb k 1), code3 (ldV arg9 X9 (k0_off40 k) (k0_off40_inb k)) (ldV arg10 X10 (k0_off40 k) (k0_off40_inb k)) (ldP arg11 X11 (k0_off40 k) (k0_off40_inb k)) (ldI arg13 X13 ![2, 0, 0] inb_S5x32x128_S1x32x128_2_0_0)⟩,
        ⟨Rect.unit (s := S320x8960) (k0_off43 k 0#32) S32x128.size (k0_off43_inb k 0), code2 (ldV arg9 X9 (k0_off40 k) (k0_off40_inb k)) (ldV arg10 X10 (k0_off40 k) (k0_off40_inb k)) (ldP arg11 X11 (k0_off40 k) (k0_off40_inb k)) (ldI arg13 X13 ![2, 0, 0] inb_S5x32x128_S1x32x128_2_0_0)⟩,
        ⟨Rect.unit (s := S320x8960) (k0_off41 k 128#32) S32x128.size (k0_off41_inb k 1), code1 (ldV arg9 X9 (k0_off40 k) (k0_off40_inb k)) (ldV arg10 X10 (k0_off40 k) (k0_off40_inb k)) (ldP arg11 X11 (k0_off40 k) (k0_off40_inb k)) (ldI arg13 X13 ![2, 0, 0] inb_S5x32x128_S1x32x128_2_0_0)⟩,
        ⟨Rect.unit (s := S320x8960) (k0_off41 k 0#32) S32x128.size (k0_off41_inb k 0), code0 (ldV arg9 X9 (k0_off40 k) (k0_off40_inb k)) (ldV arg10 X10 (k0_off40 k) (k0_off40_inb k)) (ldP arg11 X11 (k0_off40 k) (k0_off40_inb k)) (ldI arg13 X13 ![2, 0, 0] inb_S5x32x128_S1x32x128_2_0_0)⟩,
        ⟨Rect.unit (s := S320x8960) (k0_off36 k 128#32) S32x128.size (k0_off36_inb k 1), code3 (ldV arg9 X9 (k0_off33 k) (k0_off33_inb k)) (ldV arg10 X10 (k0_off33 k) (k0_off33_inb k)) (ldP arg11 X11 (k0_off33 k) (k0_off33_inb k)) (ldI arg13 X13 ![1, 0, 0] inb_S5x32x128_S1x32x128_1_0_0)⟩,
        ⟨Rect.unit (s := S320x8960) (k0_off36 k 0#32) S32x128.size (k0_off36_inb k 0), code2 (ldV arg9 X9 (k0_off33 k) (k0_off33_inb k)) (ldV arg10 X10 (k0_off33 k) (k0_off33_inb k)) (ldP arg11 X11 (k0_off33 k) (k0_off33_inb k)) (ldI arg13 X13 ![1, 0, 0] inb_S5x32x128_S1x32x128_1_0_0)⟩,
        ⟨Rect.unit (s := S320x8960) (k0_off34 k 128#32) S32x128.size (k0_off34_inb k 1), code1 (ldV arg9 X9 (k0_off33 k) (k0_off33_inb k)) (ldV arg10 X10 (k0_off33 k) (k0_off33_inb k)) (ldP arg11 X11 (k0_off33 k) (k0_off33_inb k)) (ldI arg13 X13 ![1, 0, 0] inb_S5x32x128_S1x32x128_1_0_0)⟩,
        ⟨Rect.unit (s := S320x8960) (k0_off34 k 0#32) S32x128.size (k0_off34_inb k 0), code0 (ldV arg9 X9 (k0_off33 k) (k0_off33_inb k)) (ldV arg10 X10 (k0_off33 k) (k0_off33_inb k)) (ldP arg11 X11 (k0_off33 k) (k0_off33_inb k)) (ldI arg13 X13 ![1, 0, 0] inb_S5x32x128_S1x32x128_1_0_0)⟩,
        ⟨Rect.unit (s := S320x8960) (k0_off31 k 128#32) S32x128.size (k0_off31_inb k 1), code3 (ldV arg9 X9 (k0_off28 k) (k0_off28_inb k)) (ldV arg10 X10 (k0_off28 k) (k0_off28_inb k)) (ldP arg11 X11 (k0_off28 k) (k0_off28_inb k)) (ldI arg13 X13 ![1, 0, 0] inb_S5x32x128_S1x32x128_1_0_0)⟩,
        ⟨Rect.unit (s := S320x8960) (k0_off31 k 0#32) S32x128.size (k0_off31_inb k 0), code2 (ldV arg9 X9 (k0_off28 k) (k0_off28_inb k)) (ldV arg10 X10 (k0_off28 k) (k0_off28_inb k)) (ldP arg11 X11 (k0_off28 k) (k0_off28_inb k)) (ldI arg13 X13 ![1, 0, 0] inb_S5x32x128_S1x32x128_1_0_0)⟩,
        ⟨Rect.unit (s := S320x8960) (k0_off29 k 128#32) S32x128.size (k0_off29_inb k 1), code1 (ldV arg9 X9 (k0_off28 k) (k0_off28_inb k)) (ldV arg10 X10 (k0_off28 k) (k0_off28_inb k)) (ldP arg11 X11 (k0_off28 k) (k0_off28_inb k)) (ldI arg13 X13 ![1, 0, 0] inb_S5x32x128_S1x32x128_1_0_0)⟩,
        ⟨Rect.unit (s := S320x8960) (k0_off29 k 0#32) S32x128.size (k0_off29_inb k 0), code0 (ldV arg9 X9 (k0_off28 k) (k0_off28_inb k)) (ldV arg10 X10 (k0_off28 k) (k0_off28_inb k)) (ldP arg11 X11 (k0_off28 k) (k0_off28_inb k)) (ldI arg13 X13 ![1, 0, 0] inb_S5x32x128_S1x32x128_1_0_0)⟩,
        ⟨Rect.unit (s := S320x8960) (k0_off24 k 128#32) S32x128.size (k0_off24_inb k 1), code3 (ldV arg9 X9 (k0_off21 k) (k0_off21_inb k)) (ldV arg10 X10 (k0_off21 k) (k0_off21_inb k)) (ldP arg11 X11 (k0_off21 k) (k0_off21_inb k)) (ldI arg13 X13 ![0, 0, 0] inb_S5x32x128_S1x32x128_0_0_0)⟩,
        ⟨Rect.unit (s := S320x8960) (k0_off24 k 0#32) S32x128.size (k0_off24_inb k 0), code2 (ldV arg9 X9 (k0_off21 k) (k0_off21_inb k)) (ldV arg10 X10 (k0_off21 k) (k0_off21_inb k)) (ldP arg11 X11 (k0_off21 k) (k0_off21_inb k)) (ldI arg13 X13 ![0, 0, 0] inb_S5x32x128_S1x32x128_0_0_0)⟩,
        ⟨Rect.unit (s := S320x8960) (k0_off22 k 128#32) S32x128.size (k0_off22_inb k 1), code1 (ldV arg9 X9 (k0_off21 k) (k0_off21_inb k)) (ldV arg10 X10 (k0_off21 k) (k0_off21_inb k)) (ldP arg11 X11 (k0_off21 k) (k0_off21_inb k)) (ldI arg13 X13 ![0, 0, 0] inb_S5x32x128_S1x32x128_0_0_0)⟩,
        ⟨Rect.unit (s := S320x8960) (k0_off22 k 0#32) S32x128.size (k0_off22_inb k 0), code0 (ldV arg9 X9 (k0_off21 k) (k0_off21_inb k)) (ldV arg10 X10 (k0_off21 k) (k0_off21_inb k)) (ldP arg11 X11 (k0_off21 k) (k0_off21_inb k)) (ldI arg13 X13 ![0, 0, 0] inb_S5x32x128_S1x32x128_0_0_0)⟩,
        ⟨Rect.unit (s := S320x8960) (k0_off19 k 128#32) S32x128.size (k0_off19_inb k 1), code3 (ldV arg9 X9 (k0_off16 k) (k0_off16_inb k)) (ldV arg10 X10 (k0_off16 k) (k0_off16_inb k)) (ldP arg11 X11 (k0_off16 k) (k0_off16_inb k)) (ldI arg13 X13 ![0, 0, 0] inb_S5x32x128_S1x32x128_0_0_0)⟩,
        ⟨Rect.unit (s := S320x8960) (k0_off19 k 0#32) S32x128.size (k0_off19_inb k 0), code2 (ldV arg9 X9 (k0_off16 k) (k0_off16_inb k)) (ldV arg10 X10 (k0_off16 k) (k0_off16_inb k)) (ldP arg11 X11 (k0_off16 k) (k0_off16_inb k)) (ldI arg13 X13 ![0, 0, 0] inb_S5x32x128_S1x32x128_0_0_0)⟩,
        ⟨Rect.unit (s := S320x8960) (k0_off17 k 128#32) S32x128.size (k0_off17_inb k 1), code1 (ldV arg9 X9 (k0_off16 k) (k0_off16_inb k)) (ldV arg10 X10 (k0_off16 k) (k0_off16_inb k)) (ldP arg11 X11 (k0_off16 k) (k0_off16_inb k)) (ldI arg13 X13 ![0, 0, 0] inb_S5x32x128_S1x32x128_0_0_0)⟩,
        ⟨Rect.unit (s := S320x8960) (k0_off17 k 0#32) S32x128.size (k0_off17_inb k 0), code0 (ldV arg9 X9 (k0_off16 k) (k0_off16_inb k)) (ldV arg10 X10 (k0_off16 k) (k0_off16_inb k)) (ldP arg11 X11 (k0_off16 k) (k0_off16_inb k)) (ldI arg13 X13 ![0, 0, 0] inb_S5x32x128_S1x32x128_0_0_0)⟩] := by
  unfold trip_k0_t2
  sl_kernel_rfl

end Cert.KernelIdeal.Hand
-- ==== Proof.Group.lean ====
/- The selection as numbers: what the selecting loop leaves in the scratch buffers, element by element, in terms of the
   groups of four of the input block. -/
module

public import proofs.«01_k».proof.Proof.Select
public import Idealize.ShloMosaic.Lib.WritesUnit
public import Idealize.ShloMosaic.Lib.Pipeline.ValueKit

@[expose] public section

set_option maxRecDepth 8192

noncomputable section

namespace Cert.KernelIdeal.Hand

open Idealize.ShloMosaic Cert.KernelIdeal Cert.KernelIdeal.Gen

/-- The constant that a bf16 pattern denotes. -/
abbrev cE (b : BitVec 16) : EReal := Ideal.ofBits .bf16 b

/-- A value clamped from below. -/
def cl (v : EReal) : EReal := max v (cE 0x1FFF#16)

/-- Both of the first two are kept. -/
def b01 (x0 x1 x2 x3 : EReal) : Prop := max x2 x3 ≤ min x0 x1
/-- Both of the last two are kept. -/
def b23 (x0 x1 x2 x3 : EReal) : Prop := max x0 x1 < min x2 x3

instance (x0 x1 x2 x3 : EReal) : Decidable (b01 x0 x1 x2 x3) := inferInstanceAs (Decidable (max x2 x3 ≤ min x0 x1))
instance (x0 x1 x2 x3 : EReal) : Decidable (b23 x0 x1 x2 x3) := inferInstanceAs (Decidable (max x0 x1 < min x2 x3))

/-- The first value kept. -/
def g0 (x0 x1 x2 x3 : EReal) : EReal := if b23 x0 x1 x2 x3 then x2 else if b01 x0 x1 x2 x3 then x0 else max x0 x1
/-- The second value kept. -/
def g1 (x0 x1 x2 x3 : EReal) : EReal := if b01 x0 x1 x2 x3 then x1 else if b23 x0 x1 x2 x3 then x3 else max x2 x3
/-- The number that says which two are kept. -/
def gp (x0 x1 x2 x3 : EReal) : EReal :=
  if b01 x0 x1 x2 x3 then cE 0xBC00#16 else if b23 x0 x1 x2 x3 then cE 0x3CE0#16
  else if x1 ≤ x0 then (if x3 ≤ x2 then cE 0x3D80#16 else cE 0x3CC0#16)
  else (if x3 ≤ x2 then cE 0x3D90#16 else cE 0x3CD0#16)

section Tiles

variable (x0 x1 x2 x3 : FVec Ideal S32x128 .bf16) (i : S32x128.Idx)

theorem oge_iff (x y : FVec Ideal S32x128 .bf16) : cmpf .oge x y i = 1#1 ↔ y i ≤ x i := by
  show BitVec.ofBool (decide _) = 1#1 ↔ _
  by_cases h : y i ≤ x i
  · simp [h]
  · simp [h]

theorem ogt_iff (x y : FVec Ideal S32x128 .bf16) : cmpf .ogt x y i = 1#1 ↔ y i < x i := by
  show BitVec.ofBool (decide _) = 1#1 ↔ _
  by_cases h : y i < x i
  · simp [h]
  · simp [h]

theorem both01_iff : both01 x0 x1 x2 x3 i = 1#1 ↔ b01 (x0 i) (x1 i) (x2 i) (x3 i) := by
  rw [both01, oge_iff]; rfl
theorem both23_iff : both23 x0 x1 x2 x3 i = 1#1 ↔ b23 (x0 i) (x1 i) (x2 i) (x3 i) := by
  rw [both23, ogt_iff]; rfl

theorem top0_apply : top0 x0 x1 x2 x3 i = g0 (x0 i) (x1 i) (x2 i) (x3 i) := by
  rw [top0, select_apply, select_apply]
  simp only [both01_iff, both23_iff]
  rfl
theorem top1_apply : top1 x0 x1 x2 x3 i = g1 (x0 i) (x1 i) (x2 i) (x3 i) := by
  rw [top1, select_apply, select_apply]
  simp only [both01_iff, both23_iff]
  rfl
theorem patT_apply : patT x0 x1 x2 x3 i = gp (x0 i) (x1 i) (x2 i) (x3 i) := by
  show select _ _ _ i = _
  simp only [select_apply, both01_iff, both23_iff, oge_iff]
  rfl

theorem clampT_apply (x : FVec Ideal S32x128 .f32) : clampT x i = cl (x i) := rfl

theorem wide_apply (x : FVec Ideal S32x128 .bf16) (r : Fin 32) (l : Fin 128) : wide x (ix2 r l) = x (ix2 r l) := by
  pointwise [wide]

end Tiles

/-- The row of the block that row `r`, lane `l` of the pair `rp` stands for. -/
def rowOf (rp : Fin 5) (r : Fin 32) (l : Fin 128) : Fin 320 := ⟨64 * rp.val + 32 * (l.val / 2 % 2) + r.val, by omega⟩
/-- The group of four that lane `l` of tile column `j` stands for. -/
def grpOf (j : Fin 35) (l : Fin 128) : Fin 2240 := ⟨64 * j.val + 32 * (l.val % 2) + l.val / 4, by omega⟩
/-- Member `k` of a group. -/
def mem4 (g : Fin 2240) (k : Fin 4) : Fin 8960 := ⟨4 * g.val + k.val, by omega⟩

/-- The first value kept of a group of the block. -/
def V0 (x : S320x8960.Idx → EReal) (R : Fin 320) (g : Fin 2240) : EReal :=
  g0 (cl (x (ix2 R (mem4 g 0)))) (cl (x (ix2 R (mem4 g 1)))) (cl (x (ix2 R (mem4 g 2)))) (cl (x (ix2 R (mem4 g 3))))
/-- The second value kept of a group of the block. -/
def V1 (x : S320x8960.Idx → EReal) (R : Fin 320) (g : Fin 2240) : EReal :=
  g1 (cl (x (ix2 R (mem4 g 0)))) (cl (x (ix2 R (mem4 g 1)))) (cl (x (ix2 R (mem4 g 2)))) (cl (x (ix2 R (mem4 g 3))))
/-- The number of a group of the block. -/
def PT (x : S320x8960.Idx → EReal) (R : Fin 320) (g : Fin 2240) : EReal :=
  gp (cl (x (ix2 R (mem4 g 0)))) (cl (x (ix2 R (mem4 g 1)))) (cl (x (ix2 R (mem4 g 2)))) (cl (x (ix2 R (mem4 g 3))))

section Loads

variable (arg1 : Memref sig .tc .vmem S320x8960 .bf16) (X : BufTy.Contents (Elt Ideal) arg1.view.ty)

theorem ldU_apply (off off' : Fin 2 → Nat) (h) (e : off = off') (r : Fin 32) (m : Fin 128) (R : Fin 320) (C : Fin 8960)
    (hR : R.val = off' 0 + r.val) (hC : C.val = off' 1 + m.val) :
    ldU (F := Ideal) arg1 X off h (ix2 r m) = arg1.view.read (Elt Ideal) X (ix2 R C) := by
  subst e
  exact View.ld_unit_apply_of (arg1.view.read (Elt Ideal) X) off S32x128.size h (ix2 r m) (ix2 R C) fun a => by
    match a with
    | ⟨0, _⟩ => exact hR
    | ⟨1, _⟩ => exact hC

/-- The four tiles of one trip and one pair, read at a lane of a plane. -/
theorem plane_apply (rp : Fin 5) (j : Fin 35) (o00 o01 o10 o11 : Fin 2 → Nat) (h00) (h01) (h10) (h11)
    (e00 : o00 = ![64 * rp.val, 256 * j.val]) (e01 : o01 = ![64 * rp.val, 256 * j.val + 128])
    (e10 : o10 = ![64 * rp.val + 32, 256 * j.val]) (e11 : o11 = ![64 * rp.val + 32, 256 * j.val + 128])
    (r : Fin 32) (l : Fin 128) (k : Fin 4) :
    pick (slot l) (wide (ldU (F := Ideal) arg1 X o00 h00)) (wide (ldU (F := Ideal) arg1 X o01 h01))
      (wide (ldU (F := Ideal) arg1 X o10 h10)) (wide (ldU (F := Ideal) arg1 X o11 h11)) (ix2 r (quad k l))
      = arg1.view.read (Elt Ideal) X (ix2 (rowOf rp r l) (mem4 (grpOf j l) k)) := by
  have hs : l.val % 4 = 0 ∨ l.val % 4 = 1 ∨ l.val % 4 = 2 ∨ l.val % 4 = 3 := by omega
  rcases hs with hs | hs | hs | hs
  · have : slot l = 0 := Fin.ext hs
    rw [this]
    refine (wide_apply _ _ _).trans (ldU_apply _ _ _ _ _ e00 _ _ _ _ ?_ ?_) <;> simp [rowOf, mem4, grpOf, quad] <;> omega
  · have : slot l = 1 := Fin.ext hs
    rw [this]
    refine (wide_apply _ _ _).trans (ldU_apply _ _ _ _ _ e01 _ _ _ _ ?_ ?_) <;> simp [rowOf, mem4, grpOf, quad] <;> omega
  · have : slot l = 2 := Fin.ext hs
    rw [this]
    refine (wide_apply _ _ _).trans (ldU_apply _ _ _ _ _ e10 _ _ _ _ ?_ ?_) <;> simp [rowOf, mem4, grpOf, quad] <;> omega
  · have : slot l = 3 := Fin.ext hs
    rw [this]
    refine (wide_apply _ _ _).trans (ldU_apply _ _ _ _ _ e11 _ _ _ _ ?_ ?_) <;> simp [rowOf, mem4, grpOf, quad] <;> omega

variable (rp : Fin 5) (j : Fin 35) (o00 o01 o10 o11 : Fin 2 → Nat) (h00 : ∀ a, o00 a + S32x128.size a ≤ S320x8960.size a)
  (h01 : ∀ a, o01 a + S32x128.size a ≤ S320x8960.size a) (h10 : ∀ a, o10 a + S32x128.size a ≤ S320x8960.size a)
  (h11 : ∀ a, o11 a + S32x128.size a ≤ S320x8960.size a)
    (e00 : o00 = ![64 * rp.val, 256 * j.val]) (e01 : o01 = ![64 * rp.val, 256 * j.val + 128])
    (e10 : o10 = ![64 * rp.val + 32, 256 * j.val]) (e11 : o11 = ![64 * rp.val + 32, 256 * j.val + 128])
    (r : Fin 32) (l : Fin 128)

include e00 e01 e10 e11

theorem sv0_ld : sv0 (ldU (F := Ideal) arg1 X o00 h00) (ldU (F := Ideal) arg1 X o01 h01)
      (ldU (F := Ideal) arg1 X o10 h10) (ldU (F := Ideal) arg1 X o11 h11) (ix2 r l)
      = V0 (arg1.view.read (Elt Ideal) X) (rowOf rp r l) (grpOf j l) := by
  have h := plane_apply arg1 X rp j o00 o01 o10 o11 h00 h01 h10 h11 e00 e01 e10 e11 r l
  rw [sv0, top0_apply]
  simp only [pl0, pl1, pl2, pl3, clampT_apply]
  rw [tr0_apply, tr1_apply, tr2_apply, tr3_apply, h 0, h 1, h 2, h 3]
  rfl

theorem sv1_ld : sv1 (ldU (F := Ideal) arg1 X o00 h00) (ldU (F := Ideal) arg1 X o01 h01)
      (ldU (F := Ideal) arg1 X o10 h10) (ldU (F := Ideal) arg1 X o11 h11) (ix2 r l)
      = V1 (arg1.view.read (Elt Ideal) X) (rowOf rp r l) (grpOf j l) := by
  have h := plane_apply arg1 X rp j o00 o01 o10 o11 h00 h01 h10 h11 e00 e01 e10 e11 r l
  rw [sv1, top1_apply]
  simp only [pl0, pl1, pl2, pl3, clampT_apply]
  rw [tr0_apply, tr1_apply, tr2_apply, tr3_apply, h 0, h 1, h 2, h 3]
  rfl

theorem spat_ld : spat (ldU (F := Ideal) arg1 X o00 h00) (ldU (F := Ideal) arg1 X o01 h01)
      (ldU (F := Ideal) arg1 X o10 h10) (ldU (F := Ideal) arg1 X o11 h11) (ix2 r l)
      = PT (arg1.view.read (Elt Ideal) X) (rowOf rp r l) (grpOf j l) := by
  have h := plane_apply arg1 X rp j o00 o01 o10 o11 h00 h01 h10 h11 e00 e01 e10 e11 r l
  rw [spat, patT_apply]
  simp only [pl0, pl1, pl2, pl3, clampT_apply]
  rw [tr0_apply, tr1_apply, tr2_apply, tr3_apply, h 0, h 1, h 2, h 3]
  rfl

end Loads

end Cert.KernelIdeal.Hand
-- ==== Proof.Loop1.lean ====
/- The selecting loop: what its scratch buffers hold after all trips. -/
module

public import proofs.«01_k».proof.Proof.Group

@[expose] public section

set_option maxRecDepth 8192

noncomputable section

namespace Cert.KernelIdeal.Hand

open Idealize.ShloMosaic Cert.KernelIdeal Cert.KernelIdeal.Gen

/-- One of five, by number. -/
def pick5 {α : Type} (k : Fin 5) (a0 a1 a2 a3 a4 : α) : α := match k with | 0 => a0 | 1 => a1 | 2 => a2 | 3 => a3 | 4 => a4

section Five

variable {e : EltTy} (v : View sig .tc .vmem S35x5x32x128 e) (f : BufTy.Contents (Elt Ideal) v.ty) (k : ℕ)
  (o4 : Fin 4 → Nat) (h4 : ∀ a, o4 a + S1x1x32x128.size a ≤ S35x5x32x128.size a) (e4 : o4 = ![k, 4, 0, 0]) (w4 : S1x1x32x128.Idx → Elt Ideal e)
  (o3 : Fin 4 → Nat) (h3 : ∀ a, o3 a + S1x1x32x128.size a ≤ S35x5x32x128.size a) (e3 : o3 = ![k, 3, 0, 0]) (w3 : S1x1x32x128.Idx → Elt Ideal e)
  (o2 : Fin 4 → Nat) (h2 : ∀ a, o2 a + S1x1x32x128.size a ≤ S35x5x32x128.size a) (e2 : o2 = ![k, 2, 0, 0]) (w2 : S1x1x32x128.Idx → Elt Ideal e)
  (o1 : Fin 4 → Nat) (h1 : ∀ a, o1 a + S1x1x32x128.size a ≤ S35x5x32x128.size a) (e1 : o1 = ![k, 1, 0, 0]) (w1 : S1x1x32x128.Idx → Elt Ideal e)
  (o0 : Fin 4 → Nat) (h0 : ∀ a, o0 a + S1x1x32x128.size a ≤ S35x5x32x128.size a) (e0 : o0 = ![k, 0, 0, 0]) (w0 : S1x1x32x128.Idx → Elt Ideal e)

include e4 e3 e2 e1 e0

theorem read5_hit (j : Fin 35) (hj : j.val = k) (rp : Fin 5) (r : Fin 32) (l : Fin 128) :
    v.read (Elt Ideal) (v.writes (Elt Ideal) f [⟨Rect.unit (s := S35x5x32x128) o4 S1x1x32x128.size h4, w4⟩, ⟨Rect.unit (s := S35x5x32x128) o3 S1x1x32x128.size h3, w3⟩, ⟨Rect.unit (s := S35x5x32x128) o2 S1x1x32x128.size h2, w2⟩, ⟨Rect.unit (s := S35x5x32x128) o1 S1x1x32x128.size h1, w1⟩, ⟨Rect.unit (s := S35x5x32x128) o0 S1x1x32x128.size h0, w0⟩]) (ix4 j rp r l) = pick5 rp w0 w1 w2 w3 w4 (ix4 0 0 r l) := by
  have hr : rp = 0 ∨ rp = 1 ∨ rp = 2 ∨ rp = 3 ∨ rp = 4 := by revert rp; decide
  rcases hr with rfl | rfl | rfl | rfl | rfl
  · rw [View.read_writes_cons_unit_of_not_mem v f h4 w4 _ _ e4 1 (by left; show (0 : ℕ) < 4; decide)]
    rw [View.read_writes_cons_unit_of_not_mem v f h3 w3 _ _ e3 1 (by left; show (0 : ℕ) < 3; decide)]
    rw [View.read_writes_cons_unit_of_not_mem v f h2 w2 _ _ e2 1 (by left; show (0 : ℕ) < 2; decide)]
    rw [View.read_writes_cons_unit_of_not_mem v f h1 w1 _ _ e1 1 (by left; show (0 : ℕ) < 1; decide)]
    exact View.read_writes_cons_unit_of_mem v f h0 w0 _ _ (ix4 0 0 r l) e0 (fun a => by
      match a with
      | ⟨0, _⟩ => exact hj
      | ⟨1, _⟩ => rfl
      | ⟨2, _⟩ => exact (Nat.zero_add _).symm
      | ⟨3, _⟩ => exact (Nat.zero_add _).symm)
  · rw [View.read_writes_cons_unit_of_not_mem v f h4 w4 _ _ e4 1 (by left; show (1 : ℕ) < 4; decide)]
    rw [View.read_writes_cons_unit_of_not_mem v f h3 w3 _ _ e3 1 (by left; show (1 : ℕ) < 3; decide)]
    rw [View.read_writes_cons_unit_of_not_mem v f h2 w2 _ _ e2 1 (by left; show (1 : ℕ) < 2; decide)]
    exact View.read_writes_cons_unit_of_mem v f h1 w1 _ _ (ix4 0 0 r l) e1 (fun a => by
      match a with
      | ⟨0, _⟩ => exact hj
      | ⟨1, _⟩ => rfl
      | ⟨2, _⟩ => exact (Nat.zero_add _).symm
      | ⟨3, _⟩ => exact (Nat.zero_add _).symm)
  · rw [View.read_writes_cons_unit_of_not_mem v f h4 w4 _ _ e4 1 (by left; show (2 : ℕ) < 4; decide)]
    rw [View.read_writes_cons_unit_of_not_mem v f h3 w3 _ _ e3 1 (by left; show (2 : ℕ) < 3; decide)]
    exact View.read_writes_cons_unit_of_mem v f h2 w2 _ _ (ix4 0 0 r l) e2 (fun a => by
      match a with
      | ⟨0, _⟩ => exact hj
      | ⟨1, _⟩ => rfl
      | ⟨2, _⟩ => exact (Nat.zero_add _).symm
      | ⟨3, _⟩ => exact (Nat.zero_add _).symm)
  · rw [View.read_writes_cons_unit_of_not_mem v f h4 w4 _ _ e4 1 (by left; show (3 : ℕ) < 4; decide)]
    exact View.read_writes_cons_unit_of_mem v f h3 w3 _ _ (ix4 0 0 r l) e3 (fun a => by
      match a with
      | ⟨0, _⟩ => exact hj
      | ⟨1, _⟩ => rfl
      | ⟨2, _⟩ => exact (Nat.zero_add _).symm
      | ⟨3, _⟩ => exact (Nat.zero_add _).symm)
  · exact View.read_writes_cons_unit_of_mem v f h4 w4 _ _ (ix4 0 0 r l) e4 (fun a => by
      match a with
      | ⟨0, _⟩ => exact hj
      | ⟨1, _⟩ => rfl
      | ⟨2, _⟩ => exact (Nat.zero_add _).symm
      | ⟨3, _⟩ => exact (Nat.zero_add _).symm)

theorem read5_miss (j : Fin 35) (hj : j.val ≠ k) (rp : Fin 5) (r : Fin 32) (l : Fin 128) :
    v.read (Elt Ideal) (v.writes (Elt Ideal) f [⟨Rect.unit (s := S35x5x32x128) o4 S1x1x32x128.size h4, w4⟩, ⟨Rect.unit (s := S35x5x32x128) o3 S1x1x32x128.size h3, w3⟩, ⟨Rect.unit (s := S35x5x32x128) o2 S1x1x32x128.size h2, w2⟩, ⟨Rect.unit (s := S35x5x32x128) o1 S1x1x32x128.size h1, w1⟩, ⟨Rect.unit (s := S35x5x32x128) o0 S1x1x32x128.size h0, w0⟩]) (ix4 j rp r l) = v.read (Elt Ideal) f (ix4 j rp r l) := by
  have hd : j.val < k ∨ k + 1 ≤ j.val := by omega
  rw [View.read_writes_cons_unit_of_not_mem v f h4 w4 _ _ e4 0 hd]
  rw [View.read_writes_cons_unit_of_not_mem v f h3 w3 _ _ e3 0 hd]
  rw [View.read_writes_cons_unit_of_not_mem v f h2 w2 _ _ e2 0 hd]
  rw [View.read_writes_cons_unit_of_not_mem v f h1 w1 _ _ e1 0 hd]
  rw [View.read_writes_cons_unit_of_not_mem v f h0 w0 _ _ e0 0 hd]
  rfl

end Five

section Max

variable (v : View sig .tc .vmem S5x32x128 .bf16) (f : BufTy.Contents (Elt Ideal) v.ty)
  (w4 : S1x32x128.Idx → Elt Ideal .bf16)
  (w3 : S1x32x128.Idx → Elt Ideal .bf16)
  (w2 : S1x32x128.Idx → Elt Ideal .bf16)
  (w1 : S1x32x128.Idx → Elt Ideal .bf16)
  (w0 : S1x32x128.Idx → Elt Ideal .bf16)

theorem readM_hit (rp : Fin 5) (r : Fin 32) (l : Fin 128) :
    v.read (Elt Ideal) (v.writes (Elt Ideal) f [⟨Rect.unit (s := S5x32x128) ![4, 0, 0] S1x32x128.size inb_S5x32x128_S1x32x128_4_0_0, w4⟩, ⟨Rect.unit (s := S5x32x128) ![3, 0, 0] S1x32x128.size inb_S5x32x128_S1x32x128_3_0_0, w3⟩, ⟨Rect.unit (s := S5x32x128) ![2, 0, 0] S1x32x128.size inb_S5x32x128_S1x32x128_2_0_0, w2⟩, ⟨Rect.unit (s := S5x32x128) ![1, 0, 0] S1x32x128.size inb_S5x32x128_S1x32x128_1_0_0, w1⟩, ⟨Rect.unit (s := S5x32x128) ![0, 0, 0] S1x32x128.size inb_S5x32x128_S1x32x128_0_0_0, w0⟩]) (ix3 rp r l) = pick5 rp w0 w1 w2 w3 w4 (ix3 0 r l) := by
  have hr : rp = 0 ∨ rp = 1 ∨ rp = 2 ∨ rp = 3 ∨ rp = 4 := by revert rp; decide
  rcases hr with rfl | rfl | rfl | rfl | rfl
  · rw [View.read_writes_cons_unit_of_not_mem v f inb_S5x32x128_S1x32x128_4_0_0 w4 _ _ rfl 0 (by left; show (0 : ℕ) < 4; decide)]
    rw [View.read_writes_cons_unit_of_not_mem v f inb_S5x32x128_S1x32x128_3_0_0 w3 _ _ rfl 0 (by left; show (0 : ℕ) < 3; decide)]
    rw [View.read_writes_cons_unit_of_not_mem v f inb_S5x32x128_S1x32x128_2_0_0 w2 _ _ rfl 0 (by left; show (0 : ℕ) < 2; decide)]
    rw [View.read_writes_cons_unit_of_not_mem v f inb_S5x32x128_S1x32x128_1_0_0 w1 _ _ rfl 0 (by left; show (0 : ℕ) < 1; decide)]
    exact View.read_writes_cons_unit_of_mem v f inb_S5x32x128_S1x32x128_0_0_0 w0 _ _ (ix3 0 r l) rfl (fun a => by
      match a with
      | ⟨0, _⟩ => rfl
      | ⟨1, _⟩ => exact (Nat.zero_add _).symm
      | ⟨2, _⟩ => exact (Nat.zero_add _).symm)
  · rw [View.read_writes_cons_unit_of_not_mem v f inb_S5x32x128_S1x32x128_4_0_0 w4 _ _ rfl 0 (by left; show (1 : ℕ) < 4; decide)]
    rw [View.read_writes_cons_unit_of_not_mem v f inb_S5x32x128_S1x32x128_3_0_0 w3 _ _ rfl 0 (by left; show (1 : ℕ) < 3; decide)]
    rw [View.read_writes_cons_unit_of_not_mem v f inb_S5x32x128_S1x32x128_2_0_0 w2 _ _ rfl 0 (by left; show (1 : ℕ) < 2; decide)]
    exact View.read_writes_cons_unit_of_mem v f inb_S5x32x128_S1x32x128_1_0_0 w1 _ _ (ix3 0 r l) rfl (fun a => by
      match a with
      | ⟨0, _⟩ => rfl
      | ⟨1, _⟩ => exact (Nat.zero_add _).symm
      | ⟨2, _⟩ => exact (Nat.zero_add _).symm)
  · rw [View.read_writes_cons_unit_of_not_mem v f inb_S5x32x128_S1x32x128_4_0_0 w4 _ _ rfl 0 (by left; show (2 : ℕ) < 4; decide)]
    rw [View.read_writes_cons_unit_of_not_mem v f inb_S5x32x128_S1x32x128_3_0_0 w3 _ _ rfl 0 (by left; show (2 : ℕ) < 3; decide)]
    exact View.read_writes_cons_unit_of_mem v f inb_S5x32x128_S1x32x128_2_0_0 w2 _ _ (ix3 0 r l) rfl (fun a => by
      match a with
      | ⟨0, _⟩ => rfl
      | ⟨1, _⟩ => exact (Nat.zero_add _).symm
      | ⟨2, _⟩ => exact (Nat.zero_add _).symm)
  · rw [View.read_writes_cons_unit_of_not_mem v f inb_S5x32x128_S1x32x128_4_0_0 w4 _ _ rfl 0 (by left; show (3 : ℕ) < 4; decide)]
    exact View.read_writes_cons_unit_of_mem v f inb_S5x32x128_S1x32x128_3_0_0 w3 _ _ (ix3 0 r l) rfl (fun a => by
      match a with
      | ⟨0, _⟩ => rfl
      | ⟨1, _⟩ => exact (Nat.zero_add _).symm
      | ⟨2, _⟩ => exact (Nat.zero_add _).symm)
  · exact View.read_writes_cons_unit_of_mem v f inb_S5x32x128_S1x32x128_4_0_0 w4 _ _ (ix3 0 r l) rfl (fun a => by
      match a with
      | ⟨0, _⟩ => rfl
      | ⟨1, _⟩ => exact (Nat.zero_add _).symm
      | ⟨2, _⟩ => exact (Nat.zero_add _).symm)

end Max

theorem upMax_le (v0 v1 : FVec Ideal S32x128 .bf16) (m : FVec Ideal S1x32x128 .bf16) (r : Fin 32) (l : Fin 128) :
    upMax v0 v1 m (ix3 0 r l) = max (m (ix3 0 r l)) (max (v0 (ix2 r l)) (v1 (ix2 r l))) := by
  pointwise [upMax]

theorem lift4 {α : Type} (w : Tile α) (r : Fin 32) (l : Fin 128) :
    shapeCast S1x1x32x128 w shapeCasts_S32x128_S1x1x32x128 (ix4 0 0 r l) = w (ix2 r l) := by
  pointwise []

theorem pick5_apply {α β : Type} (k : Fin 5) (f0 f1 f2 f3 f4 : α → β) (x : α) (y : Fin 5 → β) (h0 : f0 x = y 0) (h1 : f1 x = y 1)
    (h2 : f2 x = y 2) (h3 : f3 x = y 3) (h4 : f4 x = y 4) : pick5 k f0 f1 f2 f3 f4 x = y k := by
  have hr : k = 0 ∨ k = 1 ∨ k = 2 ∨ k = 3 ∨ k = 4 := by revert k; decide
  rcases hr with rfl | rfl | rfl | rfl | rfl <;> assumption

theorem off1_0 (k : Fin k0_t1_loop.trips) : k0_off1 k 0#32 = ![0, 256 * k.val + 0] := by
  revert k; decide +kernel
theorem off1_128 (k : Fin k0_t1_loop.trips) : k0_off1 k 128#32 = ![0, 256 * k.val + 128] := by
  revert k; decide +kernel
theorem off2_0 (k : Fin k0_t1_loop.trips) : k0_off2 k 0#32 = ![32, 256 * k.val + 0] := by
  revert k; decide +kernel
theorem off2_128 (k : Fin k0_t1_loop.trips) : k0_off2 k 128#32 = ![32, 256 * k.val + 128] := by
  revert k; decide +kernel
theorem off4_0 (k : Fin k0_t1_loop.trips) : k0_off4 k 0#32 = ![64, 256 * k.val + 0] := by
  revert k; decide +kernel
theorem off4_128 (k : Fin k0_t1_loop.trips) : k0_off4 k 128#32 = ![64, 256 * k.val + 128] := by
  revert k; decide +kernel
theorem off5_0 (k : Fin k0_t1_loop.trips) : k0_off5 k 0#32 = ![96, 256 * k.val + 0] := by
  revert k; decide +kernel
theorem off5_128 (k : Fin k0_t1_loop.trips) : k0_off5 k 128#32 = ![96, 256 * k.val + 128] := by
  revert k; decide +kernel
theorem off7_0 (k : Fin k0_t1_loop.trips) : k0_off7 k 0#32 = ![128, 256 * k.val + 0] := by
  revert k; decide +kernel
theorem off7_128 (k : Fin k0_t1_loop.trips) : k0_off7 k 128#32 = ![128, 256 * k.val + 128] := by
  revert k; decide +kernel
theorem off8_0 (k : Fin k0_t1_loop.trips) : k0_off8 k 0#32 = ![160, 256 * k.val + 0] := by
  revert k; decide +kernel
theorem off8_128 (k : Fin k0_t1_loop.trips) : k0_off8 k 128#32 = ![160, 256 * k.val + 128] := by
  revert k; decide +kernel
theorem off10_0 (k : Fin k0_t1_loop.trips) : k0_off10 k 0#32 = ![192, 256 * k.val + 0] := by
  revert k; decide +kernel
theorem off10_128 (k : Fin k0_t1_loop.trips) : k0_off10 k 128#32 = ![192, 256 * k.val + 128] := by
  revert k; decide +kernel
theorem off11_0 (k : Fin k0_t1_loop.trips) : k0_off11 k 0#32 = ![224, 256 * k.val + 0] := by
  revert k; decide +kernel
theorem off11_128 (k : Fin k0_t1_loop.trips) : k0_off11 k 128#32 = ![224, 256 * k.val + 128] := by
  revert k; decide +kernel
theorem off13_0 (k : Fin k0_t1_loop.trips) : k0_off13 k 0#32 = ![256, 256 * k.val + 0] := by
  revert k; decide +kernel
theorem off13_128 (k : Fin k0_t1_loop.trips) : k0_off13 k 128#32 = ![256, 256 * k.val + 128] := by
  revert k; decide +kernel
theorem off14_0 (k : Fin k0_t1_loop.trips) : k0_off14 k 0#32 = ![288, 256 * k.val + 0] := by
  revert k; decide +kernel
theorem off14_128 (k : Fin k0_t1_loop.trips) : k0_off14 k 128#32 = ![288, 256 * k.val + 128] := by
  revert k; decide +kernel
theorem off3_eq (k : Fin k0_t1_loop.trips) : k0_off3 k = ![k.val, 0, 0, 0] := by
  revert k; decide +kernel
theorem off6_eq (k : Fin k0_t1_loop.trips) : k0_off6 k = ![k.val, 1, 0, 0] := by
  revert k; decide +kernel
theorem off9_eq (k : Fin k0_t1_loop.trips) : k0_off9 k = ![k.val, 2, 0, 0] := by
  revert k; decide +kernel
theorem off12_eq (k : Fin k0_t1_loop.trips) : k0_off12 k = ![k.val, 3, 0, 0] := by
  revert k; decide +kernel
theorem off15_eq (k : Fin k0_t1_loop.trips) : k0_off15 k = ![k.val, 4, 0, 0] := by
  revert k; decide +kernel

section Trip

variable (𝒱 : Variants) (c : Dev nD) (bd : Option 𝒱.V) (i : grid0.Coords)
  (arg1 : Memref sig .tc .vmem S320x8960 .bf16) (harg1 : arg1.IsWhole)
  (arg2 : Memref sig .tc .vmem S8960x1536 .fp8e4m3) (harg2 : arg2.IsWhole)
  (arg3 : Memref sig .tc .vmem S1x1536 .f32) (harg3 : arg3.IsWhole)
  (arg4 : Memref sig .tc .vmem S320x1536 .bf16) (harg4 : arg4.IsWhole)
  (arg5 : Memref sig .tc .vmem S320x4480 .fp8e4m3) (harg5 : arg5.IsWhole)
  (arg6 : Memref sig .tc .vmem S320x2240 .i8) (harg6 : arg6.IsWhole)
  (arg7 : Memref sig .tc .vmem S1x1x320 .f32) (harg7 : arg7.IsWhole)
  (arg8 : Memref sig .tc .vmem S320x8960 .fp8e4m3) (harg8 : arg8.IsWhole)
  (arg9 : Memref sig .tc .vmem S35x5x32x128 .bf16) (harg9 : arg9.IsWhole)
  (arg10 : Memref sig .tc .vmem S35x5x32x128 .bf16) (harg10 : arg10.IsWhole)
  (arg11 : Memref sig .tc .vmem S35x5x32x128 .fp8e4m3) (harg11 : arg11.IsWhole)
  (arg12 : Memref sig .tc .vmem S5x32x128 .bf16) (harg12 : arg12.IsWhole)
  (arg13 : Memref sig .tc .vmem S5x32x128 .f32) (harg13 : arg13.IsWhole)
  (arg14 : Memref sig .tc .vmem S320x128 .f32) (harg14 : arg14.IsWhole)
  (X : BufTy.Contents (Elt Ideal) arg1.view.ty) (k : Fin k0_t1_loop.trips)
  (f9 : BufTy.Contents (Elt Ideal) arg9.view.ty) (f10 : BufTy.Contents (Elt Ideal) arg10.view.ty)
  (f11 : BufTy.Contents (Elt Ideal) arg11.view.ty) (f12 : BufTy.Contents (Elt Ideal) arg12.view.ty)

/-- The input block. -/
abbrev blkU : S320x8960.Idx → EReal := arg1.view.read (Elt Ideal) X

theorem step_v0 (j : Fin 35) (rp : Fin 5) (r : Fin 32) (l : Fin 128) :
    arg9.view.read (Elt Ideal) (arg9.view.writes (Elt Ideal) f9 ((trip_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 X k).1 f9 f10 f11 f12)) (ix4 j rp r l)
      = if j.val = k.val then V0 (arg1.view.read (Elt Ideal) X) (rowOf rp r l) (grpOf j l) else arg9.view.read (Elt Ideal) f9 (ix4 j rp r l) := by
  rw [trip1_v0]
  by_cases hj : j.val = k.val
  · rw [if_pos hj, read5_hit (k := k.val) (e4 := off15_eq k) (e3 := off12_eq k) (e2 := off9_eq k) (e1 := off6_eq k) (e0 := off3_eq k) (hj := hj)]
    have hjk : j = k := Fin.ext hj
    subst hjk
    refine pick5_apply rp _ _ _ _ _ _ (fun rp => V0 (arg1.view.read (Elt Ideal) X) (rowOf rp r l) (grpOf j l)) ?_ ?_ ?_ ?_ ?_
    · refine (lift4 _ r l).trans ?_
      exact sv0_ld arg1 X 0 j _ _ _ _ _ _ _ _ (off1_0 j) (off1_128 j) (off2_0 j) (off2_128 j) r l
    · refine (lift4 _ r l).trans ?_
      exact sv0_ld arg1 X 1 j _ _ _ _ _ _ _ _ (off4_0 j) (off4_128 j) (off5_0 j) (off5_128 j) r l
    · refine (lift4 _ r l).trans ?_
      exact sv0_ld arg1 X 2 j _ _ _ _ _ _ _ _ (off7_0 j) (off7_128 j) (off8_0 j) (off8_128 j) r l
    · refine (lift4 _ r l).trans ?_
      exact sv0_ld arg1 X 3 j _ _ _ _ _ _ _ _ (off10_0 j) (off10_128 j) (off11_0 j) (off11_128 j) r l
    · refine (lift4 _ r l).trans ?_
      exact sv0_ld arg1 X 4 j _ _ _ _ _ _ _ _ (off13_0 j) (off13_128 j) (off14_0 j) (off14_128 j) r l
  · rw [if_neg hj, read5_miss (k := k.val) (e4 := off15_eq k) (e3 := off12_eq k) (e2 := off9_eq k) (e1 := off6_eq k) (e0 := off3_eq k) (hj := hj)]

theorem step_v1 (j : Fin 35) (rp : Fin 5) (r : Fin 32) (l : Fin 128) :
    arg10.view.read (Elt Ideal) (arg10.view.writes (Elt Ideal) f10 ((trip_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 X k).2.1 f9 f10 f11 f12)) (ix4 j rp r l)
      = if j.val = k.val then V1 (arg1.view.read (Elt Ideal) X) (rowOf rp r l) (grpOf j l) else arg10.view.read (Elt Ideal) f10 (ix4 j rp r l) := by
  rw [trip1_v1]
  by_cases hj : j.val = k.val
  · rw [if_pos hj, read5_hit (k := k.val) (e4 := off15_eq k) (e3 := off12_eq k) (e2 := off9_eq k) (e1 := off6_eq k) (e0 := off3_eq k) (hj := hj)]
    have hjk : j = k := Fin.ext hj
    subst hjk
    refine pick5_apply rp _ _ _ _ _ _ (fun rp => V1 (arg1.view.read (Elt Ideal) X) (rowOf rp r l) (grpOf j l)) ?_ ?_ ?_ ?_ ?_
    · refine (lift4 _ r l).trans ?_
      exact sv1_ld arg1 X 0 j _ _ _ _ _ _ _ _ (off1_0 j) (off1_128 j) (off2_0 j) (off2_128 j) r l
    · refine (lift4 _ r l).trans ?_
      exact sv1_ld arg1 X 1 j _ _ _ _ _ _ _ _ (off4_0 j) (off4_128 j) (off5_0 j) (off5_128 j) r l
    · refine (lift4 _ r l).trans ?_
      exact sv1_ld arg1 X 2 j _ _ _ _ _ _ _ _ (off7_0 j) (off7_128 j) (off8_0 j) (off8_128 j) r l
    · refine (lift4 _ r l).trans ?_
      exact sv1_ld arg1 X 3 j _ _ _ _ _ _ _ _ (off10_0 j) (off10_128 j) (off11_0 j) (off11_128 j) r l
    · refine (lift4 _ r l).trans ?_
      exact sv1_ld arg1 X 4 j _ _ _ _ _ _ _ _ (off13_0 j) (off13_128 j) (off14_0 j) (off14_128 j) r l
  · rw [if_neg hj, read5_miss (k := k.val) (e4 := off15_eq k) (e3 := off12_eq k) (e2 := off9_eq k) (e1 := off6_eq k) (e0 := off3_eq k) (hj := hj)]

theorem step_pat (j : Fin 35) (rp : Fin 5) (r : Fin 32) (l : Fin 128) :
    arg11.view.read (Elt Ideal) (arg11.view.writes (Elt Ideal) f11 ((trip_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 X k).2.2.1 f9 f10 f11 f12)) (ix4 j rp r l)
      = if j.val = k.val then PT (arg1.view.read (Elt Ideal) X) (rowOf rp r l) (grpOf j l) else arg11.view.read (Elt Ideal) f11 (ix4 j rp r l) := by
  rw [trip1_pat]
  by_cases hj : j.val = k.val
  · rw [if_pos hj, read5_hit (k := k.val) (e4 := off15_eq k) (e3 := off12_eq k) (e2 := off9_eq k) (e1 := off6_eq k) (e0 := off3_eq k) (hj := hj)]
    have hjk : j = k := Fin.ext hj
    subst hjk
    refine pick5_apply rp _ _ _ _ _ _ (fun rp => PT (arg1.view.read (Elt Ideal) X) (rowOf rp r l) (grpOf j l)) ?_ ?_ ?_ ?_ ?_
    · refine (lift4 _ r l).trans ?_
      exact spat_ld arg1 X 0 j _ _ _ _ _ _ _ _ (off1_0 j) (off1_128 j) (off2_0 j) (off2_128 j) r l
    · refine (lift4 _ r l).trans ?_
      exact spat_ld arg1 X 1 j _ _ _ _ _ _ _ _ (off4_0 j) (off4_128 j) (off5_0 j) (off5_128 j) r l
    · refine (lift4 _ r l).trans ?_
      exact spat_ld arg1 X 2 j _ _ _ _ _ _ _ _ (off7_0 j) (off7_128 j) (off8_0 j) (off8_128 j) r l
    · refine (lift4 _ r l).trans ?_
      exact spat_ld arg1 X 3 j _ _ _ _ _ _ _ _ (off10_0 j) (off10_128 j) (off11_0 j) (off11_128 j) r l
    · refine (lift4 _ r l).trans ?_
      exact spat_ld arg1 X 4 j _ _ _ _ _ _ _ _ (off13_0 j) (off13_128 j) (off14_0 j) (off14_128 j) r l
  · rw [if_neg hj, read5_miss (k := k.val) (e4 := off15_eq k) (e3 := off12_eq k) (e2 := off9_eq k) (e1 := off6_eq k) (e0 := off3_eq k) (hj := hj)]

theorem step_max (rp : Fin 5) (r : Fin 32) (l : Fin 128) :
    arg12.view.read (Elt Ideal) (arg12.view.writes (Elt Ideal) f12 ((trip_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 X k).2.2.2.val f9 f10 f11 f12)) (ix3 rp r l)
      = max (arg12.view.read (Elt Ideal) f12 (ix3 rp r l)) (max (V0 (arg1.view.read (Elt Ideal) X) (rowOf rp r l) (grpOf k l)) (V1 (arg1.view.read (Elt Ideal) X) (rowOf rp r l) (grpOf k l))) := by
  rw [trip1_max, readM_hit]
  refine pick5_apply rp _ _ _ _ _ _ (fun rp => max (arg12.view.read (Elt Ideal) f12 (ix3 rp r l)) (max (V0 (arg1.view.read (Elt Ideal) X) (rowOf rp r l) (grpOf k l)) (V1 (arg1.view.read (Elt Ideal) X) (rowOf rp r l) (grpOf k l)))) ?_ ?_ ?_ ?_ ?_
  · rw [upMax_le, sv0_ld arg1 X 0 k _ _ _ _ _ _ _ _ (off1_0 k) (off1_128 k) (off2_0 k) (off2_128 k) r l,
      sv1_ld arg1 X 0 k _ _ _ _ _ _ _ _ (off1_0 k) (off1_128 k) (off2_0 k) (off2_128 k) r l]
    congr 1
    exact View.ld_unit_apply_of (arg12.view.read (Elt Ideal) f12) ![0, 0, 0] S1x32x128.size inb_S5x32x128_S1x32x128_0_0_0 (ix3 0 r l) (ix3 0 r l) (fun a => by
      match a with
      | ⟨0, _⟩ => rfl
      | ⟨1, _⟩ => exact (Nat.zero_add _).symm
      | ⟨2, _⟩ => exact (Nat.zero_add _).symm)
  · rw [upMax_le, sv0_ld arg1 X 1 k _ _ _ _ _ _ _ _ (off4_0 k) (off4_128 k) (off5_0 k) (off5_128 k) r l,
      sv1_ld arg1 X 1 k _ _ _ _ _ _ _ _ (off4_0 k) (off4_128 k) (off5_0 k) (off5_128 k) r l]
    congr 1
    exact View.ld_unit_apply_of (arg12.view.read (Elt Ideal) f12) ![1, 0, 0] S1x32x128.size inb_S5x32x128_S1x32x128_1_0_0 (ix3 0 r l) (ix3 1 r l) (fun a => by
      match a with
      | ⟨0, _⟩ => rfl
      | ⟨1, _⟩ => exact (Nat.zero_add _).symm
      | ⟨2, _⟩ => exact (Nat.zero_add _).symm)
  · rw [upMax_le, sv0_ld arg1 X 2 k _ _ _ _ _ _ _ _ (off7_0 k) (off7_128 k) (off8_0 k) (off8_128 k) r l,
      sv1_ld arg1 X 2 k _ _ _ _ _ _ _ _ (off7_0 k) (off7_128 k) (off8_0 k) (off8_128 k) r l]
    congr 1
    exact View.ld_unit_apply_of (arg12.view.read (Elt Ideal) f12) ![2, 0, 0] S1x32x128.size inb_S5x32x128_S1x32x128_2_0_0 (ix3 0 r l) (ix3 2 r l) (fun a => by
      match a with
      | ⟨0, _⟩ => rfl
      | ⟨1, _⟩ => exact (Nat.zero_add _).symm
      | ⟨2, _⟩ => exact (Nat.zero_add _).symm)
  · rw [upMax_le, sv0_ld arg1 X 3 k _ _ _ _ _ _ _ _ (off10_0 k) (off10_128 k) (off11_0 k) (off11_128 k) r l,
      sv1_ld arg1 X 3 k _ _ _ _ _ _ _ _ (off10_0 k) (off10_128 k) (off11_0 k) (off11_128 k) r l]
    congr 1
    exact View.ld_unit_apply_of (arg12.view.read (Elt Ideal) f12) ![3, 0, 0] S1x32x128.size inb_S5x32x128_S1x32x128_3_0_0 (ix3 0 r l) (ix3 3 r l) (fun a => by
      match a with
      | ⟨0, _⟩ => rfl
      | ⟨1, _⟩ => exact (Nat.zero_add _).symm
      | ⟨2, _⟩ => exact (Nat.zero_add _).symm)
  · rw [upMax_le, sv0_ld arg1 X 4 k _ _ _ _ _ _ _ _ (off13_0 k) (off13_128 k) (off14_0 k) (off14_128 k) r l,
      sv1_ld arg1 X 4 k _ _ _ _ _ _ _ _ (off13_0 k) (off13_128 k) (off14_0 k) (off14_128 k) r l]
    congr 1
    exact View.ld_unit_apply_of (arg12.view.read (Elt Ideal) f12) ![4, 0, 0] S1x32x128.size inb_S5x32x128_S1x32x128_4_0_0 (ix3 0 r l) (ix3 4 r l) (fun a => by
      match a with
      | ⟨0, _⟩ => rfl
      | ⟨1, _⟩ => exact (Nat.zero_add _).symm
      | ⟨2, _⟩ => exact (Nat.zero_add _).symm)

/-- What the scratch buffers hold after `n` trips. -/
theorem loop1 (n : ℕ) (hn : n ≤ 35) :
    (∀ (j : Fin 35) (rp : Fin 5) (r : Fin 32) (l : Fin 128), j.val < n →
      arg9.view.read (Elt Ideal) (arg9.view.writes (Elt Ideal) f9 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 X f9 f10 f11 f12 n).1) (ix4 j rp r l)
        = V0 (arg1.view.read (Elt Ideal) X) (rowOf rp r l) (grpOf j l)) ∧
    (∀ (j : Fin 35) (rp : Fin 5) (r : Fin 32) (l : Fin 128), j.val < n →
      arg10.view.read (Elt Ideal) (arg10.view.writes (Elt Ideal) f10 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 X f9 f10 f11 f12 n).2.1) (ix4 j rp r l)
        = V1 (arg1.view.read (Elt Ideal) X) (rowOf rp r l) (grpOf j l)) ∧
    (∀ (j : Fin 35) (rp : Fin 5) (r : Fin 32) (l : Fin 128), j.val < n →
      arg11.view.read (Elt Ideal) (arg11.view.writes (Elt Ideal) f11 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 X f9 f10 f11 f12 n).2.2.1) (ix4 j rp r l)
        = PT (arg1.view.read (Elt Ideal) X) (rowOf rp r l) (grpOf j l)) ∧
    (∀ (rp : Fin 5) (r : Fin 32) (l : Fin 128) (z : EReal),
      arg12.view.read (Elt Ideal) (arg12.view.writes (Elt Ideal) f12 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 X f9 f10 f11 f12 n).2.2.2) (ix3 rp r l) ≤ z
        ↔ arg12.view.read (Elt Ideal) f12 (ix3 rp r l) ≤ z ∧ ∀ j : Fin 35, j.val < n →
          V0 (arg1.view.read (Elt Ideal) X) (rowOf rp r l) (grpOf j l) ≤ z ∧ V1 (arg1.view.read (Elt Ideal) X) (rowOf rp r l) (grpOf j l) ≤ z) := by
  induction n with
  | zero =>
    refine ⟨fun j _ _ _ h => absurd h (Nat.not_lt_zero _), fun j _ _ _ h => absurd h (Nat.not_lt_zero _), fun j _ _ _ h => absurd h (Nat.not_lt_zero _), fun rp r l z => ?_⟩
    refine ⟨fun h => ⟨h, fun j h' => absurd h' (Nat.not_lt_zero _)⟩, fun h => h.1⟩
  | succ n ih =>
    obtain ⟨i0, i1, i2, i3⟩ := ih (by omega)
    have hk : n < k0_t1_loop.trips := hn
    have hs := pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 X f9 f10 f11 f12 ⟨n, hk⟩
    rw [hs]
    dsimp only
    rw [View.writes_append, View.writes_append, View.writes_append, View.writes_append]
    have i0' := step_v0 𝒱 c bd i arg1 harg1 arg2 harg2 arg3 harg3 arg4 harg4 arg5 harg5 arg6 harg6 arg7 harg7 arg8 harg8 arg9 harg9 arg10 harg10 arg11 harg11 arg12 harg12 arg13 harg13 arg14 harg14 X ⟨n, hk⟩
    have i1' := step_v1 𝒱 c bd i arg1 harg1 arg2 harg2 arg3 harg3 arg4 harg4 arg5 harg5 arg6 harg6 arg7 harg7 arg8 harg8 arg9 harg9 arg10 harg10 arg11 harg11 arg12 harg12 arg13 harg13 arg14 harg14 X ⟨n, hk⟩
    have i2' := step_pat 𝒱 c bd i arg1 harg1 arg2 harg2 arg3 harg3 arg4 harg4 arg5 harg5 arg6 harg6 arg7 harg7 arg8 harg8 arg9 harg9 arg10 harg10 arg11 harg11 arg12 harg12 arg13 harg13 arg14 harg14 X ⟨n, hk⟩
    have i3' := step_max 𝒱 c bd i arg1 harg1 arg2 harg2 arg3 harg3 arg4 harg4 arg5 harg5 arg6 harg6 arg7 harg7 arg8 harg8 arg9 harg9 arg10 harg10 arg11 harg11 arg12 harg12 arg13 harg13 arg14 harg14 X ⟨n, hk⟩
    refine ⟨fun j rp r l hj => ?_, fun j rp r l hj => ?_, fun j rp r l hj => ?_, fun rp r l z => ?_⟩
    · refine (i0' _ _ _ _ j rp r l).trans ?_
      split
      · rfl
      · next h => exact i0 j rp r l (by simp only at h; omega)
    · refine (i1' _ _ _ _ j rp r l).trans ?_
      split
      · rfl
      · next h => exact i1 j rp r l (by simp only at h; omega)
    · refine (i2' _ _ _ _ j rp r l).trans ?_
      split
      · rfl
      · next h => exact i2 j rp r l (by simp only at h; omega)
    · refine (iff_of_eq (congrArg (· ≤ z) (i3' _ _ _ _ rp r l))).trans ?_
      rw [max_le_iff, max_le_iff, i3]
      constructor
      · rintro ⟨⟨h0, h1⟩, h2, h3⟩
        refine ⟨h0, fun j hj => ?_⟩
        by_cases hjn : j.val = n
        · have : j = ⟨n, hk⟩ := Fin.ext hjn
          subst this
          exact ⟨h2, h3⟩
        · exact h1 j (by omega)
      · rintro ⟨h0, h1⟩
        exact ⟨⟨h0, fun j hj => h1 j (by omega)⟩, h1 ⟨n, hk⟩ (Nat.lt_succ_self n)⟩

end Trip

end Cert.KernelIdeal.Hand
-- ==== Proof.Spec.lean ====
/- What is stored of a block, entry by entry: the quantised codes, the kept values, the positions. -/
module

public import proofs.«01_k».proof.Proof.Pack
public import proofs.«01_k».proof.Proof.Loop1

@[expose] public section

set_option maxRecDepth 8192

noncomputable section

namespace Cert.KernelIdeal.Hand

open Idealize.ShloMosaic Cert.KernelIdeal Cert.KernelIdeal.Gen

/-- The number that a pattern of 32 bits stands for. -/
abbrev cF (b : BitVec 32) : EReal := Ideal.ofBits .f32 b

/-- The square, a subnormal one as zero. -/
def sq (v : EReal) : EReal := if v * v < cF 0x00800000#32 then 0 else v * v
/-- A value quantised by the reciprocal of its scale. -/
def Q (iv v : EReal) : EReal := min (cF 0x43E00000#32) (max (cF 0xC3E00000#32) (sq v * iv))

/-- The first value kept is member 1. -/
def P01 (p : EReal) : Prop := p = cF 0x3D900000#32 ∨ p = cF 0x3CD00000#32
/-- The first value kept is member 2. -/
def P02 (p : EReal) : Prop := p = cF 0x3CE00000#32
/-- The second value kept is member 1. -/
def P11 (p : EReal) : Prop := p = cF 0xBC000000#32
/-- The second value kept is member 2. -/
def P12 (p : EReal) : Prop := p = cF 0x3D800000#32 ∨ p = cF 0x3D900000#32

instance (p : EReal) : Decidable (P01 p) := inferInstanceAs (Decidable (_ ∨ _))
instance (p : EReal) : Decidable (P02 p) := inferInstanceAs (Decidable (_ = _))
instance (p : EReal) : Decidable (P11 p) := inferInstanceAs (Decidable (_ = _))
instance (p : EReal) : Decidable (P12 p) := inferInstanceAs (Decidable (_ ∨ _))

/-- The codes of a group of four. -/
def codeOf (k : Fin 4) (c0 c1 p : EReal) : EReal :=
  pick k (if P01 p ∨ P02 p then 0 else c0)
    (if P01 p then c0 else if P11 p then c1 else 0)
    (if P02 p then c0 else if P12 p then c1 else 0)
    (if P11 p ∨ P12 p then 0 else c1)

/-- The positions of a group, two bits each. -/
def posOf (p : EReal) : BitVec 32 :=
  IntOp.ori (if P02 p then 2#32 else if P01 p then 1#32 else 0#32)
    (IntOp.shli ArithUnit.vector (if P11 p then 1#32 else if P12 p then 2#32 else 3#32) 2#32)

section Tiles

variable (v0 v1 v : FVec Ideal S1x1x32x128 .bf16) (p p' : FVec Ideal S1x1x32x128 .fp8e4m3) (w : FVec Ideal S1x32x128 .f32) (r : Fin 32) (l : Fin 128)

theorem quantT_apply : quantT v w (ix2 r l) = Q (w (ix3 0 r l)) (v (ix4 0 0 r l)) := by
  pointwise [quantT, squareT]
  rfl

theorem isB_iff (b : BitVec 32) : isB p b (ix2 r l) = 1#1 ↔ p (ix4 0 0 r l) = cF b := by
  have h : isB p b (ix2 r l) = BitVec.ofBool (decide (p (ix4 0 0 r l) = cF b)) := by pointwise [isB, patF]
  rw [h]
  by_cases e : p (ix4 0 0 r l) = cF b <;> simp [e]

theorem or_iff (a b : IVec S32x128 1) (i : S32x128.Idx) : ori a b i = 1#1 ↔ a i = 1#1 ∨ b i = 1#1 := by
  show a i ||| b i = 1#1 ↔ _
  generalize a i = x
  generalize b i = y
  revert x y
  decide

theorem m01_iff : m01 p (ix2 r l) = 1#1 ↔ P01 (p (ix4 0 0 r l)) := by rw [m01, or_iff, isB_iff, isB_iff]; rfl
theorem m02_iff : m02 p (ix2 r l) = 1#1 ↔ P02 (p (ix4 0 0 r l)) := by rw [m02, isB_iff]; rfl
theorem m11_iff : m11 p (ix2 r l) = 1#1 ↔ P11 (p (ix4 0 0 r l)) := by rw [m11, isB_iff]; rfl
theorem m12_iff : m12 p (ix2 r l) = 1#1 ↔ P12 (p (ix4 0 0 r l)) := by rw [m12, or_iff, isB_iff, isB_iff]; rfl

theorem zero_apply : cf (F := Ideal) 0#32 (ix2 r l) = 0 := by pointwise []

theorem cps_apply (k : Fin 4) (c0 c1 : FVec Ideal S32x128 .f32) :
    pick k (cp0 c0 p) (cp1 c0 c1 p) (cp2 c0 c1 p) (cp3 c1 p) (ix2 r l) = codeOf k (c0 (ix2 r l)) (c1 (ix2 r l)) (p (ix4 0 0 r l)) := by
  have h0 : cp0 c0 p (ix2 r l) = if P01 (p (ix4 0 0 r l)) ∨ P02 (p (ix4 0 0 r l)) then 0 else c0 (ix2 r l) := by
    simp only [cp0, select_apply, or_iff, m01_iff, m02_iff, zero_apply]
  have h1 : cp1 c0 c1 p (ix2 r l) = if P01 (p (ix4 0 0 r l)) then c0 (ix2 r l) else if P11 (p (ix4 0 0 r l)) then c1 (ix2 r l) else 0 := by
    simp only [cp1, select_apply, m01_iff, m11_iff, zero_apply]
  have h2 : cp2 c0 c1 p (ix2 r l) = if P02 (p (ix4 0 0 r l)) then c0 (ix2 r l) else if P12 (p (ix4 0 0 r l)) then c1 (ix2 r l) else 0 := by
    simp only [cp2, select_apply, m02_iff, m12_iff, zero_apply]
  have h3 : cp3 c1 p (ix2 r l) = if P11 (p (ix4 0 0 r l)) ∨ P12 (p (ix4 0 0 r l)) then 0 else c1 (ix2 r l) := by
    simp only [cp3, select_apply, or_iff, m11_iff, m12_iff, zero_apply]
  match k with
  | 0 => exact h0
  | 1 => exact h1
  | 2 => exact h2
  | 3 => exact h3

theorem code0_apply : code0 v0 v1 p w (ix2 r l) = codeOf (slot l) (Q (w (ix3 0 r (quad 0 l))) (v0 (ix4 0 0 r (quad 0 l)))) (Q (w (ix3 0 r (quad 0 l))) (v1 (ix4 0 0 r (quad 0 l)))) (p (ix4 0 0 r (quad 0 l))) := by
  pointwise [code0]
  rw [tr0_apply, cps_apply, quantT_apply, quantT_apply]
theorem code1_apply : code1 v0 v1 p w (ix2 r l) = codeOf (slot l) (Q (w (ix3 0 r (quad 1 l))) (v0 (ix4 0 0 r (quad 1 l)))) (Q (w (ix3 0 r (quad 1 l))) (v1 (ix4 0 0 r (quad 1 l)))) (p (ix4 0 0 r (quad 1 l))) := by
  pointwise [code1]
  rw [tr1_apply, cps_apply, quantT_apply, quantT_apply]
theorem code2_apply : code2 v0 v1 p w (ix2 r l) = codeOf (slot l) (Q (w (ix3 0 r (quad 2 l))) (v0 (ix4 0 0 r (quad 2 l)))) (Q (w (ix3 0 r (quad 2 l))) (v1 (ix4 0 0 r (quad 2 l)))) (p (ix4 0 0 r (quad 2 l))) := by
  pointwise [code2]
  rw [tr2_apply, cps_apply, quantT_apply, quantT_apply]
theorem code3_apply : code3 v0 v1 p w (ix2 r l) = codeOf (slot l) (Q (w (ix3 0 r (quad 3 l))) (v0 (ix4 0 0 r (quad 3 l)))) (Q (w (ix3 0 r (quad 3 l))) (v1 (ix4 0 0 r (quad 3 l)))) (p (ix4 0 0 r (quad 3 l))) := by
  pointwise [code3]
  rw [tr3_apply, cps_apply, quantT_apply, quantT_apply]

/-- Where the kept value of lane `l` comes from. -/
def laneV (l : Fin 128) : Fin 128 := ⟨4 * (l.val / 2 % 32) + 2 * (l.val % 2) + l.val / 64, by omega⟩
/-- Where the positions of lane `l` come from. -/
def laneM (l : Fin 128) : Fin 128 := ⟨4 * (l.val % 32) + l.val / 32, by omega⟩

theorem laneM_facts : (laneM l).val / 2 % 2 = l.val / 64 ∧ (laneM l).val % 2 = l.val / 32 % 2 ∧ (laneM l).val / 4 = l.val % 32 := by
  revert l; decide +kernel

theorem halves : (l.val + 64) % 128 / 64 = 1 - l.val / 64 ∧ (l.val + 64) % 128 / 32 % 2 = l.val / 32 % 2 ∧ (l.val + 64) % 128 % 32 = l.val % 32 := by
  revert l; decide +kernel

theorem ordV_apply : ordV (ix2 r l) = BitVec.ofNat 32 (laneV l).val := by
  pointwise [ordV]
  rw [lanes_apply]
  revert l
  decide +kernel
theorem ordM_apply : ordM (ix2 r l) = BitVec.ofNat 32 (laneM l).val := by
  pointwise [ordM, lanes]
  revert l
  decide +kernel

theorem laneV_bit : ((laneV l).val / 2 % 2 = 1) = (l.val % 2 = 1) := by
  have h : ∀ n : Fin 128, (laneV n).val / 2 % 2 = n.val % 2 := by decide +kernel
  rw [h]

theorem laneV_facts : (laneV l).val / 2 % 2 = l.val % 2 ∧ (laneV l).val % 2 = l.val / 64 ∧ (laneV l).val / 4 = l.val / 2 % 32
    ∧ (l.val % 2 = 1 → (flip2 (laneV l)).val / 2 % 2 = 0) ∧ (l.val % 2 = 0 → (flip2 (laneV l)).val / 2 % 2 = 1)
    ∧ (flip2 (laneV l)).val % 2 = l.val / 64 ∧ (flip2 (laneV l)).val / 4 = l.val / 2 % 32 := by
  revert l; decide +kernel

theorem vals0_apply : vals0 v0 v1 p w (ix2 r l) = if l.val % 2 = 1
    then Q (w (ix3 0 r (flip2 (laneV l)))) (v1 (ix4 0 0 r (flip2 (laneV l)))) else Q (w (ix3 0 r (laneV l))) (v0 (ix4 0 0 r (laneV l))) := by
  have h : vals0 v0 v1 p w (ix2 r l) = dynamicGather 1 (swL 2#32 (quantT v0 w) (quantT v1 w)) (wrapIdx ordV) (ix2 r l) := rfl
  rw [h, gatherW_apply _ _ laneV r l (ordV_apply r l), swL2, quantT_apply, quantT_apply]
  have e := laneV_bit l
  simp only [e]
theorem vals1_apply : vals1 v0 v1 p w (ix2 r l) = if l.val % 2 = 1
    then Q (w (ix3 0 r (laneV l))) (v1 (ix4 0 0 r (laneV l))) else Q (w (ix3 0 r (flip2 (laneV l)))) (v0 (ix4 0 0 r (flip2 (laneV l)))) := by
  have h : vals1 v0 v1 p w (ix2 r l) = dynamicGather 1 (swR 2#32 (quantT v0 w) (quantT v1 w)) (wrapIdx ordV) (ix2 r l) := rfl
  rw [h, gatherW_apply _ _ laneV r l (ordV_apply r l), swR2, quantT_apply, quantT_apply]
  have e := laneV_bit l
  simp only [e]

theorem posT_apply : posT p (ix2 r l) = posOf (p (ix4 0 0 r l)) := by
  show IntOp.ori (select _ _ _ _) (IntOp.shli _ (select _ _ _ _) _) = _
  simp only [select_apply, m01_iff, m02_iff, m11_iff, m12_iff]
  rfl

theorem metaT_apply : metaT p (ix2 r l) = posOf (p (ix4 0 0 r (laneM l))) := by
  rw [metaT, gatherW_apply _ _ laneM r l (ordM_apply r l), posT_apply]

theorem low_iff : lowM (ix2 r l) = 1#1 ↔ l.val < 64 := by
  have h : lowM (ix2 r l) = IntOp.cmpi CmpIPredicate.slt (BitVec.ofNat 32 l.val) 64#32 := by pointwise [lowM, lanes]
  rw [h]
  clear h
  revert l
  decide +kernel

theorem rotM_apply (x : IVec S32x128 32) : rotM x (ix2 r l) = x (ix2 r ⟨(l.val + 64) % 128, Nat.mod_lt _ (by decide)⟩) := by
  have h : rotM x (ix2 r l) = x (ix2 r ⟨(l.val + 128 - 64) % 128, Nat.mod_lt _ (by decide)⟩) := by pointwise [rotM]
  rw [h]
  rfl

theorem meta0_apply : meta0 p p' (ix2 r l) = BitVec.setWidth 8 (if l.val < 64 then posOf (p (ix4 0 0 r (laneM l)))
    else posOf (p' (ix4 0 0 r (laneM ⟨(l.val + 64) % 128, Nat.mod_lt _ (by decide)⟩)))) := by
  pointwise [meta0]
  show BitVec.setWidth 8 (select lowM (metaT p) (rotM (metaT p')) (ix2 r l)) = _
  rw [select_apply, metaT_apply, rotM_apply, metaT_apply]
  simp only [low_iff]
theorem meta1_apply : meta1 p p' (ix2 r l) = BitVec.setWidth 8 (if l.val < 64 then posOf (p (ix4 0 0 r (laneM ⟨(l.val + 64) % 128, Nat.mod_lt _ (by decide)⟩)))
    else posOf (p' (ix4 0 0 r (laneM l)))) := by
  pointwise [meta1]
  show BitVec.setWidth 8 (select lowM (rotM (metaT p)) (metaT p') (ix2 r l)) = _
  rw [select_apply, metaT_apply, rotM_apply, metaT_apply]
  simp only [low_iff]

end Tiles

end Cert.KernelIdeal.Hand
-- ==== Proof.Scale.lean ====
/- The row's greatest kept value, and the scale and its reciprocal made of it. -/
module

public import proofs.«01_k».proof.Proof.Loop1

@[expose] public section

set_option maxRecDepth 8192

noncomputable section

namespace Cert.KernelIdeal.Hand

open Idealize.ShloMosaic Cert.KernelIdeal Cert.KernelIdeal.Gen

/-- The number a binary32 pattern denotes. -/
abbrev fE (b : BitVec 32) : EReal := Ideal.ofBits .f32 b

/-- One step of the search for the exponent field. -/
def stepS (b : BitVec 32) (t : EReal) (e : BitVec 32) : BitVec 32 := if fE (IntOp.shli .vector (IntOp.addi e b) 23#32) ≤ t then IntOp.addi e b else e
/-- The exponent field of a number. -/
def expS (t : EReal) : BitVec 32 := stepS 1#32 t (stepS 2#32 t (stepS 4#32 t (stepS 8#32 t (stepS 16#32 t (stepS 32#32 t (stepS 64#32 t (stepS 128#32 t 0#32)))))))
/-- The exponent field, a zero or a full one replaced. -/
def fixS (e : BitVec 32) : BitVec 32 := if e = 0#32 ∨ e = 255#32 then 126#32 else e
/-- The scale of a row, -/
def scS (t : EReal) : EReal := fE (IntOp.shli .vector (IntOp.addi (fixS (expS t)) 1#32) 23#32)
/-- its reciprocal. -/
def ivS (t : EReal) : EReal := fE (IntOp.shli .vector (IntOp.subi 253#32 (fixS (expS t))) 23#32)
/-- What the scale is made of: a 448th of a squared maximum. -/
def tS (m : EReal) : EReal := m * m * fE 0x3B124925#32

section Tiles

abbrev bI (b : BitVec 32) : IVec S32x128 32 := broadcast S32x128 b
/-- One step of the search, on a tile; -/
def stepT (b : BitVec 32) (t : FVec Ideal S32x128 .f32) (e : IVec S32x128 32) : IVec S32x128 32 :=
  select (cmpf .oge t (bitcastToFloat .f32 (shli (addi e (bI b)) (bI 23#32)))) (addi e (bI b)) e
/-- the field, -/
def expT (t : FVec Ideal S32x128 .f32) : IVec S32x128 32 :=
  stepT 1#32 t (stepT 2#32 t (stepT 4#32 t (stepT 8#32 t (stepT 16#32 t (stepT 32#32 t (stepT 64#32 t (stepT 128#32 t (bI 0#32))))))))
/-- replaced where it must be, -/
def fixT (e : IVec S32x128 32) : IVec S32x128 32 := select (ori (cmpi .eq e (bI 0#32)) (cmpi .eq e (bI 255#32))) (bI 126#32) e
/-- the scale, -/
def scT (t : FVec Ideal S32x128 .f32) : FVec Ideal S32x128 .f32 := bitcastToFloat .f32 (shli (addi (fixT (expT t)) (bI 1#32)) (bI 23#32))
/-- the reciprocal. -/
def ivT (t : FVec Ideal S32x128 .f32) : FVec Ideal S32x128 .f32 := bitcastToFloat .f32 (shli (subi (bI 253#32) (fixT (expT t))) (bI 23#32))

variable (t : FVec Ideal S32x128 .f32) (e : IVec S32x128 32) (r : Fin 32) (l : Fin 128)

theorem oge32_iff (x y : FVec Ideal S32x128 .f32) (i) : cmpf .oge x y i = 1#1 ↔ y i ≤ x i := by
  show BitVec.ofBool (decide _) = 1#1 ↔ _
  by_cases h : y i ≤ x i
  · simp [h]
  · simp [h]

theorem stepT_apply (b : BitVec 32) : stepT b t e (ix2 r l) = stepS b (t (ix2 r l)) (e (ix2 r l)) := by
  rw [stepT, select_apply]
  simp only [oge32_iff]
  rfl
theorem expT_apply : expT t (ix2 r l) = expS (t (ix2 r l)) := by
  simp only [expT, stepT_apply]
  rfl
theorem eqI_iff (x y : IVec S32x128 32) (i) : cmpi .eq x y i = 1#1 ↔ x i = y i := by
  show BitVec.ofBool (x i == y i) = 1#1 ↔ _
  by_cases h : x i = y i
  · simp [h]
  · have h' : (x i == y i) = false := beq_eq_false_iff_ne.2 h
    simp [h, h']
theorem orI_iff (x y : IVec S32x128 1) (i) : ori x y i = 1#1 ↔ x i = 1#1 ∨ y i = 1#1 := by
  show x i ||| y i = 1#1 ↔ _
  generalize x i = a
  generalize y i = b
  revert a b
  decide
theorem fixT_apply : fixT e (ix2 r l) = fixS (e (ix2 r l)) := by
  rw [fixT, select_apply]
  simp only [orI_iff, eqI_iff]
  rfl
theorem scT_apply : scT t (ix2 r l) = scS (t (ix2 r l)) := by
  show fE (IntOp.shli .vector (IntOp.addi (fixT (expT t) (ix2 r l)) 1#32) 23#32) = _
  rw [fixT_apply, expT_apply]
  rfl
theorem ivT_apply : ivT t (ix2 r l) = ivS (t (ix2 r l)) := by
  show fE (IntOp.shli .vector (IntOp.subi 253#32 (fixT (expT t) (ix2 r l))) 23#32) = _
  rw [fixT_apply, expT_apply]
  rfl

/-- The lanes that belong to the second 32 rows of a pair. -/
def tileM : IVec S32x128 1 := cmpi .ne (andi (iota .tc S32x128 32 [1] iota_S32x128_d1_w32) (bI 2#32)) (bI 0#32)
/-- The lanes of one of the two. -/
def halfM (b : BitVec 1) : IVec S32x128 1 :=
  xori (xori tileM (broadcastTo S32x128 (broadcast S32x128 b) broadcasts_S32x128_S32x128)) (constantI S32x128 1 1#1)
/-- The greatest of a row's numbers in those lanes, in every lane; -/
def mxT (b : BitVec 1) (m : FVec Ideal S1x32x128 .bf16) : FVec Ideal S32x128 .f32 :=
  broadcastTo S32x128 (shapeCast S32x1 (shapeCast S32x1 (multiReduction .maximumf [1] S32
    (select (halfM b) (extf .f32 (shapeCast S32x128 m shapeCasts_S1x32x128_S32x128) bitsLt_bf16_f32) (broadcast S32x128 (Scalar.ofBits .f32 0x00000000#32)))
    0xFF800000#32 reduces_S32x128_S32 (.inl rfl) rfl) shapeCasts_S32_S32x1) shapeCasts_S32x1_S32x1) broadcasts_S32x1_S32x128
/-- a 448th of its square. -/
def tT (b : BitVec 1) (m : FVec Ideal S1x32x128 .bf16) : FVec Ideal S32x128 .f32 :=
  mulf (mulf (mxT b m) (mxT b m)) (broadcast S32x128 (Scalar.ofBits .f32 0x3B124925#32))
/-- What is stored as the scale of 32 rows, -/
def scP (b : BitVec 1) (m : FVec Ideal S1x32x128 .bf16) : FVec Ideal S32x128 .f32 := shapeCast S32x128 (scT (tT b m)) shapeCasts_S32x128_S32x128
/-- and as the reciprocals of 64. -/
def ivP (m : FVec Ideal S1x32x128 .bf16) : FVec Ideal S1x32x128 .f32 :=
  shapeCast S1x32x128 (select tileM (ivT (tT 1#1 m)) (ivT (tT 0#1 m))) shapeCasts_S32x128_S1x32x128

theorem tileM_iff : tileM (ix2 r l) = 1#1 ↔ l.val / 2 % 2 = 1 := by
  have h : tileM (ix2 r l) = IntOp.cmpi .ne (IntOp.andi (BitVec.ofNat 32 l.val) 2#32) 0#32 := by pointwise [tileM]
  rw [h]
  clear h
  revert l
  decide +kernel
theorem halfM_iff (b : BitVec 1) : halfM b (ix2 r l) = 1#1 ↔ (l.val / 2 % 2 = 1 ↔ b = 1#1) := by
  have h : halfM b (ix2 r l) = (tileM (ix2 r l) ^^^ b) ^^^ 1#1 := by rfl
  rw [h, ← tileM_iff r l]
  generalize tileM (ix2 r l) = a
  clear h
  revert a b
  decide

theorem selM_apply (b : BitVec 1) (m : FVec Ideal S1x32x128 .bf16) :
    select (halfM b) (extf .f32 (shapeCast S32x128 m shapeCasts_S1x32x128_S32x128) bitsLt_bf16_f32) (broadcast S32x128 (Scalar.ofBits .f32 0x00000000#32)) (ix2 r l)
    = if (l.val / 2 % 2 = 1 ↔ b = 1#1) then m (ix3 0 r l) else fE 0x00000000#32 := by
  rw [select_apply]
  simp only [halfM_iff]
  refine if_congr Iff.rfl ?_ rfl
  pointwise []

theorem mxT_apply (b : BitVec 1) (m : FVec Ideal S1x32x128 .bf16) : mxT b m (ix2 r l)
    = (Finset.univ : Finset (Fin 128)).fold max (fE 0xFF800000#32) (fun k => if (k.val / 2 % 2 = 1 ↔ b = 1#1) then m (ix3 0 r k) else fE 0x00000000#32) := by
  have h : mxT b m (ix2 r l) = multiReduction .maximumf [1] S32
    (select (halfM b) (extf .f32 (shapeCast S32x128 m shapeCasts_S1x32x128_S32x128) bitsLt_bf16_f32) (broadcast S32x128 (Scalar.ofBits .f32 0x00000000#32)))
    0xFF800000#32 reduces_S32x128_S32 (.inl rfl) rfl (ix1 r) := by pointwise [mxT]
  rw [h]
  refine (Ideal.multiReduction_maximumf_single _ _ _ _ _ _).trans ?_
  refine congrArg (Finset.fold max _ · _) (funext fun k => ?_)
  have e : reduces_S32x128_S32.lift (ix1 r) k = (ix2 (n0 := 32) (n1 := 128) r k : S32x128.Idx) := by
    funext a
    match a with
    | ⟨0, _⟩ => rfl
    | ⟨1, _⟩ => rfl
  exact (congrArg (select (halfM b) (extf .f32 (shapeCast S32x128 m shapeCasts_S1x32x128_S32x128) bitsLt_bf16_f32) (broadcast S32x128 (Scalar.ofBits .f32 0x00000000#32))) e).trans (selM_apply r k b m)

theorem mxT_le (b : BitVec 1) (m : FVec Ideal S1x32x128 .bf16) (z : EReal) : mxT b m (ix2 r l) ≤ z
    ↔ 0 ≤ z ∧ ∀ k : Fin 128, (k.val / 2 % 2 = 1 ↔ b = 1#1) → m (ix3 0 r k) ≤ z := by
  have h0 : fE 0x00000000#32 = 0 := by simp [fE]
  have hb : fE 0xFF800000#32 = ⊥ := by
    unfold fE; simp [Ideal.ofBits, Ideal.ieee]
  rw [mxT_apply, Finset.fold_max_le, h0, hb]
  constructor
  · rintro ⟨-, h⟩
    refine ⟨?_, fun k hk => ?_⟩
    · by_cases hb' : b = 1#1
      · have := h 0 (Finset.mem_univ _)
        rwa [if_neg (by simp [hb'])] at this
      · have := h 2 (Finset.mem_univ _)
        rwa [if_neg (by simp [hb'])] at this
    · have := h k (Finset.mem_univ _)
      rwa [if_pos hk] at this
  · rintro ⟨h0, h⟩
    refine ⟨bot_le, fun k _ => ?_⟩
    split
    · exact h k ‹_›
    · exact h0

theorem tT_apply (b : BitVec 1) (m : FVec Ideal S1x32x128 .bf16) : tT b m (ix2 r l) = tS (mxT b m (ix2 r l)) := rfl

theorem scP_apply (b : BitVec 1) (m : FVec Ideal S1x32x128 .bf16) : scP b m (ix2 r l) = scS (tS (mxT b m (ix2 r l))) := by
  have h : scP b m (ix2 r l) = scT (tT b m) (ix2 r l) := by pointwise [scP]
  rw [h, scT_apply, tT_apply]
theorem ivP_apply (m : FVec Ideal S1x32x128 .bf16) : ivP m (ix3 0 r l) = ivS (tS (mxT (if l.val / 2 % 2 = 1 then 1#1 else 0#1) m (ix2 r l))) := by
  have h : ivP m (ix3 0 r l) = select tileM (ivT (tT 1#1 m)) (ivT (tT 0#1 m)) (ix2 r l) := by pointwise [ivP]
  rw [h, select_apply]
  simp only [tileM_iff]
  split
  · rw [ivT_apply, tT_apply]
  · rw [ivT_apply, tT_apply]

end Tiles

/-- The greatest value kept in a row of the block. -/
def MX (x : S320x8960.Idx → EReal) (R : Fin 320) : EReal := max 0 (⨆ g : Fin 2240, max (V0 x R g) (V1 x R g))

theorem MX_le (x : S320x8960.Idx → EReal) (R : Fin 320) (z : EReal) : MX x R ≤ z ↔ 0 ≤ z ∧ ∀ g, V0 x R g ≤ z ∧ V1 x R g ≤ z := by
  simp only [MX, max_le_iff, iSup_le_iff]

/-- The scales of the block's rows, -/
def SC (x : S320x8960.Idx → EReal) (R : Fin 320) : EReal := scS (tS (MX x R))
/-- their reciprocals. -/
def IV (x : S320x8960.Idx → EReal) (R : Fin 320) : EReal := ivS (tS (MX x R))

section Rows

theorem lane_split (q s b : ℕ) (hs : s < 2) (hb : b < 2) :
    (4 * q + 2 * b + s) / 2 % 2 = b ∧ (4 * q + 2 * b + s) % 2 = s ∧ (4 * q + 2 * b + s) / 4 = q := by
  have h : (4 * q + 2 * b + s) / 2 = 2 * q + b := by omega
  refine ⟨?_, by omega, by omega⟩
  rw [h]
  omega

theorem bit_cases (b : BitVec 1) : b = 1#1 ∨ b = 0#1 := by revert b; decide

/-- What the loop's running maximum says. -/
def IsMax (x : S320x8960.Idx → EReal) (m : S5x32x128.Idx → EReal) : Prop :=
  ∀ (rp : Fin 5) (r : Fin 32) (l : Fin 128) (z : EReal), m (ix3 rp r l) ≤ z ↔ 0 ≤ z ∧ ∀ j : Fin 35,
    V0 x (rowOf rp r l) (grpOf j l) ≤ z ∧ V1 x (rowOf rp r l) (grpOf j l) ≤ z

theorem mx_eq (x : S320x8960.Idx → EReal) (m : S5x32x128.Idx → EReal) (hm : IsMax x m) (rp : Fin 5) (b : BitVec 1)
    (w : FVec Ideal S1x32x128 .bf16) (hw : ∀ (r : Fin 32) (l : Fin 128), w (ix3 0 r l) = m (ix3 rp r l)) (r : Fin 32) (l : Fin 128) (R : Fin 320)
    (hR : R.val = 64 * rp.val + 32 * b.toNat + r.val) : mxT b w (ix2 r l) = MX x R := by
  refine eq_of_forall_ge_iff fun z => ?_
  rw [mxT_le, MX_le]
  have hb : b = 1#1 ∨ b = 0#1 := bit_cases b
  constructor
  · rintro ⟨h0, h⟩
    refine ⟨h0, fun g => ?_⟩
    obtain ⟨q, hq, s, hs, a, ha, hg⟩ : ∃ q, q < 32 ∧ ∃ s, s < 2 ∧ ∃ a, a < 35 ∧ g.val = 64 * a + 32 * s + q :=
      ⟨g.val % 32, by omega, g.val % 64 / 32, by omega, g.val / 64, by omega, by omega⟩
    have hβ := b.isLt
    obtain ⟨f1, f2, f3⟩ := lane_split q s b.toNat hs hβ
    have hl : 4 * q + 2 * b.toNat + s < 128 := by omega
    have hk : ((⟨_, hl⟩ : Fin 128).val / 2 % 2 = 1 ↔ b = 1#1) := by
      show (4 * q + 2 * b.toNat + s) / 2 % 2 = 1 ↔ _
      rw [f1]
      rcases hb with rfl | rfl
      · simp
      · simp
    have := h ⟨_, hl⟩ hk
    rw [hw, hm] at this
    have h2 := this.2 ⟨a, ha⟩
    have eR : rowOf rp r ⟨_, hl⟩ = R := by
      apply Fin.ext
      rw [hR]
      show 64 * rp.val + 32 * ((4 * q + 2 * b.toNat + s) / 2 % 2) + r.val = _
      rw [f1]
    have eG : grpOf ⟨a, ha⟩ ⟨_, hl⟩ = g := by
      apply Fin.ext
      show 64 * a + 32 * ((4 * q + 2 * b.toNat + s) % 2) + (4 * q + 2 * b.toNat + s) / 4 = _
      rw [f2, f3, hg]
    rw [eR, eG] at h2
    exact h2
  · rintro ⟨h0, h⟩
    refine ⟨h0, fun k hk => ?_⟩
    rw [hw, hm]
    refine ⟨h0, fun j => ?_⟩
    have eR : rowOf rp r k = R := by
      apply Fin.ext
      rw [hR]
      simp only [rowOf]
      rcases hb with rfl | rfl
      · have : k.val / 2 % 2 = 1 := by simpa using hk
        simp; omega
      · have : ¬ k.val / 2 % 2 = 1 := by simpa using hk
        simp; omega
    rw [eR]
    exact h _

end Rows

section Buffers

variable (arg12 : Memref sig .tc .vmem S5x32x128 .bf16) (X : BufTy.Contents (Elt Ideal) arg12.view.ty)
  (arg13 : Memref sig .tc .vmem S5x32x128 .f32) (f13 : BufTy.Contents (Elt Ideal) arg13.view.ty)
  (arg14 : Memref sig .tc .vmem S320x128 .f32) (f14 : BufTy.Contents (Elt Ideal) arg14.view.ty)

/-- A pair's running maxima, as loaded. -/
abbrev ldM (off : Fin 3 → Nat) (h : ∀ a, off a + S1x32x128.size a ≤ S5x32x128.size a) : FVec Ideal S1x32x128 .bf16 :=
  View.readAt (Elt Ideal) arg12.view (Rect.unit (s := S5x32x128) off S1x32x128.size h).toLoadRect X

/-- The pieces of the reciprocals, last written first. -/
def ivL : List (View.Piece (Elt Ideal) S5x32x128 .f32) := [
    ⟨Rect.unit (s := S5x32x128) ![4, 0, 0] S1x32x128.size inb_S5x32x128_S1x32x128_4_0_0, ivP (ldM arg12 X ![4, 0, 0] inb_S5x32x128_S1x32x128_4_0_0)⟩,
    ⟨Rect.unit (s := S5x32x128) ![3, 0, 0] S1x32x128.size inb_S5x32x128_S1x32x128_3_0_0, ivP (ldM arg12 X ![3, 0, 0] inb_S5x32x128_S1x32x128_3_0_0)⟩,
    ⟨Rect.unit (s := S5x32x128) ![2, 0, 0] S1x32x128.size inb_S5x32x128_S1x32x128_2_0_0, ivP (ldM arg12 X ![2, 0, 0] inb_S5x32x128_S1x32x128_2_0_0)⟩,
    ⟨Rect.unit (s := S5x32x128) ![1, 0, 0] S1x32x128.size inb_S5x32x128_S1x32x128_1_0_0, ivP (ldM arg12 X ![1, 0, 0] inb_S5x32x128_S1x32x128_1_0_0)⟩,
    ⟨Rect.unit (s := S5x32x128) ![0, 0, 0] S1x32x128.size inb_S5x32x128_S1x32x128_0_0_0, ivP (ldM arg12 X ![0, 0, 0] inb_S5x32x128_S1x32x128_0_0_0)⟩]

/-- The pieces of the scales, last written first. -/
def scL : List (View.Piece (Elt Ideal) S320x128 .f32) := [
    ⟨Rect.unit (s := S320x128) ![288, 0] S32x128.size inb_S320x128_S32x128_288_0, scP 1#1 (ldM arg12 X ![4, 0, 0] inb_S5x32x128_S1x32x128_4_0_0)⟩,
    ⟨Rect.unit (s := S320x128) ![256, 0] S32x128.size inb_S320x128_S32x128_256_0, scP 0#1 (ldM arg12 X ![4, 0, 0] inb_S5x32x128_S1x32x128_4_0_0)⟩,
    ⟨Rect.unit (s := S320x128) ![224, 0] S32x128.size inb_S320x128_S32x128_224_0, scP 1#1 (ldM arg12 X ![3, 0, 0] inb_S5x32x128_S1x32x128_3_0_0)⟩,
    ⟨Rect.unit (s := S320x128) ![192, 0] S32x128.size inb_S320x128_S32x128_192_0, scP 0#1 (ldM arg12 X ![3, 0, 0] inb_S5x32x128_S1x32x128_3_0_0)⟩,
    ⟨Rect.unit (s := S320x128) ![160, 0] S32x128.size inb_S320x128_S32x128_160_0, scP 1#1 (ldM arg12 X ![2, 0, 0] inb_S5x32x128_S1x32x128_2_0_0)⟩,
    ⟨Rect.unit (s := S320x128) ![128, 0] S32x128.size inb_S320x128_S32x128_128_0, scP 0#1 (ldM arg12 X ![2, 0, 0] inb_S5x32x128_S1x32x128_2_0_0)⟩,
    ⟨Rect.unit (s := S320x128) ![96, 0] S32x128.size inb_S320x128_S32x128_96_0, scP 1#1 (ldM arg12 X ![1, 0, 0] inb_S5x32x128_S1x32x128_1_0_0)⟩,
    ⟨Rect.unit (s := S320x128) ![64, 0] S32x128.size inb_S320x128_S32x128_64_0, scP 0#1 (ldM arg12 X ![1, 0, 0] inb_S5x32x128_S1x32x128_1_0_0)⟩,
    ⟨Rect.unit (s := S320x128) ![32, 0] S32x128.size inb_S320x128_S32x128_32_0, scP 1#1 (ldM arg12 X ![0, 0, 0] inb_S5x32x128_S1x32x128_0_0_0)⟩,
    ⟨Rect.unit (s := S320x128) ![0, 0] S32x128.size inb_S320x128_S32x128_0_0, scP 0#1 (ldM arg12 X ![0, 0, 0] inb_S5x32x128_S1x32x128_0_0_0)⟩]

theorem ldM_apply (rp : Fin 5) (off : Fin 3 → Nat) (h) (eo : off = ![rp.val, 0, 0]) (r : Fin 32) (l : Fin 128) :
    ldM arg12 X off h (ix3 0 r l) = arg12.view.read (Elt Ideal) X (ix3 rp r l) := by
  subst eo
  exact View.ld_unit_apply_of (arg12.view.read (Elt Ideal) X) _ S1x32x128.size h (ix3 0 r l) (ix3 rp r l) (fun a => by
      match a with
      | ⟨0, _⟩ => rfl
      | ⟨1, _⟩ => exact (Nat.zero_add _).symm
      | ⟨2, _⟩ => exact (Nat.zero_add _).symm)

variable (x : S320x8960.Idx → EReal) (hm : IsMax x (arg12.view.read (Elt Ideal) X))
include hm

theorem ivP_row (rp : Fin 5) (off : Fin 3 → Nat) (h) (eo : off = ![rp.val, 0, 0]) (r : Fin 32) (l : Fin 128) :
    ivP (ldM arg12 X off h) (ix3 0 r l) = IV x (rowOf rp r l) := by
  rw [ivP_apply, mx_eq x _ hm rp _ (ldM arg12 X off h) (fun r l => ldM_apply arg12 X rp off h eo r l) r l (rowOf rp r l) ?_]
  · rfl
  · have h2 : l.val / 2 % 2 = 1 ∨ l.val / 2 % 2 = 0 := by omega
    rcases h2 with h2 | h2
    · simp [rowOf, h2]
    · simp [rowOf, h2]

theorem scP_row (rp : Fin 5) (b : BitVec 1) (off : Fin 3 → Nat) (h) (eo : off = ![rp.val, 0, 0]) (r : Fin 32) (l : Fin 128) (R : Fin 320)
    (hR : R.val = 64 * rp.val + 32 * b.toNat + r.val) : scP b (ldM arg12 X off h) (ix2 r l) = SC x R := by
  rw [scP_apply, mx_eq x _ hm rp b (ldM arg12 X off h) (fun r l => ldM_apply arg12 X rp off h eo r l) r l R hR]
  rfl

/-- The reciprocals as they lie in the scratch buffer. -/
theorem iv_all (rp : Fin 5) (r : Fin 32) (l : Fin 128) :
    arg13.view.read (Elt Ideal) (arg13.view.writes (Elt Ideal) f13 (ivL arg12 X)) (ix3 rp r l) = IV x (rowOf rp r l) := by
  have hr : rp = 0 ∨ rp = 1 ∨ rp = 2 ∨ rp = 3 ∨ rp = 4 := by revert rp; decide
  unfold ivL
  rcases hr with rfl | rfl | rfl | rfl | rfl
  · rw [View.read_writes_cons_unit_of_not_mem arg13.view f13 inb_S5x32x128_S1x32x128_4_0_0 _ _ _ rfl 0 (by left; show (0 : ℕ) < 4; decide)]
    rw [View.read_writes_cons_unit_of_not_mem arg13.view f13 inb_S5x32x128_S1x32x128_3_0_0 _ _ _ rfl 0 (by left; show (0 : ℕ) < 3; decide)]
    rw [View.read_writes_cons_unit_of_not_mem arg13.view f13 inb_S5x32x128_S1x32x128_2_0_0 _ _ _ rfl 0 (by left; show (0 : ℕ) < 2; decide)]
    rw [View.read_writes_cons_unit_of_not_mem arg13.view f13 inb_S5x32x128_S1x32x128_1_0_0 _ _ _ rfl 0 (by left; show (0 : ℕ) < 1; decide)]
    rw [View.read_writes_cons_unit_of_mem arg13.view f13 inb_S5x32x128_S1x32x128_0_0_0 _ _ _ (ix3 0 r l) rfl (fun a => by
      match a with
      | ⟨0, _⟩ => rfl
      | ⟨1, _⟩ => exact (Nat.zero_add _).symm
      | ⟨2, _⟩ => exact (Nat.zero_add _).symm)]
    exact ivP_row arg12 X x hm 0 _ inb_S5x32x128_S1x32x128_0_0_0 rfl r l
  · rw [View.read_writes_cons_unit_of_not_mem arg13.view f13 inb_S5x32x128_S1x32x128_4_0_0 _ _ _ rfl 0 (by left; show (1 : ℕ) < 4; decide)]
    rw [View.read_writes_cons_unit_of_not_mem arg13.view f13 inb_S5x32x128_S1x32x128_3_0_0 _ _ _ rfl 0 (by left; show (1 : ℕ) < 3; decide)]
    rw [View.read_writes_cons_unit_of_not_mem arg13.view f13 inb_S5x32x128_S1x32x128_2_0_0 _ _ _ rfl 0 (by left; show (1 : ℕ) < 2; decide)]
    rw [View.read_writes_cons_unit_of_mem arg13.view f13 inb_S5x32x128_S1x32x128_1_0_0 _ _ _ (ix3 0 r l) rfl (fun a => by
      match a with
      | ⟨0, _⟩ => rfl
      | ⟨1, _⟩ => exact (Nat.zero_add _).symm
      | ⟨2, _⟩ => exact (Nat.zero_add _).symm)]
    exact ivP_row arg12 X x hm 1 _ inb_S5x32x128_S1x32x128_1_0_0 rfl r l
  · rw [View.read_writes_cons_unit_of_not_mem arg13.view f13 inb_S5x32x128_S1x32x128_4_0_0 _ _ _ rfl 0 (by left; show (2 : ℕ) < 4; decide)]
    rw [View.read_writes_cons_unit_of_not_mem arg13.view f13 inb_S5x32x128_S1x32x128_3_0_0 _ _ _ rfl 0 (by left; show (2 : ℕ) < 3; decide)]
    rw [View.read_writes_cons_unit_of_mem arg13.view f13 inb_S5x32x128_S1x32x128_2_0_0 _ _ _ (ix3 0 r l) rfl (fun a => by
      match a with
      | ⟨0, _⟩ => rfl
      | ⟨1, _⟩ => exact (Nat.zero_add _).symm
      | ⟨2, _⟩ => exact (Nat.zero_add _).symm)]
    exact ivP_row arg12 X x hm 2 _ inb_S5x32x128_S1x32x128_2_0_0 rfl r l
  · rw [View.read_writes_cons_unit_of_not_mem arg13.view f13 inb_S5x32x128_S1x32x128_4_0_0 _ _ _ rfl 0 (by left; show (3 : ℕ) < 4; decide)]
    rw [View.read_writes_cons_unit_of_mem arg13.view f13 inb_S5x32x128_S1x32x128_3_0_0 _ _ _ (ix3 0 r l) rfl (fun a => by
      match a with
      | ⟨0, _⟩ => rfl
      | ⟨1, _⟩ => exact (Nat.zero_add _).symm
      | ⟨2, _⟩ => exact (Nat.zero_add _).symm)]
    exact ivP_row arg12 X x hm 3 _ inb_S5x32x128_S1x32x128_3_0_0 rfl r l
  · rw [View.read_writes_cons_unit_of_mem arg13.view f13 inb_S5x32x128_S1x32x128_4_0_0 _ _ _ (ix3 0 r l) rfl (fun a => by
      match a with
      | ⟨0, _⟩ => rfl
      | ⟨1, _⟩ => exact (Nat.zero_add _).symm
      | ⟨2, _⟩ => exact (Nat.zero_add _).symm)]
    exact ivP_row arg12 X x hm 4 _ inb_S5x32x128_S1x32x128_4_0_0 rfl r l

/-- The scales as they lie in the scratch buffer. -/
theorem sc_all (R : Fin 320) (l : Fin 128) :
    arg14.view.read (Elt Ideal) (arg14.view.writes (Elt Ideal) f14 (scL arg12 X)) (ix2 R l) = SC x R := by
  have hR := R.isLt
  have hr : (0 ≤ R.val ∧ R.val < 32) ∨ (32 ≤ R.val ∧ R.val < 64) ∨ (64 ≤ R.val ∧ R.val < 96) ∨ (96 ≤ R.val ∧ R.val < 128) ∨ (128 ≤ R.val ∧ R.val < 160) ∨ (160 ≤ R.val ∧ R.val < 192) ∨ (192 ≤ R.val ∧ R.val < 224) ∨ (224 ≤ R.val ∧ R.val < 256) ∨ (256 ≤ R.val ∧ R.val < 288) ∨ (288 ≤ R.val ∧ R.val < 320) := by omega
  unfold scL
  rcases hr with hr | hr | hr | hr | hr | hr | hr | hr | hr | hr
  · rw [View.read_writes_cons_unit_of_not_mem arg14.view f14 inb_S320x128_S32x128_288_0 _ _ _ rfl 0 (by left; show R.val < 288; omega)]
    rw [View.read_writes_cons_unit_of_not_mem arg14.view f14 inb_S320x128_S32x128_256_0 _ _ _ rfl 0 (by left; show R.val < 256; omega)]
    rw [View.read_writes_cons_unit_of_not_mem arg14.view f14 inb_S320x128_S32x128_224_0 _ _ _ rfl 0 (by left; show R.val < 224; omega)]
    rw [View.read_writes_cons_unit_of_not_mem arg14.view f14 inb_S320x128_S32x128_192_0 _ _ _ rfl 0 (by left; show R.val < 192; omega)]
    rw [View.read_writes_cons_unit_of_not_mem arg14.view f14 inb_S320x128_S32x128_160_0 _ _ _ rfl 0 (by left; show R.val < 160; omega)]
    rw [View.read_writes_cons_unit_of_not_mem arg14.view f14 inb_S320x128_S32x128_128_0 _ _ _ rfl 0 (by left; show R.val < 128; omega)]
    rw [View.read_writes_cons_unit_of_not_mem arg14.view f14 inb_S320x128_S32x128_96_0 _ _ _ rfl 0 (by left; show R.val < 96; omega)]
    rw [View.read_writes_cons_unit_of_not_mem arg14.view f14 inb_S320x128_S32x128_64_0 _ _ _ rfl 0 (by left; show R.val < 64; omega)]
    rw [View.read_writes_cons_unit_of_not_mem arg14.view f14 inb_S320x128_S32x128_32_0 _ _ _ rfl 0 (by left; show R.val < 32; omega)]
    rw [View.read_writes_cons_unit_of_mem arg14.view f14 inb_S320x128_S32x128_0_0 _ _ _ (ix2 ⟨R.val - 0, by omega⟩ l) rfl (fun a => by
      match a with
      | ⟨0, _⟩ => show R.val = 0 + (R.val - 0); omega
      | ⟨1, _⟩ => exact (Nat.zero_add _).symm)]
    exact scP_row arg12 X x hm 0 0#1 _ inb_S5x32x128_S1x32x128_0_0_0 rfl _ l R (by show R.val = 64 * 0 + 32 * 0 + (R.val - 0); omega)
  · rw [View.read_writes_cons_unit_of_not_mem arg14.view f14 inb_S320x128_S32x128_288_0 _ _ _ rfl 0 (by left; show R.val < 288; omega)]
    rw [View.read_writes_cons_unit_of_not_mem arg14.view f14 inb_S320x128_S32x128_256_0 _ _ _ rfl 0 (by left; show R.val < 256; omega)]
    rw [View.read_writes_cons_unit_of_not_mem arg14.view f14 inb_S320x128_S32x128_224_0 _ _ _ rfl 0 (by left; show R.val < 224; omega)]
    rw [View.read_writes_cons_unit_of_not_mem arg14.view f14 inb_S320x128_S32x128_192_0 _ _ _ rfl 0 (by left; show R.val < 192; omega)]
    rw [View.read_writes_cons_unit_of_not_mem arg14.view f14 inb_S320x128_S32x128_160_0 _ _ _ rfl 0 (by left; show R.val < 160; omega)]
    rw [View.read_writes_cons_unit_of_not_mem arg14.view f14 inb_S320x128_S32x128_128_0 _ _ _ rfl 0 (by left; show R.val < 128; omega)]
    rw [View.read_writes_cons_unit_of_not_mem arg14.view f14 inb_S320x128_S32x128_96_0 _ _ _ rfl 0 (by left; show R.val < 96; omega)]
    rw [View.read_writes_cons_unit_of_not_mem arg14.view f14 inb_S320x128_S32x128_64_0 _ _ _ rfl 0 (by left; show R.val < 64; omega)]
    rw [View.read_writes_cons_unit_of_mem arg14.view f14 inb_S320x128_S32x128_32_0 _ _ _ (ix2 ⟨R.val - 32, by omega⟩ l) rfl (fun a => by
      match a with
      | ⟨0, _⟩ => show R.val = 32 + (R.val - 32); omega
      | ⟨1, _⟩ => exact (Nat.zero_add _).symm)]
    exact scP_row arg12 X x hm 0 1#1 _ inb_S5x32x128_S1x32x128_0_0_0 rfl _ l R (by show R.val = 64 * 0 + 32 * 1 + (R.val - 32); omega)
  · rw [View.read_writes_cons_unit_of_not_mem arg14.view f14 inb_S320x128_S32x128_288_0 _ _ _ rfl 0 (by left; show R.val < 288; omega)]
    rw [View.read_writes_cons_unit_of_not_mem arg14.view f14 inb_S320x128_S32x128_256_0 _ _ _ rfl 0 (by left; show R.val < 256; omega)]
    rw [View.read_writes_cons_unit_of_not_mem arg14.view f14 inb_S320x128_S32x128_224_0 _ _ _ rfl 0 (by left; show R.val < 224; omega)]
    rw [View.read_writes_cons_unit_of_not_mem arg14.view f14 inb_S320x128_S32x128_192_0 _ _ _ rfl 0 (by left; show R.val < 192; omega)]
    rw [View.read_writes_cons_unit_of_not_mem arg14.view f14 inb_S320x128_S32x128_160_0 _ _ _ rfl 0 (by left; show R.val < 160; omega)]
    rw [View.read_writes_cons_unit_of_not_mem arg14.view f14 inb_S320x128_S32x128_128_0 _ _ _ rfl 0 (by left; show R.val < 128; omega)]
    rw [View.read_writes_cons_unit_of_not_mem arg14.view f14 inb_S320x128_S32x128_96_0 _ _ _ rfl 0 (by left; show R.val < 96; omega)]
    rw [View.read_writes_cons_unit_of_mem arg14.view f14 inb_S320x128_S32x128_64_0 _ _ _ (ix2 ⟨R.val - 64, by omega⟩ l) rfl (fun a => by
      match a with
      | ⟨0, _⟩ => show R.val = 64 + (R.val - 64); omega
      | ⟨1, _⟩ => exact (Nat.zero_add _).symm)]
    exact scP_row arg12 X x hm 1 0#1 _ inb_S5x32x128_S1x32x128_1_0_0 rfl _ l R (by show R.val = 64 * 1 + 32 * 0 + (R.val - 64); omega)
  · rw [View.read_writes_cons_unit_of_not_mem arg14.view f14 inb_S320x128_S32x128_288_0 _ _ _ rfl 0 (by left; show R.val < 288; omega)]
    rw [View.read_writes_cons_unit_of_not_mem arg14.view f14 inb_S320x128_S32x128_256_0 _ _ _ rfl 0 (by left; show R.val < 256; omega)]
    rw [View.read_writes_cons_unit_of_not_mem arg14.view f14 inb_S320x128_S32x128_224_0 _ _ _ rfl 0 (by left; show R.val < 224; omega)]
    rw [View.read_writes_cons_unit_of_not_mem arg14.view f14 inb_S320x128_S32x128_192_0 _ _ _ rfl 0 (by left; show R.val < 192; omega)]
    rw [View.read_writes_cons_unit_of_not_mem arg14.view f14 inb_S320x128_S32x128_160_0 _ _ _ rfl 0 (by left; show R.val < 160; omega)]
    rw [View.read_writes_cons_unit_of_not_mem arg14.view f14 inb_S320x128_S32x128_128_0 _ _ _ rfl 0 (by left; show R.val < 128; omega)]
    rw [View.read_writes_cons_unit_of_mem arg14.view f14 inb_S320x128_S32x128_96_0 _ _ _ (ix2 ⟨R.val - 96, by omega⟩ l) rfl (fun a => by
      match a with
      | ⟨0, _⟩ => show R.val = 96 + (R.val - 96); omega
      | ⟨1, _⟩ => exact (Nat.zero_add _).symm)]
    exact scP_row arg12 X x hm 1 1#1 _ inb_S5x32x128_S1x32x128_1_0_0 rfl _ l R (by show R.val = 64 * 1 + 32 * 1 + (R.val - 96); omega)
  · rw [View.read_writes_cons_unit_of_not_mem arg14.view f14 inb_S320x128_S32x128_288_0 _ _ _ rfl 0 (by left; show R.val < 288; omega)]
    rw [View.read_writes_cons_unit_of_not_mem arg14.view f14 inb_S320x128_S32x128_256_0 _ _ _ rfl 0 (by left; show R.val < 256; omega)]
    rw [View.read_writes_cons_unit_of_not_mem arg14.view f14 inb_S320x128_S32x128_224_0 _ _ _ rfl 0 (by left; show R.val < 224; omega)]
    rw [View.read_writes_cons_unit_of_not_mem arg14.view f14 inb_S320x128_S32x128_192_0 _ _ _ rfl 0 (by left; show R.val < 192; omega)]
    rw [View.read_writes_cons_unit_of_not_mem arg14.view f14 inb_S320x128_S32x128_160_0 _ _ _ rfl 0 (by left; show R.val < 160; omega)]
    rw [View.read_writes_cons_unit_of_mem arg14.view f14 inb_S320x128_S32x128_128_0 _ _ _ (ix2 ⟨R.val - 128, by omega⟩ l) rfl (fun a => by
      match a with
      | ⟨0, _⟩ => show R.val = 128 + (R.val - 128); omega
      | ⟨1, _⟩ => exact (Nat.zero_add _).symm)]
    exact scP_row arg12 X x hm 2 0#1 _ inb_S5x32x128_S1x32x128_2_0_0 rfl _ l R (by show R.val = 64 * 2 + 32 * 0 + (R.val - 128); omega)
  · rw [View.read_writes_cons_unit_of_not_mem arg14.view f14 inb_S320x128_S32x128_288_0 _ _ _ rfl 0 (by left; show R.val < 288; omega)]
    rw [View.read_writes_cons_unit_of_not_mem arg14.view f14 inb_S320x128_S32x128_256_0 _ _ _ rfl 0 (by left; show R.val < 256; omega)]
    rw [View.read_writes_cons_unit_of_not_mem arg14.view f14 inb_S320x128_S32x128_224_0 _ _ _ rfl 0 (by left; show R.val < 224; omega)]
    rw [View.read_writes_cons_unit_of_not_mem arg14.view f14 inb_S320x128_S32x128_192_0 _ _ _ rfl 0 (by left; show R.val < 192; omega)]
    rw [View.read_writes_cons_unit_of_mem arg14.view f14 inb_S320x128_S32x128_160_0 _ _ _ (ix2 ⟨R.val - 160, by omega⟩ l) rfl (fun a => by
      match a with
      | ⟨0, _⟩ => show R.val = 160 + (R.val - 160); omega
      | ⟨1, _⟩ => exact (Nat.zero_add _).symm)]
    exact scP_row arg12 X x hm 2 1#1 _ inb_S5x32x128_S1x32x128_2_0_0 rfl _ l R (by show R.val = 64 * 2 + 32 * 1 + (R.val - 160); omega)
  · rw [View.read_writes_cons_unit_of_not_mem arg14.view f14 inb_S320x128_S32x128_288_0 _ _ _ rfl 0 (by left; show R.val < 288; omega)]
    rw [View.read_writes_cons_unit_of_not_mem arg14.view f14 inb_S320x128_S32x128_256_0 _ _ _ rfl 0 (by left; show R.val < 256; omega)]
    rw [View.read_writes_cons_unit_of_not_mem arg14.view f14 inb_S320x128_S32x128_224_0 _ _ _ rfl 0 (by left; show R.val < 224; omega)]
    rw [View.read_writes_cons_unit_of_mem arg14.view f14 inb_S320x128_S32x128_192_0 _ _ _ (ix2 ⟨R.val - 192, by omega⟩ l) rfl (fun a => by
      match a with
      | ⟨0, _⟩ => show R.val = 192 + (R.val - 192); omega
      | ⟨1, _⟩ => exact (Nat.zero_add _).symm)]
    exact scP_row arg12 X x hm 3 0#1 _ inb_S5x32x128_S1x32x128_3_0_0 rfl _ l R (by show R.val = 64 * 3 + 32 * 0 + (R.val - 192); omega)
  · rw [View.read_writes_cons_unit_of_not_mem arg14.view f14 inb_S320x128_S32x128_288_0 _ _ _ rfl 0 (by left; show R.val < 288; omega)]
    rw [View.read_writes_cons_unit_of_not_mem arg14.view f14 inb_S320x128_S32x128_256_0 _ _ _ rfl 0 (by left; show R.val < 256; omega)]
    rw [View.read_writes_cons_unit_of_mem arg14.view f14 inb_S320x128_S32x128_224_0 _ _ _ (ix2 ⟨R.val - 224, by omega⟩ l) rfl (fun a => by
      match a with
      | ⟨0, _⟩ => show R.val = 224 + (R.val - 224); omega
      | ⟨1, _⟩ => exact (Nat.zero_add _).symm)]
    exact scP_row arg12 X x hm 3 1#1 _ inb_S5x32x128_S1x32x128_3_0_0 rfl _ l R (by show R.val = 64 * 3 + 32 * 1 + (R.val - 224); omega)
  · rw [View.read_writes_cons_unit_of_not_mem arg14.view f14 inb_S320x128_S32x128_288_0 _ _ _ rfl 0 (by left; show R.val < 288; omega)]
    rw [View.read_writes_cons_unit_of_mem arg14.view f14 inb_S320x128_S32x128_256_0 _ _ _ (ix2 ⟨R.val - 256, by omega⟩ l) rfl (fun a => by
      match a with
      | ⟨0, _⟩ => show R.val = 256 + (R.val - 256); omega
      | ⟨1, _⟩ => exact (Nat.zero_add _).symm)]
    exact scP_row arg12 X x hm 4 0#1 _ inb_S5x32x128_S1x32x128_4_0_0 rfl _ l R (by show R.val = 64 * 4 + 32 * 0 + (R.val - 256); omega)
  · rw [View.read_writes_cons_unit_of_mem arg14.view f14 inb_S320x128_S32x128_288_0 _ _ _ (ix2 ⟨R.val - 288, by omega⟩ l) rfl (fun a => by
      match a with
      | ⟨0, _⟩ => show R.val = 288 + (R.val - 288); omega
      | ⟨1, _⟩ => exact (Nat.zero_add _).symm)]
    exact scP_row arg12 X x hm 4 1#1 _ inb_S5x32x128_S1x32x128_4_0_0 rfl _ l R (by show R.val = 64 * 4 + 32 * 1 + (R.val - 288); omega)

end Buffers

end Cert.KernelIdeal.Hand
-- ==== Proof.RefDefs.lean ====
/- The reference's host operations, grouped into the steps of the mathematics they state. -/
module

public import proofs.«01_k».proof.Proof.Gen.ReferenceIdeal.Value
public import Idealize.ShloMosaic.Lib.Pointwise
public import Idealize.ShloMosaic.Lib.Pipeline.ValueKit
public import Idealize.ShloMosaic.Lib.Claim
public import Idealize.ShloMosaic.Lib.StableHlo.RunRead

@[expose] public section

set_option maxRecDepth 16384

noncomputable section

namespace Cert.ReferenceIdeal.Hand

open Idealize.ShloMosaic Idealize.ShloMosaic.TcCoe Idealize.ShloMosaic.Tactic Cert.ReferenceIdeal Cert.ReferenceIdeal.Gen

/-- A plane of one number a group. -/
abbrev A2 := FVec Ideal S1920x2240 .f32
/-- An array of four numbers a group. -/
abbrev A3 := FVec Ideal S1920x2240x4 .f32
/-- A plane of one truth value a group. -/
abbrev B2 := IVec S1920x2240 1

/-- The clamped input squared, row by row. -/
def sqA (x : FVec Ideal S3x640x8960 .bf16) : FVec Ideal S1920x8960 .f32 :=
  shapeCast S1920x8960 (mulf
    (maximumf (extf .f32 x bitsLt_bf16_f32) (broadcastInDim S3x640x8960 ![] bcast_S_S3x640x8960 (constant S_ .f32 0x00000000#32)))
    (maximumf (extf .f32 x bitsLt_bf16_f32) (broadcastInDim S3x640x8960 ![] bcast_S_S3x640x8960 (constant S_ .f32 0x00000000#32))))
    shapeCasts_S3x640x8960_S1920x8960
/-- The squares in groups of four. -/
def grpA (h : FVec Ideal S1920x8960 .f32) : A3 := shapeCast S1920x2240x4 h shapeCasts_S1920x8960_S1920x2240x4
/-- Member 0 of each group. -/
def mb0 (h : A3) : A2 := shapeCast S1920x2240 (extractStridedSlice S1920x2240x1 ![0, 0, 0] h slices_S1920x2240x4_S1920x2240x1_0_0_0) shapeCasts_S1920x2240x1_S1920x2240
/-- Member 1 of each group. -/
def mb1 (h : A3) : A2 := shapeCast S1920x2240 (extractStridedSlice S1920x2240x1 ![0, 0, 1] h slices_S1920x2240x4_S1920x2240x1_0_0_1) shapeCasts_S1920x2240x1_S1920x2240
/-- Member 2 of each group. -/
def mb2 (h : A3) : A2 := shapeCast S1920x2240 (extractStridedSlice S1920x2240x1 ![0, 0, 2] h slices_S1920x2240x4_S1920x2240x1_0_0_2) shapeCasts_S1920x2240x1_S1920x2240
/-- Member 3 of each group. -/
def mb3 (h : A3) : A2 := shapeCast S1920x2240 (extractStridedSlice S1920x2240x1 ![0, 0, 3] h slices_S1920x2240x4_S1920x2240x1_0_0_3) shapeCasts_S1920x2240x1_S1920x2240

/-- Fewer than two of three truth values hold. -/
def few (p q r : B2) : B2 :=
  cmpi .slt (addi (addi (addi (broadcastInDim S1920x2240 ![] bcast_S_S1920x2240 (constantI S_ 32 0#32)) (extui 32 p natLt_1_32)) (extui 32 q natLt_1_32)) (extui 32 r natLt_1_32))
    (broadcastInDim S1920x2240 ![] bcast_S_S1920x2240 (constantI S_ 32 2#32))
/-- Which members are kept. -/
def kA0 (a b c d : A2) : B2 := few (cmpf .ogt b a) (cmpf .ogt c a) (cmpf .ogt d a)
def kA1 (a b c d : A2) : B2 := few (cmpf .oge a b) (cmpf .ogt c b) (cmpf .ogt d b)
def kA2 (a b c d : A2) : B2 := few (cmpf .oge a c) (cmpf .oge b c) (cmpf .ogt d c)
def kA3 (a b c d : A2) : B2 := few (cmpf .oge a d) (cmpf .oge b d) (cmpf .oge c d)
/-- The four truth values of each group side by side. -/
def keepA (k0 k1 k2 k3 : B2) : IVec S1920x2240x4 1 :=
  concatenate S1920x2240x4 2 [⟨S1920x2240x1, broadcastInDim S1920x2240x1 ![0, 1] bcast_S1920x2240_S1920x2240x1_0_1 k0⟩,
    ⟨S1920x2240x1, broadcastInDim S1920x2240x1 ![0, 1] bcast_S1920x2240_S1920x2240x1_0_1 k1⟩,
    ⟨S1920x2240x1, broadcastInDim S1920x2240x1 ![0, 1] bcast_S1920x2240_S1920x2240x1_0_1 k2⟩,
    ⟨S1920x2240x1, broadcastInDim S1920x2240x1 ![0, 1] bcast_S1920x2240_S1920x2240x1_0_1 k3⟩]
    concatenates_S1920x2240x1_S1920x2240x1_S1920x2240x1_S1920x2240x1_S1920x2240x4_d2

/-- The table of powers of two. -/
def powA : FVec Ideal S1x253 .f32 := fun i => FloatOps.ofBits .f32 (lit0 (S1x253.rowMajor i))
/-- Each row's largest square. -/
def mxA (h : FVec Ideal S1920x8960 .f32) : FVec Ideal S1920 .f32 :=
  Host.reduce FloatOps.maximumf h (constant S_ .f32 0xFF800000#32) reducesTo_S1920x8960_S1920_d1 h_S_
/-- Each row's largest square over 448. -/
def tA (h : FVec Ideal S1920x8960 .f32) : FVec Ideal S1920x1 .f32 :=
  mulf (broadcastInDim S1920x1 ![0] bcast_S1920_S1920x1_0 (mxA h))
    (broadcastInDim S1920x1 ![] bcast_S_S1920x1 (constant S_ .f32 0x3B124925#32))
/-- Which powers of two are at most that. -/
def leA (h : FVec Ideal S1920x8960 .f32) (p : FVec Ideal S1x253 .f32) : IVec S1920x253 1 :=
  cmpf .ole (broadcastInDim S1920x253 ![0, 1] bcast_S1x253_S1920x253_0_1 p) (broadcastInDim S1920x253 ![0, 1] bcast_S1920x1_S1920x253_0_1 (tA h))
/-- Twice the powers. -/
def dblA (p : FVec Ideal S1x253 .f32) : FVec Ideal S1x253 .f32 :=
  mulf (broadcastInDim S1x253 ![] bcast_S_S1x253 (constant S_ .f32 0x40000000#32)) p
/-- The doubled powers selected, zero for the others. -/
def selA (l : IVec S1920x253 1) (p : FVec Ideal S1x253 .f32) (z : FVec Ideal S_ .f32) : FVec Ideal S1920x253 .f32 :=
  select l (broadcastInDim S1920x253 ![0, 1] bcast_S1x253_S1920x253_0_1 p) (broadcastInDim S1920x253 ![] bcast_S_S1920x253 z)
/-- The largest of the doubled powers selected. -/
def topA (l : IVec S1920x253 1) (p : FVec Ideal S1x253 .f32) (z : FVec Ideal S_ .f32) : FVec Ideal S1920 .f32 :=
  Host.reduce FloatOps.maximumf (selA l p z) (constant S_ .f32 0xFF800000#32) reducesTo_S1920x253_S1920_d1 h_S_
/-- The scale: that, or one for zero. -/
def scaleA (t : FVec Ideal S1920 .f32) : FVec Ideal S1920 .f32 :=
  select (cmpf .oeq t (broadcastInDim S1920 ![] bcast_S_S1920 (constant S_ .f32 0x00000000#32)))
    (broadcastInDim S1920 ![] bcast_S_S1920 (constant S_ .f32 0x3F800000#32)) t
/-- The kept squares over the scale, clipped. -/
def codeA (k : IVec S1920x2240x4 1) (h : A3) (s : FVec Ideal S1920 .f32) : A3 :=
  minimumf (broadcastInDim S1920x2240x4 ![] bcast_S_S1920x2240x4 (constant S_ .f32 0x43E00000#32))
    (maximumf (broadcastInDim S1920x2240x4 ![] bcast_S_S1920x2240x4 (constant S_ .f32 0xC3E00000#32))
      (Host.divf (select k h (broadcastInDim S1920x2240x4 ![] bcast_S_S1920x2240x4 (constant S_ .f32 0x00000000#32)))
        (broadcastInDim S1920x2240x4 ![0, 1, 2] bcast_S1920x1x1_S1920x2240x4_0_1_2 (broadcastInDim S1920x1x1 ![0] bcast_S1920_S1920x1x1_0 s))))
/-- The first and the second code kept. -/
def vA0 (k0 k1 : B2) (c : A3) : A2 := select k0 (mb0 c) (select k1 (mb1 c) (mb2 c))
def vA1 (k3 k2 : B2) (c : A3) : A2 := select k3 (mb3 c) (select k2 (mb2 c) (mb1 c))
/-- The positions. -/
def metaA (k0 k1 k2 k3 : B2) : IVec S1920x2240 8 :=
  trunci 8 (ori
    (select k0 (broadcastInDim S1920x2240 ![] bcast_S_S1920x2240 (constantI S_ 32 0#32))
      (select k1 (broadcastInDim S1920x2240 ![] bcast_S_S1920x2240 (constantI S_ 32 1#32)) (broadcastInDim S1920x2240 ![] bcast_S_S1920x2240 (constantI S_ 32 2#32))))
    (Host.shli (select k3 (broadcastInDim S1920x2240 ![] bcast_S_S1920x2240 (constantI S_ 32 3#32))
      (select k2 (broadcastInDim S1920x2240 ![] bcast_S_S1920x2240 (constantI S_ 32 2#32)) (broadcastInDim S1920x2240 ![] bcast_S_S1920x2240 (constantI S_ 32 1#32))))
      (broadcastInDim S1920x2240 ![] bcast_S_S1920x2240 (constantI S_ 32 2#32)))) natLt_8_32
/-- The two codes of each group side by side. -/
def valsA (v0 v1 : A2) : FVec Ideal S1920x4480 .f32 :=
  shapeCast S1920x4480 (concatenate S1920x2240x2 2 [⟨S1920x2240x1, broadcastInDim S1920x2240x1 ![0, 1] bcast_S1920x2240_S1920x2240x1_0_1 v0⟩,
    ⟨S1920x2240x1, broadcastInDim S1920x2240x1 ![0, 1] bcast_S1920x2240_S1920x2240x1_0_1 v1⟩] concatenates_S1920x2240x1_S1920x2240x1_S1920x2240x2_d2)
    shapeCasts_S1920x2240x2_S1920x4480

end Cert.ReferenceIdeal.Hand

end
-- ==== Proof.RefSteps.lean ====
/- What each step of the reference's host operations leaves in the buffers that later steps read. -/
module

public import proofs.«01_k».proof.Proof.RefDefs

@[expose] public section

set_option maxRecDepth 16384

noncomputable section

namespace Cert.ReferenceIdeal.Hand

open Idealize.ShloMosaic Idealize.ShloMosaic.TcCoe Idealize.ShloMosaic.Tactic Cert.ReferenceIdeal Cert.ReferenceIdeal.Gen

/-- Buffer contents of a device. -/
abbrev Val := Valuation τ sig (Elt Ideal)

/-- Step 0 of the host operations. -/
def st0 {F : FTy → Type} [FloatOps F] : List (HloOp τ sig (Elt F)) :=
  [ StableHlo.nullary main_cst (fun i => FloatOps.ofBits .f32 (lit0 (S1x253.rowMajor i))),
    StableHlo.unary main_arg0 main_v0 ((extf .f32 · bitsLt_bf16_f32) : (⟨S3x640x8960, .bf16⟩ : BufTy).Contents (Elt F) → (⟨S3x640x8960, .f32⟩ : BufTy).Contents (Elt F)),
    StableHlo.nullary main_cst_0 (constant S_ .f32 0x00000000#32),
    StableHlo.unary main_cst_0 main_v1 (broadcastInDim S3x640x8960 ![] bcast_S_S3x640x8960 : (⟨S_, .f32⟩ : BufTy).Contents (Elt F) → (⟨S3x640x8960, .f32⟩ : BufTy).Contents (Elt F)),
    StableHlo.binary main_v0 main_v1 main_v2 (maximumf : (⟨S3x640x8960, .f32⟩ : BufTy).Contents (Elt F) → (⟨S3x640x8960, .f32⟩ : BufTy).Contents (Elt F) → (⟨S3x640x8960, .f32⟩ : BufTy).Contents (Elt F)),
    StableHlo.binary main_v2 main_v2 main_v3 (mulf : (⟨S3x640x8960, .f32⟩ : BufTy).Contents (Elt F) → (⟨S3x640x8960, .f32⟩ : BufTy).Contents (Elt F) → (⟨S3x640x8960, .f32⟩ : BufTy).Contents (Elt F)),
    StableHlo.reshape main_v3 main_v4 (rfl : (.f32 : EltTy) = .f32) shapeCasts_S3x640x8960_S1920x8960,
    StableHlo.reshape main_v4 main_v5 (rfl : (.f32 : EltTy) = .f32) shapeCasts_S1920x8960_S1920x2240x4,
    StableHlo.unary main_v5 main_v6 ((extractStridedSlice S1920x2240x1 ![0, 0, 0] · slices_S1920x2240x4_S1920x2240x1_0_0_0) : (⟨S1920x2240x4, .f32⟩ : BufTy).Contents (Elt F) → (⟨S1920x2240x1, .f32⟩ : BufTy).Contents (Elt F)),
    StableHlo.reshape main_v6 main_v7 (rfl : (.f32 : EltTy) = .f32) shapeCasts_S1920x2240x1_S1920x2240,
    StableHlo.unary main_v5 main_v8 ((extractStridedSlice S1920x2240x1 ![0, 0, 1] · slices_S1920x2240x4_S1920x2240x1_0_0_1) : (⟨S1920x2240x4, .f32⟩ : BufTy).Contents (Elt F) → (⟨S1920x2240x1, .f32⟩ : BufTy).Contents (Elt F)),
    StableHlo.reshape main_v8 main_v9 (rfl : (.f32 : EltTy) = .f32) shapeCasts_S1920x2240x1_S1920x2240,
    StableHlo.unary main_v5 main_v10 ((extractStridedSlice S1920x2240x1 ![0, 0, 2] · slices_S1920x2240x4_S1920x2240x1_0_0_2) : (⟨S1920x2240x4, .f32⟩ : BufTy).Contents (Elt F) → (⟨S1920x2240x1, .f32⟩ : BufTy).Contents (Elt F)),
    StableHlo.reshape main_v10 main_v11 (rfl : (.f32 : EltTy) = .f32) shapeCasts_S1920x2240x1_S1920x2240,
    StableHlo.unary main_v5 main_v12 ((extractStridedSlice S1920x2240x1 ![0, 0, 3] · slices_S1920x2240x4_S1920x2240x1_0_0_3) : (⟨S1920x2240x4, .f32⟩ : BufTy).Contents (Elt F) → (⟨S1920x2240x1, .f32⟩ : BufTy).Contents (Elt F)),
    StableHlo.reshape main_v12 main_v13 (rfl : (.f32 : EltTy) = .f32) shapeCasts_S1920x2240x1_S1920x2240 ]

/-- Step 1 of the host operations. -/
def st1 {F : FTy → Type} [FloatOps F] : List (HloOp τ sig (Elt F)) :=
  [ StableHlo.binary main_v9 main_v7 main_v14 (cmpf .ogt : (⟨S1920x2240, .f32⟩ : BufTy).Contents (Elt F) → (⟨S1920x2240, .f32⟩ : BufTy).Contents (Elt F) → (⟨S1920x2240, .i1⟩ : BufTy).Contents (Elt F)),
    StableHlo.unary main_v14 main_v15 ((extui 32 · natLt_1_32) : (⟨S1920x2240, .i1⟩ : BufTy).Contents (Elt F) → (⟨S1920x2240, .i32⟩ : BufTy).Contents (Elt F)),
    StableHlo.nullary main_c (constantI S_ 32 0#32),
    StableHlo.unary main_c main_v16 (broadcastInDim S1920x2240 ![] bcast_S_S1920x2240 : (⟨S_, .i32⟩ : BufTy).Contents (Elt F) → (⟨S1920x2240, .i32⟩ : BufTy).Contents (Elt F)),
    StableHlo.binary main_v16 main_v15 main_v17 (addi : (⟨S1920x2240, .i32⟩ : BufTy).Contents (Elt F) → (⟨S1920x2240, .i32⟩ : BufTy).Contents (Elt F) → (⟨S1920x2240, .i32⟩ : BufTy).Contents (Elt F)),
    StableHlo.binary main_v11 main_v7 main_v18 (cmpf .ogt : (⟨S1920x2240, .f32⟩ : BufTy).Contents (Elt F) → (⟨S1920x2240, .f32⟩ : BufTy).Contents (Elt F) → (⟨S1920x2240, .i1⟩ : BufTy).Contents (Elt F)),
    StableHlo.unary main_v18 main_v19 ((extui 32 · natLt_1_32) : (⟨S1920x2240, .i1⟩ : BufTy).Contents (Elt F) → (⟨S1920x2240, .i32⟩ : BufTy).Contents (Elt F)),
    StableHlo.binary main_v17 main_v19 main_v20 (addi : (⟨S1920x2240, .i32⟩ : BufTy).Contents (Elt F) → (⟨S1920x2240, .i32⟩ : BufTy).Contents (Elt F) → (⟨S1920x2240, .i32⟩ : BufTy).Contents (Elt F)),
    StableHlo.binary main_v13 main_v7 main_v21 (cmpf .ogt : (⟨S1920x2240, .f32⟩ : BufTy).Contents (Elt F) → (⟨S1920x2240, .f32⟩ : BufTy).Contents (Elt F) → (⟨S1920x2240, .i1⟩ : BufTy).Contents (Elt F)),
    StableHlo.unary main_v21 main_v22 ((extui 32 · natLt_1_32) : (⟨S1920x2240, .i1⟩ : BufTy).Contents (Elt F) → (⟨S1920x2240, .i32⟩ : BufTy).Contents (Elt F)),
    StableHlo.binary main_v20 main_v22 main_v23 (addi : (⟨S1920x2240, .i32⟩ : BufTy).Contents (Elt F) → (⟨S1920x2240, .i32⟩ : BufTy).Contents (Elt F) → (⟨S1920x2240, .i32⟩ : BufTy).Contents (Elt F)),
    StableHlo.nullary main_c_1 (constantI S_ 32 2#32),
    StableHlo.unary main_c_1 main_v24 (broadcastInDim S1920x2240 ![] bcast_S_S1920x2240 : (⟨S_, .i32⟩ : BufTy).Contents (Elt F) → (⟨S1920x2240, .i32⟩ : BufTy).Contents (Elt F)),
    StableHlo.binary main_v23 main_v24 main_v25 (cmpi .slt : (⟨S1920x2240, .i32⟩ : BufTy).Contents (Elt F) → (⟨S1920x2240, .i32⟩ : BufTy).Contents (Elt F) → (⟨S1920x2240, .i1⟩ : BufTy).Contents (Elt F)) ]

/-- Step 2 of the host operations. -/
def st2 {F : FTy → Type} [FloatOps F] : List (HloOp τ sig (Elt F)) :=
  [ StableHlo.binary main_v7 main_v9 main_v26 (cmpf .oge : (⟨S1920x2240, .f32⟩ : BufTy).Contents (Elt F) → (⟨S1920x2240, .f32⟩ : BufTy).Contents (Elt F) → (⟨S1920x2240, .i1⟩ : BufTy).Contents (Elt F)),
    StableHlo.unary main_v26 main_v27 ((extui 32 · natLt_1_32) : (⟨S1920x2240, .i1⟩ : BufTy).Contents (Elt F) → (⟨S1920x2240, .i32⟩ : BufTy).Contents (Elt F)),
    StableHlo.nullary main_c_2 (constantI S_ 32 0#32),
    StableHlo.unary main_c_2 main_v28 (broadcastInDim S1920x2240 ![] bcast_S_S1920x2240 : (⟨S_, .i32⟩ : BufTy).Contents (Elt F) → (⟨S1920x2240, .i32⟩ : BufTy).Contents (Elt F)),
    StableHlo.binary main_v28 main_v27 main_v29 (addi : (⟨S1920x2240, .i32⟩ : BufTy).Contents (Elt F) → (⟨S1920x2240, .i32⟩ : BufTy).Contents (Elt F) → (⟨S1920x2240, .i32⟩ : BufTy).Contents (Elt F)),
    StableHlo.binary main_v11 main_v9 main_v30 (cmpf .ogt : (⟨S1920x2240, .f32⟩ : BufTy).Contents (Elt F) → (⟨S1920x2240, .f32⟩ : BufTy).Contents (Elt F) → (⟨S1920x2240, .i1⟩ : BufTy).Contents (Elt F)),
    StableHlo.unary main_v30 main_v31 ((extui 32 · natLt_1_32) : (⟨S1920x2240, .i1⟩ : BufTy).Contents (Elt F) → (⟨S1920x2240, .i32⟩ : BufTy).Contents (Elt F)),
    StableHlo.binary main_v29 main_v31 main_v32 (addi : (⟨S1920x2240, .i32⟩ : BufTy).Contents (Elt F) → (⟨S1920x2240, .i32⟩ : BufTy).Contents (Elt F) → (⟨S1920x2240, .i32⟩ : BufTy).Contents (Elt F)),
    StableHlo.binary main_v13 main_v9 main_v33 (cmpf .ogt : (⟨S1920x2240, .f32⟩ : BufTy).Contents (Elt F) → (⟨S1920x2240, .f32⟩ : BufTy).Contents (Elt F) → (⟨S1920x2240, .i1⟩ : BufTy).Contents (Elt F)),
    StableHlo.unary main_v33 main_v34 ((extui 32 · natLt_1_32) : (⟨S1920x2240, .i1⟩ : BufTy).Contents (Elt F) → (⟨S1920x2240, .i32⟩ : BufTy).Contents (Elt F)),
    StableHlo.binary main_v32 main_v34 main_v35 (addi : (⟨S1920x2240, .i32⟩ : BufTy).Contents (Elt F) → (⟨S1920x2240, .i32⟩ : BufTy).Contents (Elt F) → (⟨S1920x2240, .i32⟩ : BufTy).Contents (Elt F)),
    StableHlo.nullary main_c_3 (constantI S_ 32 2#32),
    StableHlo.unary main_c_3 main_v36 (broadcastInDim S1920x2240 ![] bcast_S_S1920x2240 : (⟨S_, .i32⟩ : BufTy).Contents (Elt F) → (⟨S1920x2240, .i32⟩ : BufTy).Contents (Elt F)),
    StableHlo.binary main_v35 main_v36 main_v37 (cmpi .slt : (⟨S1920x2240, .i32⟩ : BufTy).Contents (Elt F) → (⟨S1920x2240, .i32⟩ : BufTy).Contents (Elt F) → (⟨S1920x2240, .i1⟩ : BufTy).Contents (Elt F)) ]

/-- Step 3 of the host operations. -/
def st3 {F : FTy → Type} [FloatOps F] : List (HloOp τ sig (Elt F)) :=
  [ StableHlo.binary main_v7 main_v11 main_v38 (cmpf .oge : (⟨S1920x2240, .f32⟩ : BufTy).Contents (Elt F) → (⟨S1920x2240, .f32⟩ : BufTy).Contents (Elt F) → (⟨S1920x2240, .i1⟩ : BufTy).Contents (Elt F)),
    StableHlo.unary main_v38 main_v39 ((extui 32 · natLt_1_32) : (⟨S1920x2240, .i1⟩ : BufTy).Contents (Elt F) → (⟨S1920x2240, .i32⟩ : BufTy).Contents (Elt F)),
    StableHlo.nullary main_c_4 (constantI S_ 32 0#32),
    StableHlo.unary main_c_4 main_v40 (broadcastInDim S1920x2240 ![] bcast_S_S1920x2240 : (⟨S_, .i32⟩ : BufTy).Contents (Elt F) → (⟨S1920x2240, .i32⟩ : BufTy).Contents (Elt F)),
    StableHlo.binary main_v40 main_v39 main_v41 (addi : (⟨S1920x2240, .i32⟩ : BufTy).Contents (Elt F) → (⟨S1920x2240, .i32⟩ : BufTy).Contents (Elt F) → (⟨S1920x2240, .i32⟩ : BufTy).Contents (Elt F)),
    StableHlo.binary main_v9 main_v11 main_v42 (cmpf .oge : (⟨S1920x2240, .f32⟩ : BufTy).Contents (Elt F) → (⟨S1920x2240, .f32⟩ : BufTy).Contents (Elt F) → (⟨S1920x2240, .i1⟩ : BufTy).Contents (Elt F)),
    StableHlo.unary main_v42 main_v43 ((extui 32 · natLt_1_32) : (⟨S1920x2240, .i1⟩ : BufTy).Contents (Elt F) → (⟨S1920x2240, .i32⟩ : BufTy).Contents (Elt F)),
    StableHlo.binary main_v41 main_v43 main_v44 (addi : (⟨S1920x2240, .i32⟩ : BufTy).Contents (Elt F) → (⟨S1920x2240, .i32⟩ : BufTy).Contents (Elt F) → (⟨S1920x2240, .i32⟩ : BufTy).Contents (Elt F)),
    StableHlo.binary main_v13 main_v11 main_v45 (cmpf .ogt : (⟨S1920x2240, .f32⟩ : BufTy).Contents (Elt F) → (⟨S1920x2240, .f32⟩ : BufTy).Contents (Elt F) → (⟨S1920x2240, .i1⟩ : BufTy).Contents (Elt F)),
    StableHlo.unary main_v45 main_v46 ((extui 32 · natLt_1_32) : (⟨S1920x2240, .i1⟩ : BufTy).Contents (Elt F) → (⟨S1920x2240, .i32⟩ : BufTy).Contents (Elt F)),
    StableHlo.binary main_v44 main_v46 main_v47 (addi : (⟨S1920x2240, .i32⟩ : BufTy).Contents (Elt F) → (⟨S1920x2240, .i32⟩ : BufTy).Contents (Elt F) → (⟨S1920x2240, .i32⟩ : BufTy).Contents (Elt F)),
    StableHlo.nullary main_c_5 (constantI S_ 32 2#32),
    StableHlo.unary main_c_5 main_v48 (broadcastInDim S1920x2240 ![] bcast_S_S1920x2240 : (⟨S_, .i32⟩ : BufTy).Contents (Elt F) → (⟨S1920x2240, .i32⟩ : BufTy).Contents (Elt F)),
    StableHlo.binary main_v47 main_v48 main_v49 (cmpi .slt : (⟨S1920x2240, .i32⟩ : BufTy).Contents (Elt F) → (⟨S1920x2240, .i32⟩ : BufTy).Contents (Elt F) → (⟨S1920x2240, .i1⟩ : BufTy).Contents (Elt F)) ]

/-- Step 4 of the host operations. -/
def st4 {F : FTy → Type} [FloatOps F] : List (HloOp τ sig (Elt F)) :=
  [ StableHlo.binary main_v7 main_v13 main_v50 (cmpf .oge : (⟨S1920x2240, .f32⟩ : BufTy).Contents (Elt F) → (⟨S1920x2240, .f32⟩ : BufTy).Contents (Elt F) → (⟨S1920x2240, .i1⟩ : BufTy).Contents (Elt F)),
    StableHlo.unary main_v50 main_v51 ((extui 32 · natLt_1_32) : (⟨S1920x2240, .i1⟩ : BufTy).Contents (Elt F) → (⟨S1920x2240, .i32⟩ : BufTy).Contents (Elt F)),
    StableHlo.nullary main_c_6 (constantI S_ 32 0#32),
    StableHlo.unary main_c_6 main_v52 (broadcastInDim S1920x2240 ![] bcast_S_S1920x2240 : (⟨S_, .i32⟩ : BufTy).Contents (Elt F) → (⟨S1920x2240, .i32⟩ : BufTy).Contents (Elt F)),
    StableHlo.binary main_v52 main_v51 main_v53 (addi : (⟨S1920x2240, .i32⟩ : BufTy).Contents (Elt F) → (⟨S1920x2240, .i32⟩ : BufTy).Contents (Elt F) → (⟨S1920x2240, .i32⟩ : BufTy).Contents (Elt F)),
    StableHlo.binary main_v9 main_v13 main_v54 (cmpf .oge : (⟨S1920x2240, .f32⟩ : BufTy).Contents (Elt F) → (⟨S1920x2240, .f32⟩ : BufTy).Contents (Elt F) → (⟨S1920x2240, .i1⟩ : BufTy).Contents (Elt F)),
    StableHlo.unary main_v54 main_v55 ((extui 32 · natLt_1_32) : (⟨S1920x2240, .i1⟩ : BufTy).Contents (Elt F) → (⟨S1920x2240, .i32⟩ : BufTy).Contents (Elt F)),
    StableHlo.binary main_v53 main_v55 main_v56 (addi : (⟨S1920x2240, .i32⟩ : BufTy).Contents (Elt F) → (⟨S1920x2240, .i32⟩ : BufTy).Contents (Elt F) → (⟨S1920x2240, .i32⟩ : BufTy).Contents (Elt F)),
    StableHlo.binary main_v11 main_v13 main_v57 (cmpf .oge : (⟨S1920x2240, .f32⟩ : BufTy).Contents (Elt F) → (⟨S1920x2240, .f32⟩ : BufTy).Contents (Elt F) → (⟨S1920x2240, .i1⟩ : BufTy).Contents (Elt F)),
    StableHlo.unary main_v57 main_v58 ((extui 32 · natLt_1_32) : (⟨S1920x2240, .i1⟩ : BufTy).Contents (Elt F) → (⟨S1920x2240, .i32⟩ : BufTy).Contents (Elt F)),
    StableHlo.binary main_v56 main_v58 main_v59 (addi : (⟨S1920x2240, .i32⟩ : BufTy).Contents (Elt F) → (⟨S1920x2240, .i32⟩ : BufTy).Contents (Elt F) → (⟨S1920x2240, .i32⟩ : BufTy).Contents (Elt F)),
    StableHlo.nullary main_c_7 (constantI S_ 32 2#32),
    StableHlo.unary main_c_7 main_v60 (broadcastInDim S1920x2240 ![] bcast_S_S1920x2240 : (⟨S_, .i32⟩ : BufTy).Contents (Elt F) → (⟨S1920x2240, .i32⟩ : BufTy).Contents (Elt F)),
    StableHlo.binary main_v59 main_v60 main_v61 (cmpi .slt : (⟨S1920x2240, .i32⟩ : BufTy).Contents (Elt F) → (⟨S1920x2240, .i32⟩ : BufTy).Contents (Elt F) → (⟨S1920x2240, .i1⟩ : BufTy).Contents (Elt F)) ]

/-- Step 5 of the host operations. -/
def st5 {F : FTy → Type} [FloatOps F] : List (HloOp τ sig (Elt F)) :=
  [ StableHlo.unary main_v25 main_v62 (broadcastInDim S1920x2240x1 ![0, 1] bcast_S1920x2240_S1920x2240x1_0_1 : (⟨S1920x2240, .i1⟩ : BufTy).Contents (Elt F) → (⟨S1920x2240x1, .i1⟩ : BufTy).Contents (Elt F)),
    StableHlo.unary main_v37 main_v63 (broadcastInDim S1920x2240x1 ![0, 1] bcast_S1920x2240_S1920x2240x1_0_1 : (⟨S1920x2240, .i1⟩ : BufTy).Contents (Elt F) → (⟨S1920x2240x1, .i1⟩ : BufTy).Contents (Elt F)),
    StableHlo.unary main_v49 main_v64 (broadcastInDim S1920x2240x1 ![0, 1] bcast_S1920x2240_S1920x2240x1_0_1 : (⟨S1920x2240, .i1⟩ : BufTy).Contents (Elt F) → (⟨S1920x2240x1, .i1⟩ : BufTy).Contents (Elt F)),
    StableHlo.unary main_v61 main_v65 (broadcastInDim S1920x2240x1 ![0, 1] bcast_S1920x2240_S1920x2240x1_0_1 : (⟨S1920x2240, .i1⟩ : BufTy).Contents (Elt F) → (⟨S1920x2240x1, .i1⟩ : BufTy).Contents (Elt F)),
    StableHlo.nary ![main_v62, main_v63, main_v64, main_v65] main_v66 (fun u => (concatenate S1920x2240x4 2 [⟨S1920x2240x1, (u 0 : (⟨S1920x2240x1, .i1⟩ : BufTy).Contents (Elt F))⟩, ⟨S1920x2240x1, (u 1 : (⟨S1920x2240x1, .i1⟩ : BufTy).Contents (Elt F))⟩, ⟨S1920x2240x1, (u 2 : (⟨S1920x2240x1, .i1⟩ : BufTy).Contents (Elt F))⟩, ⟨S1920x2240x1, (u 3 : (⟨S1920x2240x1, .i1⟩ : BufTy).Contents (Elt F))⟩] concatenates_S1920x2240x1_S1920x2240x1_S1920x2240x1_S1920x2240x1_S1920x2240x4_d2 : (⟨S1920x2240x4, .i1⟩ : BufTy).Contents (Elt F))) ]

/-- Step 6 of the host operations. -/
def st6 {F : FTy → Type} [FloatOps F] : List (HloOp τ sig (Elt F)) :=
  [ StableHlo.nullary main_cst_8 (constant S_ .f32 0xFF800000#32),
    StableHlo.binary main_v4 main_cst_8 main_v67 ((fun x v => Host.reduce FloatOps.maximumf x v reducesTo_S1920x8960_S1920_d1 h_S_) : (⟨S1920x8960, .f32⟩ : BufTy).Contents (Elt F) → (⟨S_, .f32⟩ : BufTy).Contents (Elt F) → (⟨S1920, .f32⟩ : BufTy).Contents (Elt F)),
    StableHlo.unary main_v67 main_v68 (broadcastInDim S1920x1 ![0] bcast_S1920_S1920x1_0 : (⟨S1920, .f32⟩ : BufTy).Contents (Elt F) → (⟨S1920x1, .f32⟩ : BufTy).Contents (Elt F)),
    StableHlo.nullary main_cst_9 (constant S_ .f32 0x3B124925#32),
    StableHlo.unary main_cst_9 main_v69 (broadcastInDim S1920x1 ![] bcast_S_S1920x1 : (⟨S_, .f32⟩ : BufTy).Contents (Elt F) → (⟨S1920x1, .f32⟩ : BufTy).Contents (Elt F)),
    StableHlo.binary main_v68 main_v69 main_v70 (mulf : (⟨S1920x1, .f32⟩ : BufTy).Contents (Elt F) → (⟨S1920x1, .f32⟩ : BufTy).Contents (Elt F) → (⟨S1920x1, .f32⟩ : BufTy).Contents (Elt F)),
    StableHlo.unary main_cst main_v71 (broadcastInDim S1920x253 ![0, 1] bcast_S1x253_S1920x253_0_1 : (⟨S1x253, .f32⟩ : BufTy).Contents (Elt F) → (⟨S1920x253, .f32⟩ : BufTy).Contents (Elt F)),
    StableHlo.unary main_v70 main_v72 (broadcastInDim S1920x253 ![0, 1] bcast_S1920x1_S1920x253_0_1 : (⟨S1920x1, .f32⟩ : BufTy).Contents (Elt F) → (⟨S1920x253, .f32⟩ : BufTy).Contents (Elt F)),
    StableHlo.binary main_v71 main_v72 main_v73 (cmpf .ole : (⟨S1920x253, .f32⟩ : BufTy).Contents (Elt F) → (⟨S1920x253, .f32⟩ : BufTy).Contents (Elt F) → (⟨S1920x253, .i1⟩ : BufTy).Contents (Elt F)),
    StableHlo.nullary main_cst_10 (constant S_ .f32 0x40000000#32),
    StableHlo.unary main_cst_10 main_v74 (broadcastInDim S1x253 ![] bcast_S_S1x253 : (⟨S_, .f32⟩ : BufTy).Contents (Elt F) → (⟨S1x253, .f32⟩ : BufTy).Contents (Elt F)),
    StableHlo.binary main_v74 main_cst main_v75 (mulf : (⟨S1x253, .f32⟩ : BufTy).Contents (Elt F) → (⟨S1x253, .f32⟩ : BufTy).Contents (Elt F) → (⟨S1x253, .f32⟩ : BufTy).Contents (Elt F)),
    StableHlo.nullary main_cst_11 (constant S_ .f32 0x00000000#32) ]

/-- Step 7 of the host operations. -/
def st7 {F : FTy → Type} [FloatOps F] : List (HloOp τ sig (Elt F)) :=
  [ StableHlo.TRef.unary (.of main_cst_11 : StableHlo.TRef sig ⟨S_, .f32⟩) (.of main_call0_v0 : StableHlo.TRef sig ⟨S_, .f32⟩) id,
    StableHlo.TRef.unary (.of main_v75 : StableHlo.TRef sig ⟨S1x253, .f32⟩) (.of main_call0_v1 : StableHlo.TRef sig ⟨S1920x253, .f32⟩) (broadcastInDim S1920x253 ![0, 1] bcast_S1x253_S1920x253_0_1),
    StableHlo.TRef.unary (.of main_call0_v0 : StableHlo.TRef sig ⟨S_, .f32⟩) (.of main_call0_v2 : StableHlo.TRef sig ⟨S1920x253, .f32⟩) (broadcastInDim S1920x253 ![] bcast_S_S1920x253),
    StableHlo.TRef.ternary (.of main_v73 : StableHlo.TRef sig ⟨S1920x253, .i1⟩) (.of main_call0_v1 : StableHlo.TRef sig ⟨S1920x253, .f32⟩) (.of main_call0_v2 : StableHlo.TRef sig ⟨S1920x253, .f32⟩) (.of main_v76 : StableHlo.TRef sig ⟨S1920x253, .f32⟩) select,
    StableHlo.nullary main_cst_12 (constant S_ .f32 0xFF800000#32),
    StableHlo.binary main_v76 main_cst_12 main_v77 ((fun x v => Host.reduce FloatOps.maximumf x v reducesTo_S1920x253_S1920_d1 h_S_) : (⟨S1920x253, .f32⟩ : BufTy).Contents (Elt F) → (⟨S_, .f32⟩ : BufTy).Contents (Elt F) → (⟨S1920, .f32⟩ : BufTy).Contents (Elt F)),
    StableHlo.nullary main_cst_13 (constant S_ .f32 0x00000000#32),
    StableHlo.unary main_cst_13 main_v78 (broadcastInDim S1920 ![] bcast_S_S1920 : (⟨S_, .f32⟩ : BufTy).Contents (Elt F) → (⟨S1920, .f32⟩ : BufTy).Contents (Elt F)),
    StableHlo.binary main_v77 main_v78 main_v79 (cmpf .oeq : (⟨S1920, .f32⟩ : BufTy).Contents (Elt F) → (⟨S1920, .f32⟩ : BufTy).Contents (Elt F) → (⟨S1920, .i1⟩ : BufTy).Contents (Elt F)),
    StableHlo.nullary main_cst_14 (constant S_ .f32 0x3F800000#32),
    StableHlo.TRef.unary (.of main_cst_14 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S1920, .f32⟩) (broadcastInDim S1920 ![] bcast_S_S1920),
    StableHlo.TRef.ternary (.of main_v79 : StableHlo.TRef sig ⟨S1920, .i1⟩) (.of main_call1_v1 : StableHlo.TRef sig ⟨S1920, .f32⟩) (.of main_v77 : StableHlo.TRef sig ⟨S1920, .f32⟩) (.of main_v80 : StableHlo.TRef sig ⟨S1920, .f32⟩) select ]

/-- Step 8 of the host operations. -/
def st8 {F : FTy → Type} [FloatOps F] : List (HloOp τ sig (Elt F)) :=
  [ StableHlo.nullary main_cst_15 (constant S_ .f32 0x00000000#32),
    StableHlo.TRef.unary (.of main_cst_15 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S1920x2240x4, .f32⟩) (broadcastInDim S1920x2240x4 ![] bcast_S_S1920x2240x4),
    StableHlo.TRef.ternary (.of main_v66 : StableHlo.TRef sig ⟨S1920x2240x4, .i1⟩) (.of main_v5 : StableHlo.TRef sig ⟨S1920x2240x4, .f32⟩) (.of main_call2_v1 : StableHlo.TRef sig ⟨S1920x2240x4, .f32⟩) (.of main_v81 : StableHlo.TRef sig ⟨S1920x2240x4, .f32⟩) select,
    StableHlo.unary main_v80 main_v82 (broadcastInDim S1920x1x1 ![0] bcast_S1920_S1920x1x1_0 : (⟨S1920, .f32⟩ : BufTy).Contents (Elt F) → (⟨S1920x1x1, .f32⟩ : BufTy).Contents (Elt F)),
    StableHlo.unary main_v82 main_v83 (broadcastInDim S1920x2240x4 ![0, 1, 2] bcast_S1920x1x1_S1920x2240x4_0_1_2 : (⟨S1920x1x1, .f32⟩ : BufTy).Contents (Elt F) → (⟨S1920x2240x4, .f32⟩ : BufTy).Contents (Elt F)),
    StableHlo.binary main_v81 main_v83 main_v84 (Host.divf : (⟨S1920x2240x4, .f32⟩ : BufTy).Contents (Elt F) → (⟨S1920x2240x4, .f32⟩ : BufTy).Contents (Elt F) → (⟨S1920x2240x4, .f32⟩ : BufTy).Contents (Elt F)),
    StableHlo.nullary main_cst_16 (constant S_ .f32 0xC3E00000#32),
    StableHlo.nullary main_cst_17 (constant S_ .f32 0x43E00000#32),
    StableHlo.TRef.unary (.of main_cst_16 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S1920x2240x4, .f32⟩) (broadcastInDim S1920x2240x4 ![] bcast_S_S1920x2240x4),
    StableHlo.TRef.binary (.of main_call3_v1 : StableHlo.TRef sig ⟨S1920x2240x4, .f32⟩) (.of main_v84 : StableHlo.TRef sig ⟨S1920x2240x4, .f32⟩) (.of main_call3_v2 : StableHlo.TRef sig ⟨S1920x2240x4, .f32⟩) maximumf,
    StableHlo.TRef.unary (.of main_cst_17 : StableHlo.TRef sig ⟨S_, .f32⟩) (.of main_call3_v3 : StableHlo.TRef sig ⟨S_, .f32⟩) id,
    StableHlo.TRef.unary (.of main_call3_v3 : StableHlo.TRef sig ⟨S_, .f32⟩) (.of main_call3_v4 : StableHlo.TRef sig ⟨S1920x2240x4, .f32⟩) (broadcastInDim S1920x2240x4 ![] bcast_S_S1920x2240x4),
    StableHlo.TRef.binary (.of main_call3_v4 : StableHlo.TRef sig ⟨S1920x2240x4, .f32⟩) (.of main_call3_v2 : StableHlo.TRef sig ⟨S1920x2240x4, .f32⟩) (.of main_v85 : StableHlo.TRef sig ⟨S1920x2240x4, .f32⟩) minimumf ]

/-- Step 9 of the host operations. -/
def st9 {F : FTy → Type} [FloatOps F] : List (HloOp τ sig (Elt F)) :=
  [ StableHlo.unary main_v85 main_v86 ((extractStridedSlice S1920x2240x1 ![0, 0, 0] · slices_S1920x2240x4_S1920x2240x1_0_0_0) : (⟨S1920x2240x4, .f32⟩ : BufTy).Contents (Elt F) → (⟨S1920x2240x1, .f32⟩ : BufTy).Contents (Elt F)),
    StableHlo.reshape main_v86 main_v87 (rfl : (.f32 : EltTy) = .f32) shapeCasts_S1920x2240x1_S1920x2240,
    StableHlo.unary main_v85 main_v88 ((extractStridedSlice S1920x2240x1 ![0, 0, 1] · slices_S1920x2240x4_S1920x2240x1_0_0_1) : (⟨S1920x2240x4, .f32⟩ : BufTy).Contents (Elt F) → (⟨S1920x2240x1, .f32⟩ : BufTy).Contents (Elt F)),
    StableHlo.reshape main_v88 main_v89 (rfl : (.f32 : EltTy) = .f32) shapeCasts_S1920x2240x1_S1920x2240,
    StableHlo.unary main_v85 main_v90 ((extractStridedSlice S1920x2240x1 ![0, 0, 2] · slices_S1920x2240x4_S1920x2240x1_0_0_2) : (⟨S1920x2240x4, .f32⟩ : BufTy).Contents (Elt F) → (⟨S1920x2240x1, .f32⟩ : BufTy).Contents (Elt F)),
    StableHlo.reshape main_v90 main_v91 (rfl : (.f32 : EltTy) = .f32) shapeCasts_S1920x2240x1_S1920x2240,
    StableHlo.unary main_v85 main_v92 ((extractStridedSlice S1920x2240x1 ![0, 0, 3] · slices_S1920x2240x4_S1920x2240x1_0_0_3) : (⟨S1920x2240x4, .f32⟩ : BufTy).Contents (Elt F) → (⟨S1920x2240x1, .f32⟩ : BufTy).Contents (Elt F)),
    StableHlo.reshape main_v92 main_v93 (rfl : (.f32 : EltTy) = .f32) shapeCasts_S1920x2240x1_S1920x2240,
    StableHlo.TRef.ternary (.of main_v37 : StableHlo.TRef sig ⟨S1920x2240, .i1⟩) (.of main_v89 : StableHlo.TRef sig ⟨S1920x2240, .f32⟩) (.of main_v91 : StableHlo.TRef sig ⟨S1920x2240, .f32⟩) (.of main_v94 : StableHlo.TRef sig ⟨S1920x2240, .f32⟩) select,
    StableHlo.TRef.ternary (.of main_v25 : StableHlo.TRef sig ⟨S1920x2240, .i1⟩) (.of main_v87 : StableHlo.TRef sig ⟨S1920x2240, .f32⟩) (.of main_v94 : StableHlo.TRef sig ⟨S1920x2240, .f32⟩) (.of main_v95 : StableHlo.TRef sig ⟨S1920x2240, .f32⟩) select,
    StableHlo.TRef.ternary (.of main_v49 : StableHlo.TRef sig ⟨S1920x2240, .i1⟩) (.of main_v91 : StableHlo.TRef sig ⟨S1920x2240, .f32⟩) (.of main_v89 : StableHlo.TRef sig ⟨S1920x2240, .f32⟩) (.of main_v96 : StableHlo.TRef sig ⟨S1920x2240, .f32⟩) select,
    StableHlo.TRef.ternary (.of main_v61 : StableHlo.TRef sig ⟨S1920x2240, .i1⟩) (.of main_v93 : StableHlo.TRef sig ⟨S1920x2240, .f32⟩) (.of main_v96 : StableHlo.TRef sig ⟨S1920x2240, .f32⟩) (.of main_v97 : StableHlo.TRef sig ⟨S1920x2240, .f32⟩) select ]

/-- Step 10 of the host operations. -/
def st10 {F : FTy → Type} [FloatOps F] : List (HloOp τ sig (Elt F)) :=
  [ StableHlo.nullary main_c_18 (constantI S_ 32 1#32),
    StableHlo.nullary main_c_19 (constantI S_ 32 2#32),
    StableHlo.TRef.unary (.of main_c_18 : StableHlo.TRef sig ⟨S_, .i32⟩) (.of main_call8_v0 : StableHlo.TRef sig ⟨S1920x2240, .i32⟩) (broadcastInDim S1920x2240 ![] bcast_S_S1920x2240),
    StableHlo.TRef.unary (.of main_c_19 : StableHlo.TRef sig ⟨S_, .i32⟩) (.of main_call8_v1 : StableHlo.TRef sig ⟨S1920x2240, .i32⟩) (broadcastInDim S1920x2240 ![] bcast_S_S1920x2240),
    StableHlo.TRef.ternary (.of main_v37 : StableHlo.TRef sig ⟨S1920x2240, .i1⟩) (.of main_call8_v0 : StableHlo.TRef sig ⟨S1920x2240, .i32⟩) (.of main_call8_v1 : StableHlo.TRef sig ⟨S1920x2240, .i32⟩) (.of main_v98 : StableHlo.TRef sig ⟨S1920x2240, .i32⟩) select,
    StableHlo.nullary main_c_20 (constantI S_ 32 0#32),
    StableHlo.TRef.unary (.of main_c_20 : StableHlo.TRef sig ⟨S_, .i32⟩) (.of main_call9_v0 : StableHlo.TRef sig ⟨S1920x2240, .i32⟩) (broadcastInDim S1920x2240 ![] bcast_S_S1920x2240),
    StableHlo.TRef.ternary (.of main_v25 : StableHlo.TRef sig ⟨S1920x2240, .i1⟩) (.of main_call9_v0 : StableHlo.TRef sig ⟨S1920x2240, .i32⟩) (.of main_v98 : StableHlo.TRef sig ⟨S1920x2240, .i32⟩) (.of main_v99 : StableHlo.TRef sig ⟨S1920x2240, .i32⟩) select,
    StableHlo.unary main_v99 main_v100 (id : (⟨S1920x2240, .i32⟩ : BufTy).Contents (Elt F) → (⟨S1920x2240, .i32⟩ : BufTy).Contents (Elt F)),
    StableHlo.nullary main_c_21 (constantI S_ 32 2#32),
    StableHlo.nullary main_c_22 (constantI S_ 32 1#32),
    StableHlo.TRef.unary (.of main_c_21 : StableHlo.TRef sig ⟨S_, .i32⟩) (.of main_call10_v0 : StableHlo.TRef sig ⟨S1920x2240, .i32⟩) (broadcastInDim S1920x2240 ![] bcast_S_S1920x2240),
    StableHlo.TRef.unary (.of main_c_22 : StableHlo.TRef sig ⟨S_, .i32⟩) (.of main_call10_v1 : StableHlo.TRef sig ⟨S1920x2240, .i32⟩) (broadcastInDim S1920x2240 ![] bcast_S_S1920x2240),
    StableHlo.TRef.ternary (.of main_v49 : StableHlo.TRef sig ⟨S1920x2240, .i1⟩) (.of main_call10_v0 : StableHlo.TRef sig ⟨S1920x2240, .i32⟩) (.of main_call10_v1 : StableHlo.TRef sig ⟨S1920x2240, .i32⟩) (.of main_v101 : StableHlo.TRef sig ⟨S1920x2240, .i32⟩) select,
    StableHlo.nullary main_c_23 (constantI S_ 32 3#32),
    StableHlo.TRef.unary (.of main_c_23 : StableHlo.TRef sig ⟨S_, .i32⟩) (.of main_call11_v0 : StableHlo.TRef sig ⟨S1920x2240, .i32⟩) (broadcastInDim S1920x2240 ![] bcast_S_S1920x2240),
    StableHlo.TRef.ternary (.of main_v61 : StableHlo.TRef sig ⟨S1920x2240, .i1⟩) (.of main_call11_v0 : StableHlo.TRef sig ⟨S1920x2240, .i32⟩) (.of main_v101 : StableHlo.TRef sig ⟨S1920x2240, .i32⟩) (.of main_v102 : StableHlo.TRef sig ⟨S1920x2240, .i32⟩) select,
    StableHlo.unary main_v102 main_v103 (id : (⟨S1920x2240, .i32⟩ : BufTy).Contents (Elt F) → (⟨S1920x2240, .i32⟩ : BufTy).Contents (Elt F)),
    StableHlo.nullary main_c_24 (constantI S_ 32 2#32),
    StableHlo.unary main_c_24 main_v104 (broadcastInDim S1920x2240 ![] bcast_S_S1920x2240 : (⟨S_, .i32⟩ : BufTy).Contents (Elt F) → (⟨S1920x2240, .i32⟩ : BufTy).Contents (Elt F)),
    StableHlo.binary main_v103 main_v104 main_v105 (Host.shli : (⟨S1920x2240, .i32⟩ : BufTy).Contents (Elt F) → (⟨S1920x2240, .i32⟩ : BufTy).Contents (Elt F) → (⟨S1920x2240, .i32⟩ : BufTy).Contents (Elt F)),
    StableHlo.binary main_v100 main_v105 main_v106 (ori : (⟨S1920x2240, .i32⟩ : BufTy).Contents (Elt F) → (⟨S1920x2240, .i32⟩ : BufTy).Contents (Elt F) → (⟨S1920x2240, .i32⟩ : BufTy).Contents (Elt F)),
    StableHlo.unary main_v106 main_v107 ((trunci 8 · natLt_8_32) : (⟨S1920x2240, .i32⟩ : BufTy).Contents (Elt F) → (⟨S1920x2240, .i8⟩ : BufTy).Contents (Elt F)),
    StableHlo.reshape main_v80 main_v108 (rfl : (.f32 : EltTy) = .f32) shapeCasts_S1920_S6x1x320,
    StableHlo.reshape main_v85 main_v109 (rfl : (.f32 : EltTy) = .f32) shapeCasts_S1920x2240x4_S1920x8960,
    StableHlo.unary main_v95 main_v110 (broadcastInDim S1920x2240x1 ![0, 1] bcast_S1920x2240_S1920x2240x1_0_1 : (⟨S1920x2240, .f32⟩ : BufTy).Contents (Elt F) → (⟨S1920x2240x1, .f32⟩ : BufTy).Contents (Elt F)),
    StableHlo.unary main_v97 main_v111 (broadcastInDim S1920x2240x1 ![0, 1] bcast_S1920x2240_S1920x2240x1_0_1 : (⟨S1920x2240, .f32⟩ : BufTy).Contents (Elt F) → (⟨S1920x2240x1, .f32⟩ : BufTy).Contents (Elt F)),
    StableHlo.binary main_v110 main_v111 main_v112 ((fun a b => concatenate S1920x2240x2 2 [⟨S1920x2240x1, a⟩, ⟨S1920x2240x1, b⟩] concatenates_S1920x2240x1_S1920x2240x1_S1920x2240x2_d2) : (⟨S1920x2240x1, .f32⟩ : BufTy).Contents (Elt F) → (⟨S1920x2240x1, .f32⟩ : BufTy).Contents (Elt F) → (⟨S1920x2240x2, .f32⟩ : BufTy).Contents (Elt F)),
    StableHlo.reshape main_v112 main_v113 (rfl : (.f32 : EltTy) = .f32) shapeCasts_S1920x2240x2_S1920x4480,
    StableHlo.unary main_v80 main_v114 (broadcastInDim S1920x1 ![0] bcast_S1920_S1920x1_0 : (⟨S1920, .f32⟩ : BufTy).Contents (Elt F) → (⟨S1920x1, .f32⟩ : BufTy).Contents (Elt F)),
    StableHlo.unary main_arg2 main_v115 (broadcastInDim S1x1536 ![1] bcast_S1536_S1x1536_1 : (⟨S1536, .f32⟩ : BufTy).Contents (Elt F) → (⟨S1x1536, .f32⟩ : BufTy).Contents (Elt F)) ]

variable (W : Val)

theorem st0_main_cst : StableHlo.after st0 W (no_index (Proc.devRef .tc main_cst)) = powA := by
  after_reads_simp
  first | done | rfl
theorem st0_main_v11 : StableHlo.after st0 W (no_index (Proc.devRef .tc main_v11)) = mb2 (grpA (sqA (W (Proc.devRef .tc main_arg0)))) := by
  after_reads_simp
  first | done | rfl
theorem st0_main_v13 : StableHlo.after st0 W (no_index (Proc.devRef .tc main_v13)) = mb3 (grpA (sqA (W (Proc.devRef .tc main_arg0)))) := by
  after_reads_simp
  first | done | rfl
theorem st0_main_v4 : StableHlo.after st0 W (no_index (Proc.devRef .tc main_v4)) = sqA (W (Proc.devRef .tc main_arg0)) := by
  after_reads_simp
  first | done | rfl
theorem st0_main_v5 : StableHlo.after st0 W (no_index (Proc.devRef .tc main_v5)) = grpA (sqA (W (Proc.devRef .tc main_arg0))) := by
  after_reads_simp
  first | done | rfl
theorem st0_main_v7 : StableHlo.after st0 W (no_index (Proc.devRef .tc main_v7)) = mb0 (grpA (sqA (W (Proc.devRef .tc main_arg0)))) := by
  after_reads_simp
  first | done | rfl
theorem st0_main_v9 : StableHlo.after st0 W (no_index (Proc.devRef .tc main_v9)) = mb1 (grpA (sqA (W (Proc.devRef .tc main_arg0)))) := by
  after_reads_simp
  first | done | rfl
theorem st0_main_arg1 : StableHlo.after st0 W (no_index (Proc.devRef .tc main_arg1)) = W (Proc.devRef .tc main_arg1) := by
  after_reads_simp
theorem st0_main_arg2 : StableHlo.after st0 W (no_index (Proc.devRef .tc main_arg2)) = W (Proc.devRef .tc main_arg2) := by
  after_reads_simp
theorem st1_main_v25 : StableHlo.after st1 W (no_index (Proc.devRef .tc main_v25)) = kA0 (W (Proc.devRef .tc main_v7)) (W (Proc.devRef .tc main_v9)) (W (Proc.devRef .tc main_v11)) (W (Proc.devRef .tc main_v13)) := by
  after_reads_simp
  first | done | rfl
theorem st1_main_arg1 : StableHlo.after st1 W (no_index (Proc.devRef .tc main_arg1)) = W (Proc.devRef .tc main_arg1) := by
  after_reads_simp
theorem st1_main_arg2 : StableHlo.after st1 W (no_index (Proc.devRef .tc main_arg2)) = W (Proc.devRef .tc main_arg2) := by
  after_reads_simp
theorem st1_main_cst : StableHlo.after st1 W (no_index (Proc.devRef .tc main_cst)) = W (Proc.devRef .tc main_cst) := by
  after_reads_simp
theorem st1_main_v11 : StableHlo.after st1 W (no_index (Proc.devRef .tc main_v11)) = W (Proc.devRef .tc main_v11) := by
  after_reads_simp
theorem st1_main_v13 : StableHlo.after st1 W (no_index (Proc.devRef .tc main_v13)) = W (Proc.devRef .tc main_v13) := by
  after_reads_simp
theorem st1_main_v4 : StableHlo.after st1 W (no_index (Proc.devRef .tc main_v4)) = W (Proc.devRef .tc main_v4) := by
  after_reads_simp
theorem st1_main_v5 : StableHlo.after st1 W (no_index (Proc.devRef .tc main_v5)) = W (Proc.devRef .tc main_v5) := by
  after_reads_simp
theorem st1_main_v7 : StableHlo.after st1 W (no_index (Proc.devRef .tc main_v7)) = W (Proc.devRef .tc main_v7) := by
  after_reads_simp
theorem st1_main_v9 : StableHlo.after st1 W (no_index (Proc.devRef .tc main_v9)) = W (Proc.devRef .tc main_v9) := by
  after_reads_simp
theorem st2_main_v37 : StableHlo.after st2 W (no_index (Proc.devRef .tc main_v37)) = kA1 (W (Proc.devRef .tc main_v7)) (W (Proc.devRef .tc main_v9)) (W (Proc.devRef .tc main_v11)) (W (Proc.devRef .tc main_v13)) := by
  after_reads_simp
  first | done | rfl
theorem st2_main_arg1 : StableHlo.after st2 W (no_index (Proc.devRef .tc main_arg1)) = W (Proc.devRef .tc main_arg1) := by
  after_reads_simp
theorem st2_main_arg2 : StableHlo.after st2 W (no_index (Proc.devRef .tc main_arg2)) = W (Proc.devRef .tc main_arg2) := by
  after_reads_simp
theorem st2_main_cst : StableHlo.after st2 W (no_index (Proc.devRef .tc main_cst)) = W (Proc.devRef .tc main_cst) := by
  after_reads_simp
theorem st2_main_v11 : StableHlo.after st2 W (no_index (Proc.devRef .tc main_v11)) = W (Proc.devRef .tc main_v11) := by
  after_reads_simp
theorem st2_main_v13 : StableHlo.after st2 W (no_index (Proc.devRef .tc main_v13)) = W (Proc.devRef .tc main_v13) := by
  after_reads_simp
theorem st2_main_v25 : StableHlo.after st2 W (no_index (Proc.devRef .tc main_v25)) = W (Proc.devRef .tc main_v25) := by
  after_reads_simp
theorem st2_main_v4 : StableHlo.after st2 W (no_index (Proc.devRef .tc main_v4)) = W (Proc.devRef .tc main_v4) := by
  after_reads_simp
theorem st2_main_v5 : StableHlo.after st2 W (no_index (Proc.devRef .tc main_v5)) = W (Proc.devRef .tc main_v5) := by
  after_reads_simp
theorem st2_main_v7 : StableHlo.after st2 W (no_index (Proc.devRef .tc main_v7)) = W (Proc.devRef .tc main_v7) := by
  after_reads_simp
theorem st2_main_v9 : StableHlo.after st2 W (no_index (Proc.devRef .tc main_v9)) = W (Proc.devRef .tc main_v9) := by
  after_reads_simp
theorem st3_main_v49 : StableHlo.after st3 W (no_index (Proc.devRef .tc main_v49)) = kA2 (W (Proc.devRef .tc main_v7)) (W (Proc.devRef .tc main_v9)) (W (Proc.devRef .tc main_v11)) (W (Proc.devRef .tc main_v13)) := by
  after_reads_simp
  first | done | rfl
theorem st3_main_arg1 : StableHlo.after st3 W (no_index (Proc.devRef .tc main_arg1)) = W (Proc.devRef .tc main_arg1) := by
  after_reads_simp
theorem st3_main_arg2 : StableHlo.after st3 W (no_index (Proc.devRef .tc main_arg2)) = W (Proc.devRef .tc main_arg2) := by
  after_reads_simp
theorem st3_main_cst : StableHlo.after st3 W (no_index (Proc.devRef .tc main_cst)) = W (Proc.devRef .tc main_cst) := by
  after_reads_simp
theorem st3_main_v11 : StableHlo.after st3 W (no_index (Proc.devRef .tc main_v11)) = W (Proc.devRef .tc main_v11) := by
  after_reads_simp
theorem st3_main_v13 : StableHlo.after st3 W (no_index (Proc.devRef .tc main_v13)) = W (Proc.devRef .tc main_v13) := by
  after_reads_simp
theorem st3_main_v25 : StableHlo.after st3 W (no_index (Proc.devRef .tc main_v25)) = W (Proc.devRef .tc main_v25) := by
  after_reads_simp
theorem st3_main_v37 : StableHlo.after st3 W (no_index (Proc.devRef .tc main_v37)) = W (Proc.devRef .tc main_v37) := by
  after_reads_simp
theorem st3_main_v4 : StableHlo.after st3 W (no_index (Proc.devRef .tc main_v4)) = W (Proc.devRef .tc main_v4) := by
  after_reads_simp
theorem st3_main_v5 : StableHlo.after st3 W (no_index (Proc.devRef .tc main_v5)) = W (Proc.devRef .tc main_v5) := by
  after_reads_simp
theorem st3_main_v7 : StableHlo.after st3 W (no_index (Proc.devRef .tc main_v7)) = W (Proc.devRef .tc main_v7) := by
  after_reads_simp
theorem st3_main_v9 : StableHlo.after st3 W (no_index (Proc.devRef .tc main_v9)) = W (Proc.devRef .tc main_v9) := by
  after_reads_simp
theorem st4_main_v61 : StableHlo.after st4 W (no_index (Proc.devRef .tc main_v61)) = kA3 (W (Proc.devRef .tc main_v7)) (W (Proc.devRef .tc main_v9)) (W (Proc.devRef .tc main_v11)) (W (Proc.devRef .tc main_v13)) := by
  after_reads_simp
  first | done | rfl
theorem st4_main_arg1 : StableHlo.after st4 W (no_index (Proc.devRef .tc main_arg1)) = W (Proc.devRef .tc main_arg1) := by
  after_reads_simp
theorem st4_main_arg2 : StableHlo.after st4 W (no_index (Proc.devRef .tc main_arg2)) = W (Proc.devRef .tc main_arg2) := by
  after_reads_simp
theorem st4_main_cst : StableHlo.after st4 W (no_index (Proc.devRef .tc main_cst)) = W (Proc.devRef .tc main_cst) := by
  after_reads_simp
theorem st4_main_v25 : StableHlo.after st4 W (no_index (Proc.devRef .tc main_v25)) = W (Proc.devRef .tc main_v25) := by
  after_reads_simp
theorem st4_main_v37 : StableHlo.after st4 W (no_index (Proc.devRef .tc main_v37)) = W (Proc.devRef .tc main_v37) := by
  after_reads_simp
theorem st4_main_v4 : StableHlo.after st4 W (no_index (Proc.devRef .tc main_v4)) = W (Proc.devRef .tc main_v4) := by
  after_reads_simp
theorem st4_main_v49 : StableHlo.after st4 W (no_index (Proc.devRef .tc main_v49)) = W (Proc.devRef .tc main_v49) := by
  after_reads_simp
theorem st4_main_v5 : StableHlo.after st4 W (no_index (Proc.devRef .tc main_v5)) = W (Proc.devRef .tc main_v5) := by
  after_reads_simp
theorem st5_main_v66 : StableHlo.after st5 W (no_index (Proc.devRef .tc main_v66)) = keepA (W (Proc.devRef .tc main_v25)) (W (Proc.devRef .tc main_v37)) (W (Proc.devRef .tc main_v49)) (W (Proc.devRef .tc main_v61)) := by
  after_reads_simp
  first | done | rfl
theorem st5_main_arg1 : StableHlo.after st5 W (no_index (Proc.devRef .tc main_arg1)) = W (Proc.devRef .tc main_arg1) := by
  after_reads_simp
theorem st5_main_arg2 : StableHlo.after st5 W (no_index (Proc.devRef .tc main_arg2)) = W (Proc.devRef .tc main_arg2) := by
  after_reads_simp
theorem st5_main_cst : StableHlo.after st5 W (no_index (Proc.devRef .tc main_cst)) = W (Proc.devRef .tc main_cst) := by
  after_reads_simp
theorem st5_main_v25 : StableHlo.after st5 W (no_index (Proc.devRef .tc main_v25)) = W (Proc.devRef .tc main_v25) := by
  after_reads_simp
theorem st5_main_v37 : StableHlo.after st5 W (no_index (Proc.devRef .tc main_v37)) = W (Proc.devRef .tc main_v37) := by
  after_reads_simp
theorem st5_main_v4 : StableHlo.after st5 W (no_index (Proc.devRef .tc main_v4)) = W (Proc.devRef .tc main_v4) := by
  after_reads_simp
theorem st5_main_v49 : StableHlo.after st5 W (no_index (Proc.devRef .tc main_v49)) = W (Proc.devRef .tc main_v49) := by
  after_reads_simp
theorem st5_main_v5 : StableHlo.after st5 W (no_index (Proc.devRef .tc main_v5)) = W (Proc.devRef .tc main_v5) := by
  after_reads_simp
theorem st5_main_v61 : StableHlo.after st5 W (no_index (Proc.devRef .tc main_v61)) = W (Proc.devRef .tc main_v61) := by
  after_reads_simp
theorem st6_main_cst_11 : StableHlo.after st6 W (no_index (Proc.devRef .tc main_cst_11)) = (constant S_ .f32 0x00000000#32 : FVec Ideal S_ .f32) := by
  after_reads_simp
  first | done | rfl
theorem st6_main_v73 : StableHlo.after st6 W (no_index (Proc.devRef .tc main_v73)) = leA (W (Proc.devRef .tc main_v4)) (W (Proc.devRef .tc main_cst)) := by
  after_reads_simp
  first | done | rfl
theorem st6_main_v75 : StableHlo.after st6 W (no_index (Proc.devRef .tc main_v75)) = dblA (W (Proc.devRef .tc main_cst)) := by
  after_reads_simp
  first | done | rfl
theorem st6_main_arg1 : StableHlo.after st6 W (no_index (Proc.devRef .tc main_arg1)) = W (Proc.devRef .tc main_arg1) := by
  after_reads_simp
theorem st6_main_arg2 : StableHlo.after st6 W (no_index (Proc.devRef .tc main_arg2)) = W (Proc.devRef .tc main_arg2) := by
  after_reads_simp
theorem st6_main_v25 : StableHlo.after st6 W (no_index (Proc.devRef .tc main_v25)) = W (Proc.devRef .tc main_v25) := by
  after_reads_simp
theorem st6_main_v37 : StableHlo.after st6 W (no_index (Proc.devRef .tc main_v37)) = W (Proc.devRef .tc main_v37) := by
  after_reads_simp
theorem st6_main_v49 : StableHlo.after st6 W (no_index (Proc.devRef .tc main_v49)) = W (Proc.devRef .tc main_v49) := by
  after_reads_simp
theorem st6_main_v5 : StableHlo.after st6 W (no_index (Proc.devRef .tc main_v5)) = W (Proc.devRef .tc main_v5) := by
  after_reads_simp
theorem st6_main_v61 : StableHlo.after st6 W (no_index (Proc.devRef .tc main_v61)) = W (Proc.devRef .tc main_v61) := by
  after_reads_simp
theorem st6_main_v66 : StableHlo.after st6 W (no_index (Proc.devRef .tc main_v66)) = W (Proc.devRef .tc main_v66) := by
  after_reads_simp
theorem st7_main_v80 : StableHlo.after st7 W (no_index (Proc.devRef .tc main_v80)) = scaleA (topA (W (Proc.devRef .tc main_v73)) (W (Proc.devRef .tc main_v75)) (W (Proc.devRef .tc main_cst_11))) := by
  after_reads_simp
  simp -implicitDefEqProofs only [StableHlo.TRef.ofBuf_toBuf, StableHlo.TRef.toBuf, StableHlo.TRef.ofBuf, StableHlo.TRef.of, cast_eq, id_eq]
  unfold scaleA topA selA
  with_reducible rfl
theorem st7_main_arg1 : StableHlo.after st7 W (no_index (Proc.devRef .tc main_arg1)) = W (Proc.devRef .tc main_arg1) := by
  after_reads_simp
theorem st7_main_arg2 : StableHlo.after st7 W (no_index (Proc.devRef .tc main_arg2)) = W (Proc.devRef .tc main_arg2) := by
  after_reads_simp
theorem st7_main_v25 : StableHlo.after st7 W (no_index (Proc.devRef .tc main_v25)) = W (Proc.devRef .tc main_v25) := by
  after_reads_simp
theorem st7_main_v37 : StableHlo.after st7 W (no_index (Proc.devRef .tc main_v37)) = W (Proc.devRef .tc main_v37) := by
  after_reads_simp
theorem st7_main_v49 : StableHlo.after st7 W (no_index (Proc.devRef .tc main_v49)) = W (Proc.devRef .tc main_v49) := by
  after_reads_simp
theorem st7_main_v5 : StableHlo.after st7 W (no_index (Proc.devRef .tc main_v5)) = W (Proc.devRef .tc main_v5) := by
  after_reads_simp
theorem st7_main_v61 : StableHlo.after st7 W (no_index (Proc.devRef .tc main_v61)) = W (Proc.devRef .tc main_v61) := by
  after_reads_simp
theorem st7_main_v66 : StableHlo.after st7 W (no_index (Proc.devRef .tc main_v66)) = W (Proc.devRef .tc main_v66) := by
  after_reads_simp
theorem st8_main_v85 : StableHlo.after st8 W (no_index (Proc.devRef .tc main_v85)) = codeA (W (Proc.devRef .tc main_v66)) (W (Proc.devRef .tc main_v5)) (W (Proc.devRef .tc main_v80)) := by
  after_reads_simp
  first | done | rfl
theorem st8_main_arg1 : StableHlo.after st8 W (no_index (Proc.devRef .tc main_arg1)) = W (Proc.devRef .tc main_arg1) := by
  after_reads_simp
theorem st8_main_arg2 : StableHlo.after st8 W (no_index (Proc.devRef .tc main_arg2)) = W (Proc.devRef .tc main_arg2) := by
  after_reads_simp
theorem st8_main_v25 : StableHlo.after st8 W (no_index (Proc.devRef .tc main_v25)) = W (Proc.devRef .tc main_v25) := by
  after_reads_simp
theorem st8_main_v37 : StableHlo.after st8 W (no_index (Proc.devRef .tc main_v37)) = W (Proc.devRef .tc main_v37) := by
  after_reads_simp
theorem st8_main_v49 : StableHlo.after st8 W (no_index (Proc.devRef .tc main_v49)) = W (Proc.devRef .tc main_v49) := by
  after_reads_simp
theorem st8_main_v61 : StableHlo.after st8 W (no_index (Proc.devRef .tc main_v61)) = W (Proc.devRef .tc main_v61) := by
  after_reads_simp
theorem st8_main_v80 : StableHlo.after st8 W (no_index (Proc.devRef .tc main_v80)) = W (Proc.devRef .tc main_v80) := by
  after_reads_simp
theorem st9_main_v95 : StableHlo.after st9 W (no_index (Proc.devRef .tc main_v95)) = vA0 (W (Proc.devRef .tc main_v25)) (W (Proc.devRef .tc main_v37)) (W (Proc.devRef .tc main_v85)) := by
  after_reads_simp
  first | done | rfl
theorem st9_main_v97 : StableHlo.after st9 W (no_index (Proc.devRef .tc main_v97)) = vA1 (W (Proc.devRef .tc main_v61)) (W (Proc.devRef .tc main_v49)) (W (Proc.devRef .tc main_v85)) := by
  after_reads_simp
  first | done | rfl
theorem st9_main_arg1 : StableHlo.after st9 W (no_index (Proc.devRef .tc main_arg1)) = W (Proc.devRef .tc main_arg1) := by
  after_reads_simp
theorem st9_main_arg2 : StableHlo.after st9 W (no_index (Proc.devRef .tc main_arg2)) = W (Proc.devRef .tc main_arg2) := by
  after_reads_simp
theorem st9_main_v25 : StableHlo.after st9 W (no_index (Proc.devRef .tc main_v25)) = W (Proc.devRef .tc main_v25) := by
  after_reads_simp
theorem st9_main_v37 : StableHlo.after st9 W (no_index (Proc.devRef .tc main_v37)) = W (Proc.devRef .tc main_v37) := by
  after_reads_simp
theorem st9_main_v49 : StableHlo.after st9 W (no_index (Proc.devRef .tc main_v49)) = W (Proc.devRef .tc main_v49) := by
  after_reads_simp
theorem st9_main_v61 : StableHlo.after st9 W (no_index (Proc.devRef .tc main_v61)) = W (Proc.devRef .tc main_v61) := by
  after_reads_simp
theorem st9_main_v80 : StableHlo.after st9 W (no_index (Proc.devRef .tc main_v80)) = W (Proc.devRef .tc main_v80) := by
  after_reads_simp
theorem st9_main_v85 : StableHlo.after st9 W (no_index (Proc.devRef .tc main_v85)) = W (Proc.devRef .tc main_v85) := by
  after_reads_simp
theorem st10_main_v107 : StableHlo.after st10 W (no_index (Proc.devRef .tc main_v107)) = metaA (W (Proc.devRef .tc main_v25)) (W (Proc.devRef .tc main_v37)) (W (Proc.devRef .tc main_v49)) (W (Proc.devRef .tc main_v61)) := by
  after_reads_simp
  first | done | rfl
theorem st10_main_v108 : StableHlo.after st10 W (no_index (Proc.devRef .tc main_v108)) = (shapeCast S6x1x320 ((W (Proc.devRef .tc main_v80)) : FVec Ideal S1920 .f32) shapeCasts_S1920_S6x1x320 : FVec Ideal S6x1x320 .f32) := by
  after_reads_simp
  first | done | rfl
theorem st10_main_v109 : StableHlo.after st10 W (no_index (Proc.devRef .tc main_v109)) = (shapeCast S1920x8960 ((W (Proc.devRef .tc main_v85)) : A3) shapeCasts_S1920x2240x4_S1920x8960 : FVec Ideal S1920x8960 .f32) := by
  after_reads_simp
  first | done | rfl
theorem st10_main_v113 : StableHlo.after st10 W (no_index (Proc.devRef .tc main_v113)) = valsA (W (Proc.devRef .tc main_v95)) (W (Proc.devRef .tc main_v97)) := by
  after_reads_simp
  first | done | rfl
theorem st10_main_v114 : StableHlo.after st10 W (no_index (Proc.devRef .tc main_v114)) = (broadcastInDim S1920x1 ![0] bcast_S1920_S1920x1_0 ((W (Proc.devRef .tc main_v80)) : FVec Ideal S1920 .f32) : FVec Ideal S1920x1 .f32) := by
  after_reads_simp
  first | done | rfl
theorem st10_main_v115 : StableHlo.after st10 W (no_index (Proc.devRef .tc main_v115)) = (broadcastInDim S1x1536 ![1] bcast_S1536_S1x1536_1 ((W (Proc.devRef .tc main_arg2)) : FVec Ideal S1536 .f32) : FVec Ideal S1x1536 .f32) := by
  after_reads_simp
  first | done | rfl
theorem st10_main_arg1 : StableHlo.after st10 W (no_index (Proc.devRef .tc main_arg1)) = W (Proc.devRef .tc main_arg1) := by
  after_reads_simp

end Cert.ReferenceIdeal.Hand

end
-- ==== Proof.RefEntry.lean ====
/- What the reference's buffers hold when its kernel starts, and after. -/
module

public import proofs.«01_k».proof.Proof.RefSteps

@[expose] public section

set_option maxRecDepth 16384

noncomputable section

namespace Cert.ReferenceIdeal.Hand

open Idealize.ShloMosaic Idealize.ShloMosaic.TcCoe Idealize.ShloMosaic.Tactic Cert.ReferenceIdeal Cert.ReferenceIdeal.Gen

variable (m : (ℓ : Loc nD τ sig) → Buf (Elt Ideal) ℓ)

/-- The steps in order are the host operations. -/
theorem steps_eq : (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21] : List (HloOp τ sig (Elt Ideal)))
    = st0 ++ (st1 ++ (st2 ++ (st3 ++ (st4 ++ (st5 ++ (st6 ++ (st7 ++ (st8 ++ (st9 ++ st10))))))))) := by
  sl_kernel_rfl

theorem V_eq (c : Dev nD) (b : Ref sig .tc) :
    V m c b = StableHlo.after st10 (StableHlo.after st9 (StableHlo.after st8 (StableHlo.after st7 (StableHlo.after st6 (StableHlo.after st5 (StableHlo.after st4 (StableHlo.after st3 (StableHlo.after st2 (StableHlo.after st1 (StableHlo.after st0 (fun b => m (c, b))))))))))))
      (Proc.devRef .tc b) := by
  show StableHlo.after _ _ _ = _
  rw [steps_eq]
  simp only [StableHlo.after_append]

/-- The input, the squares, the squares in groups. -/
abbrev xI (c : Dev nD) : FVec Ideal S3x640x8960 .bf16 := m (c, Proc.devRef .tc main_arg0)
abbrev hI (c : Dev nD) : A3 := grpA (sqA (xI m c))
/-- Which members are kept. -/
abbrev kI0 (c : Dev nD) : B2 := kA0 (mb0 (hI m c)) (mb1 (hI m c)) (mb2 (hI m c)) (mb3 (hI m c))
abbrev kI1 (c : Dev nD) : B2 := kA1 (mb0 (hI m c)) (mb1 (hI m c)) (mb2 (hI m c)) (mb3 (hI m c))
abbrev kI2 (c : Dev nD) : B2 := kA2 (mb0 (hI m c)) (mb1 (hI m c)) (mb2 (hI m c)) (mb3 (hI m c))
abbrev kI3 (c : Dev nD) : B2 := kA3 (mb0 (hI m c)) (mb1 (hI m c)) (mb2 (hI m c)) (mb3 (hI m c))
/-- The scales. -/
abbrev scI (c : Dev nD) : FVec Ideal S1920 .f32 := scaleA (topA (leA (sqA (xI m c)) powA) (dblA powA) (constant S_ .f32 0x00000000#32))
/-- The codes. -/
abbrev coI (c : Dev nD) : A3 := codeA (keepA (kI0 m c) (kI1 m c) (kI2 m c) (kI3 m c)) (hI m c) (scI m c)

theorem V_mv107 (c : Dev nD) : V m c main_v107 = metaA (kI0 m c) (kI1 m c) (kI2 m c) (kI3 m c) := by
  rw [V_eq]
  simp only [st0_main_cst, st0_main_v11, st0_main_v13, st0_main_v4, st0_main_v5, st0_main_v7, st0_main_v9, st0_main_arg1, st0_main_arg2, st1_main_v25, st1_main_arg1, st1_main_arg2, st1_main_cst, st1_main_v11, st1_main_v13, st1_main_v4, st1_main_v5, st1_main_v7, st1_main_v9, st2_main_v37, st2_main_arg1, st2_main_arg2, st2_main_cst, st2_main_v11, st2_main_v13, st2_main_v25, st2_main_v4, st2_main_v5, st2_main_v7, st2_main_v9, st3_main_v49, st3_main_arg1, st3_main_arg2, st3_main_cst, st3_main_v11, st3_main_v13, st3_main_v25, st3_main_v37, st3_main_v4, st3_main_v5, st3_main_v7, st3_main_v9, st4_main_v61, st4_main_arg1, st4_main_arg2, st4_main_cst, st4_main_v25, st4_main_v37, st4_main_v4, st4_main_v49, st4_main_v5, st5_main_v66, st5_main_arg1, st5_main_arg2, st5_main_cst, st5_main_v25, st5_main_v37, st5_main_v4, st5_main_v49, st5_main_v5, st5_main_v61, st6_main_cst_11, st6_main_v73, st6_main_v75, st6_main_arg1, st6_main_arg2, st6_main_v25, st6_main_v37, st6_main_v49, st6_main_v5, st6_main_v61, st6_main_v66, st7_main_v80, st7_main_arg1, st7_main_arg2, st7_main_v25, st7_main_v37, st7_main_v49, st7_main_v5, st7_main_v61, st7_main_v66, st8_main_v85, st8_main_arg1, st8_main_arg2, st8_main_v25, st8_main_v37, st8_main_v49, st8_main_v61, st8_main_v80, st9_main_v95, st9_main_v97, st9_main_arg1, st9_main_arg2, st9_main_v25, st9_main_v37, st9_main_v49, st9_main_v61, st9_main_v80, st9_main_v85, st10_main_v107, st10_main_v108, st10_main_v109, st10_main_v113, st10_main_v114, st10_main_v115, st10_main_arg1]
theorem V_mv108 (c : Dev nD) : V m c main_v108 = (shapeCast S6x1x320 (scI m c) shapeCasts_S1920_S6x1x320 : FVec Ideal S6x1x320 .f32) := by
  rw [V_eq]
  simp only [st0_main_cst, st0_main_v11, st0_main_v13, st0_main_v4, st0_main_v5, st0_main_v7, st0_main_v9, st0_main_arg1, st0_main_arg2, st1_main_v25, st1_main_arg1, st1_main_arg2, st1_main_cst, st1_main_v11, st1_main_v13, st1_main_v4, st1_main_v5, st1_main_v7, st1_main_v9, st2_main_v37, st2_main_arg1, st2_main_arg2, st2_main_cst, st2_main_v11, st2_main_v13, st2_main_v25, st2_main_v4, st2_main_v5, st2_main_v7, st2_main_v9, st3_main_v49, st3_main_arg1, st3_main_arg2, st3_main_cst, st3_main_v11, st3_main_v13, st3_main_v25, st3_main_v37, st3_main_v4, st3_main_v5, st3_main_v7, st3_main_v9, st4_main_v61, st4_main_arg1, st4_main_arg2, st4_main_cst, st4_main_v25, st4_main_v37, st4_main_v4, st4_main_v49, st4_main_v5, st5_main_v66, st5_main_arg1, st5_main_arg2, st5_main_cst, st5_main_v25, st5_main_v37, st5_main_v4, st5_main_v49, st5_main_v5, st5_main_v61, st6_main_cst_11, st6_main_v73, st6_main_v75, st6_main_arg1, st6_main_arg2, st6_main_v25, st6_main_v37, st6_main_v49, st6_main_v5, st6_main_v61, st6_main_v66, st7_main_v80, st7_main_arg1, st7_main_arg2, st7_main_v25, st7_main_v37, st7_main_v49, st7_main_v5, st7_main_v61, st7_main_v66, st8_main_v85, st8_main_arg1, st8_main_arg2, st8_main_v25, st8_main_v37, st8_main_v49, st8_main_v61, st8_main_v80, st9_main_v95, st9_main_v97, st9_main_arg1, st9_main_arg2, st9_main_v25, st9_main_v37, st9_main_v49, st9_main_v61, st9_main_v80, st9_main_v85, st10_main_v107, st10_main_v108, st10_main_v109, st10_main_v113, st10_main_v114, st10_main_v115, st10_main_arg1]
theorem V_mv109 (c : Dev nD) : V m c main_v109 = (shapeCast S1920x8960 (coI m c) shapeCasts_S1920x2240x4_S1920x8960 : FVec Ideal S1920x8960 .f32) := by
  rw [V_eq]
  simp only [st0_main_cst, st0_main_v11, st0_main_v13, st0_main_v4, st0_main_v5, st0_main_v7, st0_main_v9, st0_main_arg1, st0_main_arg2, st1_main_v25, st1_main_arg1, st1_main_arg2, st1_main_cst, st1_main_v11, st1_main_v13, st1_main_v4, st1_main_v5, st1_main_v7, st1_main_v9, st2_main_v37, st2_main_arg1, st2_main_arg2, st2_main_cst, st2_main_v11, st2_main_v13, st2_main_v25, st2_main_v4, st2_main_v5, st2_main_v7, st2_main_v9, st3_main_v49, st3_main_arg1, st3_main_arg2, st3_main_cst, st3_main_v11, st3_main_v13, st3_main_v25, st3_main_v37, st3_main_v4, st3_main_v5, st3_main_v7, st3_main_v9, st4_main_v61, st4_main_arg1, st4_main_arg2, st4_main_cst, st4_main_v25, st4_main_v37, st4_main_v4, st4_main_v49, st4_main_v5, st5_main_v66, st5_main_arg1, st5_main_arg2, st5_main_cst, st5_main_v25, st5_main_v37, st5_main_v4, st5_main_v49, st5_main_v5, st5_main_v61, st6_main_cst_11, st6_main_v73, st6_main_v75, st6_main_arg1, st6_main_arg2, st6_main_v25, st6_main_v37, st6_main_v49, st6_main_v5, st6_main_v61, st6_main_v66, st7_main_v80, st7_main_arg1, st7_main_arg2, st7_main_v25, st7_main_v37, st7_main_v49, st7_main_v5, st7_main_v61, st7_main_v66, st8_main_v85, st8_main_arg1, st8_main_arg2, st8_main_v25, st8_main_v37, st8_main_v49, st8_main_v61, st8_main_v80, st9_main_v95, st9_main_v97, st9_main_arg1, st9_main_arg2, st9_main_v25, st9_main_v37, st9_main_v49, st9_main_v61, st9_main_v80, st9_main_v85, st10_main_v107, st10_main_v108, st10_main_v109, st10_main_v113, st10_main_v114, st10_main_v115, st10_main_arg1]
theorem V_mv113 (c : Dev nD) : V m c main_v113 = valsA (vA0 (kI0 m c) (kI1 m c) (coI m c)) (vA1 (kI3 m c) (kI2 m c) (coI m c)) := by
  rw [V_eq]
  simp only [st0_main_cst, st0_main_v11, st0_main_v13, st0_main_v4, st0_main_v5, st0_main_v7, st0_main_v9, st0_main_arg1, st0_main_arg2, st1_main_v25, st1_main_arg1, st1_main_arg2, st1_main_cst, st1_main_v11, st1_main_v13, st1_main_v4, st1_main_v5, st1_main_v7, st1_main_v9, st2_main_v37, st2_main_arg1, st2_main_arg2, st2_main_cst, st2_main_v11, st2_main_v13, st2_main_v25, st2_main_v4, st2_main_v5, st2_main_v7, st2_main_v9, st3_main_v49, st3_main_arg1, st3_main_arg2, st3_main_cst, st3_main_v11, st3_main_v13, st3_main_v25, st3_main_v37, st3_main_v4, st3_main_v5, st3_main_v7, st3_main_v9, st4_main_v61, st4_main_arg1, st4_main_arg2, st4_main_cst, st4_main_v25, st4_main_v37, st4_main_v4, st4_main_v49, st4_main_v5, st5_main_v66, st5_main_arg1, st5_main_arg2, st5_main_cst, st5_main_v25, st5_main_v37, st5_main_v4, st5_main_v49, st5_main_v5, st5_main_v61, st6_main_cst_11, st6_main_v73, st6_main_v75, st6_main_arg1, st6_main_arg2, st6_main_v25, st6_main_v37, st6_main_v49, st6_main_v5, st6_main_v61, st6_main_v66, st7_main_v80, st7_main_arg1, st7_main_arg2, st7_main_v25, st7_main_v37, st7_main_v49, st7_main_v5, st7_main_v61, st7_main_v66, st8_main_v85, st8_main_arg1, st8_main_arg2, st8_main_v25, st8_main_v37, st8_main_v49, st8_main_v61, st8_main_v80, st9_main_v95, st9_main_v97, st9_main_arg1, st9_main_arg2, st9_main_v25, st9_main_v37, st9_main_v49, st9_main_v61, st9_main_v80, st9_main_v85, st10_main_v107, st10_main_v108, st10_main_v109, st10_main_v113, st10_main_v114, st10_main_v115, st10_main_arg1]
theorem V_mv114 (c : Dev nD) : V m c main_v114 = (broadcastInDim S1920x1 ![0] bcast_S1920_S1920x1_0 (scI m c) : FVec Ideal S1920x1 .f32) := by
  rw [V_eq]
  simp only [st0_main_cst, st0_main_v11, st0_main_v13, st0_main_v4, st0_main_v5, st0_main_v7, st0_main_v9, st0_main_arg1, st0_main_arg2, st1_main_v25, st1_main_arg1, st1_main_arg2, st1_main_cst, st1_main_v11, st1_main_v13, st1_main_v4, st1_main_v5, st1_main_v7, st1_main_v9, st2_main_v37, st2_main_arg1, st2_main_arg2, st2_main_cst, st2_main_v11, st2_main_v13, st2_main_v25, st2_main_v4, st2_main_v5, st2_main_v7, st2_main_v9, st3_main_v49, st3_main_arg1, st3_main_arg2, st3_main_cst, st3_main_v11, st3_main_v13, st3_main_v25, st3_main_v37, st3_main_v4, st3_main_v5, st3_main_v7, st3_main_v9, st4_main_v61, st4_main_arg1, st4_main_arg2, st4_main_cst, st4_main_v25, st4_main_v37, st4_main_v4, st4_main_v49, st4_main_v5, st5_main_v66, st5_main_arg1, st5_main_arg2, st5_main_cst, st5_main_v25, st5_main_v37, st5_main_v4, st5_main_v49, st5_main_v5, st5_main_v61, st6_main_cst_11, st6_main_v73, st6_main_v75, st6_main_arg1, st6_main_arg2, st6_main_v25, st6_main_v37, st6_main_v49, st6_main_v5, st6_main_v61, st6_main_v66, st7_main_v80, st7_main_arg1, st7_main_arg2, st7_main_v25, st7_main_v37, st7_main_v49, st7_main_v5, st7_main_v61, st7_main_v66, st8_main_v85, st8_main_arg1, st8_main_arg2, st8_main_v25, st8_main_v37, st8_main_v49, st8_main_v61, st8_main_v80, st9_main_v95, st9_main_v97, st9_main_arg1, st9_main_arg2, st9_main_v25, st9_main_v37, st9_main_v49, st9_main_v61, st9_main_v80, st9_main_v85, st10_main_v107, st10_main_v108, st10_main_v109, st10_main_v113, st10_main_v114, st10_main_v115, st10_main_arg1]
theorem V_mv115 (c : Dev nD) : V m c main_v115 = (broadcastInDim S1x1536 ![1] bcast_S1536_S1x1536_1 (m (c, Proc.devRef .tc main_arg2) : FVec Ideal S1536 .f32) : FVec Ideal S1x1536 .f32) := by
  rw [V_eq]
  simp only [st0_main_cst, st0_main_v11, st0_main_v13, st0_main_v4, st0_main_v5, st0_main_v7, st0_main_v9, st0_main_arg1, st0_main_arg2, st1_main_v25, st1_main_arg1, st1_main_arg2, st1_main_cst, st1_main_v11, st1_main_v13, st1_main_v4, st1_main_v5, st1_main_v7, st1_main_v9, st2_main_v37, st2_main_arg1, st2_main_arg2, st2_main_cst, st2_main_v11, st2_main_v13, st2_main_v25, st2_main_v4, st2_main_v5, st2_main_v7, st2_main_v9, st3_main_v49, st3_main_arg1, st3_main_arg2, st3_main_cst, st3_main_v11, st3_main_v13, st3_main_v25, st3_main_v37, st3_main_v4, st3_main_v5, st3_main_v7, st3_main_v9, st4_main_v61, st4_main_arg1, st4_main_arg2, st4_main_cst, st4_main_v25, st4_main_v37, st4_main_v4, st4_main_v49, st4_main_v5, st5_main_v66, st5_main_arg1, st5_main_arg2, st5_main_cst, st5_main_v25, st5_main_v37, st5_main_v4, st5_main_v49, st5_main_v5, st5_main_v61, st6_main_cst_11, st6_main_v73, st6_main_v75, st6_main_arg1, st6_main_arg2, st6_main_v25, st6_main_v37, st6_main_v49, st6_main_v5, st6_main_v61, st6_main_v66, st7_main_v80, st7_main_arg1, st7_main_arg2, st7_main_v25, st7_main_v37, st7_main_v49, st7_main_v5, st7_main_v61, st7_main_v66, st8_main_v85, st8_main_arg1, st8_main_arg2, st8_main_v25, st8_main_v37, st8_main_v49, st8_main_v61, st8_main_v80, st9_main_v95, st9_main_v97, st9_main_arg1, st9_main_arg2, st9_main_v25, st9_main_v37, st9_main_v49, st9_main_v61, st9_main_v80, st9_main_v85, st10_main_v107, st10_main_v108, st10_main_v109, st10_main_v113, st10_main_v114, st10_main_v115, st10_main_arg1]
theorem V_marg1 (c : Dev nD) : V m c main_arg1 = m (c, Proc.devRef .tc main_arg1) := by
  rw [V_eq]
  simp only [st0_main_cst, st0_main_v11, st0_main_v13, st0_main_v4, st0_main_v5, st0_main_v7, st0_main_v9, st0_main_arg1, st0_main_arg2, st1_main_v25, st1_main_arg1, st1_main_arg2, st1_main_cst, st1_main_v11, st1_main_v13, st1_main_v4, st1_main_v5, st1_main_v7, st1_main_v9, st2_main_v37, st2_main_arg1, st2_main_arg2, st2_main_cst, st2_main_v11, st2_main_v13, st2_main_v25, st2_main_v4, st2_main_v5, st2_main_v7, st2_main_v9, st3_main_v49, st3_main_arg1, st3_main_arg2, st3_main_cst, st3_main_v11, st3_main_v13, st3_main_v25, st3_main_v37, st3_main_v4, st3_main_v5, st3_main_v7, st3_main_v9, st4_main_v61, st4_main_arg1, st4_main_arg2, st4_main_cst, st4_main_v25, st4_main_v37, st4_main_v4, st4_main_v49, st4_main_v5, st5_main_v66, st5_main_arg1, st5_main_arg2, st5_main_cst, st5_main_v25, st5_main_v37, st5_main_v4, st5_main_v49, st5_main_v5, st5_main_v61, st6_main_cst_11, st6_main_v73, st6_main_v75, st6_main_arg1, st6_main_arg2, st6_main_v25, st6_main_v37, st6_main_v49, st6_main_v5, st6_main_v61, st6_main_v66, st7_main_v80, st7_main_arg1, st7_main_arg2, st7_main_v25, st7_main_v37, st7_main_v49, st7_main_v5, st7_main_v61, st7_main_v66, st8_main_v85, st8_main_arg1, st8_main_arg2, st8_main_v25, st8_main_v37, st8_main_v49, st8_main_v61, st8_main_v80, st9_main_v95, st9_main_v97, st9_main_arg1, st9_main_arg2, st9_main_v25, st9_main_v37, st9_main_v49, st9_main_v61, st9_main_v80, st9_main_v85, st10_main_v107, st10_main_v108, st10_main_v109, st10_main_v113, st10_main_v114, st10_main_v115, st10_main_arg1]

end Cert.ReferenceIdeal.Hand

end
-- ==== Proof.RefRead.lean ====
/- The reference's arrays read one entry at a time. -/
module

public import proofs.«01_k».proof.Proof.RefEntry

@[expose] public section

set_option maxRecDepth 16384

noncomputable section

namespace Cert.ReferenceIdeal.Hand

open Idealize.ShloMosaic Idealize.ShloMosaic.TcCoe Idealize.ShloMosaic.Tactic Cert.ReferenceIdeal Cert.ReferenceIdeal.Gen

/-- The row of the input that row `M` of the flattened arrays is. -/
abbrev rowB (M : Fin 1920) : Fin 3 := ⟨M.val / 640, by omega⟩
abbrev rowS (M : Fin 1920) : Fin 640 := ⟨M.val % 640, by omega⟩
/-- Entry `4 g + k` of a row. -/
abbrev at4 (g : Fin 2240) (k : Fin 4) : Fin 8960 := ⟨4 * g.val + k.val, by omega⟩
/-- The clamped square. -/
def hq (v : EReal) : EReal := max v 0 * max v 0

variable (M : Fin 1920) (g : Fin 2240) (k : Fin 4)

/-- A bit picks as a condition does. -/
theorem sel_if {α : Type} (b : BitVec 1) (x y : α) : Scalar.select b x y = if b = 1#1 then x else y := by
  have hb : b = 1#1 ∨ b = 0#1 := by revert b; decide
  rcases hb with h | h <;> subst h <;> rfl

theorem sqA_apply (x : FVec Ideal S3x640x8960 .bf16) (C : Fin 8960) : sqA x (ix2 M C) = hq (x (ix3 (rowB M) (rowS M) C)) := by
  pointwise [sqA]
  rfl
theorem grpA_apply (h : FVec Ideal S1920x8960 .f32) : grpA h (ix3 M g k) = h (ix2 M (at4 g k)) := by
  pointwise [grpA]
  exact congrArg (fun C => h (ix2 M C)) (Fin.ext (by show g.val * 4 + k.val = 4 * g.val + k.val; omega))
theorem mb0_apply (h : A3) : mb0 h (ix2 M g) = h (ix3 M g 0) := by
  pointwise [mb0]
theorem mb1_apply (h : A3) : mb1 h (ix2 M g) = h (ix3 M g 1) := by
  pointwise [mb1]
theorem mb2_apply (h : A3) : mb2 h (ix2 M g) = h (ix3 M g 2) := by
  pointwise [mb2]
theorem mb3_apply (h : A3) : mb3 h (ix2 M g) = h (ix3 M g 3) := by
  pointwise [mb3]
/-- Fewer than two of three truth values. -/
def few3 (p q r : BitVec 1) : BitVec 1 := if (p = 1#1 ∧ q = 1#1) ∨ (p = 1#1 ∧ r = 1#1) ∨ (q = 1#1 ∧ r = 1#1) then 0#1 else 1#1
theorem few_apply (p q r : B2) : few p q r (ix2 M g) = few3 (p (ix2 M g)) (q (ix2 M g)) (r (ix2 M g)) := by
  pointwise [few]
  generalize p (ix2 M g) = a
  generalize q (ix2 M g) = b
  generalize r (ix2 M g) = c
  revert a b c
  decide
theorem keepA_apply (k0 k1 k2 k3 : B2) : keepA k0 k1 k2 k3 (ix3 M g k) = ![k0 (ix2 M g), k1 (ix2 M g), k2 (ix2 M g), k3 (ix2 M g)] k := by
  pointwise [keepA]
  have hk := k.isLt
  match k, hk with
  | ⟨0, _⟩, _ => rfl
  | ⟨1, _⟩, _ => rfl
  | ⟨2, _⟩, _ => rfl
  | ⟨3, _⟩, _ => rfl
theorem leA_apply (h : FVec Ideal S1920x8960 .f32) (p : FVec Ideal S1x253 .f32) (j : Fin 253) :
    leA h p (ix2 M j) = BitVec.ofBool (decide (p (ix2 0 j) ≤ tA h (ix2 M 0))) := by
  pointwise [leA]
theorem dblA_apply (p : FVec Ideal S1x253 .f32) (j : Fin 253) : dblA p (ix2 0 j) = Ideal.ofBits .f32 0x40000000#32 * p (ix2 0 j) := by
  pointwise [dblA]
theorem scaleA_apply (t : FVec Ideal S1920 .f32) : scaleA t (ix1 M) = if t (ix1 M) = 0 then 1 else t (ix1 M) := by
  have h : scaleA t (ix1 M) = Scalar.select (BitVec.ofBool (decide (t (ix1 M) = 0))) (Ideal.ofBits .f32 0x3F800000#32) (t (ix1 M)) := by
    pointwise [scaleA]
  have h1 : Ideal.ofBits .f32 0x3F800000#32 = 1 := by simp [Ideal.ofBits, Ideal.ieee, -EReal.coe_mul]; norm_num
  rw [h, sel_if, h1]
  by_cases e : t (ix1 M) = 0 <;> simp [e]
theorem selA_apply (l : IVec S1920x253 1) (p : FVec Ideal S1x253 .f32) (j : Fin 253) :
    selA l p (constant S_ .f32 0x00000000#32) (ix2 M j) = if l (ix2 M j) = 1#1 then p (ix2 0 j) else 0 := by
  have h : selA l p (constant S_ .f32 0x00000000#32) (ix2 M j) = Scalar.select (l (ix2 M j)) (p (ix2 0 j)) 0 := by pointwise [selA]
  rw [h, sel_if]
theorem codeA_apply (b : IVec S1920x2240x4 1) (h : A3) (s : FVec Ideal S1920 .f32) :
    codeA b h s (ix3 M g k) = min (Ideal.ofBits .f32 0x43E00000#32) (max (Ideal.ofBits .f32 0xC3E00000#32)
      (Ideal.div (if b (ix3 M g k) = 1#1 then h (ix3 M g k) else 0) (s (ix1 M)))) := by
  pointwise [codeA]
  rw [sel_if]
theorem vA0_apply (k0 k1 : B2) (c : A3) : vA0 k0 k1 c (ix2 M g) = if k0 (ix2 M g) = 1#1 then c (ix3 M g 0) else if k1 (ix2 M g) = 1#1 then c (ix3 M g 1) else c (ix3 M g 2) := by
  pointwise [vA0, mb0, mb1, mb2]
  rw [sel_if, sel_if]
theorem vA1_apply (k3 k2 : B2) (c : A3) : vA1 k3 k2 c (ix2 M g) = if k3 (ix2 M g) = 1#1 then c (ix3 M g 3) else if k2 (ix2 M g) = 1#1 then c (ix3 M g 2) else c (ix3 M g 1) := by
  pointwise [vA1, mb1, mb2, mb3]
  rw [sel_if, sel_if]
/-- The positions of a group from which are kept. -/
def pos4 (k0 k1 k2 k3 : BitVec 1) : BitVec 8 :=
  (if k0 = 1#1 then 0#8 else if k1 = 1#1 then 1#8 else 2#8) ||| (if k3 = 1#1 then 12#8 else if k2 = 1#1 then 8#8 else 4#8)
theorem metaA_apply (k0 k1 k2 k3 : B2) : metaA k0 k1 k2 k3 (ix2 M g) = pos4 (k0 (ix2 M g)) (k1 (ix2 M g)) (k2 (ix2 M g)) (k3 (ix2 M g)) := by
  pointwise [metaA]
  generalize k0 (ix2 M g) = a
  generalize k1 (ix2 M g) = b
  generalize k2 (ix2 M g) = c
  generalize k3 (ix2 M g) = d
  revert a b c d
  decide
theorem valsA_apply (v0 v1 : A2) (C : Fin 4480) :
    valsA v0 v1 (ix2 M C) = if C.val % 2 = 1 then v1 (ix2 M ⟨C.val / 2, by omega⟩) else v0 (ix2 M ⟨C.val / 2, by omega⟩) := by
  pointwise [valsA]
  by_cases e : C.val % 2 = 1
  · rw [dif_neg (by omega), if_pos e]
  · rw [dif_pos (by omega), if_neg e]

end Cert.ReferenceIdeal.Hand

end
-- ==== Proof.RefMax.lean ====
/- The reference's row maxima. -/
module

public import proofs.«01_k».proof.Proof.RefRead

@[expose] public section

set_option maxRecDepth 16384

noncomputable section

namespace Cert.ReferenceIdeal.Hand

open Idealize.ShloMosaic Idealize.ShloMosaic.TcCoe Idealize.ShloMosaic.Tactic Cert.ReferenceIdeal Cert.ReferenceIdeal.Gen

variable (M : Fin 1920)

/-- A row's maximum is at most what each of its entries is. -/
theorem rowMax_le {n k : Nat} (x : (⟨2, ![n, k]⟩ : Shape).Idx → EReal) (h' : (⟨2, ![n, k]⟩ : Shape).ReducesTo [1] ⟨1, ![n]⟩) (hu : 0 < S_.numel)
    (R : Fin n) (z : EReal) :
    Host.reduce (FloatOps.maximumf (F := Ideal) (φ := .f32)) x (constant (F := Ideal) S_ .f32 0xFF800000#32) h' hu (ix1 R) ≤ z ↔ ∀ C : Fin k, x (ix2 R C) ≤ z := by
  have h : (⟨2, ![n, k]⟩ : Shape).Reduces [1] ⟨1, ![n]⟩ := ⟨rfl, Nat.one_pos, h'.2⟩
  have e0 : Host.reduce (FloatOps.maximumf (F := Ideal) (φ := .f32)) x (constant (F := Ideal) S_ .f32 0xFF800000#32) h' hu (ix1 R)
      = (Finset.univ : Finset (Fin k)).fold max (Ideal.ofBits .f32 0xFF800000#32) (x ∘ h.lift (ix1 R)) :=
    Host.reduce_eq_fold_single (max : EReal → EReal → EReal) x _ h' h hu (ix1 R)
  have hb : Ideal.ofBits .f32 0xFF800000#32 = ⊥ := by simp [Ideal.ofBits, Ideal.ieee]
  have e : ∀ C : Fin k, h.lift (ix1 R) C = (ix2 (n0 := n) (n1 := k) R C : (⟨2, ![n, k]⟩ : Shape).Idx) := by
    intro C
    funext a
    match a with
    | ⟨0, _⟩ => rfl
    | ⟨1, _⟩ => rfl
  rw [e0]
  refine (Finset.fold_max_le (s := (Finset.univ : Finset (Fin k))) (f := fun C => x (h.lift (ix1 R) C)) z).trans ?_
  rw [hb]
  simp only [bot_le, true_and, Finset.mem_univ, forall_true_left]
  exact ⟨fun H C => by have := H C (Finset.mem_univ C); rwa [e] at this, fun H C _ => (congrArg x (e C)).trans_le (H C)⟩

theorem mxA_le (h : FVec Ideal S1920x8960 .f32) (z : EReal) : mxA h (ix1 M) ≤ z ↔ ∀ C : Fin 8960, h (ix2 M C) ≤ z := by
  unfold mxA
  exact rowMax_le (n := 1920) (k := 8960) h reducesTo_S1920x8960_S1920_d1 h_S_ M z
theorem mulCol_apply (u : FVec Ideal S1920 .f32) (b : BitVec 32) :
    (mulf (broadcastInDim S1920x1 ![0] bcast_S1920_S1920x1_0 u) (broadcastInDim S1920x1 ![] bcast_S_S1920x1 (constant S_ .f32 b)) : FVec Ideal S1920x1 .f32) (ix2 M 0)
      = u (ix1 M) * Ideal.ofBits .f32 b := by
  pointwise []
/-- The quotient read at a row. -/
theorem tA_apply (h : FVec Ideal S1920x8960 .f32) : tA h (ix2 M 0) = mxA h (ix1 M) * Ideal.ofBits .f32 0x3B124925#32 :=
  mulCol_apply M (mxA h) 0x3B124925#32
/-- The largest of the selected powers is at most what each of them is. -/
theorem topA_le (l : IVec S1920x253 1) (p : FVec Ideal S1x253 .f32) (z : EReal) :
    topA l p (constant S_ .f32 0x00000000#32) (ix1 M) ≤ z ↔ ∀ j : Fin 253, (if l (ix2 M j) = 1#1 then p (ix2 0 j) else 0) ≤ z := by
  unfold topA
  refine (rowMax_le (n := 1920) (k := 253) (selA l p (constant S_ .f32 0x00000000#32)) reducesTo_S1920x253_S1920_d1 h_S_ M z).trans ?_
  exact forall_congr' fun j => by rw [selA_apply]

end Cert.ReferenceIdeal.Hand

end
-- ==== Proof.Numbers.lean ====
/- The numbers that patterns of bits stand for. -/
module

public import proofs.«01_k».proof.Proof.Spec
public import proofs.«01_k».proof.Proof.Scale
public import proofs.«01_k».proof.Proof.RefMax

@[expose] public section

set_option maxRecDepth 8192

noncomputable section

namespace Cert.Joint

open Idealize.ShloMosaic Cert.KernelIdeal.Hand Cert.ReferenceIdeal.Hand

theorem cE_BC00 : cE 0xBC00#16 = (((-1/128) : ℝ) : EReal) := by
  simp [Ideal.ofBits, Ideal.ieee, -EReal.coe_mul, -EReal.coe_neg]; try norm_num
theorem cE_3D80 : cE 0x3D80#16 = (((1/16) : ℝ) : EReal) := by
  simp [Ideal.ofBits, Ideal.ieee, -EReal.coe_mul, -EReal.coe_neg]; try norm_num
theorem cE_3CE0 : cE 0x3CE0#16 = (((7/256) : ℝ) : EReal) := by
  simp [Ideal.ofBits, Ideal.ieee, -EReal.coe_mul, -EReal.coe_neg]; try norm_num
theorem cE_3CC0 : cE 0x3CC0#16 = (((3/128) : ℝ) : EReal) := by
  simp [Ideal.ofBits, Ideal.ieee, -EReal.coe_mul, -EReal.coe_neg]; try norm_num
theorem cE_3D90 : cE 0x3D90#16 = (((9/128) : ℝ) : EReal) := by
  simp [Ideal.ofBits, Ideal.ieee, -EReal.coe_mul, -EReal.coe_neg]; try norm_num
theorem cE_3CD0 : cE 0x3CD0#16 = (((13/512) : ℝ) : EReal) := by
  simp [Ideal.ofBits, Ideal.ieee, -EReal.coe_mul, -EReal.coe_neg]; try norm_num
theorem cF_BC000000 : cF 0xBC000000#32 = (((-1/128) : ℝ) : EReal) := by
  simp [Ideal.ofBits, Ideal.ieee, -EReal.coe_mul, -EReal.coe_neg]; try norm_num
theorem cF_3D800000 : cF 0x3D800000#32 = (((1/16) : ℝ) : EReal) := by
  simp [Ideal.ofBits, Ideal.ieee, -EReal.coe_mul, -EReal.coe_neg]; try norm_num
theorem cF_3CE00000 : cF 0x3CE00000#32 = (((7/256) : ℝ) : EReal) := by
  simp [Ideal.ofBits, Ideal.ieee, -EReal.coe_mul, -EReal.coe_neg]; try norm_num
theorem cF_3D900000 : cF 0x3D900000#32 = (((9/128) : ℝ) : EReal) := by
  simp [Ideal.ofBits, Ideal.ieee, -EReal.coe_mul, -EReal.coe_neg]; try norm_num
theorem cF_3CD00000 : cF 0x3CD00000#32 = (((13/512) : ℝ) : EReal) := by
  simp [Ideal.ofBits, Ideal.ieee, -EReal.coe_mul, -EReal.coe_neg]; try norm_num
theorem cE_1FFF : cE 0x1FFF#16 = (((255/2361183241434822606848) : ℝ) : EReal) := by
  simp [Ideal.ofBits, Ideal.ieee, -EReal.coe_mul, -EReal.coe_neg]; try norm_num
theorem cF_20000000 : cF 0x20000000#32 = (((1/9223372036854775808) : ℝ) : EReal) := by
  simp [Ideal.ofBits, Ideal.ieee, -EReal.coe_mul, -EReal.coe_neg]; try norm_num
theorem cF_5F800000 : cF 0x5F800000#32 = ((18446744073709551616 : ℝ) : EReal) := by
  simp [Ideal.ofBits, Ideal.ieee, -EReal.coe_mul, -EReal.coe_neg]; try norm_num
theorem cF_00800000 : cF 0x00800000#32 = (((1/85070591730234615865843651857942052864) : ℝ) : EReal) := by
  simp [Ideal.ofBits, Ideal.ieee, -EReal.coe_mul, -EReal.coe_neg]; try norm_num
theorem cF_40000000 : cF 0x40000000#32 = ((2 : ℝ) : EReal) := by
  simp [Ideal.ofBits, Ideal.ieee, -EReal.coe_mul, -EReal.coe_neg]; try norm_num
theorem cF_43E00000 : cF 0x43E00000#32 = ((448 : ℝ) : EReal) := by
  simp [Ideal.ofBits, Ideal.ieee, -EReal.coe_mul, -EReal.coe_neg]; try norm_num
theorem cF_C3E00000 : cF 0xC3E00000#32 = (((-448) : ℝ) : EReal) := by
  simp [Ideal.ofBits, Ideal.ieee, -EReal.coe_mul, -EReal.coe_neg]; try norm_num

/-- The factor that a squared maximum is multiplied by. -/
theorem cF_448 : ∃ q : ℝ, 0 < q ∧ q < 1/256 ∧ cF 0x3B124925#32 = (q : EReal) := by
  refine ⟨9586981 / 4294967296, by norm_num, by norm_num, ?_⟩
  simp [Ideal.ofBits, Ideal.ieee, -EReal.coe_mul, -EReal.coe_neg]; norm_num

end Cert.Joint

end
-- ==== Proof.Kept.lean ====
/- Which two of four are kept, as the kernel and as the reference say it. -/
module

public import proofs.«01_k».proof.Proof.Numbers

@[expose] public section

set_option maxRecDepth 8192

noncomputable section

namespace Cert.Joint

open Idealize.ShloMosaic Cert.KernelIdeal.Hand Cert.ReferenceIdeal.Hand

/-- Whether each of four is kept. -/
def n0 (a b c d : EReal) : BitVec 1 := few3 (BitVec.ofBool (decide (a < b))) (BitVec.ofBool (decide (a < c))) (BitVec.ofBool (decide (a < d)))
def n1 (a b c d : EReal) : BitVec 1 := few3 (BitVec.ofBool (decide (b ≤ a))) (BitVec.ofBool (decide (b < c))) (BitVec.ofBool (decide (b < d)))
def n2 (a b c d : EReal) : BitVec 1 := few3 (BitVec.ofBool (decide (c ≤ a))) (BitVec.ofBool (decide (c ≤ b))) (BitVec.ofBool (decide (c < d)))
def n3 (a b c d : EReal) : BitVec 1 := few3 (BitVec.ofBool (decide (d ≤ a))) (BitVec.ofBool (decide (d ≤ b))) (BitVec.ofBool (decide (d ≤ c)))

theorem ofBool_one (p : Prop) [Decidable p] : BitVec.ofBool (decide p) = 1#1 ↔ p := by
  by_cases h : p <;> simp [h]

/-- The six ways to keep two of four. -/
inductive Kept (x0 x1 x2 x3 G0 G1 P : EReal) (k0 k1 k2 k3 : BitVec 1) : Prop
  | k01 : P = cE 0xBC00#16 → G0 = x0 → G1 = x1 → k0 = 1#1 → k1 = 1#1 → k2 = 0#1 → k3 = 0#1 → Kept x0 x1 x2 x3 G0 G1 P k0 k1 k2 k3
  | k23 : P = cE 0x3CE0#16 → G0 = x2 → G1 = x3 → k0 = 0#1 → k1 = 0#1 → k2 = 1#1 → k3 = 1#1 → Kept x0 x1 x2 x3 G0 G1 P k0 k1 k2 k3
  | k02 : P = cE 0x3D80#16 → G0 = x0 → G1 = x2 → k0 = 1#1 → k1 = 0#1 → k2 = 1#1 → k3 = 0#1 → Kept x0 x1 x2 x3 G0 G1 P k0 k1 k2 k3
  | k03 : P = cE 0x3CC0#16 → G0 = x0 → G1 = x3 → k0 = 1#1 → k1 = 0#1 → k2 = 0#1 → k3 = 1#1 → Kept x0 x1 x2 x3 G0 G1 P k0 k1 k2 k3
  | k12 : P = cE 0x3D90#16 → G0 = x1 → G1 = x2 → k0 = 0#1 → k1 = 1#1 → k2 = 1#1 → k3 = 0#1 → Kept x0 x1 x2 x3 G0 G1 P k0 k1 k2 k3
  | k13 : P = cE 0x3CD0#16 → G0 = x1 → G1 = x3 → k0 = 0#1 → k1 = 1#1 → k2 = 0#1 → k3 = 1#1 → Kept x0 x1 x2 x3 G0 G1 P k0 k1 k2 k3

set_option maxHeartbeats 4000000 in
/-- Both say the same of four numbers and four others in the same order. -/
theorem kept (x0 x1 x2 x3 h0 h1 h2 h3 : EReal)
    (m10 : h1 ≤ h0 ↔ x1 ≤ x0) (m20 : h2 ≤ h0 ↔ x2 ≤ x0) (m30 : h3 ≤ h0 ↔ x3 ≤ x0)
    (m21 : h2 ≤ h1 ↔ x2 ≤ x1) (m31 : h3 ≤ h1 ↔ x3 ≤ x1) (m32 : h3 ≤ h2 ↔ x3 ≤ x2) :
    Kept x0 x1 x2 x3 (g0 x0 x1 x2 x3) (g1 x0 x1 x2 x3) (gp x0 x1 x2 x3) (n0 h0 h1 h2 h3) (n1 h0 h1 h2 h3) (n2 h0 h1 h2 h3) (n3 h0 h1 h2 h3) := by
  have e01 : b01 x0 x1 x2 x3 ↔ x2 ≤ x0 ∧ x2 ≤ x1 ∧ x3 ≤ x0 ∧ x3 ≤ x1 := by
    unfold b01; rw [max_le_iff, le_min_iff, le_min_iff]; tauto
  have e23 : b23 x0 x1 x2 x3 ↔ ¬ x2 ≤ x0 ∧ ¬ x3 ≤ x0 ∧ ¬ x2 ≤ x1 ∧ ¬ x3 ≤ x1 := by
    unfold b23; rw [max_lt_iff, lt_min_iff, lt_min_iff, not_le, not_le, not_le, not_le]; tauto
  have eM : max x0 x1 = if x1 ≤ x0 then x0 else x1 := by
    by_cases h : x1 ≤ x0
    · rw [if_pos h, max_eq_left h]
    · rw [if_neg h, max_eq_right (le_of_not_ge h)]
  have eN : max x2 x3 = if x3 ≤ x2 then x2 else x3 := by
    by_cases h : x3 ≤ x2
    · rw [if_pos h, max_eq_left h]
    · rw [if_neg h, max_eq_right (le_of_not_ge h)]
  have t1 : x2 ≤ x1 → x1 ≤ x0 → x2 ≤ x0 := le_trans
  have t2 : x3 ≤ x1 → x1 ≤ x0 → x3 ≤ x0 := le_trans
  have t3 : x3 ≤ x2 → x2 ≤ x0 → x3 ≤ x0 := le_trans
  have t4 : x3 ≤ x2 → x2 ≤ x1 → x3 ≤ x1 := le_trans
  have u1 : ¬ x1 ≤ x0 → x2 ≤ x0 → x2 ≤ x1 := fun a b => b.trans (le_of_not_ge a)
  have u2 : ¬ x1 ≤ x0 → x3 ≤ x0 → x3 ≤ x1 := fun a b => b.trans (le_of_not_ge a)
  have u3 : ¬ x3 ≤ x2 → x3 ≤ x0 → x2 ≤ x0 := fun a b => (le_of_not_ge a).trans b
  have u4 : ¬ x3 ≤ x2 → x3 ≤ x1 → x2 ≤ x1 := fun a b => (le_of_not_ge a).trans b
  simp only [g0, g1, gp, n0, n1, n2, n3, few3, ofBool_one, e01, e23, eM, eN, lt_iff_not_ge, m10, m20, m30, m21, m31, m32]
  clear m10 m20 m30 m21 m31 m32 e01 e23 eM eN
  by_cases p10 : x1 ≤ x0 <;> by_cases p20 : x2 ≤ x0 <;> by_cases p30 : x3 ≤ x0 <;> by_cases p21 : x2 ≤ x1 <;> by_cases p31 : x3 ≤ x1 <;> by_cases p32 : x3 ≤ x2 <;>
    first
      | exact absurd (t1 p21 p10) p20
      | exact absurd (t2 p31 p10) p30
      | exact absurd (t3 p32 p20) p30
      | exact absurd (t4 p32 p21) p31
      | exact absurd (u1 p10 p20) p21
      | exact absurd (u2 p10 p30) p31
      | exact absurd (u3 p32 p30) p20
      | exact absurd (u4 p32 p31) p21
      | (simp only [p10, p20, p30, p21, p31, p32, true_and, and_true, not_true_eq_false, not_false_eq_true, false_and, and_false, or_self, or_true, true_or, or_false, false_or, if_true, if_false, ite_true, ite_false, and_self]
         first
           | (refine .k01 ?_ ?_ ?_ ?_ ?_ ?_ ?_ <;> with_reducible rfl)
           | (refine .k23 ?_ ?_ ?_ ?_ ?_ ?_ ?_ <;> with_reducible rfl)
           | (refine .k02 ?_ ?_ ?_ ?_ ?_ ?_ ?_ <;> with_reducible rfl)
           | (refine .k03 ?_ ?_ ?_ ?_ ?_ ?_ ?_ <;> with_reducible rfl)
           | (refine .k12 ?_ ?_ ?_ ?_ ?_ ?_ ?_ <;> with_reducible rfl)
           | (refine .k13 ?_ ?_ ?_ ?_ ?_ ?_ ?_ <;> with_reducible rfl))

end Cert.Joint

end
-- ==== Proof.Squares.lean ====
/- Squares of the numbers that a precondition admits. -/
module

public import proofs.«01_k».proof.Proof.Kept

@[expose] public section

set_option maxRecDepth 8192

noncomputable section

namespace Cert.Joint

open Idealize.ShloMosaic Cert.KernelIdeal.Hand Cert.ReferenceIdeal.Hand

/-- The numbers admitted: not positive, or of a square that is a normal number. -/
def Dom (v : EReal) : Prop := v ≤ 0 ∨ (cF 0x20000000#32 ≤ v ∧ v < cF 0x5F800000#32)

/-- What the clamped number and its square are: of a number that is not positive, -/
theorem dom_cases {v : EReal} (h : Dom v) :
    (cl v = ((255/2361183241434822606848 : ℝ) : EReal) ∧ hq v = 0)
    ∨ ∃ r : ℝ, 1/9223372036854775808 ≤ r ∧ r < 18446744073709551616 ∧ cl v = (r : EReal) ∧ hq v = ((r * r : ℝ) : EReal) := by
  rcases h with h | ⟨h1, h2⟩
  · left
    constructor
    · rw [cl, cE_1FFF]
      refine max_eq_right (h.trans ?_)
      exact_mod_cast (by norm_num : (0:ℝ) ≤ 255/2361183241434822606848)
    · rw [hq, max_eq_right h, mul_zero]
  · right
    rw [cF_20000000] at h1
    rw [cF_5F800000] at h2
    have hb : v ≠ ⊥ := fun e => by rw [e] at h1; exact absurd h1 (not_le.2 (EReal.bot_lt_coe _))
    have ht : v ≠ ⊤ := fun e => by rw [e] at h2; exact absurd h2 (not_lt.2 le_top)
    lift v to ℝ using ⟨ht, hb⟩ with r
    have h1' : (1/9223372036854775808 : ℝ) ≤ r := EReal.coe_le_coe_iff.1 h1
    have h2' : r < 18446744073709551616 := EReal.coe_lt_coe_iff.1 h2
    refine ⟨r, h1', h2', ?_, ?_⟩
    · rw [cl, cE_1FFF]
      refine max_eq_left (EReal.coe_le_coe_iff.2 ?_)
      refine le_trans ?_ h1'
      norm_num
    · have h0 : (0 : EReal) ≤ (r : EReal) := by exact_mod_cast (le_trans (by norm_num) h1' : (0:ℝ) ≤ r)
      rw [hq, max_eq_left h0, EReal.coe_mul]

/-- The kernel's square of the clamped number is the reference's. -/
theorem sq_cl {v : EReal} (h : Dom v) : KernelIdeal.Hand.sq (cl v) = hq v := by
  rcases dom_cases h with ⟨e1, e2⟩ | ⟨r, h1, h2, e1, e2⟩
  · rw [e1, e2, KernelIdeal.Hand.sq, cF_00800000, ← EReal.coe_mul, if_pos]
    refine EReal.coe_lt_coe_iff.2 ?_
    norm_num
  · rw [e1, e2, KernelIdeal.Hand.sq, cF_00800000, ← EReal.coe_mul, if_neg]
    refine not_lt.2 (EReal.coe_le_coe_iff.2 ?_)
    have := mul_le_mul h1 h1 (by norm_num) (le_trans (by norm_num) h1)
    refine le_trans (le_of_eq ?_) this
    norm_num

/-- The clamped numbers are in the order of the squares. -/
theorem le_iff {v w : EReal} (hv : Dom v) (hw : Dom w) : hq v ≤ hq w ↔ cl v ≤ cl w := by
  rcases dom_cases hv with ⟨e1, e2⟩ | ⟨r, h1, h2, e1, e2⟩ <;> rcases dom_cases hw with ⟨f1, f2⟩ | ⟨s, k1, k2, f1, f2⟩ <;> rw [e1, e2, f1, f2]
  · simp
  · refine iff_of_true ?_ (EReal.coe_le_coe_iff.2 (le_trans (by norm_num) k1))
    exact_mod_cast mul_self_nonneg s
  · refine iff_of_false ?_ ?_
    · rw [not_le]
      exact_mod_cast mul_pos (lt_of_lt_of_le (by norm_num) h1 : (0:ℝ) < r) (lt_of_lt_of_le (by norm_num) h1)
    · rw [not_le]
      exact EReal.coe_lt_coe_iff.2 (lt_of_lt_of_le (by norm_num) h1)
  · rw [EReal.coe_le_coe_iff, EReal.coe_le_coe_iff]
    exact (mul_self_le_mul_self_iff (le_trans (by norm_num) h1) (le_trans (by norm_num) k1)).symm

theorem cl_nonneg (v : EReal) : 0 ≤ cl v := by
  rw [cl, cE_1FFF]
  exact le_max_of_le_right (by exact_mod_cast (by norm_num : (0:ℝ) ≤ 255/2361183241434822606848))

end Cert.Joint

end
-- ==== Proof.Loop2.lean ====
/- The packing loop: what the codes, the kept values and the positions of the block are after all trips. -/
module

public import proofs.«01_k».proof.Proof.Spec

@[expose] public section

set_option maxRecDepth 8192

noncomputable section

namespace Cert.KernelIdeal.Hand

open Idealize.ShloMosaic Cert.KernelIdeal Cert.KernelIdeal.Gen

/-- Every piece of a list agrees with one function of the whole buffer. -/
def Fits {s : Shape} {e : EltTy} (G : s.Idx → Elt Ideal e) (L : List (View.Piece (Elt Ideal) s e)) : Prop :=
  ∀ p ∈ L, ∀ x : p.1.shape.Idx, p.2 x = G (p.1.emb x)

theorem fits_nil {s : Shape} {e : EltTy} (G : s.Idx → Elt Ideal e) : Fits G [] := fun _ h => absurd h List.not_mem_nil
theorem fits_cons {s : Shape} {e : EltTy} {G : s.Idx → Elt Ideal e} {p : View.Piece (Elt Ideal) s e} {L : List (View.Piece (Elt Ideal) s e)}
    (h : ∀ x : p.1.shape.Idx, p.2 x = G (p.1.emb x)) (hL : Fits G L) : Fits G (p :: L) := List.forall_mem_cons.2 ⟨h, hL⟩
theorem fits_append {s : Shape} {e : EltTy} {G : s.Idx → Elt Ideal e} {K L : List (View.Piece (Elt Ideal) s e)}
    (hK : Fits G K) (hL : Fits G L) : Fits G (K ++ L) := fun p hp => (List.mem_append.1 hp).elim (hK p) (hL p)

/-- The lists' pieces reach an element. -/
def Meets {s : Shape} {e : EltTy} (L : List (View.Piece (Elt Ideal) s e)) (y : s.Idx) : Prop := ∃ p ∈ L, y ∈ p.1.set

theorem meets_left {s : Shape} {e : EltTy} {K L : List (View.Piece (Elt Ideal) s e)} {y : s.Idx} (h : Meets K y) : Meets (K ++ L) y := by
  obtain ⟨p, hp, hy⟩ := h
  exact ⟨p, List.mem_append_left _ hp, hy⟩
theorem meets_right {s : Shape} {e : EltTy} {K L : List (View.Piece (Elt Ideal) s e)} {y : s.Idx} (h : Meets L y) : Meets (K ++ L) y := by
  obtain ⟨p, hp, hy⟩ := h
  exact ⟨p, List.mem_append_right _ hp, hy⟩

theorem mem_unit2 {m n a b : ℕ} {size : Fin 2 → Nat} (off : Fin 2 → Nat) (h) (e : off = ![a, b]) (R : Fin m) (C : Fin n)
    (h0 : a ≤ R.val) (h1 : R.val < a + size 0) (h2 : b ≤ C.val) (h3 : C.val < b + size 1) :
    ix2 R C ∈ (Rect.unit (s := ⟨2, ![m, n]⟩) off size h).set := by
  subst e
  rw [Rect.mem_set_unit]
  intro t
  match t with
  | ⟨0, _⟩ => exact ⟨h0, h1⟩
  | ⟨1, _⟩ => exact ⟨h2, h3⟩

theorem emb_unit2 {m n a b p q : ℕ} (off : Fin 2 → Nat) (h) (e : off = ![a, b]) (r : Fin p) (l : Fin q) (R : Fin m) (C : Fin n)
    (h0 : R.val = a + r.val) (h1 : C.val = b + l.val) :
    (Rect.unit (s := ⟨2, ![m, n]⟩) off ![p, q] h).emb (ix2 r l) = ix2 R C := by
  subst e
  funext t
  apply Fin.ext
  rw [Rect.emb_apply]
  match t with
  | ⟨0, _⟩ => show a + 1 * r.val = R.val; omega
  | ⟨1, _⟩ => show b + 1 * l.val = C.val; omega

section Whole

variable (v0 v1 pt : Fin 320 → Fin 2240 → EReal) (iv : Fin 320 → EReal)

/-- The codes of the block. -/
def CODE : S320x8960.Idx → EReal := fun y => codeOf ⟨(y 1).val % 4, Nat.mod_lt _ (by decide)⟩
  (Q (iv (y 0)) (v0 (y 0) ⟨(y 1).val / 4, Nat.div_lt_of_lt_mul (y 1).isLt⟩))
  (Q (iv (y 0)) (v1 (y 0) ⟨(y 1).val / 4, Nat.div_lt_of_lt_mul (y 1).isLt⟩))
  (pt (y 0) ⟨(y 1).val / 4, Nat.div_lt_of_lt_mul (y 1).isLt⟩)
/-- The kept values of the block, quantised. -/
def VALS : S320x4480.Idx → EReal := fun y =>
  Q (iv (y 0)) ((if (y 1).val % 2 = 1 then v1 else v0) (y 0) ⟨(y 1).val / 2, Nat.div_lt_of_lt_mul (y 1).isLt⟩)
/-- The positions of the kept values of the block. -/
def META : S320x2240.Idx → BitVec 8 := fun y => BitVec.setWidth 8 (posOf (pt (y 0) (y 1)))

section Pieces

variable (arg9 : Memref sig .tc .vmem S35x5x32x128 .bf16) (harg9 : arg9.IsWhole)
  (arg10 : Memref sig .tc .vmem S35x5x32x128 .bf16) (harg10 : arg10.IsWhole)
  (arg11 : Memref sig .tc .vmem S35x5x32x128 .fp8e4m3) (harg11 : arg11.IsWhole)
  (arg12 : Memref sig .tc .vmem S5x32x128 .bf16) (harg12 : arg12.IsWhole)
  (arg13 : Memref sig .tc .vmem S5x32x128 .f32) (harg13 : arg13.IsWhole)
  (arg14 : Memref sig .tc .vmem S320x128 .f32) (harg14 : arg14.IsWhole)
  (v25 : IVec S32x128 1) (v1007 : FVec Ideal S32x128 .f32) (v1096 : IVec S32x128 32) (v1101 : IVec S32x128 1) (v1102 : IVec S32x128 32)
  (X9 : BufTy.Contents (Elt Ideal) arg9.view.ty) (X10 : BufTy.Contents (Elt Ideal) arg10.view.ty)
  (X11 : BufTy.Contents (Elt Ideal) arg11.view.ty) (X13 : BufTy.Contents (Elt Ideal) arg13.view.ty)

/-- What the scratch buffers hold. -/
structure Holds : Prop where
  v0 : ∀ (j : Fin 35) (rp : Fin 5) (r : Fin 32) (l : Fin 128), arg9.view.read (Elt Ideal) X9 (ix4 j rp r l) = v0 (rowOf rp r l) (grpOf j l)
  v1 : ∀ (j : Fin 35) (rp : Fin 5) (r : Fin 32) (l : Fin 128), arg10.view.read (Elt Ideal) X10 (ix4 j rp r l) = v1 (rowOf rp r l) (grpOf j l)
  pt : ∀ (j : Fin 35) (rp : Fin 5) (r : Fin 32) (l : Fin 128), arg11.view.read (Elt Ideal) X11 (ix4 j rp r l) = pt (rowOf rp r l) (grpOf j l)
  iv : ∀ (rp : Fin 5) (r : Fin 32) (l : Fin 128), arg13.view.read (Elt Ideal) X13 (ix3 rp r l) = iv (rowOf rp r l)

theorem ld4_apply {e : EltTy} (a : Memref sig .tc .vmem S35x5x32x128 e) (X : BufTy.Contents (Elt Ideal) a.view.ty) (j : Fin 35) (rp : Fin 5)
    (off : Fin 4 → Nat) (h) (eo : off = ![j.val, rp.val, 0, 0]) (r : Fin 32) (l : Fin 128) :
    View.readAt (Elt Ideal) a.view (Rect.unit (s := S35x5x32x128) off S1x1x32x128.size h).toLoadRect X (ix4 0 0 r l) = a.view.read (Elt Ideal) X (ix4 j rp r l) := by
  subst eo
  exact View.ld_unit_apply_of (a.view.read (Elt Ideal) X) _ S1x1x32x128.size h (ix4 0 0 r l) (ix4 j rp r l) (fun a => by
      match a with
      | ⟨0, _⟩ => rfl
      | ⟨1, _⟩ => rfl
      | ⟨2, _⟩ => exact (Nat.zero_add _).symm
      | ⟨3, _⟩ => exact (Nat.zero_add _).symm)
theorem ld3_apply {e : EltTy} (a : Memref sig .tc .vmem S5x32x128 e) (X : BufTy.Contents (Elt Ideal) a.view.ty) (rp : Fin 5)
    (off : Fin 3 → Nat) (h) (eo : off = ![rp.val, 0, 0]) (r : Fin 32) (l : Fin 128) :
    View.readAt (Elt Ideal) a.view (Rect.unit (s := S5x32x128) off S1x32x128.size h).toLoadRect X (ix3 0 r l) = a.view.read (Elt Ideal) X (ix3 rp r l) := by
  subst eo
  exact View.ld_unit_apply_of (a.view.read (Elt Ideal) X) _ S1x32x128.size h (ix3 0 r l) (ix3 rp r l) (fun a => by
      match a with
      | ⟨0, _⟩ => rfl
      | ⟨1, _⟩ => exact (Nat.zero_add _).symm
      | ⟨2, _⟩ => exact (Nat.zero_add _).symm)

theorem ldV_apply (a : Memref sig .tc .vmem S35x5x32x128 .bf16) (X : BufTy.Contents (Elt Ideal) a.view.ty) (j : Fin 35) (rp : Fin 5)
    (off : Fin 4 → Nat) (h) (eo : off = ![j.val, rp.val, 0, 0]) (r : Fin 32) (l : Fin 128) :
    ldV (F := Ideal) a X off h (ix4 0 0 r l) = a.view.read (Elt Ideal) X (ix4 j rp r l) := ld4_apply a X j rp off h eo r l
theorem ldP_apply (a : Memref sig .tc .vmem S35x5x32x128 .fp8e4m3) (X : BufTy.Contents (Elt Ideal) a.view.ty) (j : Fin 35) (rp : Fin 5)
    (off : Fin 4 → Nat) (h) (eo : off = ![j.val, rp.val, 0, 0]) (r : Fin 32) (l : Fin 128) :
    ldP (F := Ideal) a X off h (ix4 0 0 r l) = a.view.read (Elt Ideal) X (ix4 j rp r l) := ld4_apply a X j rp off h eo r l
theorem ldI_apply (a : Memref sig .tc .vmem S5x32x128 .f32) (X : BufTy.Contents (Elt Ideal) a.view.ty) (rp : Fin 5)
    (off : Fin 3 → Nat) (h) (eo : off = ![rp.val, 0, 0]) (r : Fin 32) (l : Fin 128) :
    ldI (F := Ideal) a X off h (ix3 0 r l) = a.view.read (Elt Ideal) X (ix3 rp r l) := ld3_apply a X rp off h eo r l

variable {v0 v1 pt iv X9 X10 X11 X13} {arg9 arg10 arg11 arg13}
variable (H : Holds v0 v1 pt iv arg9 arg10 arg11 arg13 X9 X10 X11 X13)
include H

theorem code0_fits (j : Fin 35) (rp : Fin 5) (oL : Fin 4 → Nat) (hL) (eL : oL = ![j.val, rp.val, 0, 0]) (oI : Fin 3 → Nat) (hI) (eI : oI = ![rp.val, 0, 0])
    (oS : Fin 2 → Nat) (hS) (eS : oS = ![64 * rp.val + 0, 256 * j.val + 0]) : ∀ x : S32x128.Idx,
    code0 (ldV arg9 X9 oL hL) (ldV arg10 X10 oL hL) (ldP arg11 X11 oL hL) (ldI arg13 X13 oI hI) x = CODE v0 v1 pt iv ((Rect.unit (s := S320x8960) oS S32x128.size hS).emb x) := by
  intro x
  obtain ⟨r, l, rfl⟩ : ∃ (r : Fin 32) (l : Fin 128), x = ix2 r l := ⟨x 0, x 1, eq_ix2 x⟩
  rw [emb_unit2 oS hS eS r l ⟨64 * rp.val + 0 + r.val, by omega⟩ ⟨256 * j.val + 0 + l.val, by omega⟩ rfl rfl]
  rw [code0_apply, ldV_apply arg9 X9 j rp oL hL eL, ldV_apply arg10 X10 j rp oL hL eL, ldP_apply arg11 X11 j rp oL hL eL, ldI_apply arg13 X13 rp oI hI eI,
    H.v0, H.v1, H.pt, H.iv]
  have eR : rowOf rp r (quad 0 l) = ⟨64 * rp.val + 0 + r.val, by omega⟩ := by apply Fin.ext; simp only [rowOf, quad]; omega
  have eG : grpOf j (quad 0 l) = ⟨(256 * j.val + 0 + l.val) / 4, by omega⟩ := by apply Fin.ext; simp only [grpOf, quad]; omega
  have eS' : slot l = ⟨(256 * j.val + 0 + l.val) % 4, Nat.mod_lt _ (by decide)⟩ := by apply Fin.ext; simp only [slot]; omega
  rw [eR, eG, eS']
  rfl

theorem code1_fits (j : Fin 35) (rp : Fin 5) (oL : Fin 4 → Nat) (hL) (eL : oL = ![j.val, rp.val, 0, 0]) (oI : Fin 3 → Nat) (hI) (eI : oI = ![rp.val, 0, 0])
    (oS : Fin 2 → Nat) (hS) (eS : oS = ![64 * rp.val + 0, 256 * j.val + 128]) : ∀ x : S32x128.Idx,
    code1 (ldV arg9 X9 oL hL) (ldV arg10 X10 oL hL) (ldP arg11 X11 oL hL) (ldI arg13 X13 oI hI) x = CODE v0 v1 pt iv ((Rect.unit (s := S320x8960) oS S32x128.size hS).emb x) := by
  intro x
  obtain ⟨r, l, rfl⟩ : ∃ (r : Fin 32) (l : Fin 128), x = ix2 r l := ⟨x 0, x 1, eq_ix2 x⟩
  rw [emb_unit2 oS hS eS r l ⟨64 * rp.val + 0 + r.val, by omega⟩ ⟨256 * j.val + 128 + l.val, by omega⟩ rfl rfl]
  rw [code1_apply, ldV_apply arg9 X9 j rp oL hL eL, ldV_apply arg10 X10 j rp oL hL eL, ldP_apply arg11 X11 j rp oL hL eL, ldI_apply arg13 X13 rp oI hI eI,
    H.v0, H.v1, H.pt, H.iv]
  have eR : rowOf rp r (quad 1 l) = ⟨64 * rp.val + 0 + r.val, by omega⟩ := by apply Fin.ext; simp only [rowOf, quad]; omega
  have eG : grpOf j (quad 1 l) = ⟨(256 * j.val + 128 + l.val) / 4, by omega⟩ := by apply Fin.ext; simp only [grpOf, quad]; omega
  have eS' : slot l = ⟨(256 * j.val + 128 + l.val) % 4, Nat.mod_lt _ (by decide)⟩ := by apply Fin.ext; simp only [slot]; omega
  rw [eR, eG, eS']
  rfl

theorem code2_fits (j : Fin 35) (rp : Fin 5) (oL : Fin 4 → Nat) (hL) (eL : oL = ![j.val, rp.val, 0, 0]) (oI : Fin 3 → Nat) (hI) (eI : oI = ![rp.val, 0, 0])
    (oS : Fin 2 → Nat) (hS) (eS : oS = ![64 * rp.val + 32, 256 * j.val + 0]) : ∀ x : S32x128.Idx,
    code2 (ldV arg9 X9 oL hL) (ldV arg10 X10 oL hL) (ldP arg11 X11 oL hL) (ldI arg13 X13 oI hI) x = CODE v0 v1 pt iv ((Rect.unit (s := S320x8960) oS S32x128.size hS).emb x) := by
  intro x
  obtain ⟨r, l, rfl⟩ : ∃ (r : Fin 32) (l : Fin 128), x = ix2 r l := ⟨x 0, x 1, eq_ix2 x⟩
  rw [emb_unit2 oS hS eS r l ⟨64 * rp.val + 32 + r.val, by omega⟩ ⟨256 * j.val + 0 + l.val, by omega⟩ rfl rfl]
  rw [code2_apply, ldV_apply arg9 X9 j rp oL hL eL, ldV_apply arg10 X10 j rp oL hL eL, ldP_apply arg11 X11 j rp oL hL eL, ldI_apply arg13 X13 rp oI hI eI,
    H.v0, H.v1, H.pt, H.iv]
  have eR : rowOf rp r (quad 2 l) = ⟨64 * rp.val + 32 + r.val, by omega⟩ := by apply Fin.ext; simp only [rowOf, quad]; omega
  have eG : grpOf j (quad 2 l) = ⟨(256 * j.val + 0 + l.val) / 4, by omega⟩ := by apply Fin.ext; simp only [grpOf, quad]; omega
  have eS' : slot l = ⟨(256 * j.val + 0 + l.val) % 4, Nat.mod_lt _ (by decide)⟩ := by apply Fin.ext; simp only [slot]; omega
  rw [eR, eG, eS']
  rfl

theorem code3_fits (j : Fin 35) (rp : Fin 5) (oL : Fin 4 → Nat) (hL) (eL : oL = ![j.val, rp.val, 0, 0]) (oI : Fin 3 → Nat) (hI) (eI : oI = ![rp.val, 0, 0])
    (oS : Fin 2 → Nat) (hS) (eS : oS = ![64 * rp.val + 32, 256 * j.val + 128]) : ∀ x : S32x128.Idx,
    code3 (ldV arg9 X9 oL hL) (ldV arg10 X10 oL hL) (ldP arg11 X11 oL hL) (ldI arg13 X13 oI hI) x = CODE v0 v1 pt iv ((Rect.unit (s := S320x8960) oS S32x128.size hS).emb x) := by
  intro x
  obtain ⟨r, l, rfl⟩ : ∃ (r : Fin 32) (l : Fin 128), x = ix2 r l := ⟨x 0, x 1, eq_ix2 x⟩
  rw [emb_unit2 oS hS eS r l ⟨64 * rp.val + 32 + r.val, by omega⟩ ⟨256 * j.val + 128 + l.val, by omega⟩ rfl rfl]
  rw [code3_apply, ldV_apply arg9 X9 j rp oL hL eL, ldV_apply arg10 X10 j rp oL hL eL, ldP_apply arg11 X11 j rp oL hL eL, ldI_apply arg13 X13 rp oI hI eI,
    H.v0, H.v1, H.pt, H.iv]
  have eR : rowOf rp r (quad 3 l) = ⟨64 * rp.val + 32 + r.val, by omega⟩ := by apply Fin.ext; simp only [rowOf, quad]; omega
  have eG : grpOf j (quad 3 l) = ⟨(256 * j.val + 128 + l.val) / 4, by omega⟩ := by apply Fin.ext; simp only [grpOf, quad]; omega
  have eS' : slot l = ⟨(256 * j.val + 128 + l.val) % 4, Nat.mod_lt _ (by decide)⟩ := by apply Fin.ext; simp only [slot]; omega
  rw [eR, eG, eS']
  rfl

theorem vals0_fits (j : Fin 35) (rp : Fin 5) (oL : Fin 4 → Nat) (hL) (eL : oL = ![j.val, rp.val, 0, 0]) (oI : Fin 3 → Nat) (hI) (eI : oI = ![rp.val, 0, 0])
    (oS : Fin 2 → Nat) (hS) (eS : oS = ![64 * rp.val + 0, 128 * j.val]) : ∀ x : S32x128.Idx,
    vals0 (ldV arg9 X9 oL hL) (ldV arg10 X10 oL hL) (ldP arg11 X11 oL hL) (ldI arg13 X13 oI hI) x = VALS v0 v1 iv ((Rect.unit (s := S320x4480) oS S32x128.size hS).emb x) := by
  intro x
  obtain ⟨r, l, rfl⟩ : ∃ (r : Fin 32) (l : Fin 128), x = ix2 r l := ⟨x 0, x 1, eq_ix2 x⟩
  rw [emb_unit2 oS hS eS r l ⟨64 * rp.val + 0 + r.val, by omega⟩ ⟨128 * j.val + l.val, by omega⟩ rfl rfl]
  rw [vals0_apply, ldV_apply arg9 X9 j rp oL hL eL, ldV_apply arg10 X10 j rp oL hL eL, ldI_apply arg13 X13 rp oI hI eI, ldI_apply arg13 X13 rp oI hI eI,
    H.v0, H.v1, H.iv, H.iv]
  by_cases hl : l.val % 2 = 1
  · rw [if_pos hl]
    have eR : rowOf rp r (flip2 (laneV l)) = ⟨64 * rp.val + 0 + r.val, by omega⟩ := by
      apply Fin.ext; have := laneV_facts l; simp only [rowOf]; omega
    have eG : grpOf j (flip2 (laneV l)) = ⟨(128 * j.val + l.val) / 2, by omega⟩ := by
      apply Fin.ext; have := laneV_facts l; simp only [grpOf]; omega
    rw [eR, eG]
    have hp : (128 * j.val + l.val) % 2 = 1 := by omega
    show _ = Q _ ((if (128 * j.val + l.val) % 2 = 1 then v1 else v0) _ _)
    rw [if_pos hp]
    rfl
  · rw [if_neg hl]
    have eR : rowOf rp r (laneV l) = ⟨64 * rp.val + 0 + r.val, by omega⟩ := by
      apply Fin.ext; have := laneV_facts l; simp only [rowOf]; omega
    have eG : grpOf j (laneV l) = ⟨(128 * j.val + l.val) / 2, by omega⟩ := by
      apply Fin.ext; have := laneV_facts l; simp only [grpOf]; omega
    rw [eR, eG]
    have hp : ¬ (128 * j.val + l.val) % 2 = 1 := by omega
    show _ = Q _ ((if (128 * j.val + l.val) % 2 = 1 then v1 else v0) _ _)
    rw [if_neg hp]
    rfl

theorem vals1_fits (j : Fin 35) (rp : Fin 5) (oL : Fin 4 → Nat) (hL) (eL : oL = ![j.val, rp.val, 0, 0]) (oI : Fin 3 → Nat) (hI) (eI : oI = ![rp.val, 0, 0])
    (oS : Fin 2 → Nat) (hS) (eS : oS = ![64 * rp.val + 32, 128 * j.val]) : ∀ x : S32x128.Idx,
    vals1 (ldV arg9 X9 oL hL) (ldV arg10 X10 oL hL) (ldP arg11 X11 oL hL) (ldI arg13 X13 oI hI) x = VALS v0 v1 iv ((Rect.unit (s := S320x4480) oS S32x128.size hS).emb x) := by
  intro x
  obtain ⟨r, l, rfl⟩ : ∃ (r : Fin 32) (l : Fin 128), x = ix2 r l := ⟨x 0, x 1, eq_ix2 x⟩
  rw [emb_unit2 oS hS eS r l ⟨64 * rp.val + 32 + r.val, by omega⟩ ⟨128 * j.val + l.val, by omega⟩ rfl rfl]
  rw [vals1_apply, ldV_apply arg9 X9 j rp oL hL eL, ldV_apply arg10 X10 j rp oL hL eL, ldI_apply arg13 X13 rp oI hI eI, ldI_apply arg13 X13 rp oI hI eI,
    H.v0, H.v1, H.iv, H.iv]
  by_cases hl : l.val % 2 = 1
  · rw [if_pos hl]
    have eR : rowOf rp r (laneV l) = ⟨64 * rp.val + 32 + r.val, by omega⟩ := by
      apply Fin.ext; have := laneV_facts l; simp only [rowOf]; omega
    have eG : grpOf j (laneV l) = ⟨(128 * j.val + l.val) / 2, by omega⟩ := by
      apply Fin.ext; have := laneV_facts l; simp only [grpOf]; omega
    rw [eR, eG]
    have hp : (128 * j.val + l.val) % 2 = 1 := by omega
    show _ = Q _ ((if (128 * j.val + l.val) % 2 = 1 then v1 else v0) _ _)
    rw [if_pos hp]
    rfl
  · rw [if_neg hl]
    have eR : rowOf rp r (flip2 (laneV l)) = ⟨64 * rp.val + 32 + r.val, by omega⟩ := by
      apply Fin.ext; have := laneV_facts l; simp only [rowOf]; omega
    have eG : grpOf j (flip2 (laneV l)) = ⟨(128 * j.val + l.val) / 2, by omega⟩ := by
      apply Fin.ext; have := laneV_facts l; simp only [grpOf]; omega
    rw [eR, eG]
    have hp : ¬ (128 * j.val + l.val) % 2 = 1 := by omega
    show _ = Q _ ((if (128 * j.val + l.val) % 2 = 1 then v1 else v0) _ _)
    rw [if_neg hp]
    rfl

theorem meta0_fits (j j' : Fin 35) (hj : j'.val = j.val + 1) (rp : Fin 5) (oL : Fin 4 → Nat) (hL) (eL : oL = ![j.val, rp.val, 0, 0]) (oM : Fin 4 → Nat) (hM) (eM : oM = ![j'.val, rp.val, 0, 0])
    (oS : Fin 2 → Nat) (hS) (eS : oS = ![64 * rp.val + 0, 64 * j.val]) : ∀ x : S32x128.Idx,
    meta0 (ldP arg11 X11 oL hL) (ldP arg11 X11 oM hM) x = META pt ((Rect.unit (s := S320x2240) oS S32x128.size hS).emb x) := by
  intro x
  obtain ⟨r, l, rfl⟩ : ∃ (r : Fin 32) (l : Fin 128), x = ix2 r l := ⟨x 0, x 1, eq_ix2 x⟩
  rw [emb_unit2 oS hS eS r l ⟨64 * rp.val + 0 + r.val, by omega⟩ ⟨64 * j.val + l.val, by omega⟩ rfl rfl]
  rw [meta0_apply, ldP_apply arg11 X11 j rp oL hL eL, ldP_apply arg11 X11 j' rp oM hM eM, H.pt, H.pt]
  show _ = BitVec.setWidth 8 (posOf (pt ⟨64 * rp.val + 0 + r.val, _⟩ ⟨64 * j.val + l.val, _⟩))
  by_cases hl : l.val < 64
  · rw [if_pos hl]
    have eR : rowOf rp r (laneM l) = ⟨64 * rp.val + 0 + r.val, by omega⟩ := by
      apply Fin.ext; have h1 := laneM_facts l; have h2 := laneM_facts ⟨(l.val + 64) % 128, Nat.mod_lt _ (by decide)⟩; simp only [rowOf]; simp only at h2; have h3 := halves l; rw [h3.1, h3.2.1, h3.2.2] at h2; omega
    have eG : grpOf j (laneM l) = ⟨64 * j.val + l.val, by omega⟩ := by
      apply Fin.ext; have h1 := laneM_facts l; have h2 := laneM_facts ⟨(l.val + 64) % 128, Nat.mod_lt _ (by decide)⟩; simp only [grpOf]; simp only at h2; have h3 := halves l; rw [h3.1, h3.2.1, h3.2.2] at h2; omega
    rw [eR, eG]
  · rw [if_neg hl]
    have eR : rowOf rp r (laneM ⟨(l.val + 64) % 128, Nat.mod_lt _ (by decide)⟩) = ⟨64 * rp.val + 0 + r.val, by omega⟩ := by
      apply Fin.ext; have h1 := laneM_facts l; have h2 := laneM_facts ⟨(l.val + 64) % 128, Nat.mod_lt _ (by decide)⟩; simp only [rowOf]; simp only at h2; have h3 := halves l; rw [h3.1, h3.2.1, h3.2.2] at h2; omega
    have eG : grpOf j' (laneM ⟨(l.val + 64) % 128, Nat.mod_lt _ (by decide)⟩) = ⟨64 * j.val + l.val, by omega⟩ := by
      apply Fin.ext; have h1 := laneM_facts l; have h2 := laneM_facts ⟨(l.val + 64) % 128, Nat.mod_lt _ (by decide)⟩; simp only [grpOf]; simp only at h2; have h3 := halves l; rw [h3.1, h3.2.1, h3.2.2] at h2; omega
    rw [eR, eG]

theorem meta1_fits (j j' : Fin 35) (hj : j'.val = j.val + 1) (rp : Fin 5) (oL : Fin 4 → Nat) (hL) (eL : oL = ![j.val, rp.val, 0, 0]) (oM : Fin 4 → Nat) (hM) (eM : oM = ![j'.val, rp.val, 0, 0])
    (oS : Fin 2 → Nat) (hS) (eS : oS = ![64 * rp.val + 32, 64 * j.val]) : ∀ x : S32x128.Idx,
    meta1 (ldP arg11 X11 oL hL) (ldP arg11 X11 oM hM) x = META pt ((Rect.unit (s := S320x2240) oS S32x128.size hS).emb x) := by
  intro x
  obtain ⟨r, l, rfl⟩ : ∃ (r : Fin 32) (l : Fin 128), x = ix2 r l := ⟨x 0, x 1, eq_ix2 x⟩
  rw [emb_unit2 oS hS eS r l ⟨64 * rp.val + 32 + r.val, by omega⟩ ⟨64 * j.val + l.val, by omega⟩ rfl rfl]
  rw [meta1_apply, ldP_apply arg11 X11 j rp oL hL eL, ldP_apply arg11 X11 j' rp oM hM eM, H.pt, H.pt]
  show _ = BitVec.setWidth 8 (posOf (pt ⟨64 * rp.val + 32 + r.val, _⟩ ⟨64 * j.val + l.val, _⟩))
  by_cases hl : l.val < 64
  · rw [if_pos hl]
    have eR : rowOf rp r (laneM ⟨(l.val + 64) % 128, Nat.mod_lt _ (by decide)⟩) = ⟨64 * rp.val + 32 + r.val, by omega⟩ := by
      apply Fin.ext; have h1 := laneM_facts l; have h2 := laneM_facts ⟨(l.val + 64) % 128, Nat.mod_lt _ (by decide)⟩; simp only [rowOf]; simp only at h2; have h3 := halves l; rw [h3.1, h3.2.1, h3.2.2] at h2; omega
    have eG : grpOf j (laneM ⟨(l.val + 64) % 128, Nat.mod_lt _ (by decide)⟩) = ⟨64 * j.val + l.val, by omega⟩ := by
      apply Fin.ext; have h1 := laneM_facts l; have h2 := laneM_facts ⟨(l.val + 64) % 128, Nat.mod_lt _ (by decide)⟩; simp only [grpOf]; simp only at h2; have h3 := halves l; rw [h3.1, h3.2.1, h3.2.2] at h2; omega
    rw [eR, eG]
  · rw [if_neg hl]
    have eR : rowOf rp r (laneM l) = ⟨64 * rp.val + 32 + r.val, by omega⟩ := by
      apply Fin.ext; have h1 := laneM_facts l; have h2 := laneM_facts ⟨(l.val + 64) % 128, Nat.mod_lt _ (by decide)⟩; simp only [rowOf]; simp only at h2; have h3 := halves l; rw [h3.1, h3.2.1, h3.2.2] at h2; omega
    have eG : grpOf j' (laneM l) = ⟨64 * j.val + l.val, by omega⟩ := by
      apply Fin.ext; have h1 := laneM_facts l; have h2 := laneM_facts ⟨(l.val + 64) % 128, Nat.mod_lt _ (by decide)⟩; simp only [grpOf]; simp only at h2; have h3 := halves l; rw [h3.1, h3.2.1, h3.2.2] at h2; omega
    rw [eR, eG]

end Pieces

end Whole

theorem off16_eq (k : Fin k0_t2_loop.trips) : k0_off16 k = ![2 * k.val, 0, 0, 0] := by
  revert k; decide +kernel
theorem off21_eq (k : Fin k0_t2_loop.trips) : k0_off21 k = ![2 * k.val + 1, 0, 0, 0] := by
  revert k; decide +kernel
theorem off17_0_eq (k : Fin k0_t2_loop.trips) : k0_off17 k 0#32 = ![64 * 0 + 0, 256 * (2 * k.val + 0) + 0] := by
  revert k; decide +kernel
theorem off17_128_eq (k : Fin k0_t2_loop.trips) : k0_off17 k 128#32 = ![64 * 0 + 0, 256 * (2 * k.val + 0) + 128] := by
  revert k; decide +kernel
theorem off19_0_eq (k : Fin k0_t2_loop.trips) : k0_off19 k 0#32 = ![64 * 0 + 32, 256 * (2 * k.val + 0) + 0] := by
  revert k; decide +kernel
theorem off19_128_eq (k : Fin k0_t2_loop.trips) : k0_off19 k 128#32 = ![64 * 0 + 32, 256 * (2 * k.val + 0) + 128] := by
  revert k; decide +kernel
theorem off18_eq (k : Fin k0_t2_loop.trips) : k0_off18 k = ![64 * 0 + 0, 128 * (2 * k.val + 0)] := by
  revert k; decide +kernel
theorem off20_eq (k : Fin k0_t2_loop.trips) : k0_off20 k = ![64 * 0 + 32, 128 * (2 * k.val + 0)] := by
  revert k; decide +kernel
theorem off22_0_eq (k : Fin k0_t2_loop.trips) : k0_off22 k 0#32 = ![64 * 0 + 0, 256 * (2 * k.val + 1) + 0] := by
  revert k; decide +kernel
theorem off22_128_eq (k : Fin k0_t2_loop.trips) : k0_off22 k 128#32 = ![64 * 0 + 0, 256 * (2 * k.val + 1) + 128] := by
  revert k; decide +kernel
theorem off24_0_eq (k : Fin k0_t2_loop.trips) : k0_off24 k 0#32 = ![64 * 0 + 32, 256 * (2 * k.val + 1) + 0] := by
  revert k; decide +kernel
theorem off24_128_eq (k : Fin k0_t2_loop.trips) : k0_off24 k 128#32 = ![64 * 0 + 32, 256 * (2 * k.val + 1) + 128] := by
  revert k; decide +kernel
theorem off23_eq (k : Fin k0_t2_loop.trips) : k0_off23 k = ![64 * 0 + 0, 128 * (2 * k.val + 1)] := by
  revert k; decide +kernel
theorem off25_eq (k : Fin k0_t2_loop.trips) : k0_off25 k = ![64 * 0 + 32, 128 * (2 * k.val + 1)] := by
  revert k; decide +kernel
theorem off26_eq (k : Fin k0_t2_loop.trips) : k0_off26 k = ![64 * 0 + 0, 64 * (2 * k.val)] := by
  revert k; decide +kernel
theorem off27_eq (k : Fin k0_t2_loop.trips) : k0_off27 k = ![64 * 0 + 32, 64 * (2 * k.val)] := by
  revert k; decide +kernel
theorem off28_eq (k : Fin k0_t2_loop.trips) : k0_off28 k = ![2 * k.val, 1, 0, 0] := by
  revert k; decide +kernel
theorem off33_eq (k : Fin k0_t2_loop.trips) : k0_off33 k = ![2 * k.val + 1, 1, 0, 0] := by
  revert k; decide +kernel
theorem off29_0_eq (k : Fin k0_t2_loop.trips) : k0_off29 k 0#32 = ![64 * 1 + 0, 256 * (2 * k.val + 0) + 0] := by
  revert k; decide +kernel
theorem off29_128_eq (k : Fin k0_t2_loop.trips) : k0_off29 k 128#32 = ![64 * 1 + 0, 256 * (2 * k.val + 0) + 128] := by
  revert k; decide +kernel
theorem off31_0_eq (k : Fin k0_t2_loop.trips) : k0_off31 k 0#32 = ![64 * 1 + 32, 256 * (2 * k.val + 0) + 0] := by
  revert k; decide +kernel
theorem off31_128_eq (k : Fin k0_t2_loop.trips) : k0_off31 k 128#32 = ![64 * 1 + 32, 256 * (2 * k.val + 0) + 128] := by
  revert k; decide +kernel
theorem off30_eq (k : Fin k0_t2_loop.trips) : k0_off30 k = ![64 * 1 + 0, 128 * (2 * k.val + 0)] := by
  revert k; decide +kernel
theorem off32_eq (k : Fin k0_t2_loop.trips) : k0_off32 k = ![64 * 1 + 32, 128 * (2 * k.val + 0)] := by
  revert k; decide +kernel
theorem off34_0_eq (k : Fin k0_t2_loop.trips) : k0_off34 k 0#32 = ![64 * 1 + 0, 256 * (2 * k.val + 1) + 0] := by
  revert k; decide +kernel
theorem off34_128_eq (k : Fin k0_t2_loop.trips) : k0_off34 k 128#32 = ![64 * 1 + 0, 256 * (2 * k.val + 1) + 128] := by
  revert k; decide +kernel
theorem off36_0_eq (k : Fin k0_t2_loop.trips) : k0_off36 k 0#32 = ![64 * 1 + 32, 256 * (2 * k.val + 1) + 0] := by
  revert k; decide +kernel
theorem off36_128_eq (k : Fin k0_t2_loop.trips) : k0_off36 k 128#32 = ![64 * 1 + 32, 256 * (2 * k.val + 1) + 128] := by
  revert k; decide +kernel
theorem off35_eq (k : Fin k0_t2_loop.trips) : k0_off35 k = ![64 * 1 + 0, 128 * (2 * k.val + 1)] := by
  revert k; decide +kernel
theorem off37_eq (k : Fin k0_t2_loop.trips) : k0_off37 k = ![64 * 1 + 32, 128 * (2 * k.val + 1)] := by
  revert k; decide +kernel
theorem off38_eq (k : Fin k0_t2_loop.trips) : k0_off38 k = ![64 * 1 + 0, 64 * (2 * k.val)] := by
  revert k; decide +kernel
theorem off39_eq (k : Fin k0_t2_loop.trips) : k0_off39 k = ![64 * 1 + 32, 64 * (2 * k.val)] := by
  revert k; decide +kernel
theorem off40_eq (k : Fin k0_t2_loop.trips) : k0_off40 k = ![2 * k.val, 2, 0, 0] := by
  revert k; decide +kernel
theorem off45_eq (k : Fin k0_t2_loop.trips) : k0_off45 k = ![2 * k.val + 1, 2, 0, 0] := by
  revert k; decide +kernel
theorem off41_0_eq (k : Fin k0_t2_loop.trips) : k0_off41 k 0#32 = ![64 * 2 + 0, 256 * (2 * k.val + 0) + 0] := by
  revert k; decide +kernel
theorem off41_128_eq (k : Fin k0_t2_loop.trips) : k0_off41 k 128#32 = ![64 * 2 + 0, 256 * (2 * k.val + 0) + 128] := by
  revert k; decide +kernel
theorem off43_0_eq (k : Fin k0_t2_loop.trips) : k0_off43 k 0#32 = ![64 * 2 + 32, 256 * (2 * k.val + 0) + 0] := by
  revert k; decide +kernel
theorem off43_128_eq (k : Fin k0_t2_loop.trips) : k0_off43 k 128#32 = ![64 * 2 + 32, 256 * (2 * k.val + 0) + 128] := by
  revert k; decide +kernel
theorem off42_eq (k : Fin k0_t2_loop.trips) : k0_off42 k = ![64 * 2 + 0, 128 * (2 * k.val + 0)] := by
  revert k; decide +kernel
theorem off44_eq (k : Fin k0_t2_loop.trips) : k0_off44 k = ![64 * 2 + 32, 128 * (2 * k.val + 0)] := by
  revert k; decide +kernel
theorem off46_0_eq (k : Fin k0_t2_loop.trips) : k0_off46 k 0#32 = ![64 * 2 + 0, 256 * (2 * k.val + 1) + 0] := by
  revert k; decide +kernel
theorem off46_128_eq (k : Fin k0_t2_loop.trips) : k0_off46 k 128#32 = ![64 * 2 + 0, 256 * (2 * k.val + 1) + 128] := by
  revert k; decide +kernel
theorem off48_0_eq (k : Fin k0_t2_loop.trips) : k0_off48 k 0#32 = ![64 * 2 + 32, 256 * (2 * k.val + 1) + 0] := by
  revert k; decide +kernel
theorem off48_128_eq (k : Fin k0_t2_loop.trips) : k0_off48 k 128#32 = ![64 * 2 + 32, 256 * (2 * k.val + 1) + 128] := by
  revert k; decide +kernel
theorem off47_eq (k : Fin k0_t2_loop.trips) : k0_off47 k = ![64 * 2 + 0, 128 * (2 * k.val + 1)] := by
  revert k; decide +kernel
theorem off49_eq (k : Fin k0_t2_loop.trips) : k0_off49 k = ![64 * 2 + 32, 128 * (2 * k.val + 1)] := by
  revert k; decide +kernel
theorem off50_eq (k : Fin k0_t2_loop.trips) : k0_off50 k = ![64 * 2 + 0, 64 * (2 * k.val)] := by
  revert k; decide +kernel
theorem off51_eq (k : Fin k0_t2_loop.trips) : k0_off51 k = ![64 * 2 + 32, 64 * (2 * k.val)] := by
  revert k; decide +kernel
theorem off52_eq (k : Fin k0_t2_loop.trips) : k0_off52 k = ![2 * k.val, 3, 0, 0] := by
  revert k; decide +kernel
theorem off57_eq (k : Fin k0_t2_loop.trips) : k0_off57 k = ![2 * k.val + 1, 3, 0, 0] := by
  revert k; decide +kernel
theorem off53_0_eq (k : Fin k0_t2_loop.trips) : k0_off53 k 0#32 = ![64 * 3 + 0, 256 * (2 * k.val + 0) + 0] := by
  revert k; decide +kernel
theorem off53_128_eq (k : Fin k0_t2_loop.trips) : k0_off53 k 128#32 = ![64 * 3 + 0, 256 * (2 * k.val + 0) + 128] := by
  revert k; decide +kernel
theorem off55_0_eq (k : Fin k0_t2_loop.trips) : k0_off55 k 0#32 = ![64 * 3 + 32, 256 * (2 * k.val + 0) + 0] := by
  revert k; decide +kernel
theorem off55_128_eq (k : Fin k0_t2_loop.trips) : k0_off55 k 128#32 = ![64 * 3 + 32, 256 * (2 * k.val + 0) + 128] := by
  revert k; decide +kernel
theorem off54_eq (k : Fin k0_t2_loop.trips) : k0_off54 k = ![64 * 3 + 0, 128 * (2 * k.val + 0)] := by
  revert k; decide +kernel
theorem off56_eq (k : Fin k0_t2_loop.trips) : k0_off56 k = ![64 * 3 + 32, 128 * (2 * k.val + 0)] := by
  revert k; decide +kernel
theorem off58_0_eq (k : Fin k0_t2_loop.trips) : k0_off58 k 0#32 = ![64 * 3 + 0, 256 * (2 * k.val + 1) + 0] := by
  revert k; decide +kernel
theorem off58_128_eq (k : Fin k0_t2_loop.trips) : k0_off58 k 128#32 = ![64 * 3 + 0, 256 * (2 * k.val + 1) + 128] := by
  revert k; decide +kernel
theorem off60_0_eq (k : Fin k0_t2_loop.trips) : k0_off60 k 0#32 = ![64 * 3 + 32, 256 * (2 * k.val + 1) + 0] := by
  revert k; decide +kernel
theorem off60_128_eq (k : Fin k0_t2_loop.trips) : k0_off60 k 128#32 = ![64 * 3 + 32, 256 * (2 * k.val + 1) + 128] := by
  revert k; decide +kernel
theorem off59_eq (k : Fin k0_t2_loop.trips) : k0_off59 k = ![64 * 3 + 0, 128 * (2 * k.val + 1)] := by
  revert k; decide +kernel
theorem off61_eq (k : Fin k0_t2_loop.trips) : k0_off61 k = ![64 * 3 + 32, 128 * (2 * k.val + 1)] := by
  revert k; decide +kernel
theorem off62_eq (k : Fin k0_t2_loop.trips) : k0_off62 k = ![64 * 3 + 0, 64 * (2 * k.val)] := by
  revert k; decide +kernel
theorem off63_eq (k : Fin k0_t2_loop.trips) : k0_off63 k = ![64 * 3 + 32, 64 * (2 * k.val)] := by
  revert k; decide +kernel
theorem off64_eq (k : Fin k0_t2_loop.trips) : k0_off64 k = ![2 * k.val, 4, 0, 0] := by
  revert k; decide +kernel
theorem off69_eq (k : Fin k0_t2_loop.trips) : k0_off69 k = ![2 * k.val + 1, 4, 0, 0] := by
  revert k; decide +kernel
theorem off65_0_eq (k : Fin k0_t2_loop.trips) : k0_off65 k 0#32 = ![64 * 4 + 0, 256 * (2 * k.val + 0) + 0] := by
  revert k; decide +kernel
theorem off65_128_eq (k : Fin k0_t2_loop.trips) : k0_off65 k 128#32 = ![64 * 4 + 0, 256 * (2 * k.val + 0) + 128] := by
  revert k; decide +kernel
theorem off67_0_eq (k : Fin k0_t2_loop.trips) : k0_off67 k 0#32 = ![64 * 4 + 32, 256 * (2 * k.val + 0) + 0] := by
  revert k; decide +kernel
theorem off67_128_eq (k : Fin k0_t2_loop.trips) : k0_off67 k 128#32 = ![64 * 4 + 32, 256 * (2 * k.val + 0) + 128] := by
  revert k; decide +kernel
theorem off66_eq (k : Fin k0_t2_loop.trips) : k0_off66 k = ![64 * 4 + 0, 128 * (2 * k.val + 0)] := by
  revert k; decide +kernel
theorem off68_eq (k : Fin k0_t2_loop.trips) : k0_off68 k = ![64 * 4 + 32, 128 * (2 * k.val + 0)] := by
  revert k; decide +kernel
theorem off70_0_eq (k : Fin k0_t2_loop.trips) : k0_off70 k 0#32 = ![64 * 4 + 0, 256 * (2 * k.val + 1) + 0] := by
  revert k; decide +kernel
theorem off70_128_eq (k : Fin k0_t2_loop.trips) : k0_off70 k 128#32 = ![64 * 4 + 0, 256 * (2 * k.val + 1) + 128] := by
  revert k; decide +kernel
theorem off72_0_eq (k : Fin k0_t2_loop.trips) : k0_off72 k 0#32 = ![64 * 4 + 32, 256 * (2 * k.val + 1) + 0] := by
  revert k; decide +kernel
theorem off72_128_eq (k : Fin k0_t2_loop.trips) : k0_off72 k 128#32 = ![64 * 4 + 32, 256 * (2 * k.val + 1) + 128] := by
  revert k; decide +kernel
theorem off71_eq (k : Fin k0_t2_loop.trips) : k0_off71 k = ![64 * 4 + 0, 128 * (2 * k.val + 1)] := by
  revert k; decide +kernel
theorem off73_eq (k : Fin k0_t2_loop.trips) : k0_off73 k = ![64 * 4 + 32, 128 * (2 * k.val + 1)] := by
  revert k; decide +kernel
theorem off74_eq (k : Fin k0_t2_loop.trips) : k0_off74 k = ![64 * 4 + 0, 64 * (2 * k.val)] := by
  revert k; decide +kernel
theorem off75_eq (k : Fin k0_t2_loop.trips) : k0_off75 k = ![64 * 4 + 32, 64 * (2 * k.val)] := by
  revert k; decide +kernel

section Trips

variable (𝒱 : Variants) (c : Dev nD) (bd : Option 𝒱.V) (i : grid0.Coords)
  (arg1 : Memref sig .tc .vmem S320x8960 .bf16) (harg1 : arg1.IsWhole)
  (arg2 : Memref sig .tc .vmem S8960x1536 .fp8e4m3) (harg2 : arg2.IsWhole)
  (arg3 : Memref sig .tc .vmem S1x1536 .f32) (harg3 : arg3.IsWhole)
  (arg4 : Memref sig .tc .vmem S320x1536 .bf16) (harg4 : arg4.IsWhole)
  (arg5 : Memref sig .tc .vmem S320x4480 .fp8e4m3) (harg5 : arg5.IsWhole)
  (arg6 : Memref sig .tc .vmem S320x2240 .i8) (harg6 : arg6.IsWhole)
  (arg7 : Memref sig .tc .vmem S1x1x320 .f32) (harg7 : arg7.IsWhole)
  (arg8 : Memref sig .tc .vmem S320x8960 .fp8e4m3) (harg8 : arg8.IsWhole)
  (arg9 : Memref sig .tc .vmem S35x5x32x128 .bf16) (harg9 : arg9.IsWhole)
  (arg10 : Memref sig .tc .vmem S35x5x32x128 .bf16) (harg10 : arg10.IsWhole)
  (arg11 : Memref sig .tc .vmem S35x5x32x128 .fp8e4m3) (harg11 : arg11.IsWhole)
  (arg12 : Memref sig .tc .vmem S5x32x128 .bf16) (harg12 : arg12.IsWhole)
  (arg13 : Memref sig .tc .vmem S5x32x128 .f32) (harg13 : arg13.IsWhole)
  (arg14 : Memref sig .tc .vmem S320x128 .f32) (harg14 : arg14.IsWhole)
  (v25 : IVec S32x128 1) (v1007 : FVec Ideal S32x128 .f32) (v1096 : IVec S32x128 32) (v1101 : IVec S32x128 1) (v1102 : IVec S32x128 32)
  (X9 : BufTy.Contents (Elt Ideal) arg9.view.ty) (X10 : BufTy.Contents (Elt Ideal) arg10.view.ty)
  (X11 : BufTy.Contents (Elt Ideal) arg11.view.ty) (X13 : BufTy.Contents (Elt Ideal) arg13.view.ty) (k : Fin k0_t2_loop.trips)

variable {v0 v1 pt : Fin 320 → Fin 2240 → EReal} {iv : Fin 320 → EReal}

theorem trips2 : k0_t2_loop.trips = 17 := by decide +kernel
/-- The even block of a trip, -/
def ev (k : Fin k0_t2_loop.trips) : Fin 35 := ⟨2 * k.val, by have h : k.val < 17 := lt_of_lt_of_eq k.isLt trips2; omega⟩
/-- and the odd one. -/
def od (k : Fin k0_t2_loop.trips) : Fin 35 := ⟨2 * k.val + 1, by have h : k.val < 17 := lt_of_lt_of_eq k.isLt trips2; omega⟩

theorem codes_trip_fits (H : Holds v0 v1 pt iv arg9 arg10 arg11 arg13 X9 X10 X11 X13) : Fits (s := S320x8960) (e := .fp8e4m3) (CODE v0 v1 pt iv) (trip_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 k).2.2.1 := by
  rw [trip2_codes]
  refine fits_cons (code3_fits H (od k) 4 _ (k0_off69_inb k) (off69_eq k) _ inb_S5x32x128_S1x32x128_4_0_0 rfl _ (k0_off72_inb k 1) (off72_128_eq k)) ?_
  refine fits_cons (code2_fits H (od k) 4 _ (k0_off69_inb k) (off69_eq k) _ inb_S5x32x128_S1x32x128_4_0_0 rfl _ (k0_off72_inb k 0) (off72_0_eq k)) ?_
  refine fits_cons (code1_fits H (od k) 4 _ (k0_off69_inb k) (off69_eq k) _ inb_S5x32x128_S1x32x128_4_0_0 rfl _ (k0_off70_inb k 1) (off70_128_eq k)) ?_
  refine fits_cons (code0_fits H (od k) 4 _ (k0_off69_inb k) (off69_eq k) _ inb_S5x32x128_S1x32x128_4_0_0 rfl _ (k0_off70_inb k 0) (off70_0_eq k)) ?_
  refine fits_cons (code3_fits H (ev k) 4 _ (k0_off64_inb k) (off64_eq k) _ inb_S5x32x128_S1x32x128_4_0_0 rfl _ (k0_off67_inb k 1) (off67_128_eq k)) ?_
  refine fits_cons (code2_fits H (ev k) 4 _ (k0_off64_inb k) (off64_eq k) _ inb_S5x32x128_S1x32x128_4_0_0 rfl _ (k0_off67_inb k 0) (off67_0_eq k)) ?_
  refine fits_cons (code1_fits H (ev k) 4 _ (k0_off64_inb k) (off64_eq k) _ inb_S5x32x128_S1x32x128_4_0_0 rfl _ (k0_off65_inb k 1) (off65_128_eq k)) ?_
  refine fits_cons (code0_fits H (ev k) 4 _ (k0_off64_inb k) (off64_eq k) _ inb_S5x32x128_S1x32x128_4_0_0 rfl _ (k0_off65_inb k 0) (off65_0_eq k)) ?_
  refine fits_cons (code3_fits H (od k) 3 _ (k0_off57_inb k) (off57_eq k) _ inb_S5x32x128_S1x32x128_3_0_0 rfl _ (k0_off60_inb k 1) (off60_128_eq k)) ?_
  refine fits_cons (code2_fits H (od k) 3 _ (k0_off57_inb k) (off57_eq k) _ inb_S5x32x128_S1x32x128_3_0_0 rfl _ (k0_off60_inb k 0) (off60_0_eq k)) ?_
  refine fits_cons (code1_fits H (od k) 3 _ (k0_off57_inb k) (off57_eq k) _ inb_S5x32x128_S1x32x128_3_0_0 rfl _ (k0_off58_inb k 1) (off58_128_eq k)) ?_
  refine fits_cons (code0_fits H (od k) 3 _ (k0_off57_inb k) (off57_eq k) _ inb_S5x32x128_S1x32x128_3_0_0 rfl _ (k0_off58_inb k 0) (off58_0_eq k)) ?_
  refine fits_cons (code3_fits H (ev k) 3 _ (k0_off52_inb k) (off52_eq k) _ inb_S5x32x128_S1x32x128_3_0_0 rfl _ (k0_off55_inb k 1) (off55_128_eq k)) ?_
  refine fits_cons (code2_fits H (ev k) 3 _ (k0_off52_inb k) (off52_eq k) _ inb_S5x32x128_S1x32x128_3_0_0 rfl _ (k0_off55_inb k 0) (off55_0_eq k)) ?_
  refine fits_cons (code1_fits H (ev k) 3 _ (k0_off52_inb k) (off52_eq k) _ inb_S5x32x128_S1x32x128_3_0_0 rfl _ (k0_off53_inb k 1) (off53_128_eq k)) ?_
  refine fits_cons (code0_fits H (ev k) 3 _ (k0_off52_inb k) (off52_eq k) _ inb_S5x32x128_S1x32x128_3_0_0 rfl _ (k0_off53_inb k 0) (off53_0_eq k)) ?_
  refine fits_cons (code3_fits H (od k) 2 _ (k0_off45_inb k) (off45_eq k) _ inb_S5x32x128_S1x32x128_2_0_0 rfl _ (k0_off48_inb k 1) (off48_128_eq k)) ?_
  refine fits_cons (code2_fits H (od k) 2 _ (k0_off45_inb k) (off45_eq k) _ inb_S5x32x128_S1x32x128_2_0_0 rfl _ (k0_off48_inb k 0) (off48_0_eq k)) ?_
  refine fits_cons (code1_fits H (od k) 2 _ (k0_off45_inb k) (off45_eq k) _ inb_S5x32x128_S1x32x128_2_0_0 rfl _ (k0_off46_inb k 1) (off46_128_eq k)) ?_
  refine fits_cons (code0_fits H (od k) 2 _ (k0_off45_inb k) (off45_eq k) _ inb_S5x32x128_S1x32x128_2_0_0 rfl _ (k0_off46_inb k 0) (off46_0_eq k)) ?_
  refine fits_cons (code3_fits H (ev k) 2 _ (k0_off40_inb k) (off40_eq k) _ inb_S5x32x128_S1x32x128_2_0_0 rfl _ (k0_off43_inb k 1) (off43_128_eq k)) ?_
  refine fits_cons (code2_fits H (ev k) 2 _ (k0_off40_inb k) (off40_eq k) _ inb_S5x32x128_S1x32x128_2_0_0 rfl _ (k0_off43_inb k 0) (off43_0_eq k)) ?_
  refine fits_cons (code1_fits H (ev k) 2 _ (k0_off40_inb k) (off40_eq k) _ inb_S5x32x128_S1x32x128_2_0_0 rfl _ (k0_off41_inb k 1) (off41_128_eq k)) ?_
  refine fits_cons (code0_fits H (ev k) 2 _ (k0_off40_inb k) (off40_eq k) _ inb_S5x32x128_S1x32x128_2_0_0 rfl _ (k0_off41_inb k 0) (off41_0_eq k)) ?_
  refine fits_cons (code3_fits H (od k) 1 _ (k0_off33_inb k) (off33_eq k) _ inb_S5x32x128_S1x32x128_1_0_0 rfl _ (k0_off36_inb k 1) (off36_128_eq k)) ?_
  refine fits_cons (code2_fits H (od k) 1 _ (k0_off33_inb k) (off33_eq k) _ inb_S5x32x128_S1x32x128_1_0_0 rfl _ (k0_off36_inb k 0) (off36_0_eq k)) ?_
  refine fits_cons (code1_fits H (od k) 1 _ (k0_off33_inb k) (off33_eq k) _ inb_S5x32x128_S1x32x128_1_0_0 rfl _ (k0_off34_inb k 1) (off34_128_eq k)) ?_
  refine fits_cons (code0_fits H (od k) 1 _ (k0_off33_inb k) (off33_eq k) _ inb_S5x32x128_S1x32x128_1_0_0 rfl _ (k0_off34_inb k 0) (off34_0_eq k)) ?_
  refine fits_cons (code3_fits H (ev k) 1 _ (k0_off28_inb k) (off28_eq k) _ inb_S5x32x128_S1x32x128_1_0_0 rfl _ (k0_off31_inb k 1) (off31_128_eq k)) ?_
  refine fits_cons (code2_fits H (ev k) 1 _ (k0_off28_inb k) (off28_eq k) _ inb_S5x32x128_S1x32x128_1_0_0 rfl _ (k0_off31_inb k 0) (off31_0_eq k)) ?_
  refine fits_cons (code1_fits H (ev k) 1 _ (k0_off28_inb k) (off28_eq k) _ inb_S5x32x128_S1x32x128_1_0_0 rfl _ (k0_off29_inb k 1) (off29_128_eq k)) ?_
  refine fits_cons (code0_fits H (ev k) 1 _ (k0_off28_inb k) (off28_eq k) _ inb_S5x32x128_S1x32x128_1_0_0 rfl _ (k0_off29_inb k 0) (off29_0_eq k)) ?_
  refine fits_cons (code3_fits H (od k) 0 _ (k0_off21_inb k) (off21_eq k) _ inb_S5x32x128_S1x32x128_0_0_0 rfl _ (k0_off24_inb k 1) (off24_128_eq k)) ?_
  refine fits_cons (code2_fits H (od k) 0 _ (k0_off21_inb k) (off21_eq k) _ inb_S5x32x128_S1x32x128_0_0_0 rfl _ (k0_off24_inb k 0) (off24_0_eq k)) ?_
  refine fits_cons (code1_fits H (od k) 0 _ (k0_off21_inb k) (off21_eq k) _ inb_S5x32x128_S1x32x128_0_0_0 rfl _ (k0_off22_inb k 1) (off22_128_eq k)) ?_
  refine fits_cons (code0_fits H (od k) 0 _ (k0_off21_inb k) (off21_eq k) _ inb_S5x32x128_S1x32x128_0_0_0 rfl _ (k0_off22_inb k 0) (off22_0_eq k)) ?_
  refine fits_cons (code3_fits H (ev k) 0 _ (k0_off16_inb k) (off16_eq k) _ inb_S5x32x128_S1x32x128_0_0_0 rfl _ (k0_off19_inb k 1) (off19_128_eq k)) ?_
  refine fits_cons (code2_fits H (ev k) 0 _ (k0_off16_inb k) (off16_eq k) _ inb_S5x32x128_S1x32x128_0_0_0 rfl _ (k0_off19_inb k 0) (off19_0_eq k)) ?_
  refine fits_cons (code1_fits H (ev k) 0 _ (k0_off16_inb k) (off16_eq k) _ inb_S5x32x128_S1x32x128_0_0_0 rfl _ (k0_off17_inb k 1) (off17_128_eq k)) ?_
  refine fits_cons (code0_fits H (ev k) 0 _ (k0_off16_inb k) (off16_eq k) _ inb_S5x32x128_S1x32x128_0_0_0 rfl _ (k0_off17_inb k 0) (off17_0_eq k)) ?_
  exact fits_nil _

theorem vals_trip_fits (H : Holds v0 v1 pt iv arg9 arg10 arg11 arg13 X9 X10 X11 X13) : Fits (s := S320x4480) (e := .fp8e4m3) (VALS v0 v1 iv) (trip_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 k).1 := by
  rw [trip2_vals]
  refine fits_cons (vals1_fits H (od k) 4 _ (k0_off69_inb k) (off69_eq k) _ inb_S5x32x128_S1x32x128_4_0_0 rfl _ (k0_off73_inb k) (off73_eq k)) ?_
  refine fits_cons (vals0_fits H (od k) 4 _ (k0_off69_inb k) (off69_eq k) _ inb_S5x32x128_S1x32x128_4_0_0 rfl _ (k0_off71_inb k) (off71_eq k)) ?_
  refine fits_cons (vals1_fits H (ev k) 4 _ (k0_off64_inb k) (off64_eq k) _ inb_S5x32x128_S1x32x128_4_0_0 rfl _ (k0_off68_inb k) (off68_eq k)) ?_
  refine fits_cons (vals0_fits H (ev k) 4 _ (k0_off64_inb k) (off64_eq k) _ inb_S5x32x128_S1x32x128_4_0_0 rfl _ (k0_off66_inb k) (off66_eq k)) ?_
  refine fits_cons (vals1_fits H (od k) 3 _ (k0_off57_inb k) (off57_eq k) _ inb_S5x32x128_S1x32x128_3_0_0 rfl _ (k0_off61_inb k) (off61_eq k)) ?_
  refine fits_cons (vals0_fits H (od k) 3 _ (k0_off57_inb k) (off57_eq k) _ inb_S5x32x128_S1x32x128_3_0_0 rfl _ (k0_off59_inb k) (off59_eq k)) ?_
  refine fits_cons (vals1_fits H (ev k) 3 _ (k0_off52_inb k) (off52_eq k) _ inb_S5x32x128_S1x32x128_3_0_0 rfl _ (k0_off56_inb k) (off56_eq k)) ?_
  refine fits_cons (vals0_fits H (ev k) 3 _ (k0_off52_inb k) (off52_eq k) _ inb_S5x32x128_S1x32x128_3_0_0 rfl _ (k0_off54_inb k) (off54_eq k)) ?_
  refine fits_cons (vals1_fits H (od k) 2 _ (k0_off45_inb k) (off45_eq k) _ inb_S5x32x128_S1x32x128_2_0_0 rfl _ (k0_off49_inb k) (off49_eq k)) ?_
  refine fits_cons (vals0_fits H (od k) 2 _ (k0_off45_inb k) (off45_eq k) _ inb_S5x32x128_S1x32x128_2_0_0 rfl _ (k0_off47_inb k) (off47_eq k)) ?_
  refine fits_cons (vals1_fits H (ev k) 2 _ (k0_off40_inb k) (off40_eq k) _ inb_S5x32x128_S1x32x128_2_0_0 rfl _ (k0_off44_inb k) (off44_eq k)) ?_
  refine fits_cons (vals0_fits H (ev k) 2 _ (k0_off40_inb k) (off40_eq k) _ inb_S5x32x128_S1x32x128_2_0_0 rfl _ (k0_off42_inb k) (off42_eq k)) ?_
  refine fits_cons (vals1_fits H (od k) 1 _ (k0_off33_inb k) (off33_eq k) _ inb_S5x32x128_S1x32x128_1_0_0 rfl _ (k0_off37_inb k) (off37_eq k)) ?_
  refine fits_cons (vals0_fits H (od k) 1 _ (k0_off33_inb k) (off33_eq k) _ inb_S5x32x128_S1x32x128_1_0_0 rfl _ (k0_off35_inb k) (off35_eq k)) ?_
  refine fits_cons (vals1_fits H (ev k) 1 _ (k0_off28_inb k) (off28_eq k) _ inb_S5x32x128_S1x32x128_1_0_0 rfl _ (k0_off32_inb k) (off32_eq k)) ?_
  refine fits_cons (vals0_fits H (ev k) 1 _ (k0_off28_inb k) (off28_eq k) _ inb_S5x32x128_S1x32x128_1_0_0 rfl _ (k0_off30_inb k) (off30_eq k)) ?_
  refine fits_cons (vals1_fits H (od k) 0 _ (k0_off21_inb k) (off21_eq k) _ inb_S5x32x128_S1x32x128_0_0_0 rfl _ (k0_off25_inb k) (off25_eq k)) ?_
  refine fits_cons (vals0_fits H (od k) 0 _ (k0_off21_inb k) (off21_eq k) _ inb_S5x32x128_S1x32x128_0_0_0 rfl _ (k0_off23_inb k) (off23_eq k)) ?_
  refine fits_cons (vals1_fits H (ev k) 0 _ (k0_off16_inb k) (off16_eq k) _ inb_S5x32x128_S1x32x128_0_0_0 rfl _ (k0_off20_inb k) (off20_eq k)) ?_
  refine fits_cons (vals0_fits H (ev k) 0 _ (k0_off16_inb k) (off16_eq k) _ inb_S5x32x128_S1x32x128_0_0_0 rfl _ (k0_off18_inb k) (off18_eq k)) ?_
  exact fits_nil _

theorem meta_trip_fits (H : Holds v0 v1 pt iv arg9 arg10 arg11 arg13 X9 X10 X11 X13) : Fits (s := S320x2240) (e := .i8) (META pt) (trip_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 k).2.1 := by
  rw [trip2_meta]
  refine fits_cons (meta1_fits H (ev k) (od k) rfl 4 _ (k0_off64_inb k) (off64_eq k) _ (k0_off69_inb k) (off69_eq k) _ (k0_off75_inb k) (off75_eq k)) ?_
  refine fits_cons (meta0_fits H (ev k) (od k) rfl 4 _ (k0_off64_inb k) (off64_eq k) _ (k0_off69_inb k) (off69_eq k) _ (k0_off74_inb k) (off74_eq k)) ?_
  refine fits_cons (meta1_fits H (ev k) (od k) rfl 3 _ (k0_off52_inb k) (off52_eq k) _ (k0_off57_inb k) (off57_eq k) _ (k0_off63_inb k) (off63_eq k)) ?_
  refine fits_cons (meta0_fits H (ev k) (od k) rfl 3 _ (k0_off52_inb k) (off52_eq k) _ (k0_off57_inb k) (off57_eq k) _ (k0_off62_inb k) (off62_eq k)) ?_
  refine fits_cons (meta1_fits H (ev k) (od k) rfl 2 _ (k0_off40_inb k) (off40_eq k) _ (k0_off45_inb k) (off45_eq k) _ (k0_off51_inb k) (off51_eq k)) ?_
  refine fits_cons (meta0_fits H (ev k) (od k) rfl 2 _ (k0_off40_inb k) (off40_eq k) _ (k0_off45_inb k) (off45_eq k) _ (k0_off50_inb k) (off50_eq k)) ?_
  refine fits_cons (meta1_fits H (ev k) (od k) rfl 1 _ (k0_off28_inb k) (off28_eq k) _ (k0_off33_inb k) (off33_eq k) _ (k0_off39_inb k) (off39_eq k)) ?_
  refine fits_cons (meta0_fits H (ev k) (od k) rfl 1 _ (k0_off28_inb k) (off28_eq k) _ (k0_off33_inb k) (off33_eq k) _ (k0_off38_inb k) (off38_eq k)) ?_
  refine fits_cons (meta1_fits H (ev k) (od k) rfl 0 _ (k0_off16_inb k) (off16_eq k) _ (k0_off21_inb k) (off21_eq k) _ (k0_off27_inb k) (off27_eq k)) ?_
  refine fits_cons (meta0_fits H (ev k) (od k) rfl 0 _ (k0_off16_inb k) (off16_eq k) _ (k0_off21_inb k) (off21_eq k) _ (k0_off26_inb k) (off26_eq k)) ?_
  exact fits_nil _

theorem codes_trip_meets (R : Fin 320) (C : Fin 8960) (h0 : 512 * k.val ≤ C.val) (h1 : C.val < 512 * k.val + 512) :
    Meets (s := S320x8960) (e := .fp8e4m3) (trip_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 k).2.2.1 (ix2 R C) := by
  rw [trip2_codes]
  have hR := R.isLt
  have hr : (0 ≤ R.val ∧ R.val < 32) ∨ (32 ≤ R.val ∧ R.val < 64) ∨ (64 ≤ R.val ∧ R.val < 96) ∨ (96 ≤ R.val ∧ R.val < 128) ∨ (128 ≤ R.val ∧ R.val < 160) ∨ (160 ≤ R.val ∧ R.val < 192) ∨ (192 ≤ R.val ∧ R.val < 224) ∨ (224 ≤ R.val ∧ R.val < 256) ∨ (256 ≤ R.val ∧ R.val < 288) ∨ (288 ≤ R.val ∧ R.val < 320) := by omega
  have hc : (512 * k.val + 0 ≤ C.val ∧ C.val < 512 * k.val + 128) ∨ (512 * k.val + 128 ≤ C.val ∧ C.val < 512 * k.val + 256) ∨ (512 * k.val + 256 ≤ C.val ∧ C.val < 512 * k.val + 384) ∨ (512 * k.val + 384 ≤ C.val ∧ C.val < 512 * k.val + 512) := by omega
  rcases hr with hr | hr | hr | hr | hr | hr | hr | hr | hr | hr
  · rcases hc with hc | hc | hc | hc
    · exact ⟨_, List.mem_of_getElem? (i := 39) rfl, mem_unit2 (size := S32x128.size) _ (k0_off17_inb k 0) (off17_0_eq k) R C (by omega) (by show _ < _ + 32; omega) (by omega) (by show _ < _ + 128; omega)⟩
    · exact ⟨_, List.mem_of_getElem? (i := 38) rfl, mem_unit2 (size := S32x128.size) _ (k0_off17_inb k 1) (off17_128_eq k) R C (by omega) (by show _ < _ + 32; omega) (by omega) (by show _ < _ + 128; omega)⟩
    · exact ⟨_, List.mem_of_getElem? (i := 35) rfl, mem_unit2 (size := S32x128.size) _ (k0_off22_inb k 0) (off22_0_eq k) R C (by omega) (by show _ < _ + 32; omega) (by omega) (by show _ < _ + 128; omega)⟩
    · exact ⟨_, List.mem_of_getElem? (i := 34) rfl, mem_unit2 (size := S32x128.size) _ (k0_off22_inb k 1) (off22_128_eq k) R C (by omega) (by show _ < _ + 32; omega) (by omega) (by show _ < _ + 128; omega)⟩
  · rcases hc with hc | hc | hc | hc
    · exact ⟨_, List.mem_of_getElem? (i := 37) rfl, mem_unit2 (size := S32x128.size) _ (k0_off19_inb k 0) (off19_0_eq k) R C (by omega) (by show _ < _ + 32; omega) (by omega) (by show _ < _ + 128; omega)⟩
    · exact ⟨_, List.mem_of_getElem? (i := 36) rfl, mem_unit2 (size := S32x128.size) _ (k0_off19_inb k 1) (off19_128_eq k) R C (by omega) (by show _ < _ + 32; omega) (by omega) (by show _ < _ + 128; omega)⟩
    · exact ⟨_, List.mem_of_getElem? (i := 33) rfl, mem_unit2 (size := S32x128.size) _ (k0_off24_inb k 0) (off24_0_eq k) R C (by omega) (by show _ < _ + 32; omega) (by omega) (by show _ < _ + 128; omega)⟩
    · exact ⟨_, List.mem_of_getElem? (i := 32) rfl, mem_unit2 (size := S32x128.size) _ (k0_off24_inb k 1) (off24_128_eq k) R C (by omega) (by show _ < _ + 32; omega) (by omega) (by show _ < _ + 128; omega)⟩
  · rcases hc with hc | hc | hc | hc
    · exact ⟨_, List.mem_of_getElem? (i := 31) rfl, mem_unit2 (size := S32x128.size) _ (k0_off29_inb k 0) (off29_0_eq k) R C (by omega) (by show _ < _ + 32; omega) (by omega) (by show _ < _ + 128; omega)⟩
    · exact ⟨_, List.mem_of_getElem? (i := 30) rfl, mem_unit2 (size := S32x128.size) _ (k0_off29_inb k 1) (off29_128_eq k) R C (by omega) (by show _ < _ + 32; omega) (by omega) (by show _ < _ + 128; omega)⟩
    · exact ⟨_, List.mem_of_getElem? (i := 27) rfl, mem_unit2 (size := S32x128.size) _ (k0_off34_inb k 0) (off34_0_eq k) R C (by omega) (by show _ < _ + 32; omega) (by omega) (by show _ < _ + 128; omega)⟩
    · exact ⟨_, List.mem_of_getElem? (i := 26) rfl, mem_unit2 (size := S32x128.size) _ (k0_off34_inb k 1) (off34_128_eq k) R C (by omega) (by show _ < _ + 32; omega) (by omega) (by show _ < _ + 128; omega)⟩
  · rcases hc with hc | hc | hc | hc
    · exact ⟨_, List.mem_of_getElem? (i := 29) rfl, mem_unit2 (size := S32x128.size) _ (k0_off31_inb k 0) (off31_0_eq k) R C (by omega) (by show _ < _ + 32; omega) (by omega) (by show _ < _ + 128; omega)⟩
    · exact ⟨_, List.mem_of_getElem? (i := 28) rfl, mem_unit2 (size := S32x128.size) _ (k0_off31_inb k 1) (off31_128_eq k) R C (by omega) (by show _ < _ + 32; omega) (by omega) (by show _ < _ + 128; omega)⟩
    · exact ⟨_, List.mem_of_getElem? (i := 25) rfl, mem_unit2 (size := S32x128.size) _ (k0_off36_inb k 0) (off36_0_eq k) R C (by omega) (by show _ < _ + 32; omega) (by omega) (by show _ < _ + 128; omega)⟩
    · exact ⟨_, List.mem_of_getElem? (i := 24) rfl, mem_unit2 (size := S32x128.size) _ (k0_off36_inb k 1) (off36_128_eq k) R C (by omega) (by show _ < _ + 32; omega) (by omega) (by show _ < _ + 128; omega)⟩
  · rcases hc with hc | hc | hc | hc
    · exact ⟨_, List.mem_of_getElem? (i := 23) rfl, mem_unit2 (size := S32x128.size) _ (k0_off41_inb k 0) (off41_0_eq k) R C (by omega) (by show _ < _ + 32; omega) (by omega) (by show _ < _ + 128; omega)⟩
    · exact ⟨_, List.mem_of_getElem? (i := 22) rfl, mem_unit2 (size := S32x128.size) _ (k0_off41_inb k 1) (off41_128_eq k) R C (by omega) (by show _ < _ + 32; omega) (by omega) (by show _ < _ + 128; omega)⟩
    · exact ⟨_, List.mem_of_getElem? (i := 19) rfl, mem_unit2 (size := S32x128.size) _ (k0_off46_inb k 0) (off46_0_eq k) R C (by omega) (by show _ < _ + 32; omega) (by omega) (by show _ < _ + 128; omega)⟩
    · exact ⟨_, List.mem_of_getElem? (i := 18) rfl, mem_unit2 (size := S32x128.size) _ (k0_off46_inb k 1) (off46_128_eq k) R C (by omega) (by show _ < _ + 32; omega) (by omega) (by show _ < _ + 128; omega)⟩
  · rcases hc with hc | hc | hc | hc
    · exact ⟨_, List.mem_of_getElem? (i := 21) rfl, mem_unit2 (size := S32x128.size) _ (k0_off43_inb k 0) (off43_0_eq k) R C (by omega) (by show _ < _ + 32; omega) (by omega) (by show _ < _ + 128; omega)⟩
    · exact ⟨_, List.mem_of_getElem? (i := 20) rfl, mem_unit2 (size := S32x128.size) _ (k0_off43_inb k 1) (off43_128_eq k) R C (by omega) (by show _ < _ + 32; omega) (by omega) (by show _ < _ + 128; omega)⟩
    · exact ⟨_, List.mem_of_getElem? (i := 17) rfl, mem_unit2 (size := S32x128.size) _ (k0_off48_inb k 0) (off48_0_eq k) R C (by omega) (by show _ < _ + 32; omega) (by omega) (by show _ < _ + 128; omega)⟩
    · exact ⟨_, List.mem_of_getElem? (i := 16) rfl, mem_unit2 (size := S32x128.size) _ (k0_off48_inb k 1) (off48_128_eq k) R C (by omega) (by show _ < _ + 32; omega) (by omega) (by show _ < _ + 128; omega)⟩
  · rcases hc with hc | hc | hc | hc
    · exact ⟨_, List.mem_of_getElem? (i := 15) rfl, mem_unit2 (size := S32x128.size) _ (k0_off53_inb k 0) (off53_0_eq k) R C (by omega) (by show _ < _ + 32; omega) (by omega) (by show _ < _ + 128; omega)⟩
    · exact ⟨_, List.mem_of_getElem? (i := 14) rfl, mem_unit2 (size := S32x128.size) _ (k0_off53_inb k 1) (off53_128_eq k) R C (by omega) (by show _ < _ + 32; omega) (by omega) (by show _ < _ + 128; omega)⟩
    · exact ⟨_, List.mem_of_getElem? (i := 11) rfl, mem_unit2 (size := S32x128.size) _ (k0_off58_inb k 0) (off58_0_eq k) R C (by omega) (by show _ < _ + 32; omega) (by omega) (by show _ < _ + 128; omega)⟩
    · exact ⟨_, List.mem_of_getElem? (i := 10) rfl, mem_unit2 (size := S32x128.size) _ (k0_off58_inb k 1) (off58_128_eq k) R C (by omega) (by show _ < _ + 32; omega) (by omega) (by show _ < _ + 128; omega)⟩
  · rcases hc with hc | hc | hc | hc
    · exact ⟨_, List.mem_of_getElem? (i := 13) rfl, mem_unit2 (size := S32x128.size) _ (k0_off55_inb k 0) (off55_0_eq k) R C (by omega) (by show _ < _ + 32; omega) (by omega) (by show _ < _ + 128; omega)⟩
    · exact ⟨_, List.mem_of_getElem? (i := 12) rfl, mem_unit2 (size := S32x128.size) _ (k0_off55_inb k 1) (off55_128_eq k) R C (by omega) (by show _ < _ + 32; omega) (by omega) (by show _ < _ + 128; omega)⟩
    · exact ⟨_, List.mem_of_getElem? (i := 9) rfl, mem_unit2 (size := S32x128.size) _ (k0_off60_inb k 0) (off60_0_eq k) R C (by omega) (by show _ < _ + 32; omega) (by omega) (by show _ < _ + 128; omega)⟩
    · exact ⟨_, List.mem_of_getElem? (i := 8) rfl, mem_unit2 (size := S32x128.size) _ (k0_off60_inb k 1) (off60_128_eq k) R C (by omega) (by show _ < _ + 32; omega) (by omega) (by show _ < _ + 128; omega)⟩
  · rcases hc with hc | hc | hc | hc
    · exact ⟨_, List.mem_of_getElem? (i := 7) rfl, mem_unit2 (size := S32x128.size) _ (k0_off65_inb k 0) (off65_0_eq k) R C (by omega) (by show _ < _ + 32; omega) (by omega) (by show _ < _ + 128; omega)⟩
    · exact ⟨_, List.mem_of_getElem? (i := 6) rfl, mem_unit2 (size := S32x128.size) _ (k0_off65_inb k 1) (off65_128_eq k) R C (by omega) (by show _ < _ + 32; omega) (by omega) (by show _ < _ + 128; omega)⟩
    · exact ⟨_, List.mem_of_getElem? (i := 3) rfl, mem_unit2 (size := S32x128.size) _ (k0_off70_inb k 0) (off70_0_eq k) R C (by omega) (by show _ < _ + 32; omega) (by omega) (by show _ < _ + 128; omega)⟩
    · exact ⟨_, List.mem_of_getElem? (i := 2) rfl, mem_unit2 (size := S32x128.size) _ (k0_off70_inb k 1) (off70_128_eq k) R C (by omega) (by show _ < _ + 32; omega) (by omega) (by show _ < _ + 128; omega)⟩
  · rcases hc with hc | hc | hc | hc
    · exact ⟨_, List.mem_of_getElem? (i := 5) rfl, mem_unit2 (size := S32x128.size) _ (k0_off67_inb k 0) (off67_0_eq k) R C (by omega) (by show _ < _ + 32; omega) (by omega) (by show _ < _ + 128; omega)⟩
    · exact ⟨_, List.mem_of_getElem? (i := 4) rfl, mem_unit2 (size := S32x128.size) _ (k0_off67_inb k 1) (off67_128_eq k) R C (by omega) (by show _ < _ + 32; omega) (by omega) (by show _ < _ + 128; omega)⟩
    · exact ⟨_, List.mem_of_getElem? (i := 1) rfl, mem_unit2 (size := S32x128.size) _ (k0_off72_inb k 0) (off72_0_eq k) R C (by omega) (by show _ < _ + 32; omega) (by omega) (by show _ < _ + 128; omega)⟩
    · exact ⟨_, List.mem_of_getElem? (i := 0) rfl, mem_unit2 (size := S32x128.size) _ (k0_off72_inb k 1) (off72_128_eq k) R C (by omega) (by show _ < _ + 32; omega) (by omega) (by show _ < _ + 128; omega)⟩

theorem vals_trip_meets (R : Fin 320) (C : Fin 4480) (h0 : 256 * k.val ≤ C.val) (h1 : C.val < 256 * k.val + 256) :
    Meets (s := S320x4480) (e := .fp8e4m3) (trip_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 k).1 (ix2 R C) := by
  rw [trip2_vals]
  have hR := R.isLt
  have hr : (0 ≤ R.val ∧ R.val < 32) ∨ (32 ≤ R.val ∧ R.val < 64) ∨ (64 ≤ R.val ∧ R.val < 96) ∨ (96 ≤ R.val ∧ R.val < 128) ∨ (128 ≤ R.val ∧ R.val < 160) ∨ (160 ≤ R.val ∧ R.val < 192) ∨ (192 ≤ R.val ∧ R.val < 224) ∨ (224 ≤ R.val ∧ R.val < 256) ∨ (256 ≤ R.val ∧ R.val < 288) ∨ (288 ≤ R.val ∧ R.val < 320) := by omega
  have hc : (256 * k.val + 0 ≤ C.val ∧ C.val < 256 * k.val + 128) ∨ (256 * k.val + 128 ≤ C.val ∧ C.val < 256 * k.val + 256) := by omega
  rcases hr with hr | hr | hr | hr | hr | hr | hr | hr | hr | hr
  · rcases hc with hc | hc
    · exact ⟨_, List.mem_of_getElem? (i := 19) rfl, mem_unit2 (size := S32x128.size) _ (k0_off18_inb k) (off18_eq k) R C (by omega) (by show _ < _ + 32; omega) (by omega) (by show _ < _ + 128; omega)⟩
    · exact ⟨_, List.mem_of_getElem? (i := 17) rfl, mem_unit2 (size := S32x128.size) _ (k0_off23_inb k) (off23_eq k) R C (by omega) (by show _ < _ + 32; omega) (by omega) (by show _ < _ + 128; omega)⟩
  · rcases hc with hc | hc
    · exact ⟨_, List.mem_of_getElem? (i := 18) rfl, mem_unit2 (size := S32x128.size) _ (k0_off20_inb k) (off20_eq k) R C (by omega) (by show _ < _ + 32; omega) (by omega) (by show _ < _ + 128; omega)⟩
    · exact ⟨_, List.mem_of_getElem? (i := 16) rfl, mem_unit2 (size := S32x128.size) _ (k0_off25_inb k) (off25_eq k) R C (by omega) (by show _ < _ + 32; omega) (by omega) (by show _ < _ + 128; omega)⟩
  · rcases hc with hc | hc
    · exact ⟨_, List.mem_of_getElem? (i := 15) rfl, mem_unit2 (size := S32x128.size) _ (k0_off30_inb k) (off30_eq k) R C (by omega) (by show _ < _ + 32; omega) (by omega) (by show _ < _ + 128; omega)⟩
    · exact ⟨_, List.mem_of_getElem? (i := 13) rfl, mem_unit2 (size := S32x128.size) _ (k0_off35_inb k) (off35_eq k) R C (by omega) (by show _ < _ + 32; omega) (by omega) (by show _ < _ + 128; omega)⟩
  · rcases hc with hc | hc
    · exact ⟨_, List.mem_of_getElem? (i := 14) rfl, mem_unit2 (size := S32x128.size) _ (k0_off32_inb k) (off32_eq k) R C (by omega) (by show _ < _ + 32; omega) (by omega) (by show _ < _ + 128; omega)⟩
    · exact ⟨_, List.mem_of_getElem? (i := 12) rfl, mem_unit2 (size := S32x128.size) _ (k0_off37_inb k) (off37_eq k) R C (by omega) (by show _ < _ + 32; omega) (by omega) (by show _ < _ + 128; omega)⟩
  · rcases hc with hc | hc
    · exact ⟨_, List.mem_of_getElem? (i := 11) rfl, mem_unit2 (size := S32x128.size) _ (k0_off42_inb k) (off42_eq k) R C (by omega) (by show _ < _ + 32; omega) (by omega) (by show _ < _ + 128; omega)⟩
    · exact ⟨_, List.mem_of_getElem? (i := 9) rfl, mem_unit2 (size := S32x128.size) _ (k0_off47_inb k) (off47_eq k) R C (by omega) (by show _ < _ + 32; omega) (by omega) (by show _ < _ + 128; omega)⟩
  · rcases hc with hc | hc
    · exact ⟨_, List.mem_of_getElem? (i := 10) rfl, mem_unit2 (size := S32x128.size) _ (k0_off44_inb k) (off44_eq k) R C (by omega) (by show _ < _ + 32; omega) (by omega) (by show _ < _ + 128; omega)⟩
    · exact ⟨_, List.mem_of_getElem? (i := 8) rfl, mem_unit2 (size := S32x128.size) _ (k0_off49_inb k) (off49_eq k) R C (by omega) (by show _ < _ + 32; omega) (by omega) (by show _ < _ + 128; omega)⟩
  · rcases hc with hc | hc
    · exact ⟨_, List.mem_of_getElem? (i := 7) rfl, mem_unit2 (size := S32x128.size) _ (k0_off54_inb k) (off54_eq k) R C (by omega) (by show _ < _ + 32; omega) (by omega) (by show _ < _ + 128; omega)⟩
    · exact ⟨_, List.mem_of_getElem? (i := 5) rfl, mem_unit2 (size := S32x128.size) _ (k0_off59_inb k) (off59_eq k) R C (by omega) (by show _ < _ + 32; omega) (by omega) (by show _ < _ + 128; omega)⟩
  · rcases hc with hc | hc
    · exact ⟨_, List.mem_of_getElem? (i := 6) rfl, mem_unit2 (size := S32x128.size) _ (k0_off56_inb k) (off56_eq k) R C (by omega) (by show _ < _ + 32; omega) (by omega) (by show _ < _ + 128; omega)⟩
    · exact ⟨_, List.mem_of_getElem? (i := 4) rfl, mem_unit2 (size := S32x128.size) _ (k0_off61_inb k) (off61_eq k) R C (by omega) (by show _ < _ + 32; omega) (by omega) (by show _ < _ + 128; omega)⟩
  · rcases hc with hc | hc
    · exact ⟨_, List.mem_of_getElem? (i := 3) rfl, mem_unit2 (size := S32x128.size) _ (k0_off66_inb k) (off66_eq k) R C (by omega) (by show _ < _ + 32; omega) (by omega) (by show _ < _ + 128; omega)⟩
    · exact ⟨_, List.mem_of_getElem? (i := 1) rfl, mem_unit2 (size := S32x128.size) _ (k0_off71_inb k) (off71_eq k) R C (by omega) (by show _ < _ + 32; omega) (by omega) (by show _ < _ + 128; omega)⟩
  · rcases hc with hc | hc
    · exact ⟨_, List.mem_of_getElem? (i := 2) rfl, mem_unit2 (size := S32x128.size) _ (k0_off68_inb k) (off68_eq k) R C (by omega) (by show _ < _ + 32; omega) (by omega) (by show _ < _ + 128; omega)⟩
    · exact ⟨_, List.mem_of_getElem? (i := 0) rfl, mem_unit2 (size := S32x128.size) _ (k0_off73_inb k) (off73_eq k) R C (by omega) (by show _ < _ + 32; omega) (by omega) (by show _ < _ + 128; omega)⟩

theorem meta_trip_meets (R : Fin 320) (C : Fin 2240) (h0 : 128 * k.val ≤ C.val) (h1 : C.val < 128 * k.val + 128) :
    Meets (s := S320x2240) (e := .i8) (trip_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 k).2.1 (ix2 R C) := by
  rw [trip2_meta]
  have hR := R.isLt
  have hr : (0 ≤ R.val ∧ R.val < 32) ∨ (32 ≤ R.val ∧ R.val < 64) ∨ (64 ≤ R.val ∧ R.val < 96) ∨ (96 ≤ R.val ∧ R.val < 128) ∨ (128 ≤ R.val ∧ R.val < 160) ∨ (160 ≤ R.val ∧ R.val < 192) ∨ (192 ≤ R.val ∧ R.val < 224) ∨ (224 ≤ R.val ∧ R.val < 256) ∨ (256 ≤ R.val ∧ R.val < 288) ∨ (288 ≤ R.val ∧ R.val < 320) := by omega
  have hc := And.intro h0 h1
  rcases hr with hr | hr | hr | hr | hr | hr | hr | hr | hr | hr
  · exact ⟨_, List.mem_of_getElem? (i := 9) rfl, mem_unit2 (size := S32x128.size) _ (k0_off26_inb k) (off26_eq k) R C (by omega) (by show _ < _ + 32; omega) (by omega) (by show _ < _ + 128; omega)⟩
  · exact ⟨_, List.mem_of_getElem? (i := 8) rfl, mem_unit2 (size := S32x128.size) _ (k0_off27_inb k) (off27_eq k) R C (by omega) (by show _ < _ + 32; omega) (by omega) (by show _ < _ + 128; omega)⟩
  · exact ⟨_, List.mem_of_getElem? (i := 7) rfl, mem_unit2 (size := S32x128.size) _ (k0_off38_inb k) (off38_eq k) R C (by omega) (by show _ < _ + 32; omega) (by omega) (by show _ < _ + 128; omega)⟩
  · exact ⟨_, List.mem_of_getElem? (i := 6) rfl, mem_unit2 (size := S32x128.size) _ (k0_off39_inb k) (off39_eq k) R C (by omega) (by show _ < _ + 32; omega) (by omega) (by show _ < _ + 128; omega)⟩
  · exact ⟨_, List.mem_of_getElem? (i := 5) rfl, mem_unit2 (size := S32x128.size) _ (k0_off50_inb k) (off50_eq k) R C (by omega) (by show _ < _ + 32; omega) (by omega) (by show _ < _ + 128; omega)⟩
  · exact ⟨_, List.mem_of_getElem? (i := 4) rfl, mem_unit2 (size := S32x128.size) _ (k0_off51_inb k) (off51_eq k) R C (by omega) (by show _ < _ + 32; omega) (by omega) (by show _ < _ + 128; omega)⟩
  · exact ⟨_, List.mem_of_getElem? (i := 3) rfl, mem_unit2 (size := S32x128.size) _ (k0_off62_inb k) (off62_eq k) R C (by omega) (by show _ < _ + 32; omega) (by omega) (by show _ < _ + 128; omega)⟩
  · exact ⟨_, List.mem_of_getElem? (i := 2) rfl, mem_unit2 (size := S32x128.size) _ (k0_off63_inb k) (off63_eq k) R C (by omega) (by show _ < _ + 32; omega) (by omega) (by show _ < _ + 128; omega)⟩
  · exact ⟨_, List.mem_of_getElem? (i := 1) rfl, mem_unit2 (size := S32x128.size) _ (k0_off74_inb k) (off74_eq k) R C (by omega) (by show _ < _ + 32; omega) (by omega) (by show _ < _ + 128; omega)⟩
  · exact ⟨_, List.mem_of_getElem? (i := 0) rfl, mem_unit2 (size := S32x128.size) _ (k0_off75_inb k) (off75_eq k) R C (by omega) (by show _ < _ + 32; omega) (by omega) (by show _ < _ + 128; omega)⟩

end Trips

section Loop

variable (𝒱 : Variants) (c : Dev nD) (bd : Option 𝒱.V) (i : grid0.Coords)
  (arg1 : Memref sig .tc .vmem S320x8960 .bf16) (harg1 : arg1.IsWhole)
  (arg2 : Memref sig .tc .vmem S8960x1536 .fp8e4m3) (harg2 : arg2.IsWhole)
  (arg3 : Memref sig .tc .vmem S1x1536 .f32) (harg3 : arg3.IsWhole)
  (arg4 : Memref sig .tc .vmem S320x1536 .bf16) (harg4 : arg4.IsWhole)
  (arg5 : Memref sig .tc .vmem S320x4480 .fp8e4m3) (harg5 : arg5.IsWhole)
  (arg6 : Memref sig .tc .vmem S320x2240 .i8) (harg6 : arg6.IsWhole)
  (arg7 : Memref sig .tc .vmem S1x1x320 .f32) (harg7 : arg7.IsWhole)
  (arg8 : Memref sig .tc .vmem S320x8960 .fp8e4m3) (harg8 : arg8.IsWhole)
  (arg9 : Memref sig .tc .vmem S35x5x32x128 .bf16) (harg9 : arg9.IsWhole)
  (arg10 : Memref sig .tc .vmem S35x5x32x128 .bf16) (harg10 : arg10.IsWhole)
  (arg11 : Memref sig .tc .vmem S35x5x32x128 .fp8e4m3) (harg11 : arg11.IsWhole)
  (arg12 : Memref sig .tc .vmem S5x32x128 .bf16) (harg12 : arg12.IsWhole)
  (arg13 : Memref sig .tc .vmem S5x32x128 .f32) (harg13 : arg13.IsWhole)
  (arg14 : Memref sig .tc .vmem S320x128 .f32) (harg14 : arg14.IsWhole)
  (v25 : IVec S32x128 1) (v1007 : FVec Ideal S32x128 .f32) (v1096 : IVec S32x128 32) (v1101 : IVec S32x128 1) (v1102 : IVec S32x128 32)
  (X9 : BufTy.Contents (Elt Ideal) arg9.view.ty) (X10 : BufTy.Contents (Elt Ideal) arg10.view.ty)
  (X11 : BufTy.Contents (Elt Ideal) arg11.view.ty) (X13 : BufTy.Contents (Elt Ideal) arg13.view.ty)

variable {v0 v1 pt : Fin 320 → Fin 2240 → EReal} {iv : Fin 320 → EReal}

theorem codes_loop (H : Holds v0 v1 pt iv arg9 arg10 arg11 arg13 X9 X10 X11 X13) (n : ℕ) (hn : n ≤ 17) :
    Fits (s := S320x8960) (e := .fp8e4m3) (CODE v0 v1 pt iv) (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 n).2.2 ∧ ∀ (R : Fin 320) (C : Fin 8960), C.val < 512 * n → Meets (s := S320x8960) (e := .fp8e4m3) (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 n).2.2 (ix2 R C) := by
  induction n with
  | zero => exact ⟨fits_nil _, fun R C h => absurd h (by omega)⟩
  | succ n ih =>
    obtain ⟨i0, i1⟩ := ih (by omega)
    have hk : n < k0_t2_loop.trips := by rw [trips2]; omega
    have hs := pb_k0_t2_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 ⟨n, hk⟩
    rw [hs]
    dsimp only
    refine ⟨fits_append (codes_trip_fits 𝒱 c bd i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 ⟨n, hk⟩ H) i0, fun R C h => ?_⟩
    by_cases hc : C.val < 512 * n
    · exact meets_right (i1 R C hc)
    · exact meets_left (codes_trip_meets 𝒱 c bd i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 ⟨n, hk⟩ R C (by show 512 * n ≤ _; omega) (by show _ < 512 * n + 512; omega))

theorem vals_loop (H : Holds v0 v1 pt iv arg9 arg10 arg11 arg13 X9 X10 X11 X13) (n : ℕ) (hn : n ≤ 17) :
    Fits (s := S320x4480) (e := .fp8e4m3) (VALS v0 v1 iv) (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 n).1 ∧ ∀ (R : Fin 320) (C : Fin 4480), C.val < 256 * n → Meets (s := S320x4480) (e := .fp8e4m3) (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 n).1 (ix2 R C) := by
  induction n with
  | zero => exact ⟨fits_nil _, fun R C h => absurd h (by omega)⟩
  | succ n ih =>
    obtain ⟨i0, i1⟩ := ih (by omega)
    have hk : n < k0_t2_loop.trips := by rw [trips2]; omega
    have hs := pb_k0_t2_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 ⟨n, hk⟩
    rw [hs]
    dsimp only
    refine ⟨fits_append (vals_trip_fits 𝒱 c bd i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 ⟨n, hk⟩ H) i0, fun R C h => ?_⟩
    by_cases hc : C.val < 256 * n
    · exact meets_right (i1 R C hc)
    · exact meets_left (vals_trip_meets 𝒱 c bd i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 ⟨n, hk⟩ R C (by show 256 * n ≤ _; omega) (by show _ < 256 * n + 256; omega))

theorem meta_loop (H : Holds v0 v1 pt iv arg9 arg10 arg11 arg13 X9 X10 X11 X13) (n : ℕ) (hn : n ≤ 17) :
    Fits (s := S320x2240) (e := .i8) (META pt) (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 n).2.1 ∧ ∀ (R : Fin 320) (C : Fin 2240), C.val < 128 * n → Meets (s := S320x2240) (e := .i8) (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 n).2.1 (ix2 R C) := by
  induction n with
  | zero => exact ⟨fits_nil _, fun R C h => absurd h (by omega)⟩
  | succ n ih =>
    obtain ⟨i0, i1⟩ := ih (by omega)
    have hk : n < k0_t2_loop.trips := by rw [trips2]; omega
    have hs := pb_k0_t2_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 ⟨n, hk⟩
    rw [hs]
    dsimp only
    refine ⟨fits_append (meta_trip_fits 𝒱 c bd i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 ⟨n, hk⟩ H) i0, fun R C h => ?_⟩
    by_cases hc : C.val < 128 * n
    · exact meets_right (i1 R C hc)
    · exact meets_left (meta_trip_meets 𝒱 c bd i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 ⟨n, hk⟩ R C (by show 128 * n ≤ _; omega) (by show _ < 128 * n + 128; omega))

end Loop

end Cert.KernelIdeal.Hand
-- ==== Proof.Groups.lean ====
/- What is stored of a group, as the kernel and as the reference say it. -/
module

public import proofs.«01_k».proof.Proof.Squares
public import proofs.«01_k».proof.Proof.Loop2

@[expose] public section

set_option maxRecDepth 8192

noncomputable section

namespace Cert.Joint

open Idealize.ShloMosaic Cert.KernelIdeal.Hand Cert.ReferenceIdeal.Hand

theorem P01_BC00 : ¬ P01 (cE 0xBC00#16) := by
  unfold P01
  rw [cE_BC00, cF_3D900000, cF_3CD00000]
  try simp only [EReal.coe_eq_coe_iff]
  try norm_num
theorem P02_BC00 : ¬ P02 (cE 0xBC00#16) := by
  unfold P02
  rw [cE_BC00, cF_3CE00000]
  try simp only [EReal.coe_eq_coe_iff]
  try norm_num
theorem P11_BC00 : P11 (cE 0xBC00#16) := by
  unfold P11
  rw [cE_BC00, cF_BC000000]
  try simp only [EReal.coe_eq_coe_iff]
  try norm_num
theorem P12_BC00 : ¬ P12 (cE 0xBC00#16) := by
  unfold P12
  rw [cE_BC00, cF_3D800000, cF_3D900000]
  try simp only [EReal.coe_eq_coe_iff]
  try norm_num
theorem P01_3CE0 : ¬ P01 (cE 0x3CE0#16) := by
  unfold P01
  rw [cE_3CE0, cF_3D900000, cF_3CD00000]
  try simp only [EReal.coe_eq_coe_iff]
  try norm_num
theorem P02_3CE0 : P02 (cE 0x3CE0#16) := by
  unfold P02
  rw [cE_3CE0, cF_3CE00000]
  try simp only [EReal.coe_eq_coe_iff]
  try norm_num
theorem P11_3CE0 : ¬ P11 (cE 0x3CE0#16) := by
  unfold P11
  rw [cE_3CE0, cF_BC000000]
  try simp only [EReal.coe_eq_coe_iff]
  try norm_num
theorem P12_3CE0 : ¬ P12 (cE 0x3CE0#16) := by
  unfold P12
  rw [cE_3CE0, cF_3D800000, cF_3D900000]
  try simp only [EReal.coe_eq_coe_iff]
  try norm_num
theorem P01_3D80 : ¬ P01 (cE 0x3D80#16) := by
  unfold P01
  rw [cE_3D80, cF_3D900000, cF_3CD00000]
  try simp only [EReal.coe_eq_coe_iff]
  try norm_num
theorem P02_3D80 : ¬ P02 (cE 0x3D80#16) := by
  unfold P02
  rw [cE_3D80, cF_3CE00000]
  try simp only [EReal.coe_eq_coe_iff]
  try norm_num
theorem P11_3D80 : ¬ P11 (cE 0x3D80#16) := by
  unfold P11
  rw [cE_3D80, cF_BC000000]
  try simp only [EReal.coe_eq_coe_iff]
  try norm_num
theorem P12_3D80 : P12 (cE 0x3D80#16) := by
  unfold P12
  rw [cE_3D80, cF_3D800000, cF_3D900000]
  try simp only [EReal.coe_eq_coe_iff]
  try norm_num
theorem P01_3CC0 : ¬ P01 (cE 0x3CC0#16) := by
  unfold P01
  rw [cE_3CC0, cF_3D900000, cF_3CD00000]
  try simp only [EReal.coe_eq_coe_iff]
  try norm_num
theorem P02_3CC0 : ¬ P02 (cE 0x3CC0#16) := by
  unfold P02
  rw [cE_3CC0, cF_3CE00000]
  try simp only [EReal.coe_eq_coe_iff]
  try norm_num
theorem P11_3CC0 : ¬ P11 (cE 0x3CC0#16) := by
  unfold P11
  rw [cE_3CC0, cF_BC000000]
  try simp only [EReal.coe_eq_coe_iff]
  try norm_num
theorem P12_3CC0 : ¬ P12 (cE 0x3CC0#16) := by
  unfold P12
  rw [cE_3CC0, cF_3D800000, cF_3D900000]
  try simp only [EReal.coe_eq_coe_iff]
  try norm_num
theorem P01_3D90 : P01 (cE 0x3D90#16) := by
  unfold P01
  rw [cE_3D90, cF_3D900000, cF_3CD00000]
  try simp only [EReal.coe_eq_coe_iff]
  try norm_num
theorem P02_3D90 : ¬ P02 (cE 0x3D90#16) := by
  unfold P02
  rw [cE_3D90, cF_3CE00000]
  try simp only [EReal.coe_eq_coe_iff]
  try norm_num
theorem P11_3D90 : ¬ P11 (cE 0x3D90#16) := by
  unfold P11
  rw [cE_3D90, cF_BC000000]
  try simp only [EReal.coe_eq_coe_iff]
  try norm_num
theorem P12_3D90 : P12 (cE 0x3D90#16) := by
  unfold P12
  rw [cE_3D90, cF_3D800000, cF_3D900000]
  try simp only [EReal.coe_eq_coe_iff]
  try norm_num
theorem P01_3CD0 : P01 (cE 0x3CD0#16) := by
  unfold P01
  rw [cE_3CD0, cF_3D900000, cF_3CD00000]
  try simp only [EReal.coe_eq_coe_iff]
  try norm_num
theorem P02_3CD0 : ¬ P02 (cE 0x3CD0#16) := by
  unfold P02
  rw [cE_3CD0, cF_3CE00000]
  try simp only [EReal.coe_eq_coe_iff]
  try norm_num
theorem P11_3CD0 : ¬ P11 (cE 0x3CD0#16) := by
  unfold P11
  rw [cE_3CD0, cF_BC000000]
  try simp only [EReal.coe_eq_coe_iff]
  try norm_num
theorem P12_3CD0 : ¬ P12 (cE 0x3CD0#16) := by
  unfold P12
  rw [cE_3CD0, cF_3D800000, cF_3D900000]
  try simp only [EReal.coe_eq_coe_iff]
  try norm_num

variable {x0 x1 x2 x3 G0 G1 P : EReal} {k0 k1 k2 k3 : BitVec 1} (K : Kept x0 x1 x2 x3 G0 G1 P k0 k1 k2 k3) (f : EReal → EReal)

theorem zero_ne_one : ¬ (0#1 : BitVec 1) = 1#1 := by decide

include K in
/-- The codes of a group, -/
theorem codes_kept : codeOf 0 (f G0) (f G1) P = (if k0 = 1#1 then f x0 else 0) ∧ codeOf 1 (f G0) (f G1) P = (if k1 = 1#1 then f x1 else 0)
    ∧ codeOf 2 (f G0) (f G1) P = (if k2 = 1#1 then f x2 else 0) ∧ codeOf 3 (f G0) (f G1) P = (if k3 = 1#1 then f x3 else 0) := by
  cases K with
  | k01 a b c d e g h =>
    subst a b c d e g h
    simp only [codeOf, pick, zero_ne_one, P01_BC00, P02_BC00, P11_BC00, P12_BC00, P01_3CE0, P02_3CE0, P11_3CE0, P12_3CE0, P01_3D80, P02_3D80, P11_3D80, P12_3D80, P01_3CC0, P02_3CC0, P11_3CC0, P12_3CC0, P01_3D90, P02_3D90, P11_3D90, P12_3D90, P01_3CD0, P02_3CD0, P11_3CD0, P12_3CD0, or_true, true_or, or_false, or_self, if_true, if_false, and_self]
  | k23 a b c d e g h =>
    subst a b c d e g h
    simp only [codeOf, pick, zero_ne_one, P01_BC00, P02_BC00, P11_BC00, P12_BC00, P01_3CE0, P02_3CE0, P11_3CE0, P12_3CE0, P01_3D80, P02_3D80, P11_3D80, P12_3D80, P01_3CC0, P02_3CC0, P11_3CC0, P12_3CC0, P01_3D90, P02_3D90, P11_3D90, P12_3D90, P01_3CD0, P02_3CD0, P11_3CD0, P12_3CD0, or_true, true_or, or_false, or_self, if_true, if_false, and_self]
  | k02 a b c d e g h =>
    subst a b c d e g h
    simp only [codeOf, pick, zero_ne_one, P01_BC00, P02_BC00, P11_BC00, P12_BC00, P01_3CE0, P02_3CE0, P11_3CE0, P12_3CE0, P01_3D80, P02_3D80, P11_3D80, P12_3D80, P01_3CC0, P02_3CC0, P11_3CC0, P12_3CC0, P01_3D90, P02_3D90, P11_3D90, P12_3D90, P01_3CD0, P02_3CD0, P11_3CD0, P12_3CD0, or_true, true_or, or_false, or_self, if_true, if_false, and_self]
  | k03 a b c d e g h =>
    subst a b c d e g h
    simp only [codeOf, pick, zero_ne_one, P01_BC00, P02_BC00, P11_BC00, P12_BC00, P01_3CE0, P02_3CE0, P11_3CE0, P12_3CE0, P01_3D80, P02_3D80, P11_3D80, P12_3D80, P01_3CC0, P02_3CC0, P11_3CC0, P12_3CC0, P01_3D90, P02_3D90, P11_3D90, P12_3D90, P01_3CD0, P02_3CD0, P11_3CD0, P12_3CD0, or_true, true_or, or_false, or_self, if_true, if_false, and_self]
  | k12 a b c d e g h =>
    subst a b c d e g h
    simp only [codeOf, pick, zero_ne_one, P01_BC00, P02_BC00, P11_BC00, P12_BC00, P01_3CE0, P02_3CE0, P11_3CE0, P12_3CE0, P01_3D80, P02_3D80, P11_3D80, P12_3D80, P01_3CC0, P02_3CC0, P11_3CC0, P12_3CC0, P01_3D90, P02_3D90, P11_3D90, P12_3D90, P01_3CD0, P02_3CD0, P11_3CD0, P12_3CD0, or_true, true_or, or_false, or_self, if_true, if_false, and_self]
  | k13 a b c d e g h =>
    subst a b c d e g h
    simp only [codeOf, pick, zero_ne_one, P01_BC00, P02_BC00, P11_BC00, P12_BC00, P01_3CE0, P02_3CE0, P11_3CE0, P12_3CE0, P01_3D80, P02_3D80, P11_3D80, P12_3D80, P01_3CC0, P02_3CC0, P11_3CC0, P12_3CC0, P01_3D90, P02_3D90, P11_3D90, P12_3D90, P01_3CD0, P02_3CD0, P11_3CD0, P12_3CD0, or_true, true_or, or_false, or_self, if_true, if_false, and_self]

include K in
/-- the kept ones, -/
theorem vals_kept {c0 c1 c2 c3 : EReal} (e0 : c0 = if k0 = 1#1 then f x0 else 0) (e1 : c1 = if k1 = 1#1 then f x1 else 0)
    (e2 : c2 = if k2 = 1#1 then f x2 else 0) (e3 : c3 = if k3 = 1#1 then f x3 else 0) :
    (if k0 = 1#1 then c0 else if k1 = 1#1 then c1 else c2) = f G0 ∧ (if k3 = 1#1 then c3 else if k2 = 1#1 then c2 else c1) = f G1 := by
  cases K with
  | k01 a b c d e g h =>
    subst a b c d e g h e0 e1 e2 e3
    simp only [zero_ne_one, if_true, if_false, and_self]
  | k23 a b c d e g h =>
    subst a b c d e g h e0 e1 e2 e3
    simp only [zero_ne_one, if_true, if_false, and_self]
  | k02 a b c d e g h =>
    subst a b c d e g h e0 e1 e2 e3
    simp only [zero_ne_one, if_true, if_false, and_self]
  | k03 a b c d e g h =>
    subst a b c d e g h e0 e1 e2 e3
    simp only [zero_ne_one, if_true, if_false, and_self]
  | k12 a b c d e g h =>
    subst a b c d e g h e0 e1 e2 e3
    simp only [zero_ne_one, if_true, if_false, and_self]
  | k13 a b c d e g h =>
    subst a b c d e g h e0 e1 e2 e3
    simp only [zero_ne_one, if_true, if_false, and_self]

include K in
/-- their positions. -/
theorem meta_kept : BitVec.setWidth 8 (posOf P) = pos4 k0 k1 k2 k3 := by
  cases K with
  | k01 a b c d e g h =>
    subst a b c d e g h
    simp only [posOf, P01_BC00, P02_BC00, P11_BC00, P12_BC00, P01_3CE0, P02_3CE0, P11_3CE0, P12_3CE0, P01_3D80, P02_3D80, P11_3D80, P12_3D80, P01_3CC0, P02_3CC0, P11_3CC0, P12_3CC0, P01_3D90, P02_3D90, P11_3D90, P12_3D90, P01_3CD0, P02_3CD0, P11_3CD0, P12_3CD0, if_true, if_false]
    decide
  | k23 a b c d e g h =>
    subst a b c d e g h
    simp only [posOf, P01_BC00, P02_BC00, P11_BC00, P12_BC00, P01_3CE0, P02_3CE0, P11_3CE0, P12_3CE0, P01_3D80, P02_3D80, P11_3D80, P12_3D80, P01_3CC0, P02_3CC0, P11_3CC0, P12_3CC0, P01_3D90, P02_3D90, P11_3D90, P12_3D90, P01_3CD0, P02_3CD0, P11_3CD0, P12_3CD0, if_true, if_false]
    decide
  | k02 a b c d e g h =>
    subst a b c d e g h
    simp only [posOf, P01_BC00, P02_BC00, P11_BC00, P12_BC00, P01_3CE0, P02_3CE0, P11_3CE0, P12_3CE0, P01_3D80, P02_3D80, P11_3D80, P12_3D80, P01_3CC0, P02_3CC0, P11_3CC0, P12_3CC0, P01_3D90, P02_3D90, P11_3D90, P12_3D90, P01_3CD0, P02_3CD0, P11_3CD0, P12_3CD0, if_true, if_false]
    decide
  | k03 a b c d e g h =>
    subst a b c d e g h
    simp only [posOf, P01_BC00, P02_BC00, P11_BC00, P12_BC00, P01_3CE0, P02_3CE0, P11_3CE0, P12_3CE0, P01_3D80, P02_3D80, P11_3D80, P12_3D80, P01_3CC0, P02_3CC0, P11_3CC0, P12_3CC0, P01_3D90, P02_3D90, P11_3D90, P12_3D90, P01_3CD0, P02_3CD0, P11_3CD0, P12_3CD0, if_true, if_false]
    decide
  | k12 a b c d e g h =>
    subst a b c d e g h
    simp only [posOf, P01_BC00, P02_BC00, P11_BC00, P12_BC00, P01_3CE0, P02_3CE0, P11_3CE0, P12_3CE0, P01_3D80, P02_3D80, P11_3D80, P12_3D80, P01_3CC0, P02_3CC0, P11_3CC0, P12_3CC0, P01_3D90, P02_3D90, P11_3D90, P12_3D90, P01_3CD0, P02_3CD0, P11_3CD0, P12_3CD0, if_true, if_false]
    decide
  | k13 a b c d e g h =>
    subst a b c d e g h
    simp only [posOf, P01_BC00, P02_BC00, P11_BC00, P12_BC00, P01_3CE0, P02_3CE0, P11_3CE0, P12_3CE0, P01_3D80, P02_3D80, P11_3D80, P12_3D80, P01_3CC0, P02_3CC0, P11_3CC0, P12_3CC0, P01_3D90, P02_3D90, P11_3D90, P12_3D90, P01_3CD0, P02_3CD0, P11_3CD0, P12_3CD0, if_true, if_false]
    decide

/-- The two kept are the greatest of the four. -/
theorem pair_le (z : EReal) : (g0 x0 x1 x2 x3 ≤ z ∧ g1 x0 x1 x2 x3 ≤ z) ↔ (x0 ≤ z ∧ x1 ≤ z ∧ x2 ≤ z ∧ x3 ≤ z) := by
  unfold g0 g1
  by_cases h1 : b01 x0 x1 x2 x3
  · have h2 : ¬ b23 x0 x1 x2 x3 := fun h2 => by
      unfold b01 at h1
      unfold b23 at h2
      exact absurd (lt_of_lt_of_le h2 (min_le_max.trans h1)) (not_lt.2 min_le_max)
    simp only [if_pos h1, if_neg h2]
    unfold b01 at h1
    rw [max_le_iff, le_min_iff, le_min_iff] at h1
    exact ⟨fun h => ⟨h.1, h.2, h1.1.1.trans h.1, h1.2.1.trans h.1⟩, fun h => ⟨h.1, h.2.1⟩⟩
  · by_cases h2 : b23 x0 x1 x2 x3
    · simp only [if_pos h2, if_neg h1]
      unfold b23 at h2
      rw [max_lt_iff, lt_min_iff, lt_min_iff] at h2
      exact ⟨fun h => ⟨h2.1.1.le.trans h.1, h2.2.1.le.trans h.1, h.1, h.2⟩, fun h => ⟨h.2.2.1, h.2.2.2⟩⟩
    · simp only [if_neg h1, if_neg h2, max_le_iff]
      tauto

end Cert.Joint

end
-- ==== Proof.Field.lean ====
/- The power of two that a number lies above, by the search and by its field. -/
module

public import proofs.«01_k».proof.Proof.Squares

@[expose] public section

set_option maxRecDepth 8192

noncomputable section

namespace Cert.Joint

open Idealize.ShloMosaic Cert.KernelIdeal.Hand Cert.ReferenceIdeal.Hand

/-- The number whose exponent field is `n` and whose other fields are zero. -/
def pw (n : Nat) : EReal := fE (IntOp.shli .vector (BitVec.ofNat 32 n) 23#32)

theorem shl23 (b : BitVec 32) : IntOp.shli .vector b 23#32 = b <<< 23 := rfl

theorem fields : ∀ e : Fin 256, ((BitVec.ofNat 32 e.val <<< 23).extractLsb' 31 1 = 0#1 ∨ False) ∧ ((BitVec.ofNat 32 e.val <<< 23).extractLsb' 23 8).toNat = e.val
    ∧ ((BitVec.ofNat 32 e.val <<< 23).extractLsb' 0 23).toNat = 0 := by decide +kernel

theorem shift23 (k : Int) : (1:ℝ) * ((8388608 : Nat) : ℝ) * (2:ℝ) ^ (k - 150) = (2:ℝ) ^ (k - 127) := by
  rw [show k - 127 = 23 + (k - 150) by omega, zpow_add₀ (by norm_num : (2:ℝ) ≠ 0)]
  have h : (2:ℝ) ^ (23 : Int) = 8388608 := by norm_num
  rw [h]
  push_cast
  ring
theorem pw_eq (n : Nat) (h1 : 1 ≤ n) (h2 : n ≤ 254) : pw n = (((2:ℝ) ^ ((n : Int) - 127) : ℝ) : EReal) := by
  obtain ⟨a, b, c⟩ := fields ⟨n, by omega⟩
  simp only [or_false] at a b c
  rw [pw, shl23]
  show Ideal.ieee 8 23 (BitVec.ofNat 32 n <<< 23) = _
  unfold Ideal.ieee
  simp only [a, b, c]
  rw [if_neg (by omega), if_neg (by omega)]
  refine (congrArg (fun z : ℝ => (z : EReal)) ?_).trans (congrArg (fun z : ℝ => (z : EReal)) (shift23 n))
  have hb : (n : Int) - (2 ^ (8 - 1) - 1) - ((23 : Nat) : Int) = (n : Int) - 150 := by omega
  have hs : (if ((0#1 : BitVec 1) == 1#1) = true then (-1:ℝ) else 1) = 1 := if_neg (by decide)
  have hc : (2 ^ 23 + 0 : Nat) = 8388608 := rfl
  rw [hb, hs, hc]
theorem pw_zero : pw 0 = 0 := by
  obtain ⟨a, b, c⟩ := fields ⟨0, by omega⟩
  simp only [or_false] at a b c
  rw [pw, shl23]
  show Ideal.ieee 8 23 (BitVec.ofNat 32 0 <<< 23) = _
  unfold Ideal.ieee
  simp only [a, b, c]
  rw [if_neg (by omega), if_pos trivial]
  simp
theorem pw_top : pw 255 = ⊤ := by
  obtain ⟨a, b, c⟩ := fields ⟨255, by omega⟩
  simp only [or_false] at a b c
  rw [pw, shl23]
  show Ideal.ieee 8 23 (BitVec.ofNat 32 255 <<< 23) = _
  unfold Ideal.ieee
  simp only [a, b, c]
  rw [if_pos (by omega), if_pos trivial]
  simp

/-- What is known of a field in the search: the number is at least its power, and less than that of the field `k` more. -/
def Brk (t : EReal) (n k : Nat) : Prop := n + k ≤ 256 ∧ pw n ≤ t ∧ (n + k = 256 ∨ t < pw (n + k))

theorem step_brk (t : EReal) (n k : Nat) (h : Brk t n (2 * k)) : ∃ n', stepS (BitVec.ofNat 32 k) t (BitVec.ofNat 32 n) = BitVec.ofNat 32 n' ∧ Brk t n' k := by
  obtain ⟨h0, h1, h2⟩ := h
  have ea : IntOp.addi (BitVec.ofNat 32 n) (BitVec.ofNat 32 k) = BitVec.ofNat 32 (n + k) := (BitVec.ofNat_add n k).symm
  unfold stepS
  rw [ea]
  by_cases hc : pw (n + k) ≤ t
  · refine ⟨n + k, if_pos hc, by omega, hc, ?_⟩
    rwa [show n + k + k = n + 2 * k by omega]
  · exact ⟨n, if_neg hc, by omega, h1, .inr (not_le.1 hc)⟩

theorem exp_brk (t : EReal) (h : 0 ≤ t) : ∃ n, expS t = BitVec.ofNat 32 n ∧ Brk t n 1 := by
  obtain ⟨n1, e1, b1⟩ := step_brk t 0 128 ⟨by omega, by rw [pw_zero]; exact h, .inl rfl⟩
  obtain ⟨n2, e2, b2⟩ := step_brk t n1 64 b1
  obtain ⟨n3, e3, b3⟩ := step_brk t n2 32 b2
  obtain ⟨n4, e4, b4⟩ := step_brk t n3 16 b3
  obtain ⟨n5, e5, b5⟩ := step_brk t n4 8 b4
  obtain ⟨n6, e6, b6⟩ := step_brk t n5 4 b5
  obtain ⟨n7, e7, b7⟩ := step_brk t n6 2 b6
  obtain ⟨n8, e8, b8⟩ := step_brk t n7 1 b7
  refine ⟨n8, ?_, b8⟩
  unfold expS
  rw [e1, e2, e3, e4, e5, e6, e7, e8]

theorem fix_eq : ∀ n : Fin 255, fixS (BitVec.ofNat 32 n.val) = if n.val = 0 then 126#32 else BitVec.ofNat 32 n.val := by
  unfold fixS; decide +kernel
theorem sub_eq : ∀ n : Fin 253, IntOp.subi 253#32 (BitVec.ofNat 32 n.val) = BitVec.ofNat 32 (253 - n.val) := by
  decide +kernel

/-- The scale and its reciprocal, of a number that is not too large. -/
theorem scale_spec (r : ℝ) (h0 : 0 ≤ r) (h1 : r < (2:ℝ) ^ (120 : Int)) :
    (r < (2:ℝ) ^ (-126 : Int) ∧ scS r = 1 ∧ ivS r = 1)
    ∨ ∃ n : Nat, 1 ≤ n ∧ n ≤ 246 ∧ (2:ℝ) ^ ((n : Int) - 127) ≤ r ∧ r < (2:ℝ) ^ ((n : Int) - 126)
        ∧ scS r = (((2:ℝ) ^ ((n : Int) - 126) : ℝ) : EReal) ∧ ivS r = (((2:ℝ) ^ (126 - (n : Int)) : ℝ) : EReal) := by
  obtain ⟨n, en, hn, hl, hu⟩ := exp_brk (r : EReal) (by exact_mod_cast h0)
  have n255 : n ≠ 255 := fun e => by rw [e, pw_top] at hl; exact absurd hl (not_le.2 (EReal.coe_lt_top r))
  have hu' : (r : EReal) < pw (n + 1) := by
    rcases hu with hu | hu
    · omega
    · exact hu
  have hfix := fix_eq ⟨n, by omega⟩
  simp only at hfix
  by_cases hz : n = 0
  · left
    rw [if_pos hz] at hfix
    refine ⟨?_, ?_, ?_⟩
    · rw [hz, pw_eq 1 (by omega) (by omega)] at hu'
      have := EReal.coe_lt_coe_iff.1 hu'
      norm_num at this ⊢
      exact this
    · have e : scS (r : EReal) = pw 127 := by
        unfold scS
        rw [en, hfix]
        rfl
      rw [e, pw_eq 127 (by omega) (by omega)]
      norm_num
    · have e : ivS (r : EReal) = pw 127 := by
        unfold ivS
        rw [en, hfix]
        rfl
      rw [e, pw_eq 127 (by omega) (by omega)]
      norm_num
  · right
    rw [if_neg hz] at hfix
    by_cases h254 : n = 254
    · exfalso
      rw [h254, pw_eq 254 (by omega) (by omega), EReal.coe_le_coe_iff] at hl
      have := lt_of_le_of_lt hl h1
      exact absurd ((zpow_lt_zpow_iff_right₀ (by norm_num : (1:ℝ) < 2)).1 this) (by norm_num)
    rw [pw_eq n (by omega) (by omega), EReal.coe_le_coe_iff] at hl
    rw [pw_eq (n + 1) (by omega) (by omega), EReal.coe_lt_coe_iff] at hu'
    have hb := (zpow_lt_zpow_iff_right₀ (by norm_num : (1:ℝ) < 2)).1 (lt_of_le_of_lt hl h1)
    have e1 : ((n + 1 : Nat) : Int) - 127 = (n : Int) - 126 := by omega
    rw [e1] at hu'
    refine ⟨n, by omega, by omega, hl, hu', ?_, ?_⟩
    · have e : scS (r : EReal) = pw (n + 1) := by
        unfold scS
        rw [en, hfix]
        exact congrArg (fun b => fE (IntOp.shli .vector b 23#32)) (BitVec.ofNat_add n 1).symm
      rw [e, pw_eq (n + 1) (by omega) (by omega), e1]
    · have e : ivS (r : EReal) = pw (253 - n) := by
        unfold ivS
        rw [en, hfix]
        exact congrArg (fun b => fE (IntOp.shli .vector b 23#32)) (sub_eq ⟨n, by omega⟩)
      have e2 : ((253 - n : Nat) : Int) - 127 = 126 - (n : Int) := by omega
      rw [e, pw_eq (253 - n) (by omega) (by omega), e2]

end Cert.Joint

end
-- ==== Proof.Powers.lean ====
/- The reference's scale is the kernel's. -/
module

public import proofs.«01_k».proof.Proof.Field

@[expose] public section

set_option maxRecDepth 8192

noncomputable section

namespace Cert.Joint

open Idealize.ShloMosaic Cert.KernelIdeal.Hand Cert.ReferenceIdeal.Hand

theorem table : ∀ j : Fin 253, Cert.ReferenceIdeal.lit0 j = IntOp.shli .vector (BitVec.ofNat 32 (j.val + 1)) 23#32 := by decide +kernel

theorem pow_apply (j : Fin 253) : (powA (ix2 0 j) : EReal) = (((2:ℝ) ^ ((j.val : Int) - 126) : ℝ) : EReal) := by
  have e0 : (Cert.ReferenceIdeal.S1x253.rowMajor (ix2 0 j)).val = j.val := by
    rw [Shape.rowMajor_val_two]
    show 0 * 253 + j.val = j.val
    omega
  have e : (show Fin 253 from Cert.ReferenceIdeal.S1x253.rowMajor (ix2 0 j)) = j := Fin.ext e0
  show Ideal.ofBits .f32 (Cert.ReferenceIdeal.lit0 (show Fin 253 from Cert.ReferenceIdeal.S1x253.rowMajor (ix2 0 j))) = _
  rw [e, table]
  refine (pw_eq (j.val + 1) (by omega) (by omega)).trans ?_
  have e1 : ((j.val + 1 : Nat) : Int) - 127 = (j.val : Int) - 126 := by omega
  rw [e1]

/-- The largest doubled power: -/
theorem top_le (h : FVec Ideal Cert.ReferenceIdeal.S1920x8960 .f32) (M : Fin 1920) (r : ℝ) (hr : tA h (ix2 M 0) = (r : EReal)) (z : EReal) :
    topA (leA h powA) (dblA powA) (constant Cert.ReferenceIdeal.S_ .f32 0x00000000#32) (ix1 M) ≤ z
      ↔ ∀ j : Fin 253, (if (2:ℝ) ^ ((j.val : Int) - 126) ≤ r then (((2:ℝ) ^ ((j.val : Int) - 125) : ℝ) : EReal) else 0) ≤ z := by
  rw [topA_le]
  refine forall_congr' fun j => ?_
  have e2 : (2 : ℝ) * (2:ℝ) ^ ((j.val : Int) - 126) = (2:ℝ) ^ ((j.val : Int) - 125) := by
    rw [show (j.val : Int) - 125 = 1 + ((j.val : Int) - 126) by omega, zpow_add₀ (by norm_num : (2:ℝ) ≠ 0), zpow_one]
  rw [leA_apply, dblA_apply, pow_apply, hr, show Ideal.ofBits .f32 0x40000000#32 = ((2:ℝ) : EReal) from cF_40000000, ← EReal.coe_mul, e2]
  simp only [ofBool_one, EReal.coe_le_coe_iff]

/-- of a number below the least power, zero, so that the scale is one; -/
theorem top_small (h : FVec Ideal Cert.ReferenceIdeal.S1920x8960 .f32) (M : Fin 1920) (r : ℝ) (hr : tA h (ix2 M 0) = (r : EReal)) (h1 : r < (2:ℝ) ^ (-126 : Int)) :
    scaleA (topA (leA h powA) (dblA powA) (constant Cert.ReferenceIdeal.S_ .f32 0x00000000#32)) (ix1 M) = 1 := by
  have hf : ∀ j : Fin 253, ¬ (2:ℝ) ^ ((j.val : Int) - 126) ≤ r := fun j hj => by
    have := (zpow_lt_zpow_iff_right₀ (by norm_num : (1:ℝ) < 2)).1 (lt_of_le_of_lt hj h1)
    omega
  have e : topA (leA h powA) (dblA powA) (constant Cert.ReferenceIdeal.S_ .f32 0x00000000#32) (ix1 M) = 0 := by
    refine eq_of_forall_ge_iff fun z => ?_
    rw [top_le h M r hr]
    constructor
    · intro H
      have := H 0
      rwa [if_neg (hf 0)] at this
    · intro H j
      rwa [if_neg (hf j)]
  rw [scaleA_apply, e, if_pos rfl]

/-- otherwise the power above it. -/
theorem top_big (h : FVec Ideal Cert.ReferenceIdeal.S1920x8960 .f32) (M : Fin 1920) (r : ℝ) (hr : tA h (ix2 M 0) = (r : EReal)) (n : Nat) (hn : 1 ≤ n) (hn' : n ≤ 246)
    (h1 : (2:ℝ) ^ ((n : Int) - 127) ≤ r) (h2 : r < (2:ℝ) ^ ((n : Int) - 126)) :
    scaleA (topA (leA h powA) (dblA powA) (constant Cert.ReferenceIdeal.S_ .f32 0x00000000#32)) (ix1 M) = (((2:ℝ) ^ ((n : Int) - 126) : ℝ) : EReal) := by
  have hp : (0:ℝ) < (2:ℝ) ^ ((n : Int) - 126) := zpow_pos (by norm_num) _
  have e : topA (leA h powA) (dblA powA) (constant Cert.ReferenceIdeal.S_ .f32 0x00000000#32) (ix1 M) = (((2:ℝ) ^ ((n : Int) - 126) : ℝ) : EReal) := by
    refine eq_of_forall_ge_iff fun z => ?_
    rw [top_le h M r hr]
    constructor
    · intro H
      have := H ⟨n - 1, by omega⟩
      have e1 : ((n - 1 : Nat) : Int) - 126 = (n : Int) - 127 := by omega
      have e2 : ((n - 1 : Nat) : Int) - 125 = (n : Int) - 126 := by omega
      simp only [e1, e2] at this
      rwa [if_pos h1] at this
    · intro H j
      refine le_trans ?_ H
      by_cases hj : (2:ℝ) ^ ((j.val : Int) - 126) ≤ r
      · rw [if_pos hj, EReal.coe_le_coe_iff]
        have := (zpow_lt_zpow_iff_right₀ (by norm_num : (1:ℝ) < 2)).1 (lt_of_le_of_lt hj h2)
        exact zpow_le_zpow_right₀ (by norm_num) (by omega)
      · rw [if_neg hj]
        exact_mod_cast hp.le
  rw [scaleA_apply, e, if_neg]
  intro e0
  exact absurd (EReal.coe_eq_zero.1 e0) hp.ne'

end Cert.Joint

end
-- ==== Proof.Tail.lean ====
/- The last column of tiles, which no trip of the packing loop covers, and the whole of what is packed. -/
module

public import proofs.«01_k».proof.Proof.Loop2

@[expose] public section

set_option maxRecDepth 8192

noncomputable section

namespace Cert.KernelIdeal.Hand

open Idealize.ShloMosaic Cert.KernelIdeal Cert.KernelIdeal.Gen

/-- The positions of the last block of groups in the first 32 rows, -/
def metaE (p : FVec Ideal S1x1x32x128 .fp8e4m3) : IVec S32x64 8 :=
  extractStridedSlice S32x64 ![0, 0] (trunci 8 (metaT p) natLt_8_32) slices_S32x128_o0_0_S32x64
/-- and in the second 32 rows. -/
def metaO (p : FVec Ideal S1x1x32x128 .fp8e4m3) : IVec S32x64 8 :=
  extractStridedSlice S32x64 ![0, 0] (trunci 8 (rotM (metaT p)) natLt_8_32) slices_S32x128_o0_0_S32x64

theorem slice64 (x : IVec S32x128 32) (r : Fin 32) (l : Fin 64) :
    extractStridedSlice S32x64 ![0, 0] (trunci 8 x natLt_8_32) slices_S32x128_o0_0_S32x64 (ix2 r l)
      = BitVec.setWidth 8 (x (ix2 r ⟨l.val, by omega⟩)) := by
  pointwise []

section Tail

variable (arg9 : Memref sig .tc .vmem S35x5x32x128 .bf16)
  (arg10 : Memref sig .tc .vmem S35x5x32x128 .bf16)
  (arg11 : Memref sig .tc .vmem S35x5x32x128 .fp8e4m3)
  (arg13 : Memref sig .tc .vmem S5x32x128 .f32)
  (X9 : BufTy.Contents (Elt Ideal) arg9.view.ty) (X10 : BufTy.Contents (Elt Ideal) arg10.view.ty)
  (X11 : BufTy.Contents (Elt Ideal) arg11.view.ty) (X13 : BufTy.Contents (Elt Ideal) arg13.view.ty)

/-- The pieces of the last column of the codes, last written first. -/
def codesTail : List (View.Piece (Elt Ideal) S320x8960 .fp8e4m3) := [
    ⟨Rect.unit (s := S320x8960) ![288, 8832] S32x128.size inb_S320x8960_S32x128_288_8832, code3 (ldV arg9 X9 ![34, 4, 0, 0] inb_S35x5x32x128_S1x1x32x128_34_4_0_0) (ldV arg10 X10 ![34, 4, 0, 0] inb_S35x5x32x128_S1x1x32x128_34_4_0_0) (ldP arg11 X11 ![34, 4, 0, 0] inb_S35x5x32x128_S1x1x32x128_34_4_0_0) (ldI arg13 X13 ![4, 0, 0] inb_S5x32x128_S1x32x128_4_0_0)⟩,
    ⟨Rect.unit (s := S320x8960) ![288, 8704] S32x128.size inb_S320x8960_S32x128_288_8704, code2 (ldV arg9 X9 ![34, 4, 0, 0] inb_S35x5x32x128_S1x1x32x128_34_4_0_0) (ldV arg10 X10 ![34, 4, 0, 0] inb_S35x5x32x128_S1x1x32x128_34_4_0_0) (ldP arg11 X11 ![34, 4, 0, 0] inb_S35x5x32x128_S1x1x32x128_34_4_0_0) (ldI arg13 X13 ![4, 0, 0] inb_S5x32x128_S1x32x128_4_0_0)⟩,
    ⟨Rect.unit (s := S320x8960) ![256, 8832] S32x128.size inb_S320x8960_S32x128_256_8832, code1 (ldV arg9 X9 ![34, 4, 0, 0] inb_S35x5x32x128_S1x1x32x128_34_4_0_0) (ldV arg10 X10 ![34, 4, 0, 0] inb_S35x5x32x128_S1x1x32x128_34_4_0_0) (ldP arg11 X11 ![34, 4, 0, 0] inb_S35x5x32x128_S1x1x32x128_34_4_0_0) (ldI arg13 X13 ![4, 0, 0] inb_S5x32x128_S1x32x128_4_0_0)⟩,
    ⟨Rect.unit (s := S320x8960) ![256, 8704] S32x128.size inb_S320x8960_S32x128_256_8704, code0 (ldV arg9 X9 ![34, 4, 0, 0] inb_S35x5x32x128_S1x1x32x128_34_4_0_0) (ldV arg10 X10 ![34, 4, 0, 0] inb_S35x5x32x128_S1x1x32x128_34_4_0_0) (ldP arg11 X11 ![34, 4, 0, 0] inb_S35x5x32x128_S1x1x32x128_34_4_0_0) (ldI arg13 X13 ![4, 0, 0] inb_S5x32x128_S1x32x128_4_0_0)⟩,
    ⟨Rect.unit (s := S320x8960) ![224, 8832] S32x128.size inb_S320x8960_S32x128_224_8832, code3 (ldV arg9 X9 ![34, 3, 0, 0] inb_S35x5x32x128_S1x1x32x128_34_3_0_0) (ldV arg10 X10 ![34, 3, 0, 0] inb_S35x5x32x128_S1x1x32x128_34_3_0_0) (ldP arg11 X11 ![34, 3, 0, 0] inb_S35x5x32x128_S1x1x32x128_34_3_0_0) (ldI arg13 X13 ![3, 0, 0] inb_S5x32x128_S1x32x128_3_0_0)⟩,
    ⟨Rect.unit (s := S320x8960) ![224, 8704] S32x128.size inb_S320x8960_S32x128_224_8704, code2 (ldV arg9 X9 ![34, 3, 0, 0] inb_S35x5x32x128_S1x1x32x128_34_3_0_0) (ldV arg10 X10 ![34, 3, 0, 0] inb_S35x5x32x128_S1x1x32x128_34_3_0_0) (ldP arg11 X11 ![34, 3, 0, 0] inb_S35x5x32x128_S1x1x32x128_34_3_0_0) (ldI arg13 X13 ![3, 0, 0] inb_S5x32x128_S1x32x128_3_0_0)⟩,
    ⟨Rect.unit (s := S320x8960) ![192, 8832] S32x128.size inb_S320x8960_S32x128_192_8832, code1 (ldV arg9 X9 ![34, 3, 0, 0] inb_S35x5x32x128_S1x1x32x128_34_3_0_0) (ldV arg10 X10 ![34, 3, 0, 0] inb_S35x5x32x128_S1x1x32x128_34_3_0_0) (ldP arg11 X11 ![34, 3, 0, 0] inb_S35x5x32x128_S1x1x32x128_34_3_0_0) (ldI arg13 X13 ![3, 0, 0] inb_S5x32x128_S1x32x128_3_0_0)⟩,
    ⟨Rect.unit (s := S320x8960) ![192, 8704] S32x128.size inb_S320x8960_S32x128_192_8704, code0 (ldV arg9 X9 ![34, 3, 0, 0] inb_S35x5x32x128_S1x1x32x128_34_3_0_0) (ldV arg10 X10 ![34, 3, 0, 0] inb_S35x5x32x128_S1x1x32x128_34_3_0_0) (ldP arg11 X11 ![34, 3, 0, 0] inb_S35x5x32x128_S1x1x32x128_34_3_0_0) (ldI arg13 X13 ![3, 0, 0] inb_S5x32x128_S1x32x128_3_0_0)⟩,
    ⟨Rect.unit (s := S320x8960) ![160, 8832] S32x128.size inb_S320x8960_S32x128_160_8832, code3 (ldV arg9 X9 ![34, 2, 0, 0] inb_S35x5x32x128_S1x1x32x128_34_2_0_0) (ldV arg10 X10 ![34, 2, 0, 0] inb_S35x5x32x128_S1x1x32x128_34_2_0_0) (ldP arg11 X11 ![34, 2, 0, 0] inb_S35x5x32x128_S1x1x32x128_34_2_0_0) (ldI arg13 X13 ![2, 0, 0] inb_S5x32x128_S1x32x128_2_0_0)⟩,
    ⟨Rect.unit (s := S320x8960) ![160, 8704] S32x128.size inb_S320x8960_S32x128_160_8704, code2 (ldV arg9 X9 ![34, 2, 0, 0] inb_S35x5x32x128_S1x1x32x128_34_2_0_0) (ldV arg10 X10 ![34, 2, 0, 0] inb_S35x5x32x128_S1x1x32x128_34_2_0_0) (ldP arg11 X11 ![34, 2, 0, 0] inb_S35x5x32x128_S1x1x32x128_34_2_0_0) (ldI arg13 X13 ![2, 0, 0] inb_S5x32x128_S1x32x128_2_0_0)⟩,
    ⟨Rect.unit (s := S320x8960) ![128, 8832] S32x128.size inb_S320x8960_S32x128_128_8832, code1 (ldV arg9 X9 ![34, 2, 0, 0] inb_S35x5x32x128_S1x1x32x128_34_2_0_0) (ldV arg10 X10 ![34, 2, 0, 0] inb_S35x5x32x128_S1x1x32x128_34_2_0_0) (ldP arg11 X11 ![34, 2, 0, 0] inb_S35x5x32x128_S1x1x32x128_34_2_0_0) (ldI arg13 X13 ![2, 0, 0] inb_S5x32x128_S1x32x128_2_0_0)⟩,
    ⟨Rect.unit (s := S320x8960) ![128, 8704] S32x128.size inb_S320x8960_S32x128_128_8704, code0 (ldV arg9 X9 ![34, 2, 0, 0] inb_S35x5x32x128_S1x1x32x128_34_2_0_0) (ldV arg10 X10 ![34, 2, 0, 0] inb_S35x5x32x128_S1x1x32x128_34_2_0_0) (ldP arg11 X11 ![34, 2, 0, 0] inb_S35x5x32x128_S1x1x32x128_34_2_0_0) (ldI arg13 X13 ![2, 0, 0] inb_S5x32x128_S1x32x128_2_0_0)⟩,
    ⟨Rect.unit (s := S320x8960) ![96, 8832] S32x128.size inb_S320x8960_S32x128_96_8832, code3 (ldV arg9 X9 ![34, 1, 0, 0] inb_S35x5x32x128_S1x1x32x128_34_1_0_0) (ldV arg10 X10 ![34, 1, 0, 0] inb_S35x5x32x128_S1x1x32x128_34_1_0_0) (ldP arg11 X11 ![34, 1, 0, 0] inb_S35x5x32x128_S1x1x32x128_34_1_0_0) (ldI arg13 X13 ![1, 0, 0] inb_S5x32x128_S1x32x128_1_0_0)⟩,
    ⟨Rect.unit (s := S320x8960) ![96, 8704] S32x128.size inb_S320x8960_S32x128_96_8704, code2 (ldV arg9 X9 ![34, 1, 0, 0] inb_S35x5x32x128_S1x1x32x128_34_1_0_0) (ldV arg10 X10 ![34, 1, 0, 0] inb_S35x5x32x128_S1x1x32x128_34_1_0_0) (ldP arg11 X11 ![34, 1, 0, 0] inb_S35x5x32x128_S1x1x32x128_34_1_0_0) (ldI arg13 X13 ![1, 0, 0] inb_S5x32x128_S1x32x128_1_0_0)⟩,
    ⟨Rect.unit (s := S320x8960) ![64, 8832] S32x128.size inb_S320x8960_S32x128_64_8832, code1 (ldV arg9 X9 ![34, 1, 0, 0] inb_S35x5x32x128_S1x1x32x128_34_1_0_0) (ldV arg10 X10 ![34, 1, 0, 0] inb_S35x5x32x128_S1x1x32x128_34_1_0_0) (ldP arg11 X11 ![34, 1, 0, 0] inb_S35x5x32x128_S1x1x32x128_34_1_0_0) (ldI arg13 X13 ![1, 0, 0] inb_S5x32x128_S1x32x128_1_0_0)⟩,
    ⟨Rect.unit (s := S320x8960) ![64, 8704] S32x128.size inb_S320x8960_S32x128_64_8704, code0 (ldV arg9 X9 ![34, 1, 0, 0] inb_S35x5x32x128_S1x1x32x128_34_1_0_0) (ldV arg10 X10 ![34, 1, 0, 0] inb_S35x5x32x128_S1x1x32x128_34_1_0_0) (ldP arg11 X11 ![34, 1, 0, 0] inb_S35x5x32x128_S1x1x32x128_34_1_0_0) (ldI arg13 X13 ![1, 0, 0] inb_S5x32x128_S1x32x128_1_0_0)⟩,
    ⟨Rect.unit (s := S320x8960) ![32, 8832] S32x128.size inb_S320x8960_S32x128_32_8832, code3 (ldV arg9 X9 ![34, 0, 0, 0] inb_S35x5x32x128_S1x1x32x128_34_0_0_0) (ldV arg10 X10 ![34, 0, 0, 0] inb_S35x5x32x128_S1x1x32x128_34_0_0_0) (ldP arg11 X11 ![34, 0, 0, 0] inb_S35x5x32x128_S1x1x32x128_34_0_0_0) (ldI arg13 X13 ![0, 0, 0] inb_S5x32x128_S1x32x128_0_0_0)⟩,
    ⟨Rect.unit (s := S320x8960) ![32, 8704] S32x128.size inb_S320x8960_S32x128_32_8704, code2 (ldV arg9 X9 ![34, 0, 0, 0] inb_S35x5x32x128_S1x1x32x128_34_0_0_0) (ldV arg10 X10 ![34, 0, 0, 0] inb_S35x5x32x128_S1x1x32x128_34_0_0_0) (ldP arg11 X11 ![34, 0, 0, 0] inb_S35x5x32x128_S1x1x32x128_34_0_0_0) (ldI arg13 X13 ![0, 0, 0] inb_S5x32x128_S1x32x128_0_0_0)⟩,
    ⟨Rect.unit (s := S320x8960) ![0, 8832] S32x128.size inb_S320x8960_S32x128_0_8832, code1 (ldV arg9 X9 ![34, 0, 0, 0] inb_S35x5x32x128_S1x1x32x128_34_0_0_0) (ldV arg10 X10 ![34, 0, 0, 0] inb_S35x5x32x128_S1x1x32x128_34_0_0_0) (ldP arg11 X11 ![34, 0, 0, 0] inb_S35x5x32x128_S1x1x32x128_34_0_0_0) (ldI arg13 X13 ![0, 0, 0] inb_S5x32x128_S1x32x128_0_0_0)⟩,
    ⟨Rect.unit (s := S320x8960) ![0, 8704] S32x128.size inb_S320x8960_S32x128_0_8704, code0 (ldV arg9 X9 ![34, 0, 0, 0] inb_S35x5x32x128_S1x1x32x128_34_0_0_0) (ldV arg10 X10 ![34, 0, 0, 0] inb_S35x5x32x128_S1x1x32x128_34_0_0_0) (ldP arg11 X11 ![34, 0, 0, 0] inb_S35x5x32x128_S1x1x32x128_34_0_0_0) (ldI arg13 X13 ![0, 0, 0] inb_S5x32x128_S1x32x128_0_0_0)⟩]

/-- The pieces of the last column of the kept values, last written first. -/
def valsTail : List (View.Piece (Elt Ideal) S320x4480 .fp8e4m3) := [
    ⟨Rect.unit (s := S320x4480) ![288, 4352] S32x128.size inb_S320x4480_S32x128_288_4352, vals1 (ldV arg9 X9 ![34, 4, 0, 0] inb_S35x5x32x128_S1x1x32x128_34_4_0_0) (ldV arg10 X10 ![34, 4, 0, 0] inb_S35x5x32x128_S1x1x32x128_34_4_0_0) (ldP arg11 X11 ![34, 4, 0, 0] inb_S35x5x32x128_S1x1x32x128_34_4_0_0) (ldI arg13 X13 ![4, 0, 0] inb_S5x32x128_S1x32x128_4_0_0)⟩,
    ⟨Rect.unit (s := S320x4480) ![256, 4352] S32x128.size inb_S320x4480_S32x128_256_4352, vals0 (ldV arg9 X9 ![34, 4, 0, 0] inb_S35x5x32x128_S1x1x32x128_34_4_0_0) (ldV arg10 X10 ![34, 4, 0, 0] inb_S35x5x32x128_S1x1x32x128_34_4_0_0) (ldP arg11 X11 ![34, 4, 0, 0] inb_S35x5x32x128_S1x1x32x128_34_4_0_0) (ldI arg13 X13 ![4, 0, 0] inb_S5x32x128_S1x32x128_4_0_0)⟩,
    ⟨Rect.unit (s := S320x4480) ![224, 4352] S32x128.size inb_S320x4480_S32x128_224_4352, vals1 (ldV arg9 X9 ![34, 3, 0, 0] inb_S35x5x32x128_S1x1x32x128_34_3_0_0) (ldV arg10 X10 ![34, 3, 0, 0] inb_S35x5x32x128_S1x1x32x128_34_3_0_0) (ldP arg11 X11 ![34, 3, 0, 0] inb_S35x5x32x128_S1x1x32x128_34_3_0_0) (ldI arg13 X13 ![3, 0, 0] inb_S5x32x128_S1x32x128_3_0_0)⟩,
    ⟨Rect.unit (s := S320x4480) ![192, 4352] S32x128.size inb_S320x4480_S32x128_192_4352, vals0 (ldV arg9 X9 ![34, 3, 0, 0] inb_S35x5x32x128_S1x1x32x128_34_3_0_0) (ldV arg10 X10 ![34, 3, 0, 0] inb_S35x5x32x128_S1x1x32x128_34_3_0_0) (ldP arg11 X11 ![34, 3, 0, 0] inb_S35x5x32x128_S1x1x32x128_34_3_0_0) (ldI arg13 X13 ![3, 0, 0] inb_S5x32x128_S1x32x128_3_0_0)⟩,
    ⟨Rect.unit (s := S320x4480) ![160, 4352] S32x128.size inb_S320x4480_S32x128_160_4352, vals1 (ldV arg9 X9 ![34, 2, 0, 0] inb_S35x5x32x128_S1x1x32x128_34_2_0_0) (ldV arg10 X10 ![34, 2, 0, 0] inb_S35x5x32x128_S1x1x32x128_34_2_0_0) (ldP arg11 X11 ![34, 2, 0, 0] inb_S35x5x32x128_S1x1x32x128_34_2_0_0) (ldI arg13 X13 ![2, 0, 0] inb_S5x32x128_S1x32x128_2_0_0)⟩,
    ⟨Rect.unit (s := S320x4480) ![128, 4352] S32x128.size inb_S320x4480_S32x128_128_4352, vals0 (ldV arg9 X9 ![34, 2, 0, 0] inb_S35x5x32x128_S1x1x32x128_34_2_0_0) (ldV arg10 X10 ![34, 2, 0, 0] inb_S35x5x32x128_S1x1x32x128_34_2_0_0) (ldP arg11 X11 ![34, 2, 0, 0] inb_S35x5x32x128_S1x1x32x128_34_2_0_0) (ldI arg13 X13 ![2, 0, 0] inb_S5x32x128_S1x32x128_2_0_0)⟩,
    ⟨Rect.unit (s := S320x4480) ![96, 4352] S32x128.size inb_S320x4480_S32x128_96_4352, vals1 (ldV arg9 X9 ![34, 1, 0, 0] inb_S35x5x32x128_S1x1x32x128_34_1_0_0) (ldV arg10 X10 ![34, 1, 0, 0] inb_S35x5x32x128_S1x1x32x128_34_1_0_0) (ldP arg11 X11 ![34, 1, 0, 0] inb_S35x5x32x128_S1x1x32x128_34_1_0_0) (ldI arg13 X13 ![1, 0, 0] inb_S5x32x128_S1x32x128_1_0_0)⟩,
    ⟨Rect.unit (s := S320x4480) ![64, 4352] S32x128.size inb_S320x4480_S32x128_64_4352, vals0 (ldV arg9 X9 ![34, 1, 0, 0] inb_S35x5x32x128_S1x1x32x128_34_1_0_0) (ldV arg10 X10 ![34, 1, 0, 0] inb_S35x5x32x128_S1x1x32x128_34_1_0_0) (ldP arg11 X11 ![34, 1, 0, 0] inb_S35x5x32x128_S1x1x32x128_34_1_0_0) (ldI arg13 X13 ![1, 0, 0] inb_S5x32x128_S1x32x128_1_0_0)⟩,
    ⟨Rect.unit (s := S320x4480) ![32, 4352] S32x128.size inb_S320x4480_S32x128_32_4352, vals1 (ldV arg9 X9 ![34, 0, 0, 0] inb_S35x5x32x128_S1x1x32x128_34_0_0_0) (ldV arg10 X10 ![34, 0, 0, 0] inb_S35x5x32x128_S1x1x32x128_34_0_0_0) (ldP arg11 X11 ![34, 0, 0, 0] inb_S35x5x32x128_S1x1x32x128_34_0_0_0) (ldI arg13 X13 ![0, 0, 0] inb_S5x32x128_S1x32x128_0_0_0)⟩,
    ⟨Rect.unit (s := S320x4480) ![0, 4352] S32x128.size inb_S320x4480_S32x128_0_4352, vals0 (ldV arg9 X9 ![34, 0, 0, 0] inb_S35x5x32x128_S1x1x32x128_34_0_0_0) (ldV arg10 X10 ![34, 0, 0, 0] inb_S35x5x32x128_S1x1x32x128_34_0_0_0) (ldP arg11 X11 ![34, 0, 0, 0] inb_S35x5x32x128_S1x1x32x128_34_0_0_0) (ldI arg13 X13 ![0, 0, 0] inb_S5x32x128_S1x32x128_0_0_0)⟩]

/-- The pieces of the last column of the positions, last written first. -/
def metaTail : List (View.Piece (Elt Ideal) S320x2240 .i8) := [
    ⟨Rect.unit (s := S320x2240) ![288, 2176] S32x64.size inb_S320x2240_S32x64_288_2176, metaO (ldP arg11 X11 ![34, 4, 0, 0] inb_S35x5x32x128_S1x1x32x128_34_4_0_0)⟩,
    ⟨Rect.unit (s := S320x2240) ![256, 2176] S32x64.size inb_S320x2240_S32x64_256_2176, metaE (ldP arg11 X11 ![34, 4, 0, 0] inb_S35x5x32x128_S1x1x32x128_34_4_0_0)⟩,
    ⟨Rect.unit (s := S320x2240) ![224, 2176] S32x64.size inb_S320x2240_S32x64_224_2176, metaO (ldP arg11 X11 ![34, 3, 0, 0] inb_S35x5x32x128_S1x1x32x128_34_3_0_0)⟩,
    ⟨Rect.unit (s := S320x2240) ![192, 2176] S32x64.size inb_S320x2240_S32x64_192_2176, metaE (ldP arg11 X11 ![34, 3, 0, 0] inb_S35x5x32x128_S1x1x32x128_34_3_0_0)⟩,
    ⟨Rect.unit (s := S320x2240) ![160, 2176] S32x64.size inb_S320x2240_S32x64_160_2176, metaO (ldP arg11 X11 ![34, 2, 0, 0] inb_S35x5x32x128_S1x1x32x128_34_2_0_0)⟩,
    ⟨Rect.unit (s := S320x2240) ![128, 2176] S32x64.size inb_S320x2240_S32x64_128_2176, metaE (ldP arg11 X11 ![34, 2, 0, 0] inb_S35x5x32x128_S1x1x32x128_34_2_0_0)⟩,
    ⟨Rect.unit (s := S320x2240) ![96, 2176] S32x64.size inb_S320x2240_S32x64_96_2176, metaO (ldP arg11 X11 ![34, 1, 0, 0] inb_S35x5x32x128_S1x1x32x128_34_1_0_0)⟩,
    ⟨Rect.unit (s := S320x2240) ![64, 2176] S32x64.size inb_S320x2240_S32x64_64_2176, metaE (ldP arg11 X11 ![34, 1, 0, 0] inb_S35x5x32x128_S1x1x32x128_34_1_0_0)⟩,
    ⟨Rect.unit (s := S320x2240) ![32, 2176] S32x64.size inb_S320x2240_S32x64_32_2176, metaO (ldP arg11 X11 ![34, 0, 0, 0] inb_S35x5x32x128_S1x1x32x128_34_0_0_0)⟩,
    ⟨Rect.unit (s := S320x2240) ![0, 2176] S32x64.size inb_S320x2240_S32x64_0_2176, metaE (ldP arg11 X11 ![34, 0, 0, 0] inb_S35x5x32x128_S1x1x32x128_34_0_0_0)⟩]

variable {v0 v1 pt : Fin 320 → Fin 2240 → EReal} {iv : Fin 320 → EReal} {X9 X10 X11 X13} {arg9 arg10 arg11 arg13}
variable (H : Holds v0 v1 pt iv arg9 arg10 arg11 arg13 X9 X10 X11 X13)
include H

theorem metaE_fits (rp : Fin 5) (oL : Fin 4 → Nat) (hL) (eL : oL = ![34, rp.val, 0, 0])
    (oS : Fin 2 → Nat) (hS) (eS : oS = ![64 * rp.val + 0, 2176]) : ∀ x : S32x64.Idx,
    metaE (ldP arg11 X11 oL hL) x = META pt ((Rect.unit (s := S320x2240) oS S32x64.size hS).emb x) := by
  intro x
  obtain ⟨r, l, rfl⟩ : ∃ (r : Fin 32) (l : Fin 64), x = ix2 r l := ⟨x 0, x 1, eq_ix2 x⟩
  rw [emb_unit2 oS hS eS r l ⟨64 * rp.val + 0 + r.val, by omega⟩ ⟨2176 + l.val, by omega⟩ rfl rfl]
  rw [metaE, slice64, metaT_apply, ldP_apply arg11 X11 34 rp oL hL eL, H.pt]
  show _ = BitVec.setWidth 8 (posOf (pt ⟨64 * rp.val + 0 + r.val, _⟩ ⟨2176 + l.val, _⟩))
  have eR : rowOf rp r (laneM ⟨l.val, by omega⟩) = ⟨64 * rp.val + 0 + r.val, by omega⟩ := by
    apply Fin.ext; have h1 := laneM_facts ⟨l.val, by omega⟩; have h2 := laneM_facts ⟨(l.val + 64) % 128, Nat.mod_lt _ (by decide)⟩; have h3 := halves ⟨l.val, by omega⟩; simp only [rowOf]; simp only at h1 h2 h3; rw [h3.1, h3.2.1, h3.2.2] at h2; omega
  have eG : grpOf 34 (laneM ⟨l.val, by omega⟩) = ⟨2176 + l.val, by omega⟩ := by
    apply Fin.ext; have h1 := laneM_facts ⟨l.val, by omega⟩; have h2 := laneM_facts ⟨(l.val + 64) % 128, Nat.mod_lt _ (by decide)⟩; have h3 := halves ⟨l.val, by omega⟩; simp only [grpOf]; simp only at h1 h2 h3; rw [h3.1, h3.2.1, h3.2.2] at h2; show 64 * 34 + _ + _ = _; omega
  rw [eR, eG]

theorem metaO_fits (rp : Fin 5) (oL : Fin 4 → Nat) (hL) (eL : oL = ![34, rp.val, 0, 0])
    (oS : Fin 2 → Nat) (hS) (eS : oS = ![64 * rp.val + 32, 2176]) : ∀ x : S32x64.Idx,
    metaO (ldP arg11 X11 oL hL) x = META pt ((Rect.unit (s := S320x2240) oS S32x64.size hS).emb x) := by
  intro x
  obtain ⟨r, l, rfl⟩ : ∃ (r : Fin 32) (l : Fin 64), x = ix2 r l := ⟨x 0, x 1, eq_ix2 x⟩
  rw [emb_unit2 oS hS eS r l ⟨64 * rp.val + 32 + r.val, by omega⟩ ⟨2176 + l.val, by omega⟩ rfl rfl]
  rw [metaO, slice64, rotM_apply, metaT_apply, ldP_apply arg11 X11 34 rp oL hL eL, H.pt]
  show _ = BitVec.setWidth 8 (posOf (pt ⟨64 * rp.val + 32 + r.val, _⟩ ⟨2176 + l.val, _⟩))
  have eR : rowOf rp r (laneM ⟨(l.val + 64) % 128, Nat.mod_lt _ (by decide)⟩) = ⟨64 * rp.val + 32 + r.val, by omega⟩ := by
    apply Fin.ext; have h1 := laneM_facts ⟨l.val, by omega⟩; have h2 := laneM_facts ⟨(l.val + 64) % 128, Nat.mod_lt _ (by decide)⟩; have h3 := halves ⟨l.val, by omega⟩; simp only [rowOf]; simp only at h1 h2 h3; rw [h3.1, h3.2.1, h3.2.2] at h2; omega
  have eG : grpOf 34 (laneM ⟨(l.val + 64) % 128, Nat.mod_lt _ (by decide)⟩) = ⟨2176 + l.val, by omega⟩ := by
    apply Fin.ext; have h1 := laneM_facts ⟨l.val, by omega⟩; have h2 := laneM_facts ⟨(l.val + 64) % 128, Nat.mod_lt _ (by decide)⟩; have h3 := halves ⟨l.val, by omega⟩; simp only [grpOf]; simp only at h1 h2 h3; rw [h3.1, h3.2.1, h3.2.2] at h2; show 64 * 34 + _ + _ = _; omega
  rw [eR, eG]

theorem codesTail_fits : Fits (s := S320x8960) (e := .fp8e4m3) (CODE v0 v1 pt iv) (codesTail arg9 arg10 arg11 arg13 X9 X10 X11 X13) :=
  fits_cons (code3_fits H 34 4 _ inb_S35x5x32x128_S1x1x32x128_34_4_0_0 rfl _ inb_S5x32x128_S1x32x128_4_0_0 rfl _ inb_S320x8960_S32x128_288_8832 rfl) <|
  fits_cons (code2_fits H 34 4 _ inb_S35x5x32x128_S1x1x32x128_34_4_0_0 rfl _ inb_S5x32x128_S1x32x128_4_0_0 rfl _ inb_S320x8960_S32x128_288_8704 rfl) <|
  fits_cons (code1_fits H 34 4 _ inb_S35x5x32x128_S1x1x32x128_34_4_0_0 rfl _ inb_S5x32x128_S1x32x128_4_0_0 rfl _ inb_S320x8960_S32x128_256_8832 rfl) <|
  fits_cons (code0_fits H 34 4 _ inb_S35x5x32x128_S1x1x32x128_34_4_0_0 rfl _ inb_S5x32x128_S1x32x128_4_0_0 rfl _ inb_S320x8960_S32x128_256_8704 rfl) <|
  fits_cons (code3_fits H 34 3 _ inb_S35x5x32x128_S1x1x32x128_34_3_0_0 rfl _ inb_S5x32x128_S1x32x128_3_0_0 rfl _ inb_S320x8960_S32x128_224_8832 rfl) <|
  fits_cons (code2_fits H 34 3 _ inb_S35x5x32x128_S1x1x32x128_34_3_0_0 rfl _ inb_S5x32x128_S1x32x128_3_0_0 rfl _ inb_S320x8960_S32x128_224_8704 rfl) <|
  fits_cons (code1_fits H 34 3 _ inb_S35x5x32x128_S1x1x32x128_34_3_0_0 rfl _ inb_S5x32x128_S1x32x128_3_0_0 rfl _ inb_S320x8960_S32x128_192_8832 rfl) <|
  fits_cons (code0_fits H 34 3 _ inb_S35x5x32x128_S1x1x32x128_34_3_0_0 rfl _ inb_S5x32x128_S1x32x128_3_0_0 rfl _ inb_S320x8960_S32x128_192_8704 rfl) <|
  fits_cons (code3_fits H 34 2 _ inb_S35x5x32x128_S1x1x32x128_34_2_0_0 rfl _ inb_S5x32x128_S1x32x128_2_0_0 rfl _ inb_S320x8960_S32x128_160_8832 rfl) <|
  fits_cons (code2_fits H 34 2 _ inb_S35x5x32x128_S1x1x32x128_34_2_0_0 rfl _ inb_S5x32x128_S1x32x128_2_0_0 rfl _ inb_S320x8960_S32x128_160_8704 rfl) <|
  fits_cons (code1_fits H 34 2 _ inb_S35x5x32x128_S1x1x32x128_34_2_0_0 rfl _ inb_S5x32x128_S1x32x128_2_0_0 rfl _ inb_S320x8960_S32x128_128_8832 rfl) <|
  fits_cons (code0_fits H 34 2 _ inb_S35x5x32x128_S1x1x32x128_34_2_0_0 rfl _ inb_S5x32x128_S1x32x128_2_0_0 rfl _ inb_S320x8960_S32x128_128_8704 rfl) <|
  fits_cons (code3_fits H 34 1 _ inb_S35x5x32x128_S1x1x32x128_34_1_0_0 rfl _ inb_S5x32x128_S1x32x128_1_0_0 rfl _ inb_S320x8960_S32x128_96_8832 rfl) <|
  fits_cons (code2_fits H 34 1 _ inb_S35x5x32x128_S1x1x32x128_34_1_0_0 rfl _ inb_S5x32x128_S1x32x128_1_0_0 rfl _ inb_S320x8960_S32x128_96_8704 rfl) <|
  fits_cons (code1_fits H 34 1 _ inb_S35x5x32x128_S1x1x32x128_34_1_0_0 rfl _ inb_S5x32x128_S1x32x128_1_0_0 rfl _ inb_S320x8960_S32x128_64_8832 rfl) <|
  fits_cons (code0_fits H 34 1 _ inb_S35x5x32x128_S1x1x32x128_34_1_0_0 rfl _ inb_S5x32x128_S1x32x128_1_0_0 rfl _ inb_S320x8960_S32x128_64_8704 rfl) <|
  fits_cons (code3_fits H 34 0 _ inb_S35x5x32x128_S1x1x32x128_34_0_0_0 rfl _ inb_S5x32x128_S1x32x128_0_0_0 rfl _ inb_S320x8960_S32x128_32_8832 rfl) <|
  fits_cons (code2_fits H 34 0 _ inb_S35x5x32x128_S1x1x32x128_34_0_0_0 rfl _ inb_S5x32x128_S1x32x128_0_0_0 rfl _ inb_S320x8960_S32x128_32_8704 rfl) <|
  fits_cons (code1_fits H 34 0 _ inb_S35x5x32x128_S1x1x32x128_34_0_0_0 rfl _ inb_S5x32x128_S1x32x128_0_0_0 rfl _ inb_S320x8960_S32x128_0_8832 rfl) <|
  fits_cons (code0_fits H 34 0 _ inb_S35x5x32x128_S1x1x32x128_34_0_0_0 rfl _ inb_S5x32x128_S1x32x128_0_0_0 rfl _ inb_S320x8960_S32x128_0_8704 rfl) <|
  fits_nil _

theorem valsTail_fits : Fits (s := S320x4480) (e := .fp8e4m3) (VALS v0 v1 iv) (valsTail arg9 arg10 arg11 arg13 X9 X10 X11 X13) :=
  fits_cons (vals1_fits H 34 4 _ inb_S35x5x32x128_S1x1x32x128_34_4_0_0 rfl _ inb_S5x32x128_S1x32x128_4_0_0 rfl _ inb_S320x4480_S32x128_288_4352 rfl) <|
  fits_cons (vals0_fits H 34 4 _ inb_S35x5x32x128_S1x1x32x128_34_4_0_0 rfl _ inb_S5x32x128_S1x32x128_4_0_0 rfl _ inb_S320x4480_S32x128_256_4352 rfl) <|
  fits_cons (vals1_fits H 34 3 _ inb_S35x5x32x128_S1x1x32x128_34_3_0_0 rfl _ inb_S5x32x128_S1x32x128_3_0_0 rfl _ inb_S320x4480_S32x128_224_4352 rfl) <|
  fits_cons (vals0_fits H 34 3 _ inb_S35x5x32x128_S1x1x32x128_34_3_0_0 rfl _ inb_S5x32x128_S1x32x128_3_0_0 rfl _ inb_S320x4480_S32x128_192_4352 rfl) <|
  fits_cons (vals1_fits H 34 2 _ inb_S35x5x32x128_S1x1x32x128_34_2_0_0 rfl _ inb_S5x32x128_S1x32x128_2_0_0 rfl _ inb_S320x4480_S32x128_160_4352 rfl) <|
  fits_cons (vals0_fits H 34 2 _ inb_S35x5x32x128_S1x1x32x128_34_2_0_0 rfl _ inb_S5x32x128_S1x32x128_2_0_0 rfl _ inb_S320x4480_S32x128_128_4352 rfl) <|
  fits_cons (vals1_fits H 34 1 _ inb_S35x5x32x128_S1x1x32x128_34_1_0_0 rfl _ inb_S5x32x128_S1x32x128_1_0_0 rfl _ inb_S320x4480_S32x128_96_4352 rfl) <|
  fits_cons (vals0_fits H 34 1 _ inb_S35x5x32x128_S1x1x32x128_34_1_0_0 rfl _ inb_S5x32x128_S1x32x128_1_0_0 rfl _ inb_S320x4480_S32x128_64_4352 rfl) <|
  fits_cons (vals1_fits H 34 0 _ inb_S35x5x32x128_S1x1x32x128_34_0_0_0 rfl _ inb_S5x32x128_S1x32x128_0_0_0 rfl _ inb_S320x4480_S32x128_32_4352 rfl) <|
  fits_cons (vals0_fits H 34 0 _ inb_S35x5x32x128_S1x1x32x128_34_0_0_0 rfl _ inb_S5x32x128_S1x32x128_0_0_0 rfl _ inb_S320x4480_S32x128_0_4352 rfl) <|
  fits_nil _

theorem metaTail_fits : Fits (s := S320x2240) (e := .i8) (META pt) (metaTail arg11 X11) :=
  fits_cons (metaO_fits H 4 _ inb_S35x5x32x128_S1x1x32x128_34_4_0_0 rfl _ inb_S320x2240_S32x64_288_2176 rfl) <|
  fits_cons (metaE_fits H 4 _ inb_S35x5x32x128_S1x1x32x128_34_4_0_0 rfl _ inb_S320x2240_S32x64_256_2176 rfl) <|
  fits_cons (metaO_fits H 3 _ inb_S35x5x32x128_S1x1x32x128_34_3_0_0 rfl _ inb_S320x2240_S32x64_224_2176 rfl) <|
  fits_cons (metaE_fits H 3 _ inb_S35x5x32x128_S1x1x32x128_34_3_0_0 rfl _ inb_S320x2240_S32x64_192_2176 rfl) <|
  fits_cons (metaO_fits H 2 _ inb_S35x5x32x128_S1x1x32x128_34_2_0_0 rfl _ inb_S320x2240_S32x64_160_2176 rfl) <|
  fits_cons (metaE_fits H 2 _ inb_S35x5x32x128_S1x1x32x128_34_2_0_0 rfl _ inb_S320x2240_S32x64_128_2176 rfl) <|
  fits_cons (metaO_fits H 1 _ inb_S35x5x32x128_S1x1x32x128_34_1_0_0 rfl _ inb_S320x2240_S32x64_96_2176 rfl) <|
  fits_cons (metaE_fits H 1 _ inb_S35x5x32x128_S1x1x32x128_34_1_0_0 rfl _ inb_S320x2240_S32x64_64_2176 rfl) <|
  fits_cons (metaO_fits H 0 _ inb_S35x5x32x128_S1x1x32x128_34_0_0_0 rfl _ inb_S320x2240_S32x64_32_2176 rfl) <|
  fits_cons (metaE_fits H 0 _ inb_S35x5x32x128_S1x1x32x128_34_0_0_0 rfl _ inb_S320x2240_S32x64_0_2176 rfl) <|
  fits_nil _

omit H

theorem codesTail_meets (R : Fin 320) (C : Fin 8960) (h0 : 8704 ≤ C.val) :
    Meets (s := S320x8960) (e := .fp8e4m3) (codesTail arg9 arg10 arg11 arg13 X9 X10 X11 X13) (ix2 R C) := by
  have hR := R.isLt
  have hC := C.isLt
  have hr : (0 ≤ R.val ∧ R.val < 32) ∨ (32 ≤ R.val ∧ R.val < 64) ∨ (64 ≤ R.val ∧ R.val < 96) ∨ (96 ≤ R.val ∧ R.val < 128) ∨ (128 ≤ R.val ∧ R.val < 160) ∨ (160 ≤ R.val ∧ R.val < 192) ∨ (192 ≤ R.val ∧ R.val < 224) ∨ (224 ≤ R.val ∧ R.val < 256) ∨ (256 ≤ R.val ∧ R.val < 288) ∨ (288 ≤ R.val ∧ R.val < 320) := by omega
  have hc : (8704 ≤ C.val ∧ C.val < 8832) ∨ (8832 ≤ C.val ∧ C.val < 8960) := by omega
  rcases hr with hr | hr | hr | hr | hr | hr | hr | hr | hr | hr
  · rcases hc with hc | hc
    · exact ⟨_, List.mem_of_getElem? (i := 19) rfl, mem_unit2 (size := S32x128.size) _ inb_S320x8960_S32x128_0_8704 rfl R C (by omega) (by show _ < _ + 32; omega) (by omega) (by show _ < _ + 128; omega)⟩
    · exact ⟨_, List.mem_of_getElem? (i := 18) rfl, mem_unit2 (size := S32x128.size) _ inb_S320x8960_S32x128_0_8832 rfl R C (by omega) (by show _ < _ + 32; omega) (by omega) (by show _ < _ + 128; omega)⟩
  · rcases hc with hc | hc
    · exact ⟨_, List.mem_of_getElem? (i := 17) rfl, mem_unit2 (size := S32x128.size) _ inb_S320x8960_S32x128_32_8704 rfl R C (by omega) (by show _ < _ + 32; omega) (by omega) (by show _ < _ + 128; omega)⟩
    · exact ⟨_, List.mem_of_getElem? (i := 16) rfl, mem_unit2 (size := S32x128.size) _ inb_S320x8960_S32x128_32_8832 rfl R C (by omega) (by show _ < _ + 32; omega) (by omega) (by show _ < _ + 128; omega)⟩
  · rcases hc with hc | hc
    · exact ⟨_, List.mem_of_getElem? (i := 15) rfl, mem_unit2 (size := S32x128.size) _ inb_S320x8960_S32x128_64_8704 rfl R C (by omega) (by show _ < _ + 32; omega) (by omega) (by show _ < _ + 128; omega)⟩
    · exact ⟨_, List.mem_of_getElem? (i := 14) rfl, mem_unit2 (size := S32x128.size) _ inb_S320x8960_S32x128_64_8832 rfl R C (by omega) (by show _ < _ + 32; omega) (by omega) (by show _ < _ + 128; omega)⟩
  · rcases hc with hc | hc
    · exact ⟨_, List.mem_of_getElem? (i := 13) rfl, mem_unit2 (size := S32x128.size) _ inb_S320x8960_S32x128_96_8704 rfl R C (by omega) (by show _ < _ + 32; omega) (by omega) (by show _ < _ + 128; omega)⟩
    · exact ⟨_, List.mem_of_getElem? (i := 12) rfl, mem_unit2 (size := S32x128.size) _ inb_S320x8960_S32x128_96_8832 rfl R C (by omega) (by show _ < _ + 32; omega) (by omega) (by show _ < _ + 128; omega)⟩
  · rcases hc with hc | hc
    · exact ⟨_, List.mem_of_getElem? (i := 11) rfl, mem_unit2 (size := S32x128.size) _ inb_S320x8960_S32x128_128_8704 rfl R C (by omega) (by show _ < _ + 32; omega) (by omega) (by show _ < _ + 128; omega)⟩
    · exact ⟨_, List.mem_of_getElem? (i := 10) rfl, mem_unit2 (size := S32x128.size) _ inb_S320x8960_S32x128_128_8832 rfl R C (by omega) (by show _ < _ + 32; omega) (by omega) (by show _ < _ + 128; omega)⟩
  · rcases hc with hc | hc
    · exact ⟨_, List.mem_of_getElem? (i := 9) rfl, mem_unit2 (size := S32x128.size) _ inb_S320x8960_S32x128_160_8704 rfl R C (by omega) (by show _ < _ + 32; omega) (by omega) (by show _ < _ + 128; omega)⟩
    · exact ⟨_, List.mem_of_getElem? (i := 8) rfl, mem_unit2 (size := S32x128.size) _ inb_S320x8960_S32x128_160_8832 rfl R C (by omega) (by show _ < _ + 32; omega) (by omega) (by show _ < _ + 128; omega)⟩
  · rcases hc with hc | hc
    · exact ⟨_, List.mem_of_getElem? (i := 7) rfl, mem_unit2 (size := S32x128.size) _ inb_S320x8960_S32x128_192_8704 rfl R C (by omega) (by show _ < _ + 32; omega) (by omega) (by show _ < _ + 128; omega)⟩
    · exact ⟨_, List.mem_of_getElem? (i := 6) rfl, mem_unit2 (size := S32x128.size) _ inb_S320x8960_S32x128_192_8832 rfl R C (by omega) (by show _ < _ + 32; omega) (by omega) (by show _ < _ + 128; omega)⟩
  · rcases hc with hc | hc
    · exact ⟨_, List.mem_of_getElem? (i := 5) rfl, mem_unit2 (size := S32x128.size) _ inb_S320x8960_S32x128_224_8704 rfl R C (by omega) (by show _ < _ + 32; omega) (by omega) (by show _ < _ + 128; omega)⟩
    · exact ⟨_, List.mem_of_getElem? (i := 4) rfl, mem_unit2 (size := S32x128.size) _ inb_S320x8960_S32x128_224_8832 rfl R C (by omega) (by show _ < _ + 32; omega) (by omega) (by show _ < _ + 128; omega)⟩
  · rcases hc with hc | hc
    · exact ⟨_, List.mem_of_getElem? (i := 3) rfl, mem_unit2 (size := S32x128.size) _ inb_S320x8960_S32x128_256_8704 rfl R C (by omega) (by show _ < _ + 32; omega) (by omega) (by show _ < _ + 128; omega)⟩
    · exact ⟨_, List.mem_of_getElem? (i := 2) rfl, mem_unit2 (size := S32x128.size) _ inb_S320x8960_S32x128_256_8832 rfl R C (by omega) (by show _ < _ + 32; omega) (by omega) (by show _ < _ + 128; omega)⟩
  · rcases hc with hc | hc
    · exact ⟨_, List.mem_of_getElem? (i := 1) rfl, mem_unit2 (size := S32x128.size) _ inb_S320x8960_S32x128_288_8704 rfl R C (by omega) (by show _ < _ + 32; omega) (by omega) (by show _ < _ + 128; omega)⟩
    · exact ⟨_, List.mem_of_getElem? (i := 0) rfl, mem_unit2 (size := S32x128.size) _ inb_S320x8960_S32x128_288_8832 rfl R C (by omega) (by show _ < _ + 32; omega) (by omega) (by show _ < _ + 128; omega)⟩

theorem valsTail_meets (R : Fin 320) (C : Fin 4480) (h0 : 4352 ≤ C.val) :
    Meets (s := S320x4480) (e := .fp8e4m3) (valsTail arg9 arg10 arg11 arg13 X9 X10 X11 X13) (ix2 R C) := by
  have hR := R.isLt
  have hC := C.isLt
  have hr : (0 ≤ R.val ∧ R.val < 32) ∨ (32 ≤ R.val ∧ R.val < 64) ∨ (64 ≤ R.val ∧ R.val < 96) ∨ (96 ≤ R.val ∧ R.val < 128) ∨ (128 ≤ R.val ∧ R.val < 160) ∨ (160 ≤ R.val ∧ R.val < 192) ∨ (192 ≤ R.val ∧ R.val < 224) ∨ (224 ≤ R.val ∧ R.val < 256) ∨ (256 ≤ R.val ∧ R.val < 288) ∨ (288 ≤ R.val ∧ R.val < 320) := by omega
  have hc : (4352 ≤ C.val ∧ C.val < 4480) := by omega
  rcases hr with hr | hr | hr | hr | hr | hr | hr | hr | hr | hr
  · exact ⟨_, List.mem_of_getElem? (i := 9) rfl, mem_unit2 (size := S32x128.size) _ inb_S320x4480_S32x128_0_4352 rfl R C (by omega) (by show _ < _ + 32; omega) (by omega) (by show _ < _ + 128; omega)⟩
  · exact ⟨_, List.mem_of_getElem? (i := 8) rfl, mem_unit2 (size := S32x128.size) _ inb_S320x4480_S32x128_32_4352 rfl R C (by omega) (by show _ < _ + 32; omega) (by omega) (by show _ < _ + 128; omega)⟩
  · exact ⟨_, List.mem_of_getElem? (i := 7) rfl, mem_unit2 (size := S32x128.size) _ inb_S320x4480_S32x128_64_4352 rfl R C (by omega) (by show _ < _ + 32; omega) (by omega) (by show _ < _ + 128; omega)⟩
  · exact ⟨_, List.mem_of_getElem? (i := 6) rfl, mem_unit2 (size := S32x128.size) _ inb_S320x4480_S32x128_96_4352 rfl R C (by omega) (by show _ < _ + 32; omega) (by omega) (by show _ < _ + 128; omega)⟩
  · exact ⟨_, List.mem_of_getElem? (i := 5) rfl, mem_unit2 (size := S32x128.size) _ inb_S320x4480_S32x128_128_4352 rfl R C (by omega) (by show _ < _ + 32; omega) (by omega) (by show _ < _ + 128; omega)⟩
  · exact ⟨_, List.mem_of_getElem? (i := 4) rfl, mem_unit2 (size := S32x128.size) _ inb_S320x4480_S32x128_160_4352 rfl R C (by omega) (by show _ < _ + 32; omega) (by omega) (by show _ < _ + 128; omega)⟩
  · exact ⟨_, List.mem_of_getElem? (i := 3) rfl, mem_unit2 (size := S32x128.size) _ inb_S320x4480_S32x128_192_4352 rfl R C (by omega) (by show _ < _ + 32; omega) (by omega) (by show _ < _ + 128; omega)⟩
  · exact ⟨_, List.mem_of_getElem? (i := 2) rfl, mem_unit2 (size := S32x128.size) _ inb_S320x4480_S32x128_224_4352 rfl R C (by omega) (by show _ < _ + 32; omega) (by omega) (by show _ < _ + 128; omega)⟩
  · exact ⟨_, List.mem_of_getElem? (i := 1) rfl, mem_unit2 (size := S32x128.size) _ inb_S320x4480_S32x128_256_4352 rfl R C (by omega) (by show _ < _ + 32; omega) (by omega) (by show _ < _ + 128; omega)⟩
  · exact ⟨_, List.mem_of_getElem? (i := 0) rfl, mem_unit2 (size := S32x128.size) _ inb_S320x4480_S32x128_288_4352 rfl R C (by omega) (by show _ < _ + 32; omega) (by omega) (by show _ < _ + 128; omega)⟩

theorem metaTail_meets (R : Fin 320) (C : Fin 2240) (h0 : 2176 ≤ C.val) :
    Meets (s := S320x2240) (e := .i8) (metaTail arg11 X11) (ix2 R C) := by
  have hR := R.isLt
  have hC := C.isLt
  have hr : (0 ≤ R.val ∧ R.val < 32) ∨ (32 ≤ R.val ∧ R.val < 64) ∨ (64 ≤ R.val ∧ R.val < 96) ∨ (96 ≤ R.val ∧ R.val < 128) ∨ (128 ≤ R.val ∧ R.val < 160) ∨ (160 ≤ R.val ∧ R.val < 192) ∨ (192 ≤ R.val ∧ R.val < 224) ∨ (224 ≤ R.val ∧ R.val < 256) ∨ (256 ≤ R.val ∧ R.val < 288) ∨ (288 ≤ R.val ∧ R.val < 320) := by omega
  have hc : (2176 ≤ C.val ∧ C.val < 2240) := by omega
  rcases hr with hr | hr | hr | hr | hr | hr | hr | hr | hr | hr
  · exact ⟨_, List.mem_of_getElem? (i := 9) rfl, mem_unit2 (size := S32x64.size) _ inb_S320x2240_S32x64_0_2176 rfl R C (by omega) (by show _ < _ + 32; omega) (by omega) (by show _ < _ + 64; omega)⟩
  · exact ⟨_, List.mem_of_getElem? (i := 8) rfl, mem_unit2 (size := S32x64.size) _ inb_S320x2240_S32x64_32_2176 rfl R C (by omega) (by show _ < _ + 32; omega) (by omega) (by show _ < _ + 64; omega)⟩
  · exact ⟨_, List.mem_of_getElem? (i := 7) rfl, mem_unit2 (size := S32x64.size) _ inb_S320x2240_S32x64_64_2176 rfl R C (by omega) (by show _ < _ + 32; omega) (by omega) (by show _ < _ + 64; omega)⟩
  · exact ⟨_, List.mem_of_getElem? (i := 6) rfl, mem_unit2 (size := S32x64.size) _ inb_S320x2240_S32x64_96_2176 rfl R C (by omega) (by show _ < _ + 32; omega) (by omega) (by show _ < _ + 64; omega)⟩
  · exact ⟨_, List.mem_of_getElem? (i := 5) rfl, mem_unit2 (size := S32x64.size) _ inb_S320x2240_S32x64_128_2176 rfl R C (by omega) (by show _ < _ + 32; omega) (by omega) (by show _ < _ + 64; omega)⟩
  · exact ⟨_, List.mem_of_getElem? (i := 4) rfl, mem_unit2 (size := S32x64.size) _ inb_S320x2240_S32x64_160_2176 rfl R C (by omega) (by show _ < _ + 32; omega) (by omega) (by show _ < _ + 64; omega)⟩
  · exact ⟨_, List.mem_of_getElem? (i := 3) rfl, mem_unit2 (size := S32x64.size) _ inb_S320x2240_S32x64_192_2176 rfl R C (by omega) (by show _ < _ + 32; omega) (by omega) (by show _ < _ + 64; omega)⟩
  · exact ⟨_, List.mem_of_getElem? (i := 2) rfl, mem_unit2 (size := S32x64.size) _ inb_S320x2240_S32x64_224_2176 rfl R C (by omega) (by show _ < _ + 32; omega) (by omega) (by show _ < _ + 64; omega)⟩
  · exact ⟨_, List.mem_of_getElem? (i := 1) rfl, mem_unit2 (size := S32x64.size) _ inb_S320x2240_S32x64_256_2176 rfl R C (by omega) (by show _ < _ + 32; omega) (by omega) (by show _ < _ + 64; omega)⟩
  · exact ⟨_, List.mem_of_getElem? (i := 0) rfl, mem_unit2 (size := S32x64.size) _ inb_S320x2240_S32x64_288_2176 rfl R C (by omega) (by show _ < _ + 32; omega) (by omega) (by show _ < _ + 64; omega)⟩

end Tail

section All

variable (𝒱 : Variants) (c : Dev nD) (bd : Option 𝒱.V) (i : grid0.Coords)
  (arg1 : Memref sig .tc .vmem S320x8960 .bf16) (harg1 : arg1.IsWhole)
  (arg2 : Memref sig .tc .vmem S8960x1536 .fp8e4m3) (harg2 : arg2.IsWhole)
  (arg3 : Memref sig .tc .vmem S1x1536 .f32) (harg3 : arg3.IsWhole)
  (arg4 : Memref sig .tc .vmem S320x1536 .bf16) (harg4 : arg4.IsWhole)
  (arg5 : Memref sig .tc .vmem S320x4480 .fp8e4m3) (harg5 : arg5.IsWhole)
  (arg6 : Memref sig .tc .vmem S320x2240 .i8) (harg6 : arg6.IsWhole)
  (arg7 : Memref sig .tc .vmem S1x1x320 .f32) (harg7 : arg7.IsWhole)
  (arg8 : Memref sig .tc .vmem S320x8960 .fp8e4m3) (harg8 : arg8.IsWhole)
  (arg9 : Memref sig .tc .vmem S35x5x32x128 .bf16) (harg9 : arg9.IsWhole)
  (arg10 : Memref sig .tc .vmem S35x5x32x128 .bf16) (harg10 : arg10.IsWhole)
  (arg11 : Memref sig .tc .vmem S35x5x32x128 .fp8e4m3) (harg11 : arg11.IsWhole)
  (arg12 : Memref sig .tc .vmem S5x32x128 .bf16) (harg12 : arg12.IsWhole)
  (arg13 : Memref sig .tc .vmem S5x32x128 .f32) (harg13 : arg13.IsWhole)
  (arg14 : Memref sig .tc .vmem S320x128 .f32) (harg14 : arg14.IsWhole)
  (v25 : IVec S32x128 1) (v1007 : FVec Ideal S32x128 .f32) (v1096 : IVec S32x128 32) (v1101 : IVec S32x128 1) (v1102 : IVec S32x128 32)
  {X9 : BufTy.Contents (Elt Ideal) arg9.view.ty} {X10 : BufTy.Contents (Elt Ideal) arg10.view.ty}
  {X11 : BufTy.Contents (Elt Ideal) arg11.view.ty} {X13 : BufTy.Contents (Elt Ideal) arg13.view.ty}
  {v0 v1 pt : Fin 320 → Fin 2240 → EReal} {iv : Fin 320 → EReal}

/-- All the codes of the block. -/
theorem codes_all (H : Holds v0 v1 pt iv arg9 arg10 arg11 arg13 X9 X10 X11 X13) (n : ℕ) (hn : n = 17) (f : BufTy.Contents (Elt Ideal) arg8.view.ty) :
    arg8.view.read (Elt Ideal) (arg8.view.writes (Elt Ideal) f (codesTail arg9 arg10 arg11 arg13 X9 X10 X11 X13 ++ (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 n).2.2)) = CODE v0 v1 pt iv := by
  obtain ⟨i0, i1⟩ := codes_loop 𝒱 c bd i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 H n (by omega)
  funext y
  obtain ⟨R, C, rfl⟩ : ∃ (R : Fin 320) (C : Fin 8960), y = ix2 R C := ⟨y 0, y 1, eq_ix2 y⟩
  refine View.read_writes_apply_of_pieces arg8.view f (CODE v0 v1 pt iv) _ (fits_append (codesTail_fits H) i0) _ ?_
  by_cases hc : C.val < 8704
  · exact meets_right (i1 R C (by omega))
  · exact meets_left (codesTail_meets R C (by omega))

/-- All the kept values of the block. -/
theorem vals_all (H : Holds v0 v1 pt iv arg9 arg10 arg11 arg13 X9 X10 X11 X13) (n : ℕ) (hn : n = 17) (f : BufTy.Contents (Elt Ideal) arg5.view.ty) :
    arg5.view.read (Elt Ideal) (arg5.view.writes (Elt Ideal) f (valsTail arg9 arg10 arg11 arg13 X9 X10 X11 X13 ++ (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 n).1)) = VALS v0 v1 iv := by
  obtain ⟨i0, i1⟩ := vals_loop 𝒱 c bd i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 H n (by omega)
  funext y
  obtain ⟨R, C, rfl⟩ : ∃ (R : Fin 320) (C : Fin 4480), y = ix2 R C := ⟨y 0, y 1, eq_ix2 y⟩
  refine View.read_writes_apply_of_pieces arg5.view f (VALS v0 v1 iv) _ (fits_append (valsTail_fits H) i0) _ ?_
  by_cases hc : C.val < 4352
  · exact meets_right (i1 R C (by omega))
  · exact meets_left (valsTail_meets R C (by omega))

/-- All the positions of the block. -/
theorem meta_all (H : Holds v0 v1 pt iv arg9 arg10 arg11 arg13 X9 X10 X11 X13) (n : ℕ) (hn : n = 17) (f : BufTy.Contents (Elt Ideal) arg6.view.ty) :
    arg6.view.read (Elt Ideal) (arg6.view.writes (Elt Ideal) f (metaTail arg11 X11 ++ (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 n).2.1)) = META pt := by
  obtain ⟨i0, i1⟩ := meta_loop 𝒱 c bd i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 H n (by omega)
  funext y
  obtain ⟨R, C, rfl⟩ : ∃ (R : Fin 320) (C : Fin 2240), y = ix2 R C := ⟨y 0, y 1, eq_ix2 y⟩
  refine View.read_writes_apply_of_pieces arg6.view f (META pt) _ (fits_append (metaTail_fits H) i0) _ ?_
  by_cases hc : C.val < 2176
  · exact meets_right (i1 R C (by omega))
  · exact meets_left (metaTail_meets R C (by omega))

end All

end Cert.KernelIdeal.Hand
-- ==== Proof.Out.lean ====
/- The block's two remaining results: the scales laid out in one row, and the product. -/
module

public import proofs.«01_k».proof.Proof.Scale
public import proofs.«01_k».proof.Proof.Tail

@[expose] public section

set_option maxRecDepth 16384

noncomputable section

namespace Cert.KernelIdeal.Hand

open Idealize.ShloMosaic Cert.KernelIdeal Cert.KernelIdeal.Gen

section Pays

theorem sel_pos {s : Shape} {α : Type} (c : IVec s 1) (a b : s.Idx → α) (i : s.Idx) (h : c i = 1#1) : select c a b i = a i := if_pos h
theorem sel_neg {s : Shape} {α : Type} (c : IVec s 1) (a b : s.Idx → α) (i : s.Idx) (h : ¬ c i = 1#1) : select c a b i = b i := if_neg h

theorem diag_iff (k l : Fin 128) : k0_pay1060 (ix2 k l) = 1#1 ↔ k = l := by
  have h : k0_pay1060 (ix2 k l) = IntOp.cmpi .eq (BitVec.ofNat 32 k.val) (BitVec.ofNat 32 l.val) := by pointwise [k0_pay1060]
  rw [h]
  clear h
  revert k l
  decide +kernel

theorem hs0_apply (s : FVec Ideal S128x128 .f32) (l : Fin 128) : k0_pay1061 (F := Ideal) s (ix3 0 0 l) = s (ix2 l l) := by
  have h : k0_pay1061 (F := Ideal) s (ix3 0 0 l) = multiReduction .add [0] S128 (select k0_pay1060 s (broadcast S128x128 (Scalar.ofBits .f32 0x00000000#32))) 0x00000000#32 reduces_S128x128_S128 (.inl rfl) rfl (ix1 l) := by pointwise [k0_pay1061]
  rw [h]
  refine (Ideal.multiReduction_add_single _ _ _ _ _ _).trans ?_
  refine (Finset.sum_eq_single (l : Fin 128) ?_ ?_).trans ?_
  · intro k _ hk
    have e : reduces_S128x128_S128.lift (ix1 l) k = (ix2 (n0 := 128) (n1 := 128) k l : S128x128.Idx) := by
      funext a
      match a with
      | ⟨0, _⟩ => rfl
      | ⟨1, _⟩ => rfl
    rw [e]
    refine (sel_neg _ _ _ _ (fun h => hk ((diag_iff k l).1 h))).trans ?_
    show Ideal.ofBits .f32 0x00000000#32 = 0
    simp
  · intro h; exact absurd (Finset.mem_univ _) h
  · have e : reduces_S128x128_S128.lift (ix1 l) l = (ix2 (n0 := 128) (n1 := 128) l l : S128x128.Idx) := by
      funext a
      match a with
      | ⟨0, _⟩ => rfl
      | ⟨1, _⟩ => rfl
    rw [e]
    exact sel_pos _ _ _ _ ((diag_iff l l).2 rfl)

theorem hs1_apply (s : FVec Ideal S128x128 .f32) (l : Fin 128) : k0_pay1062 (F := Ideal) k0_pay1060 s (ix3 0 0 l) = s (ix2 l l) := hs0_apply s l

theorem hs2_apply (s : FVec Ideal S64x128 .f32) (l : Fin 64) : k0_pay1063 (F := Ideal) k0_pay1060 s (ix3 0 0 l) = s (ix2 l ⟨l.val, by omega⟩) := by
  have h : k0_pay1063 (F := Ideal) k0_pay1060 s (ix3 0 0 l) = multiReduction .add [0] S128 (select (extractStridedSlice S64x128 ![0, 0] k0_pay1060 slices_S128x128_o0_0_S64x128) s (broadcast S64x128 (Scalar.ofBits .f32 0x00000000#32))) 0x00000000#32 reduces_S64x128_S128 (.inl rfl) rfl (ix1 (n0 := 128) ⟨l.val, by omega⟩) := by pointwise [k0_pay1063]
  have hd : ∀ (k : Fin 64) (m : Fin 128), extractStridedSlice S64x128 ![0, 0] k0_pay1060 slices_S128x128_o0_0_S64x128 (ix2 k m) = 1#1 ↔ k.val = m.val := by
    intro k m
    have : extractStridedSlice S64x128 ![0, 0] k0_pay1060 slices_S128x128_o0_0_S64x128 (ix2 k m) = k0_pay1060 (ix2 (n0 := 128) ⟨k.val, by omega⟩ m) := by
      pointwise []
    rw [this, diag_iff]
    exact Fin.ext_iff
  rw [h]
  refine (Ideal.multiReduction_add_single _ _ _ _ _ _).trans ?_
  refine (Finset.sum_eq_single (l : Fin 64) ?_ ?_).trans ?_
  · intro k _ hk
    have e : reduces_S64x128_S128.lift (ix1 (n0 := 128) ⟨l.val, by omega⟩) k = (ix2 (n0 := 64) (n1 := 128) k ⟨l.val, by omega⟩ : S64x128.Idx) := by
      funext a
      match a with
      | ⟨0, _⟩ => rfl
      | ⟨1, _⟩ => rfl
    rw [e]
    refine (sel_neg _ _ _ _ (fun h => hk (Fin.ext ((hd k ⟨l.val, by omega⟩).1 h)))).trans ?_
    show Ideal.ofBits .f32 0x00000000#32 = 0
    simp
  · intro h; exact absurd (Finset.mem_univ _) h
  · have e : reduces_S64x128_S128.lift (ix1 (n0 := 128) ⟨l.val, by omega⟩) l = (ix2 (n0 := 64) (n1 := 128) l ⟨l.val, by omega⟩ : S64x128.Idx) := by
      funext a
      match a with
      | ⟨0, _⟩ => rfl
      | ⟨1, _⟩ => rfl
    rw [e]
    exact sel_pos _ _ _ _ ((hd l ⟨l.val, by omega⟩).2 rfl)

theorem y_apply (a : FVec Ideal S320x8960 .fp8e4m3) (w : FVec Ideal S8960x256 .fp8e4m3) (s : FVec Ideal S320x128 .f32) (ws : FVec Ideal S1x256 .f32) (R : Fin 320) (c : Fin 256) :
    k0_pay2 (F := Ideal) a w s ws (ix2 R c) = (∑ k : Fin 8960, a (ix2 R k) * w (ix2 k c)) * s (ix2 R ⟨c.val % 128, Nat.mod_lt _ (by decide)⟩) * ws (ix2 0 c) := by
  have hc : concatenate S320x256 1 [⟨S320x128, s⟩, ⟨S320x128, s⟩] concatenates_S320x128_S320x128_S320x256_d1 (ix2 R c) = s (ix2 R ⟨c.val % 128, Nat.mod_lt _ (by decide)⟩) := by
    by_cases h : c.val < 128
    · pointwise []
      rw [dif_pos h]
      exact congrArg (fun z => s (ix2 R z)) (Fin.ext (Nat.mod_eq_of_lt h).symm)
    · pointwise []
      rw [dif_neg h]
      exact congrArg (fun z => s (ix2 R z)) (Fin.ext (by show c.val - 128 = c.val % 128; have := c.isLt; omega))
  have hm : matmul dot_S320x8960_S8960x256_S320x256_1_0_0_1_n_n none a w (constant S320x256 .f32 0x00000000#32) (ix2 R c) = ∑ k : Fin 8960, a (ix2 R k) * w (ix2 k c) := by
    pointwise []
  have hw : broadcastTo S320x256 (shapeCast S1x256 ws shapeCasts_S1x256_S1x256) broadcasts_S1x256_S320x256 (ix2 R c) = ws (ix2 0 c) := by
    pointwise []
  rw [← hm, ← hc, ← hw]
  rfl

end Pays

/-- The scales of a block, in one row. -/
def HS (x : S320x8960.Idx → EReal) : S1x1x320.Idx → EReal := fun y => SC x (y 2)
/-- The product of a block. -/
def YY (x : S320x8960.Idx → EReal) (w : S8960x1536.Idx → EReal) (ws : S1x1536.Idx → EReal) : S320x1536.Idx → EReal := fun y =>
  (∑ k : Fin 8960, CODE (V0 x) (V1 x) (PT x) (IV x) (ix2 (y 0) k) * w (ix2 k (y 1))) * SC x (y 0) * ws (ix2 0 (y 1))

section Row

variable (arg14 : Memref sig .tc .vmem S320x128 .f32) (X : BufTy.Contents (Elt Ideal) arg14.view.ty)
  (arg7 : Memref sig .tc .vmem S1x1x320 .f32) (f : BufTy.Contents (Elt Ideal) arg7.view.ty)
  (x : S320x8960.Idx → EReal) (hx : ∀ (R : Fin 320) (l : Fin 128), arg14.view.read (Elt Ideal) X (ix2 R l) = SC x R)

/-- The pieces of the row of scales, last written first. -/
def hsL : List (View.Piece (Elt Ideal) S1x1x320 .f32) := [
    ⟨Rect.unit (s := S1x1x320) ![0, 0, 256] S1x1x64.size inb_S1x1x320_S1x1x64_0_0_256, k0_pay1063 (F := Ideal) k0_pay1060 (View.readAt (Elt Ideal) arg14.view (Rect.unit (s := S320x128) ![256, 0] S64x128.size inb_S320x128_S64x128_256_0).toLoadRect X)⟩,
    ⟨Rect.unit (s := S1x1x320) ![0, 0, 128] S1x1x128.size inb_S1x1x320_S1x1x128_0_0_128, k0_pay1062 (F := Ideal) k0_pay1060 (View.readAt (Elt Ideal) arg14.view (Rect.unit (s := S320x128) ![128, 0] S128x128.size inb_S320x128_S128x128_128_0).toLoadRect X)⟩,
    ⟨Rect.unit (s := S1x1x320) ![0, 0, 0] S1x1x128.size inb_S1x1x320_S1x1x128_0_0_0, k0_pay1061 (F := Ideal) (View.readAt (Elt Ideal) arg14.view (Rect.unit (s := S320x128) ![0, 0] S128x128.size inb_S320x128_S128x128_0_0).toLoadRect X)⟩]

include hx in
theorem ldS_apply (s : Fin 2 → Nat) (off : Fin 2 → Nat) (h : ∀ a, off a + s a ≤ S320x128.size a) (y : (⟨2, s⟩ : Shape).Idx) (R : Fin 320) (l : Fin 128)
    (hR : R.val = off 0 + (y 0).val) (hl : l.val = off 1 + (y 1).val) :
    View.readAt (Elt Ideal) arg14.view (Rect.unit (s := S320x128) off s h).toLoadRect X y = SC x R :=
  (View.ld_unit_apply_of (arg14.view.read (Elt Ideal) X) off s h y (ix2 R l) fun a => by
    match a with
    | ⟨0, _⟩ => exact hR
    | ⟨1, _⟩ => exact hl).trans (hx R l)

include hx in
theorem hs_all : arg7.view.read (Elt Ideal) (arg7.view.writes (Elt Ideal) f (hsL arg14 X)) = HS x := by
  funext y
  obtain ⟨a, b, R, rfl⟩ : ∃ (a b : Fin 1) (R : Fin 320), y = ix3 a b R := ⟨y 0, y 1, y 2, eq_ix3 y⟩
  obtain rfl : a = 0 := Subsingleton.elim _ _
  obtain rfl : b = 0 := Subsingleton.elim _ _
  show _ = SC x R
  unfold hsL
  have hR := R.isLt
  by_cases h2 : 256 ≤ R.val
  · rw [View.read_writes_cons_unit_of_mem arg7.view f inb_S1x1x320_S1x1x64_0_0_256 _ _ _ (ix3 0 0 ⟨R.val - 256, by omega⟩) rfl (fun a => by
      match a with
      | ⟨0, _⟩ => rfl
      | ⟨1, _⟩ => rfl
      | ⟨2, _⟩ => show R.val = 256 + (R.val - 256); omega)]
    rw [hs2_apply]
    exact ldS_apply arg14 X x hx _ _ _ _ R ⟨R.val - 256, by omega⟩ (by show R.val = 256 + (R.val - 256); omega) (by show R.val - 256 = 0 + (R.val - 256); omega)
  rw [View.read_writes_cons_unit_of_not_mem arg7.view f inb_S1x1x320_S1x1x64_0_0_256 _ _ _ rfl 2 (by left; show R.val < 256; omega)]
  by_cases h1 : 128 ≤ R.val
  · rw [View.read_writes_cons_unit_of_mem arg7.view f inb_S1x1x320_S1x1x128_0_0_128 _ _ _ (ix3 0 0 ⟨R.val - 128, by omega⟩) rfl (fun a => by
      match a with
      | ⟨0, _⟩ => rfl
      | ⟨1, _⟩ => rfl
      | ⟨2, _⟩ => show R.val = 128 + (R.val - 128); omega)]
    rw [hs1_apply]
    exact ldS_apply arg14 X x hx _ _ _ _ R ⟨R.val - 128, by omega⟩ (by show R.val = 128 + (R.val - 128); omega) (by show R.val - 128 = 0 + (R.val - 128); omega)
  rw [View.read_writes_cons_unit_of_not_mem arg7.view f inb_S1x1x320_S1x1x128_0_0_128 _ _ _ rfl 2 (by left; show R.val < 128; omega)]
  rw [View.read_writes_cons_unit_of_mem arg7.view f inb_S1x1x320_S1x1x128_0_0_0 _ _ _ (ix3 0 0 ⟨R.val, by omega⟩) rfl (fun a => by
      match a with
      | ⟨0, _⟩ => rfl
      | ⟨1, _⟩ => rfl
      | ⟨2, _⟩ => show R.val = 0 + R.val; omega)]
  rw [hs0_apply]
  exact ldS_apply arg14 X x hx _ _ _ _ R ⟨R.val, by omega⟩ (by show R.val = 0 + R.val; omega) (by show R.val = 0 + R.val; omega)

end Row

section Product

variable (arg8 : Memref sig .tc .vmem S320x8960 .fp8e4m3) (A : BufTy.Contents (Elt Ideal) arg8.view.ty)
  (arg2 : Memref sig .tc .vmem S8960x1536 .fp8e4m3) (W : BufTy.Contents (Elt Ideal) arg2.view.ty)
  (arg14 : Memref sig .tc .vmem S320x128 .f32) (X : BufTy.Contents (Elt Ideal) arg14.view.ty)
  (arg3 : Memref sig .tc .vmem S1x1536 .f32) (WS : BufTy.Contents (Elt Ideal) arg3.view.ty)
  (arg4 : Memref sig .tc .vmem S320x1536 .bf16) (f : BufTy.Contents (Elt Ideal) arg4.view.ty)
  (x : S320x8960.Idx → EReal) (hx : ∀ (R : Fin 320) (l : Fin 128), arg14.view.read (Elt Ideal) X (ix2 R l) = SC x R)
  (hA : arg8.view.read (Elt Ideal) A = CODE (V0 x) (V1 x) (PT x) (IV x))

/-- A tile of the product, from the buffers it is made of. -/
abbrev yT (o2 : Fin 2 → Nat) (h2 : ∀ a, o2 a + S8960x256.size a ≤ S8960x1536.size a) (o3 : Fin 2 → Nat) (h3 : ∀ a, o3 a + S1x256.size a ≤ S1x1536.size a) : FVec Ideal S320x256 .bf16 :=
  k0_pay2 (F := Ideal) (View.readAt (Elt Ideal) arg8.view (Rect.unit (s := S320x8960) ![0, 0] S320x8960.size inb_S320x8960_S320x8960_0_0).toLoadRect A)
    (View.readAt (Elt Ideal) arg2.view (Rect.unit (s := S8960x1536) o2 S8960x256.size h2).toLoadRect W)
    (View.readAt (Elt Ideal) arg14.view (Rect.unit (s := S320x128) ![0, 0] S320x128.size inb_S320x128_S320x128_0_0).toLoadRect X)
    (View.readAt (Elt Ideal) arg3.view (Rect.unit (s := S1x1536) o3 S1x256.size h3).toLoadRect WS)

include hx hA in
theorem yT_apply (n : Nat) (hn : n + 256 ≤ 1536) (o2 : Fin 2 → Nat) (h2) (o3 : Fin 2 → Nat) (h3) (e2 : o2 = ![0, n]) (e3 : o3 = ![0, n]) (R : Fin 320) (c : Fin 256) (C : Fin 1536) (hC : C.val = n + c.val) :
    yT arg8 A arg2 W arg14 X arg3 WS o2 h2 o3 h3 (ix2 R c) = YY x (arg2.view.read (Elt Ideal) W) (arg3.view.read (Elt Ideal) WS) (ix2 R C) := by
  subst e2 e3
  have ha : ∀ k : Fin 8960, View.readAt (Elt Ideal) arg8.view (Rect.unit (s := S320x8960) ![0, 0] S320x8960.size inb_S320x8960_S320x8960_0_0).toLoadRect A (ix2 R k) = CODE (V0 x) (V1 x) (PT x) (IV x) (ix2 R k) := fun k => by
    rw [← hA]
    exact View.ld_unit_apply_of (arg8.view.read (Elt Ideal) A) _ S320x8960.size _ (ix2 R k) (ix2 R k) fun a => by
      match a with
      | ⟨0, _⟩ => exact (Nat.zero_add _).symm
      | ⟨1, _⟩ => exact (Nat.zero_add _).symm
  have hw : ∀ k : Fin 8960, View.readAt (Elt Ideal) arg2.view (Rect.unit (s := S8960x1536) ![0, n] S8960x256.size h2).toLoadRect W (ix2 k c) = arg2.view.read (Elt Ideal) W (ix2 k C) := fun k =>
    View.ld_unit_apply_of (arg2.view.read (Elt Ideal) W) _ S8960x256.size _ (ix2 k c) (ix2 k C) fun a => by
      match a with
      | ⟨0, _⟩ => exact (Nat.zero_add _).symm
      | ⟨1, _⟩ => exact hC
  have hs : View.readAt (Elt Ideal) arg3.view (Rect.unit (s := S1x1536) ![0, n] S1x256.size h3).toLoadRect WS (ix2 0 c) = arg3.view.read (Elt Ideal) WS (ix2 0 C) :=
    View.ld_unit_apply_of (arg3.view.read (Elt Ideal) WS) _ S1x256.size _ (ix2 0 c) (ix2 0 C) fun a => by
      match a with
      | ⟨0, _⟩ => rfl
      | ⟨1, _⟩ => exact hC
  rw [yT, y_apply, hs, ldS_apply arg14 X x hx S320x128.size _ inb_S320x128_S320x128_0_0 (ix2 R ⟨c.val % 128, Nat.mod_lt _ (by decide)⟩) R ⟨c.val % 128, Nat.mod_lt _ (by decide)⟩ (Nat.zero_add _).symm (Nat.zero_add _).symm]
  simp only [ha, hw]
  rfl

/-- The pieces of the product, last written first. -/
def yL : List (View.Piece (Elt Ideal) S320x1536 .bf16) := [
    ⟨Rect.unit (s := S320x1536) ![0, 1280] S320x256.size inb_S320x1536_S320x256_0_1280, yT arg8 A arg2 W arg14 X arg3 WS ![0, 1280] inb_S8960x1536_S8960x256_0_1280 ![0, 1280] inb_S1x1536_S1x256_0_1280⟩,
    ⟨Rect.unit (s := S320x1536) ![0, 1024] S320x256.size inb_S320x1536_S320x256_0_1024, yT arg8 A arg2 W arg14 X arg3 WS ![0, 1024] inb_S8960x1536_S8960x256_0_1024 ![0, 1024] inb_S1x1536_S1x256_0_1024⟩,
    ⟨Rect.unit (s := S320x1536) ![0, 768] S320x256.size inb_S320x1536_S320x256_0_768, yT arg8 A arg2 W arg14 X arg3 WS ![0, 768] inb_S8960x1536_S8960x256_0_768 ![0, 768] inb_S1x1536_S1x256_0_768⟩,
    ⟨Rect.unit (s := S320x1536) ![0, 512] S320x256.size inb_S320x1536_S320x256_0_512, yT arg8 A arg2 W arg14 X arg3 WS ![0, 512] inb_S8960x1536_S8960x256_0_512 ![0, 512] inb_S1x1536_S1x256_0_512⟩,
    ⟨Rect.unit (s := S320x1536) ![0, 256] S320x256.size inb_S320x1536_S320x256_0_256, yT arg8 A arg2 W arg14 X arg3 WS ![0, 256] inb_S8960x1536_S8960x256_0_256 ![0, 256] inb_S1x1536_S1x256_0_256⟩,
    ⟨Rect.unit (s := S320x1536) ![0, 0] S320x256.size inb_S320x1536_S320x256_0_0, yT arg8 A arg2 W arg14 X arg3 WS ![0, 0] inb_S8960x1536_S8960x256_0_0 ![0, 0] inb_S1x1536_S1x256_0_0⟩]

include hx hA in
theorem y_all : arg4.view.read (Elt Ideal) (arg4.view.writes (Elt Ideal) f (yL arg8 A arg2 W arg14 X arg3 WS)) = YY x (arg2.view.read (Elt Ideal) W) (arg3.view.read (Elt Ideal) WS) := by
  funext y
  obtain ⟨R, C, rfl⟩ : ∃ (R : Fin 320) (C : Fin 1536), y = ix2 R C := ⟨y 0, y 1, eq_ix2 y⟩
  have hC := C.isLt
  unfold yL
  by_cases h1280 : 1280 ≤ C.val
  · rw [View.read_writes_cons_unit_of_mem arg4.view f inb_S320x1536_S320x256_0_1280 _ _ _ (ix2 R ⟨C.val - 1280, by omega⟩) rfl (fun a => by
      match a with
      | ⟨0, _⟩ => exact (Nat.zero_add _).symm
      | ⟨1, _⟩ => show C.val = 1280 + (C.val - 1280); omega)]
    exact yT_apply arg8 A arg2 W arg14 X arg3 WS x hx hA 1280 (by omega) _ _ _ _ rfl rfl R _ C (by show C.val = 1280 + (C.val - 1280); omega)
  rw [View.read_writes_cons_unit_of_not_mem arg4.view f inb_S320x1536_S320x256_0_1280 _ _ _ rfl 1 (by left; show C.val < 1280; omega)]
  by_cases h1024 : 1024 ≤ C.val
  · rw [View.read_writes_cons_unit_of_mem arg4.view f inb_S320x1536_S320x256_0_1024 _ _ _ (ix2 R ⟨C.val - 1024, by omega⟩) rfl (fun a => by
      match a with
      | ⟨0, _⟩ => exact (Nat.zero_add _).symm
      | ⟨1, _⟩ => show C.val = 1024 + (C.val - 1024); omega)]
    exact yT_apply arg8 A arg2 W arg14 X arg3 WS x hx hA 1024 (by omega) _ _ _ _ rfl rfl R _ C (by show C.val = 1024 + (C.val - 1024); omega)
  rw [View.read_writes_cons_unit_of_not_mem arg4.view f inb_S320x1536_S320x256_0_1024 _ _ _ rfl 1 (by left; show C.val < 1024; omega)]
  by_cases h768 : 768 ≤ C.val
  · rw [View.read_writes_cons_unit_of_mem arg4.view f inb_S320x1536_S320x256_0_768 _ _ _ (ix2 R ⟨C.val - 768, by omega⟩) rfl (fun a => by
      match a with
      | ⟨0, _⟩ => exact (Nat.zero_add _).symm
      | ⟨1, _⟩ => show C.val = 768 + (C.val - 768); omega)]
    exact yT_apply arg8 A arg2 W arg14 X arg3 WS x hx hA 768 (by omega) _ _ _ _ rfl rfl R _ C (by show C.val = 768 + (C.val - 768); omega)
  rw [View.read_writes_cons_unit_of_not_mem arg4.view f inb_S320x1536_S320x256_0_768 _ _ _ rfl 1 (by left; show C.val < 768; omega)]
  by_cases h512 : 512 ≤ C.val
  · rw [View.read_writes_cons_unit_of_mem arg4.view f inb_S320x1536_S320x256_0_512 _ _ _ (ix2 R ⟨C.val - 512, by omega⟩) rfl (fun a => by
      match a with
      | ⟨0, _⟩ => exact (Nat.zero_add _).symm
      | ⟨1, _⟩ => show C.val = 512 + (C.val - 512); omega)]
    exact yT_apply arg8 A arg2 W arg14 X arg3 WS x hx hA 512 (by omega) _ _ _ _ rfl rfl R _ C (by show C.val = 512 + (C.val - 512); omega)
  rw [View.read_writes_cons_unit_of_not_mem arg4.view f inb_S320x1536_S320x256_0_512 _ _ _ rfl 1 (by left; show C.val < 512; omega)]
  by_cases h256 : 256 ≤ C.val
  · rw [View.read_writes_cons_unit_of_mem arg4.view f inb_S320x1536_S320x256_0_256 _ _ _ (ix2 R ⟨C.val - 256, by omega⟩) rfl (fun a => by
      match a with
      | ⟨0, _⟩ => exact (Nat.zero_add _).symm
      | ⟨1, _⟩ => show C.val = 256 + (C.val - 256); omega)]
    exact yT_apply arg8 A arg2 W arg14 X arg3 WS x hx hA 256 (by omega) _ _ _ _ rfl rfl R _ C (by show C.val = 256 + (C.val - 256); omega)
  rw [View.read_writes_cons_unit_of_not_mem arg4.view f inb_S320x1536_S320x256_0_256 _ _ _ rfl 1 (by left; show C.val < 256; omega)]
  · rw [View.read_writes_cons_unit_of_mem arg4.view f inb_S320x1536_S320x256_0_0 _ _ _ (ix2 R ⟨C.val - 0, by omega⟩) rfl (fun a => by
      match a with
      | ⟨0, _⟩ => exact (Nat.zero_add _).symm
      | ⟨1, _⟩ => show C.val = 0 + (C.val - 0); omega)]
    exact yT_apply arg8 A arg2 W arg14 X arg3 WS x hx hA 0 (by omega) _ _ _ _ rfl rfl R _ C (by show C.val = 0 + (C.val - 0); omega)

end Product

end Cert.KernelIdeal.Hand
-- ==== Proof.Rows.lean ====
/- One row of the input: the kernel's scale, codes, kept values and positions are the reference's. -/
module

public import proofs.«01_k».proof.Proof.Groups
public import proofs.«01_k».proof.Proof.Powers
public import proofs.«01_k».proof.Proof.Out

@[expose] public section

set_option maxRecDepth 8192

noncomputable section

namespace Cert.Joint

open Idealize.ShloMosaic Cert.KernelIdeal.Hand Cert.ReferenceIdeal.Hand

variable (x : Cert.KernelIdeal.S320x8960.Idx → EReal) (R : Fin 320) (X : FVec Ideal Cert.ReferenceIdeal.S3x640x8960 .bf16) (M : Fin 1920)
  (hx : ∀ C : Fin 8960, x (ix2 R C) = X (ix3 (rowB M) (rowS M) C)) (hD : ∀ C : Fin 8960, Dom (x (ix2 R C)))

theorem mem4_split (C : Fin 8960) : ∃ (g : Fin 2240) (k : Fin 4), C = mem4 g k :=
  ⟨⟨C.val / 4, by omega⟩, ⟨C.val % 4, by omega⟩, Fin.ext (by show C.val = 4 * (C.val / 4) + C.val % 4; omega)⟩

theorem MX_le' (z : EReal) : MX x R ≤ z ↔ 0 ≤ z ∧ ∀ C : Fin 8960, cl (x (ix2 R C)) ≤ z := by
  rw [MX_le]
  refine and_congr_right fun _ => ?_
  constructor
  · intro H C
    obtain ⟨g, k, rfl⟩ := mem4_split C
    obtain ⟨a0, a1, a2, a3⟩ := (pair_le z).1 (H g)
    match k with
    | ⟨0, _⟩ => exact a0
    | ⟨1, _⟩ => exact a1
    | ⟨2, _⟩ => exact a2
    | ⟨3, _⟩ => exact a3
  · intro H g
    exact (pair_le z).2 ⟨H _, H _, H _, H _⟩

/-- The greatest number of the row. -/
theorem exists_max : ∃ C0 : Fin 8960, ∀ C : Fin 8960, cl (x (ix2 R C)) ≤ cl (x (ix2 R C0)) :=
  Finite.exists_max fun C : Fin 8960 => cl (x (ix2 R C))

theorem MX_eq (C0 : Fin 8960) (h : ∀ C : Fin 8960, cl (x (ix2 R C)) ≤ cl (x (ix2 R C0))) : MX x R = cl (x (ix2 R C0)) := by
  refine eq_of_forall_ge_iff fun z => ?_
  rw [MX_le']
  exact ⟨fun H => H.2 C0, fun H => ⟨(cl_nonneg _).trans H, fun C => (h C).trans H⟩⟩

include hx in
theorem sqA_row (C : Fin 8960) : sqA X (ix2 M C) = hq (x (ix2 R C)) := by rw [sqA_apply, hx]

include hx hD in
theorem mxA_eq (C0 : Fin 8960) (h : ∀ C : Fin 8960, cl (x (ix2 R C)) ≤ cl (x (ix2 R C0))) : mxA (sqA X) (ix1 M) = hq (x (ix2 R C0)) := by
  refine eq_of_forall_ge_iff fun z => ?_
  rw [mxA_le]
  constructor
  · intro H
    have := H C0
    rwa [sqA_row x R X M hx] at this
  · intro H C
    rw [sqA_row x R X M hx]
    exact ((le_iff (hD C) (hD C0)).2 (h C)).trans H

/-- The reference's scales. -/
abbrev scR (X : FVec Ideal Cert.ReferenceIdeal.S3x640x8960 .bf16) : FVec Ideal Cert.ReferenceIdeal.S1920 .f32 :=
  scaleA (topA (leA (sqA X) powA) (dblA powA) (constant Cert.ReferenceIdeal.S_ .f32 0x00000000#32))

include hx hD in
/-- The scales agree, and the kernel's reciprocal is one. -/
theorem scale_row : ∃ s : ℝ, s ≠ 0 ∧ scR X (ix1 M) = (s : EReal) ∧ SC x R = (s : EReal) ∧ IV x R = ((1 / s : ℝ) : EReal) := by
  obtain ⟨C0, hC⟩ := exists_max x R
  obtain ⟨q, q0, q1, hq448⟩ := cF_448
  have et : tA (sqA X) (ix2 M 0) = hq (x (ix2 R C0)) * (q : EReal) := by
    rw [tA_apply, mxA_eq x R X M hx hD C0 hC]
    exact congrArg _ hq448
  have ek : tS (MX x R) = cl (x (ix2 R C0)) * cl (x (ix2 R C0)) * (q : EReal) := by
    rw [MX_eq x R C0 hC, tS]
    exact congrArg _ hq448
  unfold SC IV
  rw [ek]
  rcases dom_cases (hD C0) with ⟨e1, e2⟩ | ⟨r, h1, h2, e1, e2⟩
  · have hr : tA (sqA X) (ix2 M 0) = ((0 : ℝ) : EReal) := by rw [et, e2, zero_mul, EReal.coe_zero]
    have hs := top_small (sqA X) M 0 hr (zpow_pos (by norm_num) _)
    have hsm : (255/2361183241434822606848 : ℝ) * (255/2361183241434822606848) * q < (2:ℝ) ^ (-126 : Int) := by
      have : (255/2361183241434822606848 : ℝ) * (255/2361183241434822606848) * q ≤ (255/2361183241434822606848) * (255/2361183241434822606848) * 1 :=
        mul_le_mul_of_nonneg_left (by linarith) (by norm_num)
      refine lt_of_le_of_lt this ?_
      norm_num
    refine ⟨1, one_ne_zero, by rw [EReal.coe_one]; exact hs, ?_⟩
    rw [e1, ← EReal.coe_mul, ← EReal.coe_mul]
    rcases scale_spec _ (mul_nonneg (by norm_num) q0.le) (hsm.trans (zpow_lt_zpow_right₀ (by norm_num) (by norm_num))) with ⟨-, a, b⟩ | ⟨n, n1, -, a, -⟩
    · rw [a, b]; simp
    · have := (zpow_lt_zpow_iff_right₀ (by norm_num : (1:ℝ) < 2)).1 (lt_of_le_of_lt a hsm)
      omega
  · have hr : tA (sqA X) (ix2 M 0) = ((r * r * q : ℝ) : EReal) := by rw [et, e2, ← EReal.coe_mul]
    have r0 : 0 ≤ r := le_trans (by norm_num) h1
    have hbig : r * r * q < (2:ℝ) ^ (120 : Int) := by
      have a1 : r * r ≤ 18446744073709551616 * 18446744073709551616 := mul_le_mul h2.le h2.le r0 (by norm_num)
      have a2 : r * r * q ≤ 18446744073709551616 * 18446744073709551616 * q := mul_le_mul_of_nonneg_right a1 q0.le
      have a3 : (18446744073709551616 * 18446744073709551616 : ℝ) * q < 18446744073709551616 * 18446744073709551616 * (1/256) := mul_lt_mul_of_pos_left q1 (by norm_num)
      refine lt_of_lt_of_le (lt_of_le_of_lt a2 a3) ?_
      norm_num
    rw [e1, ← EReal.coe_mul, ← EReal.coe_mul]
    rcases scale_spec (r * r * q) (mul_nonneg (mul_nonneg r0 r0) q0.le) hbig with ⟨a, b, c⟩ | ⟨n, n1, n2, a, b, c, d⟩
    · refine ⟨1, one_ne_zero, by rw [EReal.coe_one]; exact top_small (sqA X) M _ hr a, ?_⟩
      rw [b, c]; simp
    · refine ⟨(2:ℝ) ^ ((n : Int) - 126), (zpow_pos (by norm_num) _).ne', top_big (sqA X) M _ hr n n1 n2 a b, c, ?_⟩
      have e9 : (2:ℝ) ^ (126 - (n : Int)) = 1 / (2:ℝ) ^ ((n : Int) - 126) := by rw [one_div, ← zpow_neg, neg_sub]
      rw [d, e9]

/-- Four squares of a group. -/
abbrev hh (g : Fin 2240) (k : Fin 4) : EReal := hq (x (ix2 R (mem4 g k)))

include hD in
theorem kept_row (g : Fin 2240) : Kept (cl (x (ix2 R (mem4 g 0)))) (cl (x (ix2 R (mem4 g 1)))) (cl (x (ix2 R (mem4 g 2)))) (cl (x (ix2 R (mem4 g 3))))
    (V0 x R g) (V1 x R g) (PT x R g)
    (n0 (hh x R g 0) (hh x R g 1) (hh x R g 2) (hh x R g 3)) (n1 (hh x R g 0) (hh x R g 1) (hh x R g 2) (hh x R g 3))
    (n2 (hh x R g 0) (hh x R g 1) (hh x R g 2) (hh x R g 3)) (n3 (hh x R g 0) (hh x R g 1) (hh x R g 2) (hh x R g 3)) :=
  kept _ _ _ _ _ _ _ _ (le_iff (hD _) (hD _)) (le_iff (hD _) (hD _)) (le_iff (hD _) (hD _)) (le_iff (hD _) (hD _)) (le_iff (hD _) (hD _)) (le_iff (hD _) (hD _))

/-- The reference's groups, and which of each are kept. -/
abbrev hR : A3 := grpA (sqA X)
abbrev kR0 : B2 := kA0 (mb0 (hR X)) (mb1 (hR X)) (mb2 (hR X)) (mb3 (hR X))
abbrev kR1 : B2 := kA1 (mb0 (hR X)) (mb1 (hR X)) (mb2 (hR X)) (mb3 (hR X))
abbrev kR2 : B2 := kA2 (mb0 (hR X)) (mb1 (hR X)) (mb2 (hR X)) (mb3 (hR X))
abbrev kR3 : B2 := kA3 (mb0 (hR X)) (mb1 (hR X)) (mb2 (hR X)) (mb3 (hR X))
/-- The reference's codes. -/
abbrev coR : A3 := codeA (keepA (kR0 X) (kR1 X) (kR2 X) (kR3 X)) (hR X) (scR X)

include hx in
theorem hR_row (g : Fin 2240) (k : Fin 4) : hR X (ix3 M g k) = hh x R g k := by
  rw [hR, grpA_apply]
  exact sqA_row x R X M hx _

section Bits
variable (a b c d : A2) (g : Fin 2240)
theorem kA0_apply : kA0 a b c d (ix2 M g) = n0 (a (ix2 M g)) (b (ix2 M g)) (c (ix2 M g)) (d (ix2 M g)) := by rw [kA0, few_apply]; rfl
theorem kA1_apply : kA1 a b c d (ix2 M g) = n1 (a (ix2 M g)) (b (ix2 M g)) (c (ix2 M g)) (d (ix2 M g)) := by rw [kA1, few_apply]; rfl
theorem kA2_apply : kA2 a b c d (ix2 M g) = n2 (a (ix2 M g)) (b (ix2 M g)) (c (ix2 M g)) (d (ix2 M g)) := by rw [kA2, few_apply]; rfl
theorem kA3_apply : kA3 a b c d (ix2 M g) = n3 (a (ix2 M g)) (b (ix2 M g)) (c (ix2 M g)) (d (ix2 M g)) := by rw [kA3, few_apply]; rfl
end Bits

include hx in
theorem kR_row (g : Fin 2240) : kR0 X (ix2 M g) = n0 (hh x R g 0) (hh x R g 1) (hh x R g 2) (hh x R g 3) ∧ kR1 X (ix2 M g) = n1 (hh x R g 0) (hh x R g 1) (hh x R g 2) (hh x R g 3)
    ∧ kR2 X (ix2 M g) = n2 (hh x R g 0) (hh x R g 1) (hh x R g 2) (hh x R g 3) ∧ kR3 X (ix2 M g) = n3 (hh x R g 0) (hh x R g 1) (hh x R g 2) (hh x R g 3) := by
  have m0 : mb0 (hR X) (ix2 M g) = hh x R g 0 := (mb0_apply M g _).trans (hR_row x R X M hx g 0)
  have m1 : mb1 (hR X) (ix2 M g) = hh x R g 1 := (mb1_apply M g _).trans (hR_row x R X M hx g 1)
  have m2 : mb2 (hR X) (ix2 M g) = hh x R g 2 := (mb2_apply M g _).trans (hR_row x R X M hx g 2)
  have m3 : mb3 (hR X) (ix2 M g) = hh x R g 3 := (mb3_apply M g _).trans (hR_row x R X M hx g 3)
  refine ⟨(kA0_apply M _ _ _ _ g).trans ?_, (kA1_apply M _ _ _ _ g).trans ?_, (kA2_apply M _ _ _ _ g).trans ?_, (kA3_apply M _ _ _ _ g).trans ?_⟩ <;> rw [m0, m1, m2, m3]

/-- Zero is clipped to zero. -/
theorem clip_zero : min (cF 0x43E00000#32) (max (cF 0xC3E00000#32) 0) = 0 := by
  rw [cF_43E00000, cF_C3E00000]
  rw [max_eq_right (by exact_mod_cast (by norm_num : (-448:ℝ) ≤ 0)), min_eq_right (by exact_mod_cast (by norm_num : (0:ℝ) ≤ 448))]

include hx hD in
/-- The reference's code of a member: the kernel's quantised value where it is kept. -/
theorem coR_row (g : Fin 2240) (k : Fin 4) (b : BitVec 1) (hb : keepA (kR0 X) (kR1 X) (kR2 X) (kR3 X) (ix3 M g k) = b) :
    coR X (ix3 M g k) = if b = 1#1 then Q (IV x R) (cl (x (ix2 R (mem4 g k)))) else 0 := by
  obtain ⟨s, hs, e1, e2, e3⟩ := scale_row x R X M hx hD
  rw [coR, codeA_apply, hb, e1, Ideal.div_coe hs, hR_row x R X M hx]
  by_cases h : b = 1#1
  · rw [if_pos h, if_pos h, Q, sq_cl (hD _), e3]
  · rw [if_neg h, if_neg h, zero_mul]
    exact clip_zero

include hx hD in
/-- The codes of a group, -/
theorem code_row (g : Fin 2240) (k : Fin 4) :
    coR X (ix3 M g k) = codeOf k (Q (IV x R) (V0 x R g)) (Q (IV x R) (V1 x R g)) (PT x R g) := by
  obtain ⟨b0, b1, b2, b3⟩ := kR_row x R X M hx g
  obtain ⟨c0, c1, c2, c3⟩ := codes_kept (kept_row x R hD g) (Q (IV x R))
  match k with
  | ⟨0, _⟩ => exact (coR_row x R X M hx hD g 0 _ ((keepA_apply M g 0 _ _ _ _).trans b0)).trans c0.symm
  | ⟨1, _⟩ => exact (coR_row x R X M hx hD g 1 _ ((keepA_apply M g 1 _ _ _ _).trans b1)).trans c1.symm
  | ⟨2, _⟩ => exact (coR_row x R X M hx hD g 2 _ ((keepA_apply M g 2 _ _ _ _).trans b2)).trans c2.symm
  | ⟨3, _⟩ => exact (coR_row x R X M hx hD g 3 _ ((keepA_apply M g 3 _ _ _ _).trans b3)).trans c3.symm

include hx hD in
/-- the kept ones, -/
theorem val_row (g : Fin 2240) : vA0 (kR0 X) (kR1 X) (coR X) (ix2 M g) = Q (IV x R) (V0 x R g) ∧ vA1 (kR3 X) (kR2 X) (coR X) (ix2 M g) = Q (IV x R) (V1 x R g) := by
  obtain ⟨b0, b1, b2, b3⟩ := kR_row x R X M hx g
  have h0 := coR_row x R X M hx hD g 0 _ ((keepA_apply M g 0 _ _ _ _).trans b0)
  have h1 := coR_row x R X M hx hD g 1 _ ((keepA_apply M g 1 _ _ _ _).trans b1)
  have h2 := coR_row x R X M hx hD g 2 _ ((keepA_apply M g 2 _ _ _ _).trans b2)
  have h3 := coR_row x R X M hx hD g 3 _ ((keepA_apply M g 3 _ _ _ _).trans b3)
  rw [vA0_apply, vA1_apply, b0, b1, b2, b3]
  exact vals_kept (kept_row x R hD g) (Q (IV x R)) h0 h1 h2 h3

include hx hD in
/-- their positions. -/
theorem meta_row (g : Fin 2240) : BitVec.setWidth 8 (posOf (PT x R g)) = metaA (kR0 X) (kR1 X) (kR2 X) (kR3 X) (ix2 M g) := by
  obtain ⟨b0, b1, b2, b3⟩ := kR_row x R X M hx g
  rw [metaA_apply, b0, b1, b2, b3]
  exact meta_kept (kept_row x R hD g)

end Cert.Joint

end
-- ==== Proof.RefOut.lean ====
/- The reference's two results that its last call makes, entry by entry. -/
module

public import proofs.«01_k».proof.Proof.RefMax

@[expose] public section

set_option maxRecDepth 8192

noncomputable section

namespace Cert.ReferenceIdeal.Hand

open Idealize.ShloMosaic Idealize.ShloMosaic.TcCoe Idealize.ShloMosaic.Tactic Cert.ReferenceIdeal Cert.ReferenceIdeal.Gen Cert.ReferenceIdeal.Value

variable (m : (ℓ : Loc nD τ sig) → Buf (Elt Ideal) ℓ)

theorem pay1_apply (P0 : Vec Ideal S1920x8960 .f32) (P1 : Vec Ideal S8960x1536 .fp8e4m3) (P2 : Vec Ideal S1920x1 .f32) (P3 : Vec Ideal S1x1536 .f32)
    (M : Fin 1920) (C : Fin 1536) :
    k0_pay1 P0 P1 P2 P3 (ix2 M C) = (∑ k : Fin 8960, P0 (ix2 M k) * P1 (ix2 k C)) * P2 (ix2 M 0) * P3 (ix2 0 C) := by
  pointwise [k0_pay1]
theorem pay2_apply (P0 : Vec Ideal S1920x4480 .f32) (M : Fin 1920) (C : Fin 4480) : k0_pay2 P0 (ix2 M C) = P0 (ix2 M C) := by
  pointwise [k0_pay2]

/-- The product, scaled. -/
def yA (P0 : Vec Ideal S1920x8960 .f32) (P1 : Vec Ideal S8960x1536 .fp8e4m3) (P2 : Vec Ideal S1920x1 .f32) (P3 : Vec Ideal S1x1536 .f32) : Vec Ideal S1920x1536 .bf16 :=
  fun y => (∑ k : Fin 8960, P0 (ix2 (y 0) k) * P1 (ix2 k (y 1))) * P2 (ix2 (y 0) 0) * P3 (ix2 0 (y 1))

theorem yA_apply (P0 : Vec Ideal S1920x8960 .f32) (P1 : Vec Ideal S8960x1536 .fp8e4m3) (P2 : Vec Ideal S1920x1 .f32) (P3 : Vec Ideal S1x1536 .f32)
    (M : Fin 1920) (C : Fin 1536) : yA P0 P1 P2 P3 (ix2 M C) = (∑ k : Fin 8960, P0 (ix2 M k) * P1 (ix2 k C)) * P2 (ix2 M 0) * P3 (ix2 0 C) := rfl
theorem canon5 (P0 : Vec Ideal S1920x8960 .f32) (P1 : Vec Ideal S8960x1536 .fp8e4m3) (P2 : Vec Ideal S1920x1 .f32) (P3 : Vec Ideal S1x1536 .f32) (y : S1920x1536.Idx) :
    View.canon [⟨r0_4, k0_pay1 P0 P1 P2 P3⟩] y = yA P0 P1 P2 P3 y := by
  refine View.canon_apply_of_pieces (yA P0 P1 P2 P3) _ ?_ y (cover0_5 _ y)
  intro pc hpc
  rcases List.mem_cons.mp hpc with rfl | hpc
  · intro x
    have e : r0_4.idx x = x := by
      funext a
      match a with
      | ⟨0, _⟩ => exact Fin.ext (by show 0 + 1 * (x 0).val = (x 0).val; omega)
      | ⟨1, _⟩ => exact Fin.ext (by show 0 + 1 * (x 1).val = (x 1).val; omega)
    refine Eq.trans ?_ (congrArg (yA P0 P1 P2 P3) e).symm
    show k0_pay1 P0 P1 P2 P3 x = yA P0 P1 P2 P3 x
    rw [eq_ix2 x]
    exact pay1_apply P0 P1 P2 P3 _ _
  nomatch hpc
/-- The kept values, narrowed. -/
def wA (P0 : Vec Ideal S1920x4480 .f32) : Vec Ideal S1920x4480 .fp8e4m3 := fun i => P0 i

theorem canon6 (P0 : Vec Ideal S1920x4480 .f32) (y : S1920x4480.Idx) :
    View.canon [⟨r0_5, k0_pay2 P0⟩] y = wA P0 y := by
  refine View.canon_apply_of_pieces (wA P0) _ ?_ y (cover0_6 _ y)
  intro pc hpc
  rcases List.mem_cons.mp hpc with rfl | hpc
  · intro x
    have e : r0_5.idx x = x := by
      funext a
      match a with
      | ⟨0, _⟩ => exact Fin.ext (by show 0 + 1 * (x 0).val = (x 0).val; omega)
      | ⟨1, _⟩ => exact Fin.ext (by show 0 + 1 * (x 1).val = (x 1).val; omega)
    refine Eq.trans ?_ (congrArg (wA P0) e).symm
    show k0_pay2 P0 x = wA P0 x
    rw [eq_ix2 x]
    exact pay2_apply P0 _ _
  nomatch hpc

theorem idx0 : ∀ t : Fin cfg0.N, win0_0.index t = ![0, 0] := (by decide +kernel : ∀ t : Fin grid0.N, win0_0.index t = ![0, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])

theorem rd0 (X : Vec Ideal S1920x8960 .f32) (t : Fin cfg0.N) (r : Fin 1920) (k : Fin 8960) : ((cfg0.win 0).blk t).view.read (Elt Ideal) X (ix2 r k : S1920x8960.Idx) = X (ix2 r k) := by
  have e := idx0 t
  blk_ext [e]
/-- What the last call reads. -/
def a0 (c : Dev nD) : S1920x8960.Idx → EReal := V m c main_v109
theorem ib0 (c : Dev nD) (t : Fin cfg0.N) (r : Fin 1920) (k : Fin 8960) : (iblk m c 0 t : S1920x8960.Idx → EReal) (ix2 r k) = a0 m c (ix2 r k) :=
  rd0 (V m c main_v109) t r k
theorem rd1 (X : Vec Ideal S1920x4480 .f32) (t : Fin cfg0.N) (r : Fin 1920) (k : Fin 4480) : ((cfg0.win 1).blk t).view.read (Elt Ideal) X (ix2 r k : S1920x4480.Idx) = X (ix2 r k) := by
  have e := idx1 t
  blk_ext [e]
/-- What the last call reads. -/
def a1 (c : Dev nD) : S1920x4480.Idx → EReal := V m c main_v113
theorem ib1 (c : Dev nD) (t : Fin cfg0.N) (r : Fin 1920) (k : Fin 4480) : (iblk m c 1 t : S1920x4480.Idx → EReal) (ix2 r k) = a1 m c (ix2 r k) :=
  rd1 (V m c main_v113) t r k
theorem rd2 (X : Vec Ideal S1920x1 .f32) (t : Fin cfg0.N) (r : Fin 1920) : ((cfg0.win 2).blk t).view.read (Elt Ideal) X (ix2 r 0 : S1920x1.Idx) = X (ix2 r 0) := by
  have e := idx2 t
  blk_ext [e]
/-- What the last call reads. -/
def a2 (c : Dev nD) : S1920x1.Idx → EReal := V m c main_v114
theorem ib2 (c : Dev nD) (t : Fin cfg0.N) (r : Fin 1920) : (iblk m c 2 t : S1920x1.Idx → EReal) (ix2 r 0) = a2 m c (ix2 r 0) :=
  rd2 (V m c main_v114) t r
theorem rd3 (X : Vec Ideal S8960x1536 .fp8e4m3) (t : Fin cfg0.N) (r : Fin 8960) (k : Fin 1536) : ((cfg0.win 3).blk t).view.read (Elt Ideal) X (ix2 r k : S8960x1536.Idx) = X (ix2 r k) := by
  have e := idx3 t
  blk_ext [e]
/-- What the last call reads. -/
def a3 (c : Dev nD) : S8960x1536.Idx → EReal := V m c main_arg1
theorem ib3 (c : Dev nD) (t : Fin cfg0.N) (r : Fin 8960) (k : Fin 1536) : (iblk m c 3 t : S8960x1536.Idx → EReal) (ix2 r k) = a3 m c (ix2 r k) :=
  rd3 (V m c main_arg1) t r k
theorem rd4 (X : Vec Ideal S1x1536 .f32) (t : Fin cfg0.N) (k : Fin 1536) : ((cfg0.win 4).blk t).view.read (Elt Ideal) X (ix2 0 k : S1x1536.Idx) = X (ix2 0 k) := by
  have e := idx4 t
  blk_ext [e]
/-- What the last call reads. -/
def a4 (c : Dev nD) : S1x1536.Idx → EReal := V m c main_v115
theorem ib4 (c : Dev nD) (t : Fin cfg0.N) (k : Fin 1536) : (iblk m c 4 t : S1x1536.Idx → EReal) (ix2 0 k) = a4 m c (ix2 0 k) :=
  rd4 (V m c main_v115) t k

theorem ld0 (x : Vec Ideal S1920x8960 .f32) (r : Fin 1920) (k : Fin 8960) : View.ld x r0_0 (ix2 r k) = x (ix2 r k) :=
  View.ld_unit_apply_of x _ _ _ (ix2 r k) (ix2 r k) fun a => by
    match a with
    | ⟨0, _⟩ => show r.val = 0 + r.val; omega
    | ⟨1, _⟩ => show k.val = 0 + k.val; omega
theorem ld1 (x : Vec Ideal S8960x1536 .fp8e4m3) (r : Fin 8960) (k : Fin 1536) : View.ld x r0_1 (ix2 r k) = x (ix2 r k) :=
  View.ld_unit_apply_of x _ _ _ (ix2 r k) (ix2 r k) fun a => by
    match a with
    | ⟨0, _⟩ => show r.val = 0 + r.val; omega
    | ⟨1, _⟩ => show k.val = 0 + k.val; omega
theorem ld2 (x : Vec Ideal S1920x1 .f32) (r : Fin 1920) : View.ld x r0_2 (ix2 r 0) = x (ix2 r 0) :=
  View.ld_unit_apply_of x _ _ _ (ix2 r 0) (ix2 r 0) fun a => by
    match a with
    | ⟨0, _⟩ => show r.val = 0 + r.val; omega
    | ⟨1, _⟩ => rfl
theorem ld3 (x : Vec Ideal S1x1536 .f32) (k : Fin 1536) : View.ld x r0_3 (ix2 0 k) = x (ix2 0 k) :=
  View.ld_unit_apply_of x _ _ _ (ix2 0 k) (ix2 0 k) fun a => by
    match a with
    | ⟨0, _⟩ => rfl
    | ⟨1, _⟩ => show k.val = 0 + k.val; omega
theorem ld5 (x : Vec Ideal S1920x4480 .f32) (r : Fin 1920) (k : Fin 4480) : View.ld x r0_5 (ix2 r k) = x (ix2 r k) :=
  View.ld_unit_apply_of x _ _ _ (ix2 r k) (ix2 r k) fun a => by
    match a with
    | ⟨0, _⟩ => show r.val = 0 + r.val; omega
    | ⟨1, _⟩ => show k.val = 0 + k.val; omega

theorem emb5 (t : Fin cfg0.N) (r : Fin 1920) (C : Fin 1536) : ((cfg0.win 5).blk t).view.emb (ix2 r C : S1920x1536.Idx) = (ix2 r C : S1920x1536.Idx) := by
  have e := idx5 t
  blk_ext [e]
theorem emb6 (t : Fin cfg0.N) (r : Fin 1920) (C : Fin 4480) : ((cfg0.win 6).blk t).view.emb (ix2 r C : S1920x4480.Idx) = (ix2 r C : S1920x4480.Idx) := by
  have e := idx6 t
  blk_ext [e]

/-- The scaled product of four arrays. -/
def yF (f0 : S1920x8960.Idx → EReal) (f3 : S8960x1536.Idx → EReal) (f2 : S1920x1.Idx → EReal) (f4 : S1x1536.Idx → EReal) : Vec Ideal S1920x1536 .bf16 :=
  fun y => (∑ k : Fin 8960, f0 (ix2 (y 0) k) * f3 (ix2 k (y 1))) * f2 (ix2 (y 0) 0) * f4 (ix2 0 (y 1))
theorem out5 (x0 : Vec Ideal S1920x8960 .f32) (x3 : Vec Ideal S8960x1536 .fp8e4m3) (x2 : Vec Ideal S1920x1 .f32) (x4 : Vec Ideal S1x1536 .f32)
    (f0 : S1920x8960.Idx → EReal) (f3 : S8960x1536.Idx → EReal) (f2 : S1920x1.Idx → EReal) (f4 : S1x1536.Idx → EReal)
    (h0 : ∀ r k, x0 (ix2 r k) = f0 (ix2 r k)) (h3 : ∀ r k, x3 (ix2 r k) = f3 (ix2 r k)) (h2 : ∀ r, x2 (ix2 r 0) = f2 (ix2 r 0)) (h4 : ∀ k, x4 (ix2 0 k) = f4 (ix2 0 k))
    (M : Fin 1920) (C : Fin 1536) :
    View.canon [⟨r0_4, k0_pay1 (View.ld x0 r0_0) (View.ld x3 r0_1) (View.ld x2 r0_2) (View.ld x4 r0_3)⟩] (ix2 M C)
      = yF f0 f3 f2 f4 (ix2 M C) := by
  refine (canon5 _ _ _ _ _).trans ?_
  refine (yA_apply _ _ _ _ M C).trans ?_
  exact congrArg₂ (fun a b : EReal => a * b) (congrArg₂ (fun a b : EReal => a * b)
    (Finset.sum_congr rfl fun k _ => congrArg₂ (fun a b : EReal => a * b) ((ld0 x0 M k).trans (h0 M k)) ((ld1 x3 k C).trans (h3 k C))) ((ld2 x2 M).trans (h2 M))) ((ld3 x4 C).trans (h4 C))

/-- The scaled product as the last call leaves it. -/
def yO (c : Dev nD) : Vec Ideal S1920x1536 .bf16 := yF (a0 m c) (a3 m c) (a2 m c) (a4 m c)

theorem arr5 (c : Dev nD) : (dats m 0 c).arrAt 5 cfg0.N = yO m c := by
  refine (dats m 0 c).arrAt_eq_of_covers 5 _ (by decide +kernel) fun t hf y => ?_
  have hy : y = (ix2 (n0 := 1920) (n1 := 1536) (y 0) (y 1) : S1920x1536.Idx) := eq_ix2 y
  rw [hy]
  refine Eq.trans ?_ (congrArg (yO m c) (emb5 t (y 0) (y 1))).symm
  blk_simp
  rw [after0_5]
  exact out5 (iblk m c 0 t) (iblk m c 3 t) (iblk m c 2 t) (iblk m c 4 t) (a0 m c) (a3 m c) (a2 m c) (a4 m c)
    (ib0 m c t) (ib3 m c t) (ib2 m c t) (ib4 m c t) (y 0) (y 1)
theorem arr6 (c : Dev nD) : (dats m 0 c).arrAt 6 cfg0.N = a1 m c := by
  refine (dats m 0 c).arrAt_eq_of_covers 6 _ (by decide +kernel) fun t hf y => ?_
  have hy : y = (ix2 (n0 := 1920) (n1 := 4480) (y 0) (y 1) : S1920x4480.Idx) := eq_ix2 y
  rw [hy]
  refine Eq.trans ?_ (congrArg (a1 m c) (emb6 t (y 0) (y 1))).symm
  blk_simp
  rw [after0_6]
  refine (canon6 _ _).trans ?_
  exact (ld5 _ (y 0) (y 1)).trans (ib1 m c t (y 0) (y 1))

end Cert.ReferenceIdeal.Hand

end
-- ==== Proof.RefArrays.lean ====
/- The arrays that the reference's last call reads, entry by entry. -/
module

public import proofs.«01_k».proof.Proof.RefOut

@[expose] public section

set_option maxRecDepth 8192

noncomputable section

namespace Cert.ReferenceIdeal.Hand

open Idealize.ShloMosaic Idealize.ShloMosaic.TcCoe Idealize.ShloMosaic.Tactic Cert.ReferenceIdeal Cert.ReferenceIdeal.Gen

variable (m : (ℓ : Loc nD τ sig) → Buf (Elt Ideal) ℓ)

theorem flat4_apply (X : A3) (M : Fin 1920) (k : Fin 8960) :
    (shapeCast S1920x8960 X shapeCasts_S1920x2240x4_S1920x8960 : FVec Ideal S1920x8960 .f32) (ix2 M k)
      = X (ix3 M (⟨k.val / 4, by omega⟩ : Fin 2240) (⟨k.val % 4, by omega⟩ : Fin 4)) := by
  pointwise []
theorem colM_apply (u : FVec Ideal S1920 .f32) (M : Fin 1920) :
    (broadcastInDim S1920x1 ![0] bcast_S1920_S1920x1_0 u : FVec Ideal S1920x1 .f32) (ix2 M 0) = u (ix1 M) := by
  pointwise []
theorem rowC_apply (u : FVec Ideal S1536 .f32) (C : Fin 1536) :
    (broadcastInDim S1x1536 ![1] bcast_S1536_S1x1536_1 u : FVec Ideal S1x1536 .f32) (ix2 0 C) = u (ix1 C) := by
  pointwise []
theorem six_apply (u : FVec Ideal S1920 .f32) (t : Fin 6) (r : Fin 320) :
    (shapeCast S6x1x320 u shapeCasts_S1920_S6x1x320 : FVec Ideal S6x1x320 .f32) (ix3 t 0 r) = u (ix1 (⟨320 * t.val + r.val, by omega⟩ : Fin 1920)) := by
  pointwise []
  try exact congrArg (fun M => u (ix1 M)) (Fin.ext (by show t.val * 320 + r.val = 320 * t.val + r.val; omega))

theorem a0_apply (c : Dev nD) (M : Fin 1920) (k : Fin 8960) :
    a0 m c (ix2 M k) = coI m c (ix3 M (⟨k.val / 4, by omega⟩ : Fin 2240) (⟨k.val % 4, by omega⟩ : Fin 4)) := by
  unfold a0
  rw [V_mv109]
  exact flat4_apply _ M k
theorem a1_eq (c : Dev nD) : a1 m c = valsA (vA0 (kI0 m c) (kI1 m c) (coI m c)) (vA1 (kI3 m c) (kI2 m c) (coI m c)) := by
  unfold a1
  rw [V_mv113]
theorem a2_apply (c : Dev nD) (M : Fin 1920) : a2 m c (ix2 M 0) = scI m c (ix1 M) := by
  unfold a2
  rw [V_mv114]
  exact colM_apply _ M
theorem a3_eq (c : Dev nD) : a3 m c = m (c, Proc.devRef .tc main_arg1) := by
  unfold a3
  rw [V_marg1]
theorem a4_apply (c : Dev nD) (C : Fin 1536) : a4 m c (ix2 0 C) = (m (c, Proc.devRef .tc main_arg2) : S1536.Idx → EReal) (ix1 C) := by
  unfold a4
  rw [V_mv115]
  exact rowC_apply _ C
theorem v108_apply (c : Dev nD) (t : Fin 6) (r : Fin 320) :
    (V m c main_v108 : S6x1x320.Idx → EReal) (ix3 t 0 r) = scI m c (ix1 (⟨320 * t.val + r.val, by omega⟩ : Fin 1920)) := by
  rw [V_mv108]
  exact six_apply _ t r

end Cert.ReferenceIdeal.Hand

end
-- ==== Proof.Whole.lean ====
/- One trip's results, from the lists of pieces that its buffers end with. -/
module

public import proofs.«01_k».proof.Proof.Out

@[expose] public section

set_option maxRecDepth 16384

noncomputable section

namespace Cert.KernelIdeal.Hand

open Idealize.ShloMosaic Cert.KernelIdeal Cert.KernelIdeal.Gen

/-- The number zero, in every place of one pair's tile. -/
abbrev zT : FVec Ideal S1x32x128 .bf16 := shapeCast S1x32x128 (broadcast S32x128 (Scalar.ofBits .bf16 0x0000#16)) shapeCasts_S32x128_S1x32x128

/-- The running maximum as it starts. -/
def zL : List (View.Piece (Elt Ideal) S5x32x128 .bf16) := [
    ⟨Rect.unit (s := S5x32x128) ![4, 0, 0] S1x32x128.size inb_S5x32x128_S1x32x128_4_0_0, zT⟩,
    ⟨Rect.unit (s := S5x32x128) ![3, 0, 0] S1x32x128.size inb_S5x32x128_S1x32x128_3_0_0, zT⟩,
    ⟨Rect.unit (s := S5x32x128) ![2, 0, 0] S1x32x128.size inb_S5x32x128_S1x32x128_2_0_0, zT⟩,
    ⟨Rect.unit (s := S5x32x128) ![1, 0, 0] S1x32x128.size inb_S5x32x128_S1x32x128_1_0_0, zT⟩,
    ⟨Rect.unit (s := S5x32x128) ![0, 0, 0] S1x32x128.size inb_S5x32x128_S1x32x128_0_0_0, zT⟩]

theorem five_cases (rp : Fin 5) : rp = 0 ∨ rp = 1 ∨ rp = 2 ∨ rp = 3 ∨ rp = 4 := by revert rp; decide

theorem zT_apply (r : Fin 32) (l : Fin 128) : zT (ix3 0 r l) = 0 := by
  have h : zT (ix3 0 r l) = Ideal.ofBits .bf16 0x0000#16 := by pointwise [zT]
  rw [h]
  simp [Ideal.ofBits, Ideal.ieee]

section Whole

variable (c : Dev nD) (i : grid0.Coords)
  (arg1 : Memref sig .tc .vmem S320x8960 .bf16) (harg1 : arg1.IsWhole)
  (arg2 : Memref sig .tc .vmem S8960x1536 .fp8e4m3) (harg2 : arg2.IsWhole)
  (arg3 : Memref sig .tc .vmem S1x1536 .f32) (harg3 : arg3.IsWhole)
  (arg4 : Memref sig .tc .vmem S320x1536 .bf16) (harg4 : arg4.IsWhole)
  (arg5 : Memref sig .tc .vmem S320x4480 .fp8e4m3) (harg5 : arg5.IsWhole)
  (arg6 : Memref sig .tc .vmem S320x2240 .i8) (harg6 : arg6.IsWhole)
  (arg7 : Memref sig .tc .vmem S1x1x320 .f32) (harg7 : arg7.IsWhole)
  (arg8 : Memref sig .tc .vmem S320x8960 .fp8e4m3) (harg8 : arg8.IsWhole)
  (arg9 : Memref sig .tc .vmem S35x5x32x128 .bf16) (harg9 : arg9.IsWhole)
  (arg10 : Memref sig .tc .vmem S35x5x32x128 .bf16) (harg10 : arg10.IsWhole)
  (arg11 : Memref sig .tc .vmem S35x5x32x128 .fp8e4m3) (harg11 : arg11.IsWhole)
  (arg12 : Memref sig .tc .vmem S5x32x128 .bf16) (harg12 : arg12.IsWhole)
  (arg13 : Memref sig .tc .vmem S5x32x128 .f32) (harg13 : arg13.IsWhole)
  (arg14 : Memref sig .tc .vmem S320x128 .f32) (harg14 : arg14.IsWhole)
  (x : S320x8960.Idx → EReal) (X : BufTy.Contents (Elt Ideal) arg1.view.ty) (hX : arg1.view.read (Elt Ideal) X = x)
  (f9 : BufTy.Contents (Elt Ideal) arg9.view.ty) (f10 : BufTy.Contents (Elt Ideal) arg10.view.ty) (f11 : BufTy.Contents (Elt Ideal) arg11.view.ty)
  (g12 h12 : BufTy.Contents (Elt Ideal) arg12.view.ty)

/-- The pieces the first loop leaves, after all its trips. -/
abbrev P1 := pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 X f9 f10 f11 (arg12.view.writes (Elt Ideal) g12 zL) 35
/-- The running maximum as it ends. -/
abbrev A12 : BufTy.Contents (Elt Ideal) arg12.view.ty := arg12.view.writes (Elt Ideal) g12 ((P1 c i arg1 harg1 arg2 harg2 arg3 harg3 arg4 harg4 arg5 harg5 arg6 harg6 arg7 harg7 arg8 harg8 arg9 harg9 arg10 harg10 arg11 harg11 arg12 harg12 arg13 harg13 arg14 harg14 X f9 f10 f11 g12).2.2.2 ++ zL)

include hX in
theorem isMax : IsMax x (arg12.view.read (Elt Ideal) (A12 c i arg1 harg1 arg2 harg2 arg3 harg3 arg4 harg4 arg5 harg5 arg6 harg6 arg7 harg7 arg8 harg8 arg9 harg9 arg10 harg10 arg11 harg11 arg12 harg12 arg13 harg13 arg14 harg14 X f9 f10 f11 g12)) := by
  intro rp r l z
  have h := (loop1 Variants.none c none i arg1 harg1 arg2 harg2 arg3 harg3 arg4 harg4 arg5 harg5 arg6 harg6 arg7 harg7 arg8 harg8 arg9 harg9 arg10 harg10 arg11 harg11 arg12 harg12 arg13 harg13 arg14 harg14 X f9 f10 f11 (arg12.view.writes (Elt Ideal) g12 zL) 35 (le_refl _)).2.2.2 rp r l z
  rw [A12, View.writes_append, h, hX]
  have h0 : arg12.view.read (Elt Ideal) (arg12.view.writes (Elt Ideal) g12 zL) (ix3 rp r l) = 0 := by
    unfold zL
    rw [readM_hit]
    have hr := five_cases rp
    rcases hr with rfl | rfl | rfl | rfl | rfl <;> exact zT_apply r l
  rw [h0]
  exact ⟨fun h => ⟨h.1, fun j => h.2 j j.isLt⟩, fun h => ⟨h.1, fun j _ => h.2 j⟩⟩

include hX in
theorem holds_run (f13 : BufTy.Contents (Elt Ideal) arg13.view.ty) (L9) (L10) (L11) (L13)
    (e9 : L9 = (P1 c i arg1 harg1 arg2 harg2 arg3 harg3 arg4 harg4 arg5 harg5 arg6 harg6 arg7 harg7 arg8 harg8 arg9 harg9 arg10 harg10 arg11 harg11 arg12 harg12 arg13 harg13 arg14 harg14 X f9 f10 f11 g12).1) (e10 : L10 = (P1 c i arg1 harg1 arg2 harg2 arg3 harg3 arg4 harg4 arg5 harg5 arg6 harg6 arg7 harg7 arg8 harg8 arg9 harg9 arg10 harg10 arg11 harg11 arg12 harg12 arg13 harg13 arg14 harg14 X f9 f10 f11 g12).2.1) (e11 : L11 = (P1 c i arg1 harg1 arg2 harg2 arg3 harg3 arg4 harg4 arg5 harg5 arg6 harg6 arg7 harg7 arg8 harg8 arg9 harg9 arg10 harg10 arg11 harg11 arg12 harg12 arg13 harg13 arg14 harg14 X f9 f10 f11 g12).2.2.1)
    (e13 : L13 = ivL arg12 (A12 c i arg1 harg1 arg2 harg2 arg3 harg3 arg4 harg4 arg5 harg5 arg6 harg6 arg7 harg7 arg8 harg8 arg9 harg9 arg10 harg10 arg11 harg11 arg12 harg12 arg13 harg13 arg14 harg14 X f9 f10 f11 g12)) :
    Holds (V0 x) (V1 x) (PT x) (IV x) arg9 arg10 arg11 arg13 (arg9.view.writes (Elt Ideal) f9 L9) (arg10.view.writes (Elt Ideal) f10 L10)
      (arg11.view.writes (Elt Ideal) f11 L11) (arg13.view.writes (Elt Ideal) f13 L13) := by
  have h := loop1 Variants.none c none i arg1 harg1 arg2 harg2 arg3 harg3 arg4 harg4 arg5 harg5 arg6 harg6 arg7 harg7 arg8 harg8 arg9 harg9 arg10 harg10 arg11 harg11 arg12 harg12 arg13 harg13 arg14 harg14 X f9 f10 f11 (arg12.view.writes (Elt Ideal) g12 zL) 35 (le_refl _)
  subst e9 e10 e11 e13
  refine ⟨fun j rp r l => ?_, fun j rp r l => ?_, fun j rp r l => ?_, fun rp r l => ?_⟩
  · rw [← hX]; exact h.1 j rp r l j.isLt
  · rw [← hX]; exact h.2.1 j rp r l j.isLt
  · rw [← hX]; exact h.2.2.1 j rp r l j.isLt
  · exact iv_all arg12 _ arg13 f13 x (isMax c i arg1 harg1 arg2 harg2 arg3 harg3 arg4 harg4 arg5 harg5 arg6 harg6 arg7 harg7 arg8 harg8 arg9 harg9 arg10 harg10 arg11 harg11 arg12 harg12 arg13 harg13 arg14 harg14 x X hX f9 f10 f11 g12) rp r l

include hX in
theorem sc_run (f14 : BufTy.Contents (Elt Ideal) arg14.view.ty) (L14) (e14 : L14 = scL arg12 (A12 c i arg1 harg1 arg2 harg2 arg3 harg3 arg4 harg4 arg5 harg5 arg6 harg6 arg7 harg7 arg8 harg8 arg9 harg9 arg10 harg10 arg11 harg11 arg12 harg12 arg13 harg13 arg14 harg14 X f9 f10 f11 g12)) (R : Fin 320) (l : Fin 128) :
    arg14.view.read (Elt Ideal) (arg14.view.writes (Elt Ideal) f14 L14) (ix2 R l) = SC x R := by
  subst e14
  exact sc_all arg12 _ arg14 f14 x (isMax c i arg1 harg1 arg2 harg2 arg3 harg3 arg4 harg4 arg5 harg5 arg6 harg6 arg7 harg7 arg8 harg8 arg9 harg9 arg10 harg10 arg11 harg11 arg12 harg12 arg13 harg13 arg14 harg14 x X hX f9 f10 f11 g12) R l

end Whole

section Lists

variable (c : Dev nD) (i : grid0.Coords)
  (arg1 : Memref sig .tc .vmem S320x8960 .bf16) (harg1 : arg1.IsWhole)
  (arg2 : Memref sig .tc .vmem S8960x1536 .fp8e4m3) (harg2 : arg2.IsWhole)
  (arg3 : Memref sig .tc .vmem S1x1536 .f32) (harg3 : arg3.IsWhole)
  (arg4 : Memref sig .tc .vmem S320x1536 .bf16) (harg4 : arg4.IsWhole)
  (arg5 : Memref sig .tc .vmem S320x4480 .fp8e4m3) (harg5 : arg5.IsWhole)
  (arg6 : Memref sig .tc .vmem S320x2240 .i8) (harg6 : arg6.IsWhole)
  (arg7 : Memref sig .tc .vmem S1x1x320 .f32) (harg7 : arg7.IsWhole)
  (arg8 : Memref sig .tc .vmem S320x8960 .fp8e4m3) (harg8 : arg8.IsWhole)
  (arg9 : Memref sig .tc .vmem S35x5x32x128 .bf16) (harg9 : arg9.IsWhole)
  (arg10 : Memref sig .tc .vmem S35x5x32x128 .bf16) (harg10 : arg10.IsWhole)
  (arg11 : Memref sig .tc .vmem S35x5x32x128 .fp8e4m3) (harg11 : arg11.IsWhole)
  (arg12 : Memref sig .tc .vmem S5x32x128 .bf16) (harg12 : arg12.IsWhole)
  (arg13 : Memref sig .tc .vmem S5x32x128 .f32) (harg13 : arg13.IsWhole)
  (arg14 : Memref sig .tc .vmem S320x128 .f32) (harg14 : arg14.IsWhole)
  (v25 : IVec S32x128 1) (v1007 : FVec Ideal S32x128 .f32) (v1096 : IVec S32x128 32) (v1101 : IVec S32x128 1) (v1102 : IVec S32x128 32)
  {X9 : BufTy.Contents (Elt Ideal) arg9.view.ty} {X10 : BufTy.Contents (Elt Ideal) arg10.view.ty}
  {X11 : BufTy.Contents (Elt Ideal) arg11.view.ty} {X13 : BufTy.Contents (Elt Ideal) arg13.view.ty}
  (x : S320x8960.Idx → EReal)

theorem codes_run (p0 p1 p2 p3 p4 p5 p6 p7 p8 p9 p10 p11 p12 p13 p14 p15 p16 p17 p18 p19 : View.Piece (Elt Ideal) S320x8960 .fp8e4m3) (n : ℕ) (f : BufTy.Contents (Elt Ideal) arg8.view.ty) (hn : n = 17)
    (H : Holds (V0 x) (V1 x) (PT x) (IV x) arg9 arg10 arg11 arg13 X9 X10 X11 X13)
    (e : [p0, p1, p2, p3, p4, p5, p6, p7, p8, p9, p10, p11, p12, p13, p14, p15, p16, p17, p18, p19] = codesTail arg9 arg10 arg11 arg13 X9 X10 X11 X13) :
    arg8.view.read (Elt Ideal) (arg8.view.writes (Elt Ideal) f (p0 :: p1 :: p2 :: p3 :: p4 :: p5 :: p6 :: p7 :: p8 :: p9 :: p10 :: p11 :: p12 :: p13 :: p14 :: p15 :: p16 :: p17 :: p18 :: p19 :: (pb_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 n).2.2)) = CODE (V0 x) (V1 x) (PT x) (IV x) := by
  have h := codes_all Variants.none c none i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 H n hn f
  rw [← e] at h
  exact h

theorem vals_run (p0 p1 p2 p3 p4 p5 p6 p7 p8 p9 : View.Piece (Elt Ideal) S320x4480 .fp8e4m3) (n : ℕ) (f : BufTy.Contents (Elt Ideal) arg5.view.ty) (hn : n = 17)
    (H : Holds (V0 x) (V1 x) (PT x) (IV x) arg9 arg10 arg11 arg13 X9 X10 X11 X13)
    (e : [p0, p1, p2, p3, p4, p5, p6, p7, p8, p9] = valsTail arg9 arg10 arg11 arg13 X9 X10 X11 X13) :
    arg5.view.read (Elt Ideal) (arg5.view.writes (Elt Ideal) f (p0 :: p1 :: p2 :: p3 :: p4 :: p5 :: p6 :: p7 :: p8 :: p9 :: (pb_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 n).1)) = VALS (V0 x) (V1 x) (IV x) := by
  have h := vals_all Variants.none c none i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 H n hn f
  rw [← e] at h
  exact h

theorem meta_run (p0 p1 p2 p3 p4 p5 p6 p7 p8 p9 : View.Piece (Elt Ideal) S320x2240 .i8) (n : ℕ) (f : BufTy.Contents (Elt Ideal) arg6.view.ty) (hn : n = 17)
    (H : Holds (V0 x) (V1 x) (PT x) (IV x) arg9 arg10 arg11 arg13 X9 X10 X11 X13)
    (e : [p0, p1, p2, p3, p4, p5, p6, p7, p8, p9] = metaTail arg11 X11) :
    arg6.view.read (Elt Ideal) (arg6.view.writes (Elt Ideal) f (p0 :: p1 :: p2 :: p3 :: p4 :: p5 :: p6 :: p7 :: p8 :: p9 :: (pb_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 X9 X10 X11 X13 n).2.1)) = META (PT x) := by
  have h := meta_all Variants.none c none i arg1 harg1 arg2 harg2 arg3 harg3 arg4 harg4 arg5 harg5 arg6 harg6 arg7 harg7 arg8 harg8 arg9 harg9 arg10 harg10 arg11 harg11 arg12 harg12 arg13 harg13 arg14 harg14 v25 v1007 v1096 v1101 v1102 H n hn f
  rw [← e] at h
  exact h

theorem hs_run {X14 : BufTy.Contents (Elt Ideal) arg14.view.ty} (f : BufTy.Contents (Elt Ideal) arg7.view.ty) (p1 p2)
    (e : [⟨Rect.unit (s := S1x1x320) ![0, 0, 256] S1x1x64.size inb_S1x1x320_S1x1x64_0_0_256, k0_pay1063 (F := Ideal) k0_pay1060 (View.readAt (Elt Ideal) arg14.view (Rect.unit (s := S320x128) ![256, 0] S64x128.size inb_S320x128_S64x128_256_0).toLoadRect X14)⟩, p1, p2] = hsL arg14 X14)
    (hx : ∀ (R : Fin 320) (l : Fin 128), arg14.view.read (Elt Ideal) X14 (ix2 R l) = SC x R) :
    arg7.view.read (Elt Ideal) (arg7.view.writes (Elt Ideal) f [⟨Rect.unit (s := S1x1x320) ![0, 0, 256] S1x1x64.size inb_S1x1x320_S1x1x64_0_0_256, k0_pay1063 (F := Ideal) k0_pay1060 (View.readAt (Elt Ideal) arg14.view (Rect.unit (s := S320x128) ![256, 0] S64x128.size inb_S320x128_S64x128_256_0).toLoadRect X14)⟩, p1, p2]) = HS x := by
  rw [e]
  exact hs_all arg14 X14 arg7 f x hx

theorem y_run {A8 : BufTy.Contents (Elt Ideal) arg8.view.ty} {X14 : BufTy.Contents (Elt Ideal) arg14.view.ty} {W : BufTy.Contents (Elt Ideal) arg2.view.ty} {WS : BufTy.Contents (Elt Ideal) arg3.view.ty}
    (f : BufTy.Contents (Elt Ideal) arg4.view.ty) (p1 p2 p3 p4 p5) (w : S8960x1536.Idx → EReal) (ws : S1x1536.Idx → EReal)
    (e : [⟨Rect.unit (s := S320x1536) ![0, 1280] S320x256.size inb_S320x1536_S320x256_0_1280, k0_pay3 (F := Ideal)
      (View.readAt (Elt Ideal) arg8.view (Rect.unit (s := S320x8960) ![0, 0] S320x8960.size inb_S320x8960_S320x8960_0_0).toLoadRect A8)
      (View.readAt (Elt Ideal) arg2.view (Rect.unit (s := S8960x1536) ![0, 1280] S8960x256.size inb_S8960x1536_S8960x256_0_1280).toLoadRect W)
      (View.readAt (Elt Ideal) arg14.view (Rect.unit (s := S320x128) ![0, 0] S320x128.size inb_S320x128_S320x128_0_0).toLoadRect X14)
      (View.readAt (Elt Ideal) arg3.view (Rect.unit (s := S1x1536) ![0, 1280] S1x256.size inb_S1x1536_S1x256_0_1280).toLoadRect WS)⟩, p1, p2, p3, p4, p5] = yL arg8 A8 arg2 W arg14 X14 arg3 WS)
    (hx : ∀ (R : Fin 320) (l : Fin 128), arg14.view.read (Elt Ideal) X14 (ix2 R l) = SC x R)
    (hA : arg8.view.read (Elt Ideal) A8 = CODE (V0 x) (V1 x) (PT x) (IV x))
    (hw : arg2.view.read (Elt Ideal) W = w) (hws : arg3.view.read (Elt Ideal) WS = ws) :
    arg4.view.read (Elt Ideal) (arg4.view.writes (Elt Ideal) f [⟨Rect.unit (s := S320x1536) ![0, 1280] S320x256.size inb_S320x1536_S320x256_0_1280, k0_pay3 (F := Ideal)
      (View.readAt (Elt Ideal) arg8.view (Rect.unit (s := S320x8960) ![0, 0] S320x8960.size inb_S320x8960_S320x8960_0_0).toLoadRect A8)
      (View.readAt (Elt Ideal) arg2.view (Rect.unit (s := S8960x1536) ![0, 1280] S8960x256.size inb_S8960x1536_S8960x256_0_1280).toLoadRect W)
      (View.readAt (Elt Ideal) arg14.view (Rect.unit (s := S320x128) ![0, 0] S320x128.size inb_S320x128_S320x128_0_0).toLoadRect X14)
      (View.readAt (Elt Ideal) arg3.view (Rect.unit (s := S1x1536) ![0, 1280] S1x256.size inb_S1x1536_S1x256_0_1280).toLoadRect WS)⟩, p1, p2, p3, p4, p5]) = YY x w ws := by
  rw [e, ← hw, ← hws]
  exact y_all arg8 A8 arg2 W arg14 X14 arg3 WS arg4 f x hx hA

end Lists

end Cert.KernelIdeal.Hand
-- ==== Proof.Run.lean ====
/- The kernel's body on whole buffers: what it leaves in its four results. -/
module

public import proofs.«01_k».proof.Proof.Gen.KernelIdeal.Frame
public import proofs.«01_k».proof.Proof.Whole
public import proofs.«01_k».proof.Proof.Gen.KernelIdeal.Loops
public import proofs.«01_k».proof.Proof.Gen.KernelIdeal.Skeleton
public import Idealize.ShloMosaic.Lib.Tactic
public import Idealize.ShloMosaic.Lib.Ring

@[expose] public section

-- membership in a rectangle of production extents (`View.cover_of_tiled`): the elaborator's structural look
-- recurses once per coordinate of the long axes
set_option maxRecDepth 16384

noncomputable section

namespace Cert.KernelIdeal.Gen

open Cert.KernelIdeal.Hand Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The machine's resources. -/
abbrev MM := MT nD τ sig Unit (Elt Ideal) ℕ (UR sig nD τ) ℕ

-- (the run's proof term is large: checking it walks past the default budget)
set_option maxHeartbeats 1936000 in
/-- The body's triple: on whole buffers holding the block of the input, the matrix and its scales, with the
    results' and the scratch buffers at anything, it hands back the block's product, kept values, positions and scales. -/
theorem kernelRun0_A (c : Dev nD) (i : grid0.Coords) (arg1 : Memref sig .tc .vmem S320x8960 .bf16) (harg1 : arg1.IsWhole) (arg2 : Memref sig .tc .vmem S8960x1536 .fp8e4m3) (harg2 : arg2.IsWhole) (arg3 : Memref sig .tc .vmem S1x1536 .f32) (harg3 : arg3.IsWhole) (arg4 : Memref sig .tc .vmem S320x1536 .bf16) (harg4 : arg4.IsWhole) (arg5 : Memref sig .tc .vmem S320x4480 .fp8e4m3) (harg5 : arg5.IsWhole) (arg6 : Memref sig .tc .vmem S320x2240 .i8) (harg6 : arg6.IsWhole) (arg7 : Memref sig .tc .vmem S1x1x320 .f32) (harg7 : arg7.IsWhole) (arg8 : Memref sig .tc .vmem S320x8960 .fp8e4m3) (harg8 : arg8.IsWhole) (arg9 : Memref sig .tc .vmem S35x5x32x128 .bf16) (harg9 : arg9.IsWhole) (arg10 : Memref sig .tc .vmem S35x5x32x128 .bf16) (harg10 : arg10.IsWhole) (arg11 : Memref sig .tc .vmem S35x5x32x128 .fp8e4m3) (harg11 : arg11.IsWhole) (arg12 : Memref sig .tc .vmem S5x32x128 .bf16) (harg12 : arg12.IsWhole) (arg13 : Memref sig .tc .vmem S5x32x128 .f32) (harg13 : arg13.IsWhole) (arg14 : Memref sig .tc .vmem S320x128 .f32) (harg14 : arg14.IsWhole)
    (x0 : Vec Ideal S320x8960 .bf16) (x1 : Vec Ideal S8960x1536 .fp8e4m3) (x2 : Vec Ideal S1x1536 .f32) :
      ∀ (E : Set ℕ) (K : PUnit → sProp MM),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare (YY x0 x1 x2) ∗ owns (c : Thread nD τ) arg5 fullShare (VALS (V0 x0) (V1 x0) (IV x0)) ∗ owns (c : Thread nD τ) arg6 fullShare (META (PT x0)) ∗ owns (c : Thread nD τ) arg7 fullShare (HS x0) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := Ideal)) Variants.none c none) E (cc0_sparse24_down i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_sparse24_down_eq_skeleton]; unfold cc0_sparse24_down_skel
    simp only [k0_part138_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      refine y_run arg2 arg3 arg4 arg8 arg14 x0 _ _ _ _ _ _ _ _ ?_ ?_ ?_ (harg2.read_unread _) (harg3.read_unread _)
      · sl_kernel_rfl
      · exact sc_run c i arg1 harg1 arg2 harg2 arg3 harg3 arg4 harg4 arg5 harg5 arg6 harg6 arg7 harg7 arg8 harg8 arg9 harg9 arg10 harg10 arg11 harg11 arg12 harg12 arg13 harg13 arg14 harg14 x0 _ (harg1.read_unread _) fs1 fs2 fs3 arg12.view.junk _ _ (by sl_kernel_rfl)
      · refine codes_run c i arg1 harg1 arg2 harg2 arg3 harg3 arg4 harg4 arg5 harg5 arg6 harg6 arg7 harg7 arg8 harg8 arg9 harg9 arg10 harg10 arg11 harg11 arg12 harg12 arg13 harg13 arg14 harg14 _ _ _ _ _ x0 _ _ _ _ _ _ _ _ _ _ _ _ _ _ _ _ _ _ _ _ _ _ ?_ ?_ ?_
        · sl_kernel_rfl
        · exact holds_run c i arg1 harg1 arg2 harg2 arg3 harg3 arg4 harg4 arg5 harg5 arg6 harg6 arg7 harg7 arg8 harg8 arg9 harg9 arg10 harg10 arg11 harg11 arg12 harg12 arg13 harg13 arg14 harg14 x0 _ (harg1.read_unread _) fs1 fs2 fs3 arg12.view.junk _ _ _ _ _ (by sl_kernel_rfl) (by sl_kernel_rfl) (by sl_kernel_rfl) (by sl_kernel_rfl)
        · sl_kernel_rfl
    isplitl [H4]
    · iexists _; isplitr; swap; · iexact H4
      ipureintro
      refine vals_run c i arg1 harg1 arg2 harg2 arg3 harg3 arg4 harg4 arg5 harg5 arg6 harg6 arg7 harg7 arg8 harg8 arg9 harg9 arg10 harg10 arg11 harg11 arg12 harg12 arg13 harg13 arg14 harg14 _ _ _ _ _ x0 _ _ _ _ _ _ _ _ _ _ _ _ ?_ ?_ ?_
      · sl_kernel_rfl
      · exact holds_run c i arg1 harg1 arg2 harg2 arg3 harg3 arg4 harg4 arg5 harg5 arg6 harg6 arg7 harg7 arg8 harg8 arg9 harg9 arg10 harg10 arg11 harg11 arg12 harg12 arg13 harg13 arg14 harg14 x0 _ (harg1.read_unread _) fs1 fs2 fs3 arg12.view.junk _ _ _ _ _ (by sl_kernel_rfl) (by sl_kernel_rfl) (by sl_kernel_rfl) (by sl_kernel_rfl)
      · sl_kernel_rfl
    isplitl [H5]
    · iexists _; isplitr; swap; · iexact H5
      ipureintro
      refine meta_run c i arg1 harg1 arg2 harg2 arg3 harg3 arg4 harg4 arg5 harg5 arg6 harg6 arg7 harg7 arg8 harg8 arg9 harg9 arg10 harg10 arg11 harg11 arg12 harg12 arg13 harg13 arg14 harg14 _ _ _ _ _ x0 _ _ _ _ _ _ _ _ _ _ _ _ ?_ ?_ ?_
      · sl_kernel_rfl
      · exact holds_run c i arg1 harg1 arg2 harg2 arg3 harg3 arg4 harg4 arg5 harg5 arg6 harg6 arg7 harg7 arg8 harg8 arg9 harg9 arg10 harg10 arg11 harg11 arg12 harg12 arg13 harg13 arg14 harg14 x0 _ (harg1.read_unread _) fs1 fs2 fs3 arg12.view.junk _ _ _ _ _ (by sl_kernel_rfl) (by sl_kernel_rfl) (by sl_kernel_rfl) (by sl_kernel_rfl)
      · sl_kernel_rfl
    isplitl [H6]
    · iexists _; isplitr; swap; · iexact H6
      ipureintro
      refine hs_run arg7 arg14 x0 _ _ _ ?_ ?_
      · sl_kernel_rfl
      · exact sc_run c i arg1 harg1 arg2 harg2 arg3 harg3 arg4 harg4 arg5 harg5 arg6 harg6 arg7 harg7 arg8 harg8 arg9 harg9 arg10 harg10 arg11 harg11 arg12 harg12 arg13 harg13 arg14 harg14 x0 _ (harg1.read_unread _) fs1 fs2 fs3 arg12.view.junk _ _ (by sl_kernel_rfl)
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.KernelIdeal.Gen
-- ==== Proof.Arrays.lean ====
/- The kernel's run with its four result arrays named, block by block. -/
module

public import proofs.«01_k».proof.Proof.Run
public import Idealize.ShloMosaic.Lib.Claim
public import Idealize.ShloMosaic.Lib.Pipeline.Value

@[expose] public section

set_option maxRecDepth 16384

noncomputable section

namespace Cert.KernelIdeal.Gen

open Cert.KernelIdeal.Hand Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- Each window's current staging memref at point `t`, spelled as the pipeline passes it (`bodyAt0`), and its wholeness. -/
abbrev ms0_0 (t : Fin cfg0.N) : Memref sig .tc .vmem S320x8960 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8960x1536 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S320x1536 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S320x4480 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S320x2240 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x320 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S320x8960 .fp8e4m3 := Memref.whole cc0_scratch0
abbrev scM0_1 : Memref sig .tc .vmem S35x5x32x128 .bf16 := Memref.whole cc0_scratch1
abbrev scM0_2 : Memref sig .tc .vmem S35x5x32x128 .bf16 := Memref.whole cc0_scratch2
abbrev scM0_3 : Memref sig .tc .vmem S35x5x32x128 .fp8e4m3 := Memref.whole cc0_scratch3
abbrev scM0_4 : Memref sig .tc .vmem S5x32x128 .bf16 := Memref.whole cc0_scratch4
abbrev scM0_5 : Memref sig .tc .vmem S5x32x128 .f32 := Memref.whole cc0_scratch5
abbrev scM0_6 : Memref sig .tc .vmem S320x128 .f32 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp MM)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- The blocks of the inputs at a point, as plain functions. -/
abbrev bX (c : Dev nD) (t : Fin cfg0.N) : S320x8960.Idx → EReal := iblk m c 0 t
abbrev bW (c : Dev nD) (t : Fin cfg0.N) : S8960x1536.Idx → EReal := iblk m c 1 t
abbrev bS (c : Dev nD) (t : Fin cfg0.N) : S1x1536.Idx → EReal := iblk m c 2 t

/-- The proof data of the pipeline on core `c`: the inputs' buffers at their blocks, the results' at what the body makes of them. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => YY (bX m c t) (bW m c t) (bS m c t)
    | ⟨4, _⟩ => VALS (V0 (bX m c t)) (V1 (bX m c t)) (IV (bX m c t))
    | ⟨5, _⟩ => META (PT (bX m c t))
    | ⟨6, _⟩ => HS (bX m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = YY (bX m c t) (bW m c t) (bS m c t) := by dsimp only [dats]
theorem after0_4 (c : Dev nD) (t : Fin cfg0.N) : (dats m 0 c).after 4 t = VALS (V0 (bX m c t)) (V1 (bX m c t)) (IV (bX m c t)) := by dsimp only [dats]
theorem after0_5 (c : Dev nD) (t : Fin cfg0.N) : (dats m 0 c).after 5 t = META (PT (bX m c t)) := by dsimp only [dats]
theorem after0_6 (c : Dev nD) (t : Fin cfg0.N) : (dats m 0 c).after 6 t = HS (bX m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t` (Lib/Pipeline.lean `BodyObligation`'s precondition, the windows one by one), -/
def bodyPre (c : Dev nD) (t : Fin cfg0.N) : sProp MM :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp MM :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, HS0, HS1, HS2, HS3, HS4, HS5, HS6⟩
  isplitl [HS0 HS1 HS2 HS3 HS4 HS5 HS6 Hg]
  · isplitl [HS0 HS1 HS2 HS3 HS4 HS5 HS6]
    · isplitl [HS0]
      · iexact HS0
      isplitl [HS1]
      · iexact HS1
      isplitl [HS2]
      · iexact HS2
      isplitl [HS3]
      · iexact HS3
      isplitl [HS4]
      · iexact HS4
      isplitl [HS5]
      · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The run: the arrays after it, and every counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_main_quiescent m ρ)

/-- The argument arrays end unchanged and the counters at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.Places.lean ====
/- Where the blocks of the kernel's arrays lie. -/
module

public import proofs.«01_k».proof.Proof.Arrays
public import Idealize.ShloMosaic.Lib.Pipeline.ValueKit
public import Idealize.ShloMosaic.Lib.StableHlo.RunRead
public import Idealize.ShloMosaic.Lib.Pointwise

@[expose] public section

set_option maxRecDepth 8192

noncomputable section

namespace Cert.KernelIdeal.Gen

open Cert.KernelIdeal.Hand Idealize.ShloMosaic Idealize.ShloMosaic.TcCoe Idealize.ShloMosaic.Tactic

variable (m : (ℓ : Loc nD τ sig) → Buf (Elt Ideal) ℓ)

theorem lt6 (t : Fin cfg0.N) : t.val < 6 := t.isLt

/-- The row of the whole array that row `r` of block `t` is. -/
def rowT (t : Fin cfg0.N) (r : Fin 320) : Fin 1920 := ⟨320 * t.val + r.val, by have := lt6 t; omega⟩

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0, 0] := (by decide +kernel : ∀ t : Fin grid0.N, win0_6.index t = ![t.val, 0, 0])

theorem V_mv0 (c : Dev nD) : V m c main_v0 = (shapeCast S1920x8960 (m (c, Proc.devRef .tc main_arg0) : FVec Ideal S3x640x8960 .bf16) shapeCasts_S3x640x8960_S1920x8960 : FVec Ideal S1920x8960 .bf16) := by
  after_reads_simp
  rfl
theorem V_mv1 (c : Dev nD) : V m c main_v1 = (shapeCast S1x1536 (m (c, Proc.devRef .tc main_arg2) : FVec Ideal S1536 .f32) shapeCasts_S1536_S1x1536 : FVec Ideal S1x1536 .f32) := by
  after_reads_simp
  rfl

theorem bX_V (c : Dev nD) (t : Fin cfg0.N) (r : Fin 320) (k : Fin 8960) : bX m c t (ix2 r k) = (V m c main_v0 : FVec Ideal S1920x8960 .bf16) (ix2 (rowT t r) k) := by
  have e := idx0 t
  unfold rowT
  blk_ext [iblk, e]
theorem bW_V (c : Dev nD) (t : Fin cfg0.N) (k : Fin 8960) (C : Fin 1536) : bW m c t (ix2 k C) = (V m c main_arg1 : FVec Ideal S8960x1536 .fp8e4m3) (ix2 k C) := by
  have e := idx1 t
  blk_ext [iblk, e]
theorem bS_V (c : Dev nD) (t : Fin cfg0.N) (C : Fin 1536) : bS m c t (ix2 0 C) = (V m c main_v1 : FVec Ideal S1x1536 .f32) (ix2 0 C) := by
  have e := idx2 t
  blk_ext [iblk, e]

theorem emb3 (t : Fin cfg0.N) (r : Fin 320) (C : Fin 1536) : ((cfg0.win 3).blk t).view.emb (ix2 r C : S320x1536.Idx) = (ix2 (rowT t r) C : S1920x1536.Idx) := by
  have e := idx3 t
  unfold rowT
  blk_ext [e]
theorem emb4 (t : Fin cfg0.N) (r : Fin 320) (C : Fin 4480) : ((cfg0.win 4).blk t).view.emb (ix2 r C : S320x4480.Idx) = (ix2 (rowT t r) C : S1920x4480.Idx) := by
  have e := idx4 t
  unfold rowT
  blk_ext [e]
theorem emb5 (t : Fin cfg0.N) (r : Fin 320) (C : Fin 2240) : ((cfg0.win 5).blk t).view.emb (ix2 r C : S320x2240.Idx) = (ix2 (rowT t r) C : S1920x2240.Idx) := by
  have e := idx5 t
  unfold rowT
  blk_ext [e]
theorem emb6 (t : Fin cfg0.N) (r : Fin 320) : ((cfg0.win 6).blk t).view.emb (ix3 0 0 r : S1x1x320.Idx) = (ix3 ⟨t.val, lt6 t⟩ 0 r : S6x1x320.Idx) := by
  have e := idx6 t
  blk_ext [e]

end Cert.KernelIdeal.Gen

end
-- ==== Proof.Inputs.lean ====
/- The kernel's input and scales in place. -/
module

public import proofs.«01_k».proof.Proof.Places

@[expose] public section

set_option maxRecDepth 8192

noncomputable section

namespace Cert.KernelIdeal.Gen

open Cert.KernelIdeal.Hand Idealize.ShloMosaic Idealize.ShloMosaic.TcCoe Idealize.ShloMosaic.Tactic

variable (m : (ℓ : Loc nD τ sig) → Buf (Elt Ideal) ℓ)

theorem flat_apply (X : FVec Ideal S3x640x8960 .bf16) (M : Fin 1920) (k : Fin 8960) :
    (shapeCast S1920x8960 X shapeCasts_S3x640x8960_S1920x8960 : FVec Ideal S1920x8960 .bf16) (ix2 M k)
      = X (ix3 (⟨M.val / 640, by omega⟩ : Fin 3) (⟨M.val % 640, by omega⟩ : Fin 640) k) := by
  pointwise []
theorem col_apply (X : FVec Ideal S1536 .f32) (C : Fin 1536) :
    (shapeCast S1x1536 X shapeCasts_S1536_S1x1536 : FVec Ideal S1x1536 .f32) (ix2 0 C) = X (ix1 C) := by
  pointwise []

/-- A block of the input, entry by entry. -/
theorem bX_apply (c : Dev nD) (t : Fin cfg0.N) (r : Fin 320) (k : Fin 8960) :
    bX m c t (ix2 r k) = (m (c, Proc.devRef .tc main_arg0) : FVec Ideal S3x640x8960 .bf16)
      (ix3 (⟨(rowT t r).val / 640, by omega⟩ : Fin 3) (⟨(rowT t r).val % 640, by omega⟩ : Fin 640) k) := by
  rw [bX_V, V_mv0, flat_apply]
theorem bW_apply (c : Dev nD) (t : Fin cfg0.N) (k : Fin 8960) (C : Fin 1536) :
    bW m c t (ix2 k C) = (m (c, Proc.devRef .tc main_arg1) : FVec Ideal S8960x1536 .fp8e4m3) (ix2 k C) := by
  rw [bW_V, V_main_arg1]
theorem bS_apply (c : Dev nD) (t : Fin cfg0.N) (C : Fin 1536) :
    bS m c t (ix2 0 C) = (m (c, Proc.devRef .tc main_arg2) : FVec Ideal S1536 .f32) (ix1 C) := by
  rw [bS_V, V_mv1, col_apply]

end Cert.KernelIdeal.Gen

end
-- ==== Proof.Admitted.lean ====
/- What the precondition says of one entry of the input. -/
module

public import proofs.«01_k».proof.Proof.Squares
public import proofs.«01_k».proof.Proof.Gen.Pre_normal_squares
public import Idealize.ShloMosaic.Lib.Pointwise
public import proofs.«01_k».proof.Defs

@[expose] public section

set_option maxRecDepth 8192

noncomputable section

namespace Cert.Joint

open Idealize.ShloMosaic Idealize.ShloMosaic.TcCoe Idealize.ShloMosaic.Tactic Cert.KernelIdeal.Hand Cert.ReferenceIdeal.Hand

theorem pre_apply (X : FVec Ideal Cert.Pre_normal_squares.S3x640x8960 .bf16) (W : FVec Ideal Cert.Pre_normal_squares.S8960x1536 .fp8e4m3) (S : FVec Ideal Cert.Pre_normal_squares.S1536 .f32)
    (i : Fin 3) (j : Fin 640) (k : Fin 8960) :
    letI := Cert.Pre_normal_squares.Gen.facts
    Cert.Pre_normal_squares.fn (F := Ideal) X W S (ix3 i j k)
      = BitVec.ofBool (decide (X (ix3 i j k) ≤ 0)) ||| (BitVec.ofBool (decide (cF 0x20000000#32 ≤ X (ix3 i j k))) &&& BitVec.ofBool (decide (X (ix3 i j k) < cF 0x5F800000#32))) := by
  letI := Cert.Pre_normal_squares.Gen.facts
  pointwise [Cert.Pre_normal_squares.fn]
  try rfl

theorem bits_or_and (a b c : Bool) : (BitVec.ofBool a ||| (BitVec.ofBool b &&& BitVec.ofBool c)) = 1#1 → a = true ∨ (b = true ∧ c = true) := by
  revert a b c; decide

theorem dom_of_pre (X : FVec Ideal Cert.Pre_normal_squares.S3x640x8960 .bf16) (W : FVec Ideal Cert.Pre_normal_squares.S8960x1536 .fp8e4m3) (S : FVec Ideal Cert.Pre_normal_squares.S1536 .f32)
    (h : letI := Cert.Pre_normal_squares.Gen.facts; Cert.Pre_normal_squares.fn (F := Ideal) X W S = fun _ => 1#1)
    (i : Fin 3) (j : Fin 640) (k : Fin 8960) : Dom (X (ix3 i j k)) := by
  have e := (pre_apply X W S i j k).symm.trans (congrFun h (ix3 i j k))
  rcases bits_or_and _ _ _ e with a | ⟨a, b⟩
  · exact .inl (of_decide_eq_true a)
  · exact .inr ⟨of_decide_eq_true a, of_decide_eq_true b⟩

end Cert.Joint

end
-- ==== Proof.Entries.lean ====
/- The kernel's four result arrays are the reference's. -/
module

public import proofs.«01_k».proof.Proof.Rows
public import proofs.«01_k».proof.Proof.RefArrays
public import proofs.«01_k».proof.Proof.Inputs
public import proofs.«01_k».proof.Proof.Admitted

@[expose] public section

set_option maxRecDepth 8192

noncomputable section

namespace Cert.Joint

open Idealize.ShloMosaic Idealize.ShloMosaic.TcCoe Idealize.ShloMosaic.Tactic Cert.KernelIdeal.Hand Cert.ReferenceIdeal.Hand

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The arguments agree on a device. -/
def Agree : Prop :=
  m' (c, Proc.devRef .tc Cert.ReferenceIdeal.main_arg0) = m (c, Proc.devRef .tc Cert.KernelIdeal.main_arg0)
  ∧ m' (c, Proc.devRef .tc Cert.ReferenceIdeal.main_arg1) = m (c, Proc.devRef .tc Cert.KernelIdeal.main_arg1)
  ∧ m' (c, Proc.devRef .tc Cert.ReferenceIdeal.main_arg2) = m (c, Proc.devRef .tc Cert.KernelIdeal.main_arg2)
/-- Every entry of the input is admitted. -/
def Admit : Prop := ∀ (i : Fin 3) (j : Fin 640) (k : Fin 8960), Dom ((m (c, Proc.devRef .tc Cert.KernelIdeal.main_arg0) : Cert.KernelIdeal.S3x640x8960.Idx → EReal) (ix3 i j k))

variable (hA : Agree m m' c) (hP : Admit m c)
variable (t : Fin Cert.KernelIdeal.cfg0.N) (r : Fin 320)

open Cert.KernelIdeal.Gen (bX bW bS rowT)

include hA in
theorem x_row (C : Fin 8960) : bX m c t (ix2 r C) = xI m' c (ix3 (rowB (rowT t r)) (rowS (rowT t r)) C) := by
  have e : xI m' c = (m (c, Proc.devRef .tc Cert.KernelIdeal.main_arg0) : Cert.KernelIdeal.S3x640x8960.Idx → EReal) := hA.1
  rw [e]
  exact Cert.KernelIdeal.Gen.bX_apply m c t r C
include hP in
theorem dom_row (C : Fin 8960) : Dom (bX m c t (ix2 r C)) := by
  rw [Cert.KernelIdeal.Gen.bX_apply]
  exact hP _ _ _

include hA hP in
theorem sc_row : SC (bX m c t) r = scI m' c (ix1 (rowT t r)) := by
  obtain ⟨s, -, e1, e2, -⟩ := scale_row (bX m c t) r (xI m' c) (rowT t r) (x_row m m' c hA t r) (dom_row m c hP t r)
  exact e2.trans e1.symm

include hA hP in
theorem co_row (k : Fin 8960) : CODE (V0 (bX m c t)) (V1 (bX m c t)) (PT (bX m c t)) (IV (bX m c t)) (ix2 r k) = a0 m' c (ix2 (rowT t r) k) := by
  rw [a0_apply]
  exact (code_row (bX m c t) r (xI m' c) (rowT t r) (x_row m m' c hA t r) (dom_row m c hP t r) _ _).symm

include hA hP in
/-- The product, -/
theorem y_entry (C : Fin 1536) : YY (bX m c t) (bW m c t) (bS m c t) (ix2 r C) = yO m' c (ix2 (rowT t r) C) := by
  have e3 : ∀ k : Fin 8960, bW m c t (ix2 k C) = a3 m' c (ix2 k C) := fun k => by
    rw [Cert.KernelIdeal.Gen.bW_apply, a3_eq]
    exact (congrFun hA.2.1 (ix2 k C)).symm
  have e4 : bS m c t (ix2 0 C) = a4 m' c (ix2 0 C) := by
    rw [Cert.KernelIdeal.Gen.bS_apply, a4_apply]
    exact (congrFun hA.2.2 (ix1 C)).symm
  have e2 : SC (bX m c t) r = a2 m' c (ix2 (rowT t r) 0) := by rw [a2_apply]; exact sc_row m m' c hA hP t r
  show (∑ k : Fin 8960, CODE (V0 (bX m c t)) (V1 (bX m c t)) (PT (bX m c t)) (IV (bX m c t)) (ix2 r k) * bW m c t (ix2 k C)) * SC (bX m c t) r * bS m c t (ix2 0 C)
    = (∑ k : Fin 8960, a0 m' c (ix2 (rowT t r) k) * a3 m' c (ix2 k C)) * a2 m' c (ix2 (rowT t r) 0) * a4 m' c (ix2 0 C)
  rw [e2, e4, Finset.sum_congr rfl fun k _ => congrArg₂ (fun a b : EReal => a * b) (co_row m m' c hA hP t r k) (e3 k)]

include hA hP in
/-- the kept values, -/
theorem vals_entry (C : Fin 4480) : VALS (V0 (bX m c t)) (V1 (bX m c t)) (IV (bX m c t)) (ix2 r C) = a1 m' c (ix2 (rowT t r) C) := by
  obtain ⟨h0, h1⟩ := val_row (bX m c t) r (xI m' c) (rowT t r) (x_row m m' c hA t r) (dom_row m c hP t r) ⟨C.val / 2, by omega⟩
  rw [a1_eq, valsA_apply]
  show Q (IV (bX m c t) r) ((if C.val % 2 = 1 then V1 (bX m c t) else V0 (bX m c t)) r ⟨C.val / 2, by omega⟩) = _
  by_cases e : C.val % 2 = 1
  · rw [if_pos e, if_pos e]
    exact h1.symm
  · rw [if_neg e, if_neg e]
    exact h0.symm

include hA hP in
/-- their positions. -/
theorem meta_entry (g : Fin 2240) : META (PT (bX m c t)) (ix2 r g) = metaA (kI0 m' c) (kI1 m' c) (kI2 m' c) (kI3 m' c) (ix2 (rowT t r) g) :=
  meta_row (bX m c t) r (xI m' c) (rowT t r) (x_row m m' c hA t r) (dom_row m c hP t r) g

end Cert.Joint

end
-- ==== Proof.Results.lean ====
/- The four result arrays as wholes. -/
module

public import proofs.«01_k».proof.Proof.Entries

@[expose] public section

set_option maxRecDepth 8192

noncomputable section

namespace Cert.Joint

open Idealize.ShloMosaic Idealize.ShloMosaic.TcCoe Idealize.ShloMosaic.Tactic Cert.KernelIdeal.Hand Cert.ReferenceIdeal.Hand

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD) (hA : Agree m m' c) (hP : Admit m c)

include hA hP in
theorem arr3 : (Cert.KernelIdeal.Gen.dats m 0 c).arrAt 3 Cert.KernelIdeal.cfg0.N = yO m' c := by
  refine (Cert.KernelIdeal.Gen.dats m 0 c).arrAt_eq_of_covers 3 _ (by decide +kernel) fun t hf y => ?_
  have hy : y = (ix2 (n0 := 320) (n1 := 1536) (y 0) (y 1) : Cert.KernelIdeal.S320x1536.Idx) := eq_ix2 y
  rw [hy]
  refine Eq.trans ?_ (congrArg (yO m' c) (Cert.KernelIdeal.Gen.emb3 t (y 0) (y 1))).symm
  blk_simp
  rw [Cert.KernelIdeal.Gen.after0_3]
  exact y_entry m m' c hA hP t (y 0) (y 1)

include hA hP in
theorem arr4 : (Cert.KernelIdeal.Gen.dats m 0 c).arrAt 4 Cert.KernelIdeal.cfg0.N = a1 m' c := by
  refine (Cert.KernelIdeal.Gen.dats m 0 c).arrAt_eq_of_covers 4 _ (by decide +kernel) fun t hf y => ?_
  have hy : y = (ix2 (n0 := 320) (n1 := 4480) (y 0) (y 1) : Cert.KernelIdeal.S320x4480.Idx) := eq_ix2 y
  rw [hy]
  refine Eq.trans ?_ (congrArg (a1 m' c) (Cert.KernelIdeal.Gen.emb4 t (y 0) (y 1))).symm
  blk_simp
  rw [Cert.KernelIdeal.Gen.after0_4]
  exact vals_entry m m' c hA hP t (y 0) (y 1)

/-- The positions as the reference leaves them, -/
def metaO : Cert.ReferenceIdeal.S1920x2240.Idx → BitVec 8 := metaA (kI0 m' c) (kI1 m' c) (kI2 m' c) (kI3 m' c)

include hA hP in
theorem arr5 : (Cert.KernelIdeal.Gen.dats m 0 c).arrAt 5 Cert.KernelIdeal.cfg0.N = metaO m' c := by
  refine (Cert.KernelIdeal.Gen.dats m 0 c).arrAt_eq_of_covers 5 _ (by decide +kernel) fun t hf y => ?_
  have hy : y = (ix2 (n0 := 320) (n1 := 2240) (y 0) (y 1) : Cert.KernelIdeal.S320x2240.Idx) := eq_ix2 y
  rw [hy]
  refine Eq.trans ?_ (congrArg (metaO m' c) (Cert.KernelIdeal.Gen.emb5 t (y 0) (y 1))).symm
  blk_simp
  rw [Cert.KernelIdeal.Gen.after0_5]
  exact meta_entry m m' c hA hP t (y 0) (y 1)

/-- and the scales. -/
def hsO : Cert.ReferenceIdeal.S6x1x320.Idx → EReal := Cert.ReferenceIdeal.Gen.V m' c Cert.ReferenceIdeal.main_v108

include hA hP in
theorem arr6 : (Cert.KernelIdeal.Gen.dats m 0 c).arrAt 6 Cert.KernelIdeal.cfg0.N = hsO m' c := by
  refine (Cert.KernelIdeal.Gen.dats m 0 c).arrAt_eq_of_covers 6 _ (by decide +kernel) fun t hf y => ?_
  have h0 : (y 0).val < 1 := (y 0).isLt
  have h1 : (y 1).val < 1 := (y 1).isLt
  have hy : y = (ix3 (n0 := 1) (n1 := 1) (n2 := 320) 0 0 (y 2) : Cert.KernelIdeal.S1x1x320.Idx) := by
    funext a
    match a with
    | ⟨0, _⟩ => exact Fin.ext (by show (y 0).val = 0; omega)
    | ⟨1, _⟩ => exact Fin.ext (by show (y 1).val = 0; omega)
    | ⟨2, _⟩ => rfl
  rw [hy]
  refine Eq.trans ?_ (congrArg (hsO m' c) (Cert.KernelIdeal.Gen.emb6 t (y 2))).symm
  blk_simp
  rw [Cert.KernelIdeal.Gen.after0_6]
  exact (sc_row m m' c hA hP t (y 2)).trans (v108_apply m' c ⟨t.val, Cert.KernelIdeal.Gen.lt6 t⟩ (y 2)).symm

end Cert.Joint

end
-- ==== Proof.lean ====
/- The kernel, in machine words and over the extended reals, and the reference run, leave their arguments unchanged, and the last two end with equal results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.KernelFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_normal_squares
public import proofs.«01_k».proof.Proof.Gen.ReferenceIdeal.Value
public import proofs.«01_k».proof.Proof.Results
public import Idealize.ShloMosaic.Adequacy
public import Idealize.ShloMosaic.Init

@[expose] public section

noncomputable section

namespace Cert.Proof

open Idealize.ShloMosaic Idealize.ShloMosaic.TcCoe Idealize.SL.Sem

variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ)

/-- The kernel's run leaves the reference's four arrays in its results. -/
theorem kernel_run (hA : ∀ c, Cert.Joint.Agree m m' c) (hP : ∀ c, Cert.Joint.Admit m c) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v2_0) = Cert.ReferenceIdeal.Hand.yO m' c
      ∧ r.2.mem ((c.tc : Thread Cert.KernelIdeal.nD Cert.KernelIdeal.τ).loc Cert.KernelIdeal.main_v2_1) = Cert.ReferenceIdeal.Hand.a1 m' c
      ∧ r.2.mem ((c.tc : Thread Cert.KernelIdeal.nD Cert.KernelIdeal.τ).loc Cert.KernelIdeal.main_v2_2) = Cert.Joint.metaO m' c
      ∧ r.2.mem ((c.tc : Thread Cert.KernelIdeal.nD Cert.KernelIdeal.τ).loc Cert.KernelIdeal.main_v2_3) = Cert.Joint.hsO m' c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun r h c =>
    ⟨((h.1 c).1 3).trans (Cert.Joint.arr3 m m' c (hA c) (hP c)),
     ((h.1 c).1 4).trans (Cert.Joint.arr4 m m' c (hA c) (hP c)),
     ((h.1 c).1 5).trans (Cert.Joint.arr5 m m' c (hA c) (hP c)),
     ((h.1 c).1 6).trans (Cert.Joint.arr6 m m' c (hA c) (hP c)),
     (h.2.1 c).1, (h.2.1 c).2.1, (h.2.1 c).2.2⟩)
    (θ_run_and (Cert.KernelIdeal.Gen.run_main m g) (Cert.KernelIdeal.Gen.frame m g))

/-- The reference's run leaves them in its own. -/
theorem reference_run :
    θ_run (Cert.ReferenceIdeal.defs (F := Ideal)) (onTc (τ := Cert.ReferenceIdeal.τ) (Cert.ReferenceIdeal.main (F := Ideal))) ⟨m', fun _ => 0, g⟩ (fun r => ∀ c : Dev Cert.ReferenceIdeal.nD,
      r.2.mem ((c.tc : Thread Cert.ReferenceIdeal.nD Cert.ReferenceIdeal.τ).loc Cert.ReferenceIdeal.main_v116_0) = Cert.ReferenceIdeal.Hand.yO m' c
      ∧ r.2.mem ((c.tc : Thread Cert.ReferenceIdeal.nD Cert.ReferenceIdeal.τ).loc Cert.ReferenceIdeal.main_v116_1) = Cert.ReferenceIdeal.Hand.a1 m' c
      ∧ r.2.mem ((c.tc : Thread Cert.ReferenceIdeal.nD Cert.ReferenceIdeal.τ).loc Cert.ReferenceIdeal.main_v107) = Cert.Joint.metaO m' c
      ∧ r.2.mem ((c.tc : Thread Cert.ReferenceIdeal.nD Cert.ReferenceIdeal.τ).loc Cert.ReferenceIdeal.main_v108) = Cert.Joint.hsO m' c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run Cert.ReferenceIdeal.defs _ _).mono (fun r h c =>
    ⟨(Cert.ReferenceIdeal.Value.post5 m' r h c).trans (Cert.ReferenceIdeal.Hand.arr5 m' c),
     (Cert.ReferenceIdeal.Value.post6 m' r h c).trans (Cert.ReferenceIdeal.Hand.arr6 m' c),
     ((h c).2 Cert.ReferenceIdeal.main_v107 (Pipeline.mem_restRefs_of Cert.ReferenceIdeal.main_v107 (by decide) (by decide))).trans (Cert.ReferenceIdeal.Hand.V_mv107 m' c),
     (h c).2 Cert.ReferenceIdeal.main_v108 (Pipeline.mem_restRefs_of Cert.ReferenceIdeal.main_v108 (by decide) (by decide)),
     Cert.ReferenceIdeal.Value.kept_main_arg0 m' r h c, Cert.ReferenceIdeal.Value.kept_main_arg1 m' r h c, Cert.ReferenceIdeal.Value.kept_main_arg2 m' r h c⟩)
    (Cert.ReferenceIdeal.Gen.run_main m' g)

/-- The frames, the two printings of the kernel, and the equality of the four results. -/
theorem claim : Cert.Claim := ⟨Cert.Kernel.Gen.facts, Cert.KernelIdeal.Gen.facts, Cert.ReferenceIdeal.Gen.facts, Cert.Pre_normal_squares.Gen.facts,
  fun m g _ => Cert.Kernel.Gen.frame (F := Bits) m g,
  fun m g _ => Cert.KernelIdeal.Gen.frame m g,
  fun m g _ => Cert.KernelIdeal.Gen.frame m g,
  fun m g _ => Cert.ReferenceIdeal.Gen.frame m g,
  fun m g _ => Cert.ReferenceIdeal.Gen.frame m g,
  trivial,
  fun m g m' g' hpre hargs =>
    ⟨fun c => Cert.ReferenceIdeal.Hand.yO m' c, fun c => Cert.ReferenceIdeal.Hand.a1 m' c, fun c => Cert.Joint.metaO m' c, fun c => Cert.Joint.hsO m' c,
      kernel_run m g m' (fun c => hargs c) (fun c => Cert.Joint.dom_of_pre _ _ _ (hpre c)),
      reference_run g' m'⟩⟩

end Cert.Proof

end
